-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_diff_finite [hPre_diff_finite : Cert.Pre_diff_finite.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_diff_finite.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3)) (m ((c.tc : Thread Cert.DiffReferenceIdeal.nD Cert.DiffReferenceIdeal.τ).loc Cert.DiffReferenceIdeal.main_arg4)) (m ((c.tc : Thread Cert.DiffReferenceIdeal.nD Cert.DiffReferenceIdeal.τ).loc Cert.DiffReferenceIdeal.main_arg5))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Means (m : (ℓ : Loc Cert.Means.nD Cert.Means.τ Cert.Means.sig) → Buf (Elt Bits) ℓ) : Prop :=
  True

def Pre_MeansIdeal (m : (ℓ : Loc Cert.MeansIdeal.nD Cert.MeansIdeal.τ Cert.MeansIdeal.sig) → Buf (Elt Ideal) ℓ) : Prop :=
  True

def Pre_MeansReferenceIdeal (m : (ℓ : Loc Cert.MeansReferenceIdeal.nD Cert.MeansReferenceIdeal.τ Cert.MeansReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_DiffReferenceIdeal_pre_diff_finite [hDiffReferenceIdeal : Cert.DiffReferenceIdeal.Facts] [hPre_diff_finite : Cert.Pre_diff_finite.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_diff_finite m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3)
      ∧ r.2.mem ((c.tc : Thread Cert.DiffReferenceIdeal.nD Cert.DiffReferenceIdeal.τ).loc Cert.DiffReferenceIdeal.main_arg4) = m ((c.tc : Thread Cert.DiffReferenceIdeal.nD Cert.DiffReferenceIdeal.τ).loc Cert.DiffReferenceIdeal.main_arg4)
      ∧ r.2.mem ((c.tc : Thread Cert.DiffReferenceIdeal.nD Cert.DiffReferenceIdeal.τ).loc Cert.DiffReferenceIdeal.main_arg5) = m ((c.tc : Thread Cert.DiffReferenceIdeal.nD Cert.DiffReferenceIdeal.τ).loc Cert.DiffReferenceIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3))
      ∧ r.2.sem = fun _ => 0)

def quiescent_Means [hMeans : Cert.Means.Facts] : Prop :=
  ∀ (m : (ℓ : Loc Cert.Means.nD Cert.Means.τ Cert.Means.sig) → Buf (Elt Bits) ℓ) (g : Dev Cert.Means.nD → PrngReg), Pre_Means m →
    θ_run (Cert.Means.defs (F := Bits)) (onTc (τ := Cert.Means.τ) (Cert.Means.main (F := Bits))) ⟨m, fun _ => 0, g⟩ (fun r => (∀ c : Dev Cert.Means.nD,
      r.2.mem ((c.tc : Thread Cert.Means.nD Cert.Means.τ).loc Cert.Means.main_arg0) = m ((c.tc : Thread Cert.Means.nD Cert.Means.τ).loc Cert.Means.main_arg0))
      ∧ r.2.sem = fun _ => 0)

def quiescent_MeansIdeal [hMeansIdeal : Cert.MeansIdeal.Facts] : Prop :=
  ∀ (m : (ℓ : Loc Cert.MeansIdeal.nD Cert.MeansIdeal.τ Cert.MeansIdeal.sig) → Buf (Elt Ideal) ℓ) (g : Dev Cert.MeansIdeal.nD → PrngReg), Pre_MeansIdeal m →
    θ_run (Cert.MeansIdeal.defs (F := Ideal)) (onTc (τ := Cert.MeansIdeal.τ) (Cert.MeansIdeal.main (F := Ideal))) ⟨m, fun _ => 0, g⟩ (fun r => (∀ c : Dev Cert.MeansIdeal.nD,
      r.2.mem ((c.tc : Thread Cert.MeansIdeal.nD Cert.MeansIdeal.τ).loc Cert.MeansIdeal.main_arg0) = m ((c.tc : Thread Cert.MeansIdeal.nD Cert.MeansIdeal.τ).loc Cert.MeansIdeal.main_arg0))
      ∧ r.2.sem = fun _ => 0)

def quiescent_MeansReferenceIdeal [hMeansReferenceIdeal : Cert.MeansReferenceIdeal.Facts] : Prop :=
  ∀ (m : (ℓ : Loc Cert.MeansReferenceIdeal.nD Cert.MeansReferenceIdeal.τ Cert.MeansReferenceIdeal.sig) → Buf (Elt Ideal) ℓ) (g : Dev Cert.MeansReferenceIdeal.nD → PrngReg), Pre_MeansReferenceIdeal m →
    θ_run (Cert.MeansReferenceIdeal.defs (F := Ideal)) (onTc (τ := Cert.MeansReferenceIdeal.τ) (Cert.MeansReferenceIdeal.main (F := Ideal))) ⟨m, fun _ => 0, g⟩ (fun r => (∀ c : Dev Cert.MeansReferenceIdeal.nD,
      r.2.mem ((c.tc : Thread Cert.MeansReferenceIdeal.nD Cert.MeansReferenceIdeal.τ).loc Cert.MeansReferenceIdeal.main_arg0) = m ((c.tc : Thread Cert.MeansReferenceIdeal.nD Cert.MeansReferenceIdeal.τ).loc Cert.MeansReferenceIdeal.main_arg0))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v94) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)) →
    ∃ (v0 : (c : Dev Cert.MixerIdeal.nD) → Buf (Elt Ideal) ((c.tc : Thread Cert.MixerIdeal.nD Cert.MixerIdeal.τ).loc Cert.MixerIdeal.main_v0)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v7) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v0)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v0) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v6) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v6) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v27) = v0 c
          ∧ r.2.mem ((c.tc : Thread Cert.OutReferenceIdeal.nD Cert.OutReferenceIdeal.τ).loc Cert.OutReferenceIdeal.main_v28) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_Diff_DiffIdeal : Prop :=
  IdealRules.named_const.Statement Cert.DiffIdeal.κ "neg" .f32 0xF149F2CA#32 ⊥

def algebraic_DiffIdeal_DiffReferenceIdeal_pre_diff_finite [hDiffIdeal : Cert.DiffIdeal.Facts] [hDiffReferenceIdeal : Cert.DiffReferenceIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_diff_finite m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)
      ∧ m' ((c.tc : Thread Cert.DiffReferenceIdeal.nD Cert.DiffReferenceIdeal.τ).loc Cert.DiffReferenceIdeal.main_arg4) = m ((c.tc : Thread Cert.DiffIdeal.nD Cert.DiffIdeal.τ).loc Cert.DiffIdeal.main_arg4)
      ∧ m' ((c.tc : Thread Cert.DiffReferenceIdeal.nD Cert.DiffReferenceIdeal.τ).loc Cert.DiffReferenceIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v0)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v0) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v102) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3)
          ∧ r.2.mem ((c.tc : Thread Cert.DiffReferenceIdeal.nD Cert.DiffReferenceIdeal.τ).loc Cert.DiffReferenceIdeal.main_arg4) = m' ((c.tc : Thread Cert.DiffReferenceIdeal.nD Cert.DiffReferenceIdeal.τ).loc Cert.DiffReferenceIdeal.main_arg4)
          ∧ r.2.mem ((c.tc : Thread Cert.DiffReferenceIdeal.nD Cert.DiffReferenceIdeal.τ).loc Cert.DiffReferenceIdeal.main_arg5) = m' ((c.tc : Thread Cert.DiffReferenceIdeal.nD Cert.DiffReferenceIdeal.τ).loc Cert.DiffReferenceIdeal.main_arg5))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v64) = v0 c
          ∧ r.2.mem ((c.tc : Thread Cert.PrepReferenceIdeal.nD Cert.PrepReferenceIdeal.τ).loc Cert.PrepReferenceIdeal.main_v66) = v1 c
          ∧ r.2.mem ((c.tc : Thread Cert.PrepReferenceIdeal.nD Cert.PrepReferenceIdeal.τ).loc Cert.PrepReferenceIdeal.main_v68) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v0_0)) (v1 : (c : Dev Cert.LastIdeal.nD) → Buf (Elt Ideal) ((c.tc : Thread Cert.LastIdeal.nD Cert.LastIdeal.τ).loc Cert.LastIdeal.main_v0_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0_0) = v0 c
          ∧ r.2.mem ((c.tc : Thread Cert.LastIdeal.nD Cert.LastIdeal.τ).loc Cert.LastIdeal.main_v0_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v24) = v0 c
          ∧ r.2.mem ((c.tc : Thread Cert.LastReferenceIdeal.nD Cert.LastReferenceIdeal.τ).loc Cert.LastReferenceIdeal.main_v25) = v1 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3))

def preserves_Means_MeansIdeal : Prop :=
  True

def algebraic_MeansIdeal_MeansReferenceIdeal [hMeansIdeal : Cert.MeansIdeal.Facts] [hMeansReferenceIdeal : Cert.MeansReferenceIdeal.Facts] : Prop :=
  ∀ (m : (ℓ : Loc Cert.MeansIdeal.nD Cert.MeansIdeal.τ Cert.MeansIdeal.sig) → Buf (Elt Ideal) ℓ) (g : Dev Cert.MeansIdeal.nD → PrngReg)
    (m' : (ℓ : Loc Cert.MeansReferenceIdeal.nD Cert.MeansReferenceIdeal.τ Cert.MeansReferenceIdeal.sig) → Buf (Elt Ideal) ℓ) (g' : Dev Cert.MeansReferenceIdeal.nD → PrngReg), Pre_MeansIdeal m →
    (∀ c : Dev Cert.MeansIdeal.nD,
      m' ((c.tc : Thread Cert.MeansReferenceIdeal.nD Cert.MeansReferenceIdeal.τ).loc Cert.MeansReferenceIdeal.main_arg0) = m ((c.tc : Thread Cert.MeansIdeal.nD Cert.MeansIdeal.τ).loc Cert.MeansIdeal.main_arg0)) →
    ∃ (v0 : (c : Dev Cert.MeansIdeal.nD) → Buf (Elt Ideal) ((c.tc : Thread Cert.MeansIdeal.nD Cert.MeansIdeal.τ).loc Cert.MeansIdeal.main_v0)),
      θ_run (Cert.MeansIdeal.defs (F := Ideal)) (onTc (τ := Cert.MeansIdeal.τ) (Cert.MeansIdeal.main (F := Ideal))) ⟨m, fun _ => 0, g⟩ (fun r => ∀ c : Dev Cert.MeansIdeal.nD,
          r.2.mem ((c.tc : Thread Cert.MeansIdeal.nD Cert.MeansIdeal.τ).loc Cert.MeansIdeal.main_v0) = v0 c
          ∧ r.2.mem ((c.tc : Thread Cert.MeansIdeal.nD Cert.MeansIdeal.τ).loc Cert.MeansIdeal.main_arg0) = m ((c.tc : Thread Cert.MeansIdeal.nD Cert.MeansIdeal.τ).loc Cert.MeansIdeal.main_arg0))
      ∧ θ_run (Cert.MeansReferenceIdeal.defs (F := Ideal)) (onTc (τ := Cert.MeansReferenceIdeal.τ) (Cert.MeansReferenceIdeal.main (F := Ideal))) ⟨m', fun _ => 0, g'⟩ (fun r => ∀ c : Dev Cert.MeansReferenceIdeal.nD,
          r.2.mem ((c.tc : Thread Cert.MeansReferenceIdeal.nD Cert.MeansReferenceIdeal.τ).loc Cert.MeansReferenceIdeal.main_v5) = v0 c
          ∧ r.2.mem ((c.tc : Thread Cert.MeansReferenceIdeal.nD Cert.MeansReferenceIdeal.τ).loc Cert.MeansReferenceIdeal.main_arg0) = m' ((c.tc : Thread Cert.MeansReferenceIdeal.nD Cert.MeansReferenceIdeal.τ).loc Cert.MeansReferenceIdeal.main_arg0))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hMixer : Cert.Mixer.Facts) (hMixerIdeal : Cert.MixerIdeal.Facts) (hMixerReferenceIdeal : Cert.MixerReferenceIdeal.Facts) (hLatent : Cert.Latent.Facts) (hLatentIdeal : Cert.LatentIdeal.Facts) (hLatentReferenceIdeal : Cert.LatentReferenceIdeal.Facts) (hQuery : Cert.Query.Facts) (hQueryIdeal : Cert.QueryIdeal.Facts) (hQueryReferenceIdeal : Cert.QueryReferenceIdeal.Facts) (hOut : Cert.Out.Facts) (hOutIdeal : Cert.OutIdeal.Facts) (hOutReferenceIdeal : Cert.OutReferenceIdeal.Facts) (hDiff : Cert.Diff.Facts) (hDiffIdeal : Cert.DiffIdeal.Facts) (hDiffReferenceIdeal : Cert.DiffReferenceIdeal.Facts) (hPrep : Cert.Prep.Facts) (hPrepIdeal : Cert.PrepIdeal.Facts) (hPrepReferenceIdeal : Cert.PrepReferenceIdeal.Facts) (hLast : Cert.Last.Facts) (hLastIdeal : Cert.LastIdeal.Facts) (hLastReferenceIdeal : Cert.LastReferenceIdeal.Facts) (hMeans : Cert.Means.Facts) (hMeansIdeal : Cert.MeansIdeal.Facts) (hMeansReferenceIdeal : Cert.MeansReferenceIdeal.Facts) (hPre_finite : Cert.Pre_finite.Facts) (hPre_diff_finite : Cert.Pre_diff_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Out (hOut := hOut)
    ∧ quiescent_OutIdeal (hOutIdeal := hOutIdeal)
    ∧ quiescent_OutReferenceIdeal (hOutReferenceIdeal := hOutReferenceIdeal)
    ∧ quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffReferenceIdeal (hDiffReferenceIdeal := hDiffReferenceIdeal)
    ∧ quiescent_DiffReferenceIdeal_pre_diff_finite (hDiffReferenceIdeal := hDiffReferenceIdeal) (hPre_diff_finite := hPre_diff_finite)
    ∧ quiescent_Prep (hPrep := hPrep)
    ∧ quiescent_PrepIdeal (hPrepIdeal := hPrepIdeal)
    ∧ quiescent_PrepReferenceIdeal (hPrepReferenceIdeal := hPrepReferenceIdeal)
    ∧ quiescent_Last (hLast := hLast)
    ∧ quiescent_LastIdeal (hLastIdeal := hLastIdeal)
    ∧ quiescent_LastReferenceIdeal (hLastReferenceIdeal := hLastReferenceIdeal)
    ∧ quiescent_Means (hMeans := hMeans)
    ∧ quiescent_MeansIdeal (hMeansIdeal := hMeansIdeal)
    ∧ quiescent_MeansReferenceIdeal (hMeansReferenceIdeal := hMeansReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Mixer_MixerIdeal
    ∧ algebraic_MixerIdeal_MixerReferenceIdeal (hMixerIdeal := hMixerIdeal) (hMixerReferenceIdeal := hMixerReferenceIdeal)
    ∧ preserves_Latent_LatentIdeal
    ∧ algebraic_LatentIdeal_LatentReferenceIdeal (hLatentIdeal := hLatentIdeal) (hLatentReferenceIdeal := hLatentReferenceIdeal)
    ∧ preserves_Query_QueryIdeal
    ∧ algebraic_QueryIdeal_QueryReferenceIdeal (hQueryIdeal := hQueryIdeal) (hQueryReferenceIdeal := hQueryReferenceIdeal)
    ∧ preserves_Out_OutIdeal
    ∧ algebraic_OutIdeal_OutReferenceIdeal (hOutIdeal := hOutIdeal) (hOutReferenceIdeal := hOutReferenceIdeal)
    ∧ preserves_Diff_DiffIdeal
    ∧ algebraic_DiffIdeal_DiffReferenceIdeal_pre_diff_finite (hDiffIdeal := hDiffIdeal) (hDiffReferenceIdeal := hDiffReferenceIdeal) (hPre_diff_finite := hPre_diff_finite)
    ∧ preserves_Prep_PrepIdeal
    ∧ algebraic_PrepIdeal_PrepReferenceIdeal (hPrepIdeal := hPrepIdeal) (hPrepReferenceIdeal := hPrepReferenceIdeal)
    ∧ preserves_Last_LastIdeal
    ∧ algebraic_LastIdeal_LastReferenceIdeal (hLastIdeal := hLastIdeal) (hLastReferenceIdeal := hLastReferenceIdeal)
    ∧ preserves_Means_MeansIdeal
    ∧ algebraic_MeansIdeal_MeansReferenceIdeal (hMeansIdeal := hMeansIdeal) (hMeansReferenceIdeal := hMeansReferenceIdeal)
-- ==== Pre_diff_finite.lean ====
abbrev S4x16384x128 : Shape := ⟨3, ![4, 16384, 128]⟩
abbrev S4x1x4x512x512 : Shape := ⟨5, ![4, 1, 4, 512, 512]⟩
abbrev S4x64 : Shape := ⟨2, ![4, 64]⟩
abbrev S1x128 : Shape := ⟨2, ![1, 128]⟩
abbrev S_ : Shape := ⟨0, ![]⟩
abbrev S4x1x1x512x512 : Shape := ⟨5, ![4, 1, 1, 512, 512]⟩
abbrev S4x1x512x512 : Shape := ⟨4, ![4, 1, 512, 512]⟩

class Facts : Prop where
  bitsLt_bf16_f32 : FTy.bits .bf16 < FTy.bits .f32
  bcast_S_S4x16384x128 : S_.BroadcastsInDim S4x16384x128 (![] : Fin 0 → Fin S4x16384x128.rank)
  reducesTo_S4x16384x128_S_d0_1_2 : S4x16384x128.ReducesTo [0, 1, 2] S_
  h_S_ : 0 < S_.numel
  bcast_S_S4x1x4x512x512 : S_.BroadcastsInDim S4x1x4x512x512 (![] : Fin 0 → Fin S4x1x4x512x512.rank)
  reducesTo_S4x1x4x512x512_S_d0_1_2_3_4 : S4x1x4x512x512.ReducesTo [0, 1, 2, 3, 4] S_
  bcast_S_S4x64 : S_.BroadcastsInDim S4x64 (![] : Fin 0 → Fin S4x64.rank)
  reducesTo_S4x64_S_d0_1 : S4x64.ReducesTo [0, 1] S_
  slices_S4x1x4x512x512_S4x1x1x512x512_0_0_3_0_0 : S4x1x4x512x512.Slices ![0, 0, 3, 0, 0] S4x1x1x512x512
  shapeCasts_S4x1x1x512x512_S4x1x512x512 : S4x1x1x512x512.ShapeCasts S4x1x512x512
  bcast_S_S4x1x512x512 : S_.BroadcastsInDim S4x1x512x512 (![] : Fin 0 → Fin S4x1x512x512.rank)
  reducesTo_S4x1x512x512_S_d0_1_2_3 : S4x1x512x512.ReducesTo [0, 1, 2, 3] S_

variable [Facts]

def fn_part1 {F : FTy → Type} [FloatOps F] (main_arg3 : FVec F S4x1x4x512x512 .f32) (main_arg4 : FVec F S4x64 .f32) (main_v16 : IVec S_ 1) (main_v17 : FVec F S4x1x4x512x512 .f32) : IVec S_ 1 :=
  let main_cst_4 : FVec F S_ .f32 := constant S_ .f32 0x7F800000#32
  let main_v18 : FVec F S4x1x4x512x512 .f32 := broadcastInDim S4x1x4x512x512 ![] bcast_S_S4x1x4x512x512 main_cst_4
  let main_v19 : IVec S4x1x4x512x512 1 := cmpf .olt main_v17 main_v18
  let main_c_5 : IVec S_ 1 := constantI S_ 1 1#1
  let main_v20 : IVec S_ 1 := (fun x v => Host.reduce IntOp.andi x v reducesTo_S4x1x4x512x512_S_d0_1_2_3_4 h_S_) main_v19 main_c_5
  let main_v21 : IVec S_ 1 := andi main_v16 main_v20
  let main_v22 : FVec F S4x64 .f32 := Host.absf main_arg4
  let main_cst_6 : FVec F S_ .f32 := constant S_ .f32 0x7F800000#32
  let main_v23 : FVec F S4x64 .f32 := broadcastInDim S4x64 ![] bcast_S_S4x64 main_cst_6
  let main_v24 : IVec S4x64 1 := cmpf .olt main_v22 main_v23
  let main_c_7 : IVec S_ 1 := constantI S_ 1 1#1
  let main_v25 : IVec S_ 1 := (fun x v => Host.reduce IntOp.andi x v reducesTo_S4x64_S_d0_1 h_S_) main_v24 main_c_7
  let main_v26 : IVec S_ 1 := andi main_v21 main_v25
  let main_v27 : FVec F S4x1x1x512x512 .f32 := (extractStridedSlice S4x1x1x512x512 ![0, 0, 3, 0, 0] · slices_S4x1x4x512x512_S4x1x1x512x512_0_0_3_0_0) main_arg3
  let main_v28 : FVec F S4x1x512x512 .f32 := shapeCast S4x1x512x512 main_v27 shapeCasts_S4x1x1x512x512_S4x1x512x512
  let main_cst_8 : FVec F S_ .f32 := constant S_ .f32 0x00000000#32
  let main_v29 : FVec F S4x1x512x512 .f32 := broadcastInDim S4x1x512x512 ![] bcast_S_S4x1x512x512 main_cst_8
  let main_v30 : IVec S4x1x512x512 1 := cmpf .oeq main_v28 main_v29
  let main_c_9 : IVec S_ 1 := constantI S_ 1 1#1
  let main_v31 : IVec S_ 1 := (fun x v => Host.reduce IntOp.andi x v reducesTo_S4x1x512x512_S_d0_1_2_3 h_S_) main_v30 main_c_9
  let main_v32 : IVec S_ 1 := andi main_v26 main_v31
  main_v32

def fn {F : FTy → Type} [FloatOps F] (main_arg0 : FVec F S4x16384x128 .bf16) (main_arg1 : FVec F S4x16384x128 .bf16) (main_arg2 : FVec F S4x16384x128 .bf16) (main_arg3 : FVec F S4x1x4x512x512 .f32) (main_arg4 : FVec F S4x64 .f32) (main_arg5 : FVec F S1x128 .f32) : IVec S_ 1 :=
  let main_v0 : FVec F S4x16384x128 .f32 := (extf .f32 · bitsLt_bf16_f32) main_arg0
  let main_v1 : FVec F S4x16384x128 .f32 := Host.absf main_v0
  let main_cst : FVec F S_ .f32 := constant S_ .f32 0x7F800000#32
  let main_v2 : FVec F S4x16384x128 .f32 := broadcastInDim S4x16384x128 ![] bcast_S_S4x16384x128 main_cst
  let main_v3 : IVec S4x16384x128 1 := cmpf .olt main_v1 main_v2
  let main_c : IVec S_ 1 := constantI S_ 1 1#1
  let main_v4 : IVec S_ 1 := (fun x v => Host.reduce IntOp.andi x v reducesTo_S4x16384x128_S_d0_1_2 h_S_) main_v3 main_c
  let main_v5 : FVec F S4x16384x128 .f32 := (extf .f32 · bitsLt_bf16_f32) main_arg1
  let main_v6 : FVec F S4x16384x128 .f32 := Host.absf main_v5
  let main_cst_0 : FVec F S_ .f32 := constant S_ .f32 0x7F800000#32
  let main_v7 : FVec F S4x16384x128 .f32 := broadcastInDim S4x16384x128 ![] bcast_S_S4x16384x128 main_cst_0
  let main_v8 : IVec S4x16384x128 1 := cmpf .olt main_v6 main_v7
  let main_c_1 : IVec S_ 1 := constantI S_ 1 1#1
  let main_v9 : IVec S_ 1 := (fun x v => Host.reduce IntOp.andi x v reducesTo_S4x16384x128_S_d0_1_2 h_S_) main_v8 main_c_1
  let main_v10 : IVec S_ 1 := andi main_v4 main_v9
  let main_v11 : FVec F S4x16384x128 .f32 := (extf .f32 · bitsLt_bf16_f32) main_arg2
  let main_v12 : FVec F S4x16384x128 .f32 := Host.absf main_v11
  let main_cst_2 : FVec F S_ .f32 := constant S_ .f32 0x7F800000#32
  let main_v13 : FVec F S4x16384x128 .f32 := broadcastInDim S4x16384x128 ![] bcast_S_S4x16384x128 main_cst_2
  let main_v14 : IVec S4x16384x128 1 := cmpf .olt main_v12 main_v13
  let main_c_3 : IVec S_ 1 := constantI S_ 1 1#1
  let main_v15 : IVec S_ 1 := (fun x v => Host.reduce IntOp.andi x v reducesTo_S4x16384x128_S_d0_1_2 h_S_) main_v14 main_c_3
  let main_v16 : IVec S_ 1 := andi main_v10 main_v15
  let main_v17 : FVec F S4x1x4x512x512 .f32 := Host.absf main_arg3
  fn_part1 (F := F) main_arg3 main_arg4 main_v16 main_v17
-- ==== Pre_finite.lean ====
abbrev S4x16384x256 : Shape := ⟨3, ![4, 16384, 256]⟩
abbrev S4x16384x128 : Shape := ⟨3, ![4, 16384, 128]⟩
abbrev S_ : Shape := ⟨0, ![]⟩

class Facts : Prop where
  bitsLt_bf16_f32 : FTy.bits .bf16 < FTy.bits .f32
  bcast_S_S4x16384x256 : S_.BroadcastsInDim S4x16384x256 (![] : Fin 0 → Fin S4x16384x256.rank)

variable [Facts]

def fn {F : FTy → Type} [FloatOps F] (main_arg0 : FVec F S4x16384x256 .bf16) (main_arg1 : FVec F S4x16384x256 .bf16) (main_arg2 : FVec F S4x16384x128 .bf16) : IVec S4x16384x256 1 :=
  let main_v0 : FVec F S4x16384x256 .f32 := (extf .f32 · bitsLt_bf16_f32) main_arg0
  let main_v1 : FVec F S4x16384x256 .f32 := Host.absf main_v0
  let main_cst : FVec F S_ .f32 := constant S_ .f32 0x7F800000#32
  let main_v2 : FVec F S4x16384x256 .f32 := broadcastInDim S4x16384x256 ![] bcast_S_S4x16384x256 main_cst
  let main_v3 : IVec S4x16384x256 1 := cmpf .olt main_v1 main_v2
  let main_v4 : FVec F S4x16384x256 .f32 := (extf .f32 · bitsLt_bf16_f32) main_arg1
  let main_v5 : FVec F S4x16384x256 .f32 := Host.absf main_v4
  let main_cst_0 : FVec F S_ .f32 := constant S_ .f32 0x7F800000#32
  let main_v6 : FVec F S4x16384x256 .f32 := broadcastInDim S4x16384x256 ![] bcast_S_S4x16384x256 main_cst_0
  let main_v7 : IVec S4x16384x256 1 := cmpf .olt main_v5 main_v6
  let main_v8 : IVec S4x16384x256 1 := andi main_v3 main_v7
  main_v8
-- ==== Kernel.lean ====
abbrev S4x16384x256 : Shape := ⟨3, ![4, 16384, 256]⟩
abbrev S4x16384x128 : Shape := ⟨3, ![4, 16384, 128]⟩
abbrev S1x512x256 : Shape := ⟨3, ![1, 512, 256]⟩
abbrev S1x16384x256 : Shape := ⟨3, ![1, 16384, 256]⟩
abbrev S1x16384x128 : Shape := ⟨3, ![1, 16384, 128]⟩
abbrev S1x512x128 : Shape := ⟨3, ![1, 512, 128]⟩
abbrev S2x512x512 : Shape := ⟨3, ![2, 512, 512]⟩
abbrev S512x256 : Shape := ⟨2, ![512, 256]⟩
abbrev S512x512 : Shape := ⟨2, ![512, 512]⟩
abbrev S1x512x512 : Shape := ⟨3, ![1, 512, 512]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 13
  | .smem => 0
  | _ => 0

abbrev bufTy : (tb : Table) → Fin (tcTables nBuf tb) → BufTy
  | .hbm, ⟨0, _⟩ => ⟨S4x16384x256, .bf16⟩
  | .hbm, ⟨1, _⟩ => ⟨S4x16384x256, .bf16⟩
  | .hbm, ⟨2, _⟩ => ⟨S4x16384x128, .bf16⟩
  | .hbm, ⟨3, _⟩ => ⟨S4x16384x128, .bf16⟩
  | .local _ .vmem, ⟨0, _⟩ => ⟨S1x512x256, .bf16⟩
  | .local _ .vmem, ⟨1, _⟩ => ⟨S1x512x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S2x512x512, .f32⟩
  | .local _ .vmem, ⟨12, _⟩ => ⟨S2x512x512, .bf16⟩
  | _, _ => ⟨S4x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_mult1 : BitVec 32 :=
  let c0_i32 : BitVec 32 := 0#32
  c0_i32
@[reducible] def k0_t1_loop (i : grid0.Coords) : Scf.Loop 32 :=
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_39 : BitVec 32 := 1#32
  ⟨c0_i32_36, v67, c1_i32_39⟩
def k0_mult2 (i : grid0.Coords) (k0_t1 : Fin (k0_t1_loop i).trips) : BitVec 32 :=
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let c0_i32_72 : BitVec 32 := 0#32
  let v119 : BitVec 32 := Scalar.addi v118 c0_i32_72
  let c1_i32_73 : BitVec 32 := 1#32
  let v120 : BitVec 32 := Scalar.addi v119 c1_i32_73
  let arg1 : BitVec 32 := BitVec.ofNat 32 (i 1).val
  let v121 : BitVec 32 := Scalar.minsi v120 arg1
  let c512_i32_74 : BitVec 32 := 512#32
  let v122 : BitVec 32 := Scalar.muli v121 c512_i32_74
  v122
def k0_off1 (i : grid0.Coords) (k0_t1 : Fin (k0_t1_loop i).trips) (c0_i32_72 : BitVec 32) : Fin 3 → Nat :=
  let c0_75 : Index := 0#32
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let v119 : BitVec 32 := Scalar.addi v118 c0_i32_72
  let c1_i32_73 : BitVec 32 := 1#32
  let v120 : BitVec 32 := Scalar.addi v119 c1_i32_73
  let arg1 : BitVec 32 := BitVec.ofNat 32 (i 1).val
  let v121 : BitVec 32 := Scalar.minsi v120 arg1
  let c512_i32_74 : BitVec 32 := 512#32
  let v122 : BitVec 32 := Scalar.muli v121 c512_i32_74
  let v123 : BitVec 32 := v122
  let v124 : Index := Scalar.indexCast v123
  let c0_76 : Index := 0#32
  ![0, v124.toNat, 0]
def k0_mult3 (i : grid0.Coords) (k0_t1 : Fin (k0_t1_loop i).trips) : BitVec 32 :=
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let c0_i32_72 : BitVec 32 := 0#32
  let v119 : BitVec 32 := Scalar.addi v118 c0_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  v129
def k0_off2 (i : grid0.Coords) (k0_t1 : Fin (k0_t1_loop i).trips) (c0_i32_72 : BitVec 32) : Fin 3 → Nat :=
  let c0_80 : Index := 0#32
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let v119 : BitVec 32 := Scalar.addi v118 c0_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  let v130 : BitVec 32 := v129
  let v131 : Index := Scalar.indexCast v130
  let c0_81 : Index := 0#32
  ![0, v131.toNat, 0]
def k0_mult4 (i : grid0.Coords) (k0_t1 : Fin (k0_t1_loop i).trips) : BitVec 32 :=
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let c0_i32_72 : BitVec 32 := 0#32
  let v119 : BitVec 32 := Scalar.addi v118 c0_i32_72
  let c1_i32_115 : BitVec 32 := 1#32
  let v188 : BitVec 32 := Scalar.addi v119 c1_i32_115
  let c1_i32_116 : BitVec 32 := 1#32
  let v189 : BitVec 32 := Scalar.addi v188 c1_i32_116
  let arg1 : BitVec 32 := BitVec.ofNat 32 (i 1).val
  let v190 : BitVec 32 := Scalar.minsi v189 arg1
  let c512_i32_117 : BitVec 32 := 512#32
  let v191 : BitVec 32 := Scalar.muli v190 c512_i32_117
  v191
def k0_off3 (i : grid0.Coords) (k0_t1 : Fin (k0_t1_loop i).trips) (c0_i32_72 : BitVec 32) : Fin 3 → Nat :=
  let c0_118 : Index := 0#32
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let v119 : BitVec 32 := Scalar.addi v118 c0_i32_72
  let c1_i32_115 : BitVec 32 := 1#32
  let v188 : BitVec 32 := Scalar.addi v119 c1_i32_115
  let c1_i32_116 : BitVec 32 := 1#32
  let v189 : BitVec 32 := Scalar.addi v188 c1_i32_116
  let arg1 : BitVec 32 := BitVec.ofNat 32 (i 1).val
  let v190 : BitVec 32 := Scalar.minsi v189 arg1
  let c512_i32_117 : BitVec 32 := 512#32
  let v191 : BitVec 32 := Scalar.muli v190 c512_i32_117
  let v192 : BitVec 32 := v191
  let v193 : Index := Scalar.indexCast v192
  let c0_119 : Index := 0#32
  ![0, v193.toNat, 0]
def k0_mult5 (i : grid0.Coords) (k0_t1 : Fin (k0_t1_loop i).trips) : BitVec 32 :=
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let c0_i32_72 : BitVec 32 := 0#32
  let v119 : BitVec 32 := Scalar.addi v118 c0_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  v198
def k0_off4 (i : grid0.Coords) (k0_t1 : Fin (k0_t1_loop i).trips) (c0_i32_72 : BitVec 32) : Fin 3 → Nat :=
  let c0_123 : Index := 0#32
  let c8_i32 : BitVec 32 := 8#32
  let c0_i32_36 : BitVec 32 := 0#32
  let c1_i32_39 : BitVec 32 := 1#32
  let arg11 : BitVec 32 := Scf.iv c0_i32_36 c1_i32_39 k0_t1
  let v118 : BitVec 32 := Scalar.muli c8_i32 arg11
  let v119 : BitVec 32 := Scalar.addi v118 c0_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  let v199 : BitVec 32 := v198
  let v200 : Index := Scalar.indexCast v199
  let c0_124 : Index := 0#32
  ![0, v200.toNat, 0]
def k0_mult6 (i : grid0.Coords) (k0_t1 : Fin (k0_t1_loop i).trips) : BitVec 32 :=
  let c8_i32_158 : BitVec 32 := 8#32
  let c0_i32_36 : BitVec 32 := 0#32
  let c1_i32_39 : BitVec 32 := 1#32
  let arg11 : BitVec 32 := Scf.iv c0_i32_36 c1_i32_39 k0_t1
  let v257 : BitVec 32 := Scalar.muli c8_i32_158 arg11
  let c2_i32_159 : BitVec 32 := 2#32
  let v258 : BitVec 32 := Scalar.addi v257 c2_i32_159
  let c1_i32_160 : BitVec 32 := 1#32
  let v259 : BitVec 32 := Scalar.addi v258 c1_i32_160
  let arg1 : BitVec 32 := BitVec.ofNat 32 (i 1).val
  let v260 : BitVec 32 := Scalar.minsi v259 arg1
  let c512_i32_161 : BitVec 32 := 512#32
  let v261 : BitVec 32 := Scalar.muli v260 c512_i32_161
  v261
def k0_mult7 (i : grid0.Coords) (k0_t1 : Fin (k0_t1_loop i).trips) : BitVec 32 :=
  let c8_i32_158 : BitVec 32 := 8#32
  let c0_i32_36 : BitVec 32 := 0#32
  let c1_i32_39 : BitVec 32 := 1#32
  let arg11 : BitVec 32 := Scf.iv c0_i32_36 c1_i32_39 k0_t1
  let v257 : BitVec 32 := Scalar.muli c8_i32_158 arg11
  let c2_i32_159 : BitVec 32 := 2#32
  let v258 : BitVec 32 := Scalar.addi v257 c2_i32_159
  let c1_i32_164 : BitVec 32 := 1#32
  let v266 : BitVec 32 := Scalar.subi v258 c1_i32_164
  let c0_i32_165 : BitVec 32 := 0#32
  let v267 : BitVec 32 := Scalar.maxsi v266 c0_i32_165
  let c512_i32_166 : BitVec 32 := 512#32
  let v268 : BitVec 32 := Scalar.muli v267 c512_i32_166
  v268
def k0_mult8 (i : grid0.Coords) (k0_t1 : Fin (k0_t1_loop i).trips) : BitVec 32 :=
  let c8_i32_158 : BitVec 32 := 8#32
  let c0_i32_36 : BitVec 32 := 0#32
  let c1_i32_39 : BitVec 32 := 1#32
  let arg11 : BitVec 32 := Scf.iv c0_i32_36 c1_i32_39 k0_t1
  let v257 : BitVec 32 := Scalar.muli c8_i32_158 arg11
  let c2_i32_159 : BitVec 32 := 2#32
  let v258 : BitVec 32 := Scalar.addi v257 c2_i32_159
  let c1_i32_202 : BitVec 32 := 1#32
  let v327 : BitVec 32 := Scalar.addi v258 c1_i32_202
  let c1_i32_203 : BitVec 32 := 1#32
  let v328 : BitVec 32 := Scalar.addi v327 c1_i32_203
  let arg1 : BitVec 32 := BitVec.ofNat 32 (i 1).val
  let v329 : BitVec 32 := Scalar.minsi v328 arg1
  let c512_i32_204 : BitVec 32 := 512#32
  let v330 : BitVec 32 := Scalar.muli v329 c512_i32_204
  v330
def k0_mult9 (i : grid0.Coords) (k0_t1 : Fin (k0_t1_loop i).trips) : BitVec 32 :=
  let c8_i32_158 : BitVec 32 := 8#32
  let c0_i32_36 : BitVec 32 := 0#32
  let c1_i32_39 : BitVec 32 := 1#32
  let arg11 : BitVec 32 := Scf.iv c0_i32_36 c1_i32_39 k0_t1
  let v257 : BitVec 32 := Scalar.muli c8_i32_158 arg11
  let c2_i32_159 : BitVec 32 := 2#32
  let v258 : BitVec 32 := Scalar.addi v257 c2_i32_159
  let c1_i32_202 : BitVec 32 := 1#32
  let v327 : BitVec 32 := Scalar.addi v258 c1_i32_202
  let c1_i32_207 : BitVec 32 := 1#32
  let v335 : BitVec 32 := Scalar.subi v327 c1_i32_207
  let c0_i32_208 : BitVec 32 := 0#32
  let v336 : BitVec 32 := Scalar.maxsi v335 c0_i32_208
  let c512_i32_209 : BitVec 32 := 512#32
  let v337 : BitVec 32 := Scalar.muli v336 c512_i32_209
  v337
def k0_mult10 (i : grid0.Coords) (k0_t1 : Fin (k0_t1_loop i).trips) : BitVec 32 :=
  let c8_i32_245 : BitVec 32 := 8#32
  let c0_i32_36 : BitVec 32 := 0#32
  let c1_i32_39 : BitVec 32 := 1#32
  let arg11 : BitVec 32 := Scf.iv c0_i32_36 c1_i32_39 k0_t1
  let v396 : BitVec 32 := Scalar.muli c8_i32_245 arg11
  let c4_i32_246 : BitVec 32 := 4#32
  let v397 : BitVec 32 := Scalar.addi v396 c4_i32_246
  let c1_i32_247 : BitVec 32 := 1#32
  let v398 : BitVec 32 := Scalar.addi v397 c1_i32_247
  let arg1 : BitVec 32 := BitVec.ofNat 32 (i 1).val
  let v399 : BitVec 32 := Scalar.minsi v398 arg1
  let c512_i32_248 : BitVec 32 := 512#32
  let v400 : BitVec 32 := Scalar.muli v399 c512_i32_248
  v400
def k0_mult11 (i : grid0.Coords) (k0_t1 : Fin (k0_t1_loop i).trips) : BitVec 32 :=
  let c8_i32_245 : BitVec 32 := 8#32
  let c0_i32_36 : BitVec 32 := 0#32
  let c1_i32_39 : BitVec 32 := 1#32
  let arg11 : BitVec 32 := Scf.iv c0_i32_36 c1_i32_39 k0_t1
  let v396 : BitVec 32 := Scalar.muli c8_i32_245 arg11
  let c4_i32_246 : BitVec 32 := 4#32
  let v397 : BitVec 32 := Scalar.addi v396 c4_i32_246
  let c1_i32_251 : BitVec 32 := 1#32
  let v405 : BitVec 32 := Scalar.subi v397 c1_i32_251
  let c0_i32_252 : BitVec 32 := 0#32
  let v406 : BitVec 32 := Scalar.maxsi v405 c0_i32_252
  let c512_i32_253 : BitVec 32 := 512#32
  let v407 : BitVec 32 := Scalar.muli v406 c512_i32_253
  v407
def k0_mult12 (i : grid0.Coords) (k0_t1 : Fin (k0_t1_loop i).trips) : BitVec 32 :=
  let c8_i32_245 : BitVec 32 := 8#32
  let c0_i32_36 : BitVec 32 := 0#32
  let c1_i32_39 : BitVec 32 := 1#32
  let arg11 : BitVec 32 := Scf.iv c0_i32_36 c1_i32_39 k0_t1
  let v396 : BitVec 32 := Scalar.muli c8_i32_245 arg11
  let c4_i32_246 : BitVec 32 := 4#32
  let v397 : BitVec 32 := Scalar.addi v396 c4_i32_246
  let c1_i32_289 : BitVec 32 := 1#32
  let v466 : BitVec 32 := Scalar.addi v397 c1_i32_289
  let c1_i32_290 : BitVec 32 := 1#32
  let v467 : BitVec 32 := Scalar.addi v466 c1_i32_290
  let arg1 : BitVec 32 := BitVec.ofNat 32 (i 1).val
  let v468 : BitVec 32 := Scalar.minsi v467 arg1
  let c512_i32_291 : BitVec 32 := 512#32
  let v469 : BitVec 32 := Scalar.muli v468 c512_i32_291
  v469
def k0_mult13 (i : grid0.Coords) (k0_t1 : Fin (k0_t1_loop i).trips) : BitVec 32 :=
  let c8_i32_245 : BitVec 32 := 8#32
  let c0_i32_36 : BitVec 32 := 0#32
  let c1_i32_39 : BitVec 32 := 1#32
  let arg11 : BitVec 32 := Scf.iv c0_i32_36 c1_i32_39 k0_t1
  let v396 : BitVec 32 := Scalar.muli c8_i32_245 arg11
  let c4_i32_246 : BitVec 32 := 4#32
  let v397 : BitVec 32 := Scalar.addi v396 c4_i32_246
  let c1_i32_289 : BitVec 32 := 1#32
  let v466 : BitVec 32 := Scalar.addi v397 c1_i32_289
  let c1_i32_294 : BitVec 32 := 1#32
  let v474 : BitVec 32 := Scalar.subi v466 c1_i32_294
  let c0_i32_295 : BitVec 32 := 0#32
  let v475 : BitVec 32 := Scalar.maxsi v474 c0_i32_295
  let c512_i32_296 : BitVec 32 := 512#32
  let v476 : BitVec 32 := Scalar.muli v475 c512_i32_296
  v476
def k0_mult14 (i : grid0.Coords) (k0_t1 : Fin (k0_t1_loop i).trips) : BitVec 32 :=
  let c8_i32_332 : BitVec 32 := 8#32
  let c0_i32_36 : BitVec 32 := 0#32
  let c1_i32_39 : BitVec 32 := 1#32
  let arg11 : BitVec 32 := Scf.iv c0_i32_36 c1_i32_39 k0_t1
  let v535 : BitVec 32 := Scalar.muli c8_i32_332 arg11
  let c6_i32 : BitVec 32 := 6#32
  let v536 : BitVec 32 := Scalar.addi v535 c6_i32
  let c1_i32_333 : BitVec 32 := 1#32
  let v537 : BitVec 32 := Scalar.addi v536 c1_i32_333
  let arg1 : BitVec 32 := BitVec.ofNat 32 (i 1).val
  let v538 : BitVec 32 := Scalar.minsi v537 arg1
  let c512_i32_334 : BitVec 32 := 512#32
  let v539 : BitVec 32 := Scalar.muli v538 c512_i32_334
  v539
def k0_mult15 (i : grid0.Coords) (k0_t1 : Fin (k0_t1_loop i).trips) : BitVec 32 :=
  let c8_i32_332 : BitVec 32 := 8#32
  let c0_i32_36 : BitVec 32 := 0#32
  let c1_i32_39 : BitVec 32 := 1#32
  let arg11 : BitVec 32 := Scf.iv c0_i32_36 c1_i32_39 k0_t1
  let v535 : BitVec 32 := Scalar.muli c8_i32_332 arg11
  let c6_i32 : BitVec 32 := 6#32
  let v536 : BitVec 32 := Scalar.addi v535 c6_i32
  let c1_i32_337 : BitVec 32 := 1#32
  let v544 : BitVec 32 := Scalar.subi v536 c1_i32_337
  let c0_i32_338 : BitVec 32 := 0#32
  let v545 : BitVec 32 := Scalar.maxsi v544 c0_i32_338
  let c512_i32_339 : BitVec 32 := 512#32
  let v546 : BitVec 32 := Scalar.muli v545 c512_i32_339
  v546
def k0_mult16 (i : grid0.Coords) (k0_t1 : Fin (k0_t1_loop i).trips) : BitVec 32 :=
  let c8_i32_332 : BitVec 32 := 8#32
  let c0_i32_36 : BitVec 32 := 0#32
  let c1_i32_39 : BitVec 32 := 1#32
  let arg11 : BitVec 32 := Scf.iv c0_i32_36 c1_i32_39 k0_t1
  let v535 : BitVec 32 := Scalar.muli c8_i32_332 arg11
  let c6_i32 : BitVec 32 := 6#32
  let v536 : BitVec 32 := Scalar.addi v535 c6_i32
  let c1_i32_375 : BitVec 32 := 1#32
  let v605 : BitVec 32 := Scalar.addi v536 c1_i32_375
  let c1_i32_376 : BitVec 32 := 1#32
  let v606 : BitVec 32 := Scalar.addi v605 c1_i32_376
  let arg1 : BitVec 32 := BitVec.ofNat 32 (i 1).val
  let v607 : BitVec 32 := Scalar.minsi v606 arg1
  let c512_i32_377 : BitVec 32 := 512#32
  let v608 : BitVec 32 := Scalar.muli v607 c512_i32_377
  v608
def k0_mult17 (i : grid0.Coords) (k0_t1 : Fin (k0_t1_loop i).trips) : BitVec 32 :=
  let c8_i32_332 : BitVec 32 := 8#32
  let c0_i32_36 : BitVec 32 := 0#32
  let c1_i32_39 : BitVec 32 := 1#32
  let arg11 : BitVec 32 := Scf.iv c0_i32_36 c1_i32_39 k0_t1
  let v535 : BitVec 32 := Scalar.muli c8_i32_332 arg11
  let c6_i32 : BitVec 32 := 6#32
  let v536 : BitVec 32 := Scalar.addi v535 c6_i32
  let c1_i32_375 : BitVec 32 := 1#32
  let v605 : BitVec 32 := Scalar.addi v536 c1_i32_375
  let c1_i32_380 : BitVec 32 := 1#32
  let v613 : BitVec 32 := Scalar.subi v605 c1_i32_380
  let c0_i32_381 : BitVec 32 := 0#32
  let v614 : BitVec 32 := Scalar.maxsi v613 c0_i32_381
  let c512_i32_382 : BitVec 32 := 512#32
  let v615 : BitVec 32 := Scalar.muli v614 c512_i32_382
  v615
@[reducible] def k0_t2_loop (i : grid0.Coords) : Scf.Loop 32 :=
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let v64 : BitVec 32 := Scalar.addi c0_i32_36 v63
  let c1_i32_40 : BitVec 32 := 1#32
  ⟨v67, v64, c1_i32_40⟩
def k0_mult18 (i : grid0.Coords) (k0_t2 : Fin (k0_t2_loop i).trips) : BitVec 32 :=
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let c0_i32_72 : BitVec 32 := 0#32
  let v119 : BitVec 32 := Scalar.addi v118 c0_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  v122
def k0_off5 (i : grid0.Coords) (k0_t2 : Fin (k0_t2_loop i).trips) (c0_i32_72 : BitVec 32) : Fin 3 → Nat :=
  let c0_75 : Index := 0#32
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let v119 : BitVec 32 := Scalar.addi v118 c0_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  let v123 : BitVec 32 := v122
  let v124 : Index := Scalar.indexCast v123
  let c0_76 : Index := 0#32
  ![0, v124.toNat, 0]
def k0_mult19 (i : grid0.Coords) (k0_t2 : Fin (k0_t2_loop i).trips) : BitVec 32 :=
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let c0_i32_72 : BitVec 32 := 0#32
  let v119 : BitVec 32 := Scalar.addi v118 c0_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  v129
def k0_off6 (i : grid0.Coords) (k0_t2 : Fin (k0_t2_loop i).trips) (c0_i32_72 : BitVec 32) : Fin 3 → Nat :=
  let c0_80 : Index := 0#32
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let v119 : BitVec 32 := Scalar.addi v118 c0_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  let v130 : BitVec 32 := v129
  let v131 : Index := Scalar.indexCast v130
  let c0_81 : Index := 0#32
  ![0, v131.toNat, 0]
def k0_mult20 (i : grid0.Coords) (k0_t2 : Fin (k0_t2_loop i).trips) : BitVec 32 :=
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let c0_i32_72 : BitVec 32 := 0#32
  let v119 : BitVec 32 := Scalar.addi v118 c0_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  v191
def k0_off7 (i : grid0.Coords) (k0_t2 : Fin (k0_t2_loop i).trips) (c0_i32_72 : BitVec 32) : Fin 3 → Nat :=
  let c0_118 : Index := 0#32
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let v119 : BitVec 32 := Scalar.addi v118 c0_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  let v192 : BitVec 32 := v191
  let v193 : Index := Scalar.indexCast v192
  let c0_119 : Index := 0#32
  ![0, v193.toNat, 0]
def k0_mult21 (i : grid0.Coords) (k0_t2 : Fin (k0_t2_loop i).trips) : BitVec 32 :=
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let c0_i32_72 : BitVec 32 := 0#32
  let v119 : BitVec 32 := Scalar.addi v118 c0_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  v198
def k0_off8 (i : grid0.Coords) (k0_t2 : Fin (k0_t2_loop i).trips) (c0_i32_72 : BitVec 32) : Fin 3 → Nat :=
  let c0_123 : Index := 0#32
  let c8_i32 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v118 : BitVec 32 := Scalar.muli c8_i32 arg11
  let v119 : BitVec 32 := Scalar.addi v118 c0_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  let v199 : BitVec 32 := v198
  let v200 : Index := Scalar.indexCast v199
  let c0_124 : Index := 0#32
  ![0, v200.toNat, 0]
def k0_mult22 (i : grid0.Coords) (k0_t2 : Fin (k0_t2_loop i).trips) : BitVec 32 :=
  let c8_i32_158 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v257 : BitVec 32 := Scalar.muli c8_i32_158 arg11
  let c2_i32_159 : BitVec 32 := 2#32
  let v258 : BitVec 32 := Scalar.addi v257 c2_i32_159
  let c1_i32_160 : BitVec 32 := 1#32
  let v259 : BitVec 32 := Scalar.addi v258 c1_i32_160
  let v260 : BitVec 32 := Scalar.minsi v259 arg1
  let c512_i32_161 : BitVec 32 := 512#32
  let v261 : BitVec 32 := Scalar.muli v260 c512_i32_161
  v261
def k0_mult23 (i : grid0.Coords) (k0_t2 : Fin (k0_t2_loop i).trips) : BitVec 32 :=
  let c8_i32_158 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v257 : BitVec 32 := Scalar.muli c8_i32_158 arg11
  let c2_i32_159 : BitVec 32 := 2#32
  let v258 : BitVec 32 := Scalar.addi v257 c2_i32_159
  let c1_i32_164 : BitVec 32 := 1#32
  let v266 : BitVec 32 := Scalar.subi v258 c1_i32_164
  let c0_i32_165 : BitVec 32 := 0#32
  let v267 : BitVec 32 := Scalar.maxsi v266 c0_i32_165
  let c512_i32_166 : BitVec 32 := 512#32
  let v268 : BitVec 32 := Scalar.muli v267 c512_i32_166
  v268
def k0_mult24 (i : grid0.Coords) (k0_t2 : Fin (k0_t2_loop i).trips) : BitVec 32 :=
  let c8_i32_158 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v257 : BitVec 32 := Scalar.muli c8_i32_158 arg11
  let c2_i32_159 : BitVec 32 := 2#32
  let v258 : BitVec 32 := Scalar.addi v257 c2_i32_159
  let c1_i32_202 : BitVec 32 := 1#32
  let v327 : BitVec 32 := Scalar.addi v258 c1_i32_202
  let c1_i32_203 : BitVec 32 := 1#32
  let v328 : BitVec 32 := Scalar.addi v327 c1_i32_203
  let v329 : BitVec 32 := Scalar.minsi v328 arg1
  let c512_i32_204 : BitVec 32 := 512#32
  let v330 : BitVec 32 := Scalar.muli v329 c512_i32_204
  v330
def k0_mult25 (i : grid0.Coords) (k0_t2 : Fin (k0_t2_loop i).trips) : BitVec 32 :=
  let c8_i32_158 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v257 : BitVec 32 := Scalar.muli c8_i32_158 arg11
  let c2_i32_159 : BitVec 32 := 2#32
  let v258 : BitVec 32 := Scalar.addi v257 c2_i32_159
  let c1_i32_202 : BitVec 32 := 1#32
  let v327 : BitVec 32 := Scalar.addi v258 c1_i32_202
  let c1_i32_207 : BitVec 32 := 1#32
  let v335 : BitVec 32 := Scalar.subi v327 c1_i32_207
  let c0_i32_208 : BitVec 32 := 0#32
  let v336 : BitVec 32 := Scalar.maxsi v335 c0_i32_208
  let c512_i32_209 : BitVec 32 := 512#32
  let v337 : BitVec 32 := Scalar.muli v336 c512_i32_209
  v337
def k0_mult26 (i : grid0.Coords) (k0_t2 : Fin (k0_t2_loop i).trips) : BitVec 32 :=
  let c8_i32_245 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v396 : BitVec 32 := Scalar.muli c8_i32_245 arg11
  let c4_i32_246 : BitVec 32 := 4#32
  let v397 : BitVec 32 := Scalar.addi v396 c4_i32_246
  let c1_i32_247 : BitVec 32 := 1#32
  let v398 : BitVec 32 := Scalar.addi v397 c1_i32_247
  let v399 : BitVec 32 := Scalar.minsi v398 arg1
  let c512_i32_248 : BitVec 32 := 512#32
  let v400 : BitVec 32 := Scalar.muli v399 c512_i32_248
  v400
def k0_mult27 (i : grid0.Coords) (k0_t2 : Fin (k0_t2_loop i).trips) : BitVec 32 :=
  let c8_i32_245 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v396 : BitVec 32 := Scalar.muli c8_i32_245 arg11
  let c4_i32_246 : BitVec 32 := 4#32
  let v397 : BitVec 32 := Scalar.addi v396 c4_i32_246
  let c1_i32_251 : BitVec 32 := 1#32
  let v405 : BitVec 32 := Scalar.subi v397 c1_i32_251
  let c0_i32_252 : BitVec 32 := 0#32
  let v406 : BitVec 32 := Scalar.maxsi v405 c0_i32_252
  let c512_i32_253 : BitVec 32 := 512#32
  let v407 : BitVec 32 := Scalar.muli v406 c512_i32_253
  v407
def k0_mult28 (i : grid0.Coords) (k0_t2 : Fin (k0_t2_loop i).trips) : BitVec 32 :=
  let c8_i32_245 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v396 : BitVec 32 := Scalar.muli c8_i32_245 arg11
  let c4_i32_246 : BitVec 32 := 4#32
  let v397 : BitVec 32 := Scalar.addi v396 c4_i32_246
  let c1_i32_289 : BitVec 32 := 1#32
  let v466 : BitVec 32 := Scalar.addi v397 c1_i32_289
  let c1_i32_290 : BitVec 32 := 1#32
  let v467 : BitVec 32 := Scalar.addi v466 c1_i32_290
  let v468 : BitVec 32 := Scalar.minsi v467 arg1
  let c512_i32_291 : BitVec 32 := 512#32
  let v469 : BitVec 32 := Scalar.muli v468 c512_i32_291
  v469
def k0_mult29 (i : grid0.Coords) (k0_t2 : Fin (k0_t2_loop i).trips) : BitVec 32 :=
  let c8_i32_245 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v396 : BitVec 32 := Scalar.muli c8_i32_245 arg11
  let c4_i32_246 : BitVec 32 := 4#32
  let v397 : BitVec 32 := Scalar.addi v396 c4_i32_246
  let c1_i32_289 : BitVec 32 := 1#32
  let v466 : BitVec 32 := Scalar.addi v397 c1_i32_289
  let c1_i32_294 : BitVec 32 := 1#32
  let v474 : BitVec 32 := Scalar.subi v466 c1_i32_294
  let c0_i32_295 : BitVec 32 := 0#32
  let v475 : BitVec 32 := Scalar.maxsi v474 c0_i32_295
  let c512_i32_296 : BitVec 32 := 512#32
  let v476 : BitVec 32 := Scalar.muli v475 c512_i32_296
  v476
def k0_mult30 (i : grid0.Coords) (k0_t2 : Fin (k0_t2_loop i).trips) : BitVec 32 :=
  let c8_i32_332 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v535 : BitVec 32 := Scalar.muli c8_i32_332 arg11
  let c6_i32 : BitVec 32 := 6#32
  let v536 : BitVec 32 := Scalar.addi v535 c6_i32
  let c1_i32_333 : BitVec 32 := 1#32
  let v537 : BitVec 32 := Scalar.addi v536 c1_i32_333
  let v538 : BitVec 32 := Scalar.minsi v537 arg1
  let c512_i32_334 : BitVec 32 := 512#32
  let v539 : BitVec 32 := Scalar.muli v538 c512_i32_334
  v539
def k0_mult31 (i : grid0.Coords) (k0_t2 : Fin (k0_t2_loop i).trips) : BitVec 32 :=
  let c8_i32_332 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v535 : BitVec 32 := Scalar.muli c8_i32_332 arg11
  let c6_i32 : BitVec 32 := 6#32
  let v536 : BitVec 32 := Scalar.addi v535 c6_i32
  let c1_i32_337 : BitVec 32 := 1#32
  let v544 : BitVec 32 := Scalar.subi v536 c1_i32_337
  let c0_i32_338 : BitVec 32 := 0#32
  let v545 : BitVec 32 := Scalar.maxsi v544 c0_i32_338
  let c512_i32_339 : BitVec 32 := 512#32
  let v546 : BitVec 32 := Scalar.muli v545 c512_i32_339
  v546
def k0_mult32 (i : grid0.Coords) (k0_t2 : Fin (k0_t2_loop i).trips) : BitVec 32 :=
  let c8_i32_332 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v535 : BitVec 32 := Scalar.muli c8_i32_332 arg11
  let c6_i32 : BitVec 32 := 6#32
  let v536 : BitVec 32 := Scalar.addi v535 c6_i32
  let c1_i32_375 : BitVec 32 := 1#32
  let v605 : BitVec 32 := Scalar.addi v536 c1_i32_375
  let c1_i32_376 : BitVec 32 := 1#32
  let v606 : BitVec 32 := Scalar.addi v605 c1_i32_376
  let v607 : BitVec 32 := Scalar.minsi v606 arg1
  let c512_i32_377 : BitVec 32 := 512#32
  let v608 : BitVec 32 := Scalar.muli v607 c512_i32_377
  v608
def k0_mult33 (i : grid0.Coords) (k0_t2 : Fin (k0_t2_loop i).trips) : BitVec 32 :=
  let c8_i32_332 : BitVec 32 := 8#32
  let c0_i32_36 : BitVec 32 := 0#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v63 : BitVec 32 := Scalar.subi v62 c0_i32_36
  let c1_i32_38 : BitVec 32 := 1#32
  let v65 : BitVec 32 := Scalar.divsi v63 c1_i32_38
  let v66 : BitVec 32 := Scalar.muli v65 c1_i32_38
  let v67 : BitVec 32 := Scalar.addi c0_i32_36 v66
  let c1_i32_40 : BitVec 32 := 1#32
  let arg11 : BitVec 32 := Scf.iv v67 c1_i32_40 k0_t2
  let v535 : BitVec 32 := Scalar.muli c8_i32_332 arg11
  let c6_i32 : BitVec 32 := 6#32
  let v536 : BitVec 32 := Scalar.addi v535 c6_i32
  let c1_i32_375 : BitVec 32 := 1#32
  let v605 : BitVec 32 := Scalar.addi v536 c1_i32_375
  let c1_i32_380 : BitVec 32 := 1#32
  let v613 : BitVec 32 := Scalar.subi v605 c1_i32_380
  let c0_i32_381 : BitVec 32 := 0#32
  let v614 : BitVec 32 := Scalar.maxsi v613 c0_i32_381
  let c512_i32_382 : BitVec 32 := 512#32
  let v615 : BitVec 32 := Scalar.muli v614 c512_i32_382
  v615
def k0_cond1 (i : grid0.Coords) : BitVec 1 :=
  let c4_i32_41 : BitVec 32 := 4#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v70 : BitVec 32 := Scalar.muli c4_i32_41 v62
  let c0_i32_42 : BitVec 32 := 0#32
  let v71 : BitVec 32 := Scalar.addi v70 c0_i32_42
  let v72 : BitVec 1 := Scalar.cmpi .slt v71 v45
  let v73 : BitVec 32 := Scalar.extui v72
  let c0_i32_43 : BitVec 32 := 0#32
  let v74 : BitVec 1 := Scalar.cmpi .ne v73 c0_i32_43
  v74

def k0_mult34 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  v122
def k0_off9 (i : grid0.Coords) : Fin 3 → Nat :=
  let c0_75 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  let v123 : BitVec 32 := v122
  let v124 : Index := Scalar.indexCast v123
  let c0_76 : Index := 0#32
  ![0, v124.toNat, 0]
def k0_mult35 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  v129
def k0_off10 (i : grid0.Coords) : Fin 3 → Nat :=
  let c0_80 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  let v130 : BitVec 32 := v129
  let v131 : Index := Scalar.indexCast v130
  let c0_81 : Index := 0#32
  ![0, v131.toNat, 0]
def k0_mult36 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  v191
def k0_off11 (i : grid0.Coords) : Fin 3 → Nat :=
  let c0_118 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  let v192 : BitVec 32 := v191
  let v193 : Index := Scalar.indexCast v192
  let c0_119 : Index := 0#32
  ![0, v193.toNat, 0]
def k0_mult37 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  v198
def k0_off12 (i : grid0.Coords) : Fin 3 → Nat :=
  let c0_123 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c0_i32_72 : BitVec 32 := 0#32
  let v119 : BitVec 32 := Scalar.addi v118 c0_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  let v199 : BitVec 32 := v198
  let v200 : Index := Scalar.indexCast v199
  let c0_124 : Index := 0#32
  ![0, v200.toNat, 0]
def k0_cond2 (i : grid0.Coords) : BitVec 1 :=
  let c4_i32_44 : BitVec 32 := 4#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v75 : BitVec 32 := Scalar.muli c4_i32_44 v62
  let c1_i32_45 : BitVec 32 := 1#32
  let v76 : BitVec 32 := Scalar.addi v75 c1_i32_45
  let v77 : BitVec 1 := Scalar.cmpi .slt v76 v45
  let v78 : BitVec 32 := Scalar.extui v77
  let c0_i32_46 : BitVec 32 := 0#32
  let v79 : BitVec 1 := Scalar.cmpi .ne v78 c0_i32_46
  v79

def k0_mult38 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  v122
def k0_off13 (i : grid0.Coords) : Fin 3 → Nat :=
  let c0_75 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  let v123 : BitVec 32 := v122
  let v124 : Index := Scalar.indexCast v123
  let c0_76 : Index := 0#32
  ![0, v124.toNat, 0]
def k0_mult39 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  v129
def k0_off14 (i : grid0.Coords) : Fin 3 → Nat :=
  let c0_80 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  let v130 : BitVec 32 := v129
  let v131 : Index := Scalar.indexCast v130
  let c0_81 : Index := 0#32
  ![0, v131.toNat, 0]
def k0_mult40 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  v191
def k0_off15 (i : grid0.Coords) : Fin 3 → Nat :=
  let c0_118 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  let v192 : BitVec 32 := v191
  let v193 : Index := Scalar.indexCast v192
  let c0_119 : Index := 0#32
  ![0, v193.toNat, 0]
def k0_mult41 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  v198
def k0_off16 (i : grid0.Coords) : Fin 3 → Nat :=
  let c0_123 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c2_i32_72 : BitVec 32 := 2#32
  let v119 : BitVec 32 := Scalar.addi v118 c2_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  let v199 : BitVec 32 := v198
  let v200 : Index := Scalar.indexCast v199
  let c0_124 : Index := 0#32
  ![0, v200.toNat, 0]
def k0_cond3 (i : grid0.Coords) : BitVec 1 :=
  let c4_i32_47 : BitVec 32 := 4#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v80 : BitVec 32 := Scalar.muli c4_i32_47 v62
  let c2_i32_48 : BitVec 32 := 2#32
  let v81 : BitVec 32 := Scalar.addi v80 c2_i32_48
  let v82 : BitVec 1 := Scalar.cmpi .slt v81 v45
  let v83 : BitVec 32 := Scalar.extui v82
  let c0_i32_49 : BitVec 32 := 0#32
  let v84 : BitVec 1 := Scalar.cmpi .ne v83 c0_i32_49
  v84

def k0_mult42 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  v122
def k0_off17 (i : grid0.Coords) : Fin 3 → Nat :=
  let c0_75 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_73 : BitVec 32 := 1#32
  let v120 : BitVec 32 := Scalar.addi v119 c1_i32_73
  let v121 : BitVec 32 := Scalar.minsi v120 arg1
  let c512_i32_74 : BitVec 32 := 512#32
  let v122 : BitVec 32 := Scalar.muli v121 c512_i32_74
  let v123 : BitVec 32 := v122
  let v124 : Index := Scalar.indexCast v123
  let c0_76 : Index := 0#32
  ![0, v124.toNat, 0]
def k0_mult43 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  v129
def k0_off18 (i : grid0.Coords) : Fin 3 → Nat :=
  let c0_80 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_77 : BitVec 32 := 1#32
  let v127 : BitVec 32 := Scalar.subi v119 c1_i32_77
  let c0_i32_78 : BitVec 32 := 0#32
  let v128 : BitVec 32 := Scalar.maxsi v127 c0_i32_78
  let c512_i32_79 : BitVec 32 := 512#32
  let v129 : BitVec 32 := Scalar.muli v128 c512_i32_79
  let v130 : BitVec 32 := v129
  let v131 : Index := Scalar.indexCast v130
  let c0_81 : Index := 0#32
  ![0, v131.toNat, 0]
def k0_mult44 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  v191
def k0_off19 (i : grid0.Coords) : Fin 3 → Nat :=
  let c0_118 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_115 : BitVec 32 := 1#32
  let v188 : BitVec 32 := Scalar.addi v119 c1_i32_115
  let c1_i32_116 : BitVec 32 := 1#32
  let v189 : BitVec 32 := Scalar.addi v188 c1_i32_116
  let v190 : BitVec 32 := Scalar.minsi v189 arg1
  let c512_i32_117 : BitVec 32 := 512#32
  let v191 : BitVec 32 := Scalar.muli v190 c512_i32_117
  let v192 : BitVec 32 := v191
  let v193 : Index := Scalar.indexCast v192
  let c0_119 : Index := 0#32
  ![0, v193.toNat, 0]
def k0_mult45 (i : grid0.Coords) : BitVec 32 :=
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  v198
def k0_off20 (i : grid0.Coords) : Fin 3 → Nat :=
  let c0_123 : Index := 0#32
  let c8_i32 : BitVec 32 := 8#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let c0_i32_30 : BitVec 32 := 0#32
  let v47 : BitVec 1 := Scalar.cmpi .sgt v45 c0_i32_30
  let v48 : BitVec 32 := Scalar.extui v47
  let c0_i32_31 : BitVec 32 := 0#32
  let v49 : BitVec 1 := Scalar.cmpi .slt v45 c0_i32_31
  let v50 : BitVec 32 := Scalar.extui v49
  let v51 : BitVec 32 := Scalar.subi v48 v50
  let c4_i32 : BitVec 32 := 4#32
  let c0_i32_32 : BitVec 32 := 0#32
  let v52 : BitVec 1 := Scalar.cmpi .sgt c4_i32 c0_i32_32
  let v53 : BitVec 32 := Scalar.extui v52
  let c0_i32_33 : BitVec 32 := 0#32
  let v54 : BitVec 1 := Scalar.cmpi .slt c4_i32 c0_i32_33
  let v55 : BitVec 32 := Scalar.extui v54
  let v56 : BitVec 32 := Scalar.subi v53 v55
  let v57 : BitVec 1 := Scalar.cmpi .ne v51 v56
  let v58 : BitVec 32 := Scalar.remsi v45 c4_i32
  let c0_i32_34 : BitVec 32 := 0#32
  let v59 : BitVec 1 := Scalar.cmpi .ne v58 c0_i32_34
  let v60 : BitVec 1 := Scalar.andi v57 v59
  let v46 : BitVec 32 := Scalar.divsi v45 c4_i32
  let c1_i32_35 : BitVec 32 := 1#32
  let v61 : BitVec 32 := Scalar.subi v46 c1_i32_35
  let v62 : BitVec 32 := Scalar.select v60 v61 v46
  let v118 : BitVec 32 := Scalar.muli c8_i32 v62
  let c4_i32_72 : BitVec 32 := 4#32
  let v119 : BitVec 32 := Scalar.addi v118 c4_i32_72
  let c1_i32_115 : BitVec 32 := 1#32
  let v188 : BitVec 32 := Scalar.addi v119 c1_i32_115
  let c1_i32_120 : BitVec 32 := 1#32
  let v196 : BitVec 32 := Scalar.subi v188 c1_i32_120
  let c0_i32_121 : BitVec 32 := 0#32
  let v197 : BitVec 32 := Scalar.maxsi v196 c0_i32_121
  let c512_i32_122 : BitVec 32 := 512#32
  let v198 : BitVec 32 := Scalar.muli v197 c512_i32_122
  let v199 : BitVec 32 := v198
  let v200 : Index := Scalar.indexCast v199
  let c0_124 : Index := 0#32
  ![0, v200.toNat, 0]
def k0_cond4 (i : grid0.Coords) : BitVec 1 :=
  let c2_i32_50 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v85 : BitVec 32 := Scalar.muli c2_i32_50 v45
  let c0_i32_51 : BitVec 32 := 0#32
  let v86 : BitVec 32 := Scalar.addi v85 c0_i32_51
  let v87 : BitVec 1 := Scalar.cmpi .sle v86 arg1
  let v88 : BitVec 32 := Scalar.extui v87
  let c0_i32_52 : BitVec 32 := 0#32
  let v89 : BitVec 1 := Scalar.cmpi .ne v88 c0_i32_52
  v89

def k0_mult46 (i : grid0.Coords) : BitVec 32 :=
  let c2_i32_50 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v85 : BitVec 32 := Scalar.muli c2_i32_50 v45
  let c0_i32_51 : BitVec 32 := 0#32
  let v86 : BitVec 32 := Scalar.addi v85 c0_i32_51
  let c1_i32_72 : BitVec 32 := 1#32
  let v118 : BitVec 32 := Scalar.addi v86 c1_i32_72
  let v119 : BitVec 32 := Scalar.minsi v118 arg1
  let c512_i32_73 : BitVec 32 := 512#32
  let v120 : BitVec 32 := Scalar.muli v119 c512_i32_73
  v120
def k0_off21 (i : grid0.Coords) : Fin 3 → Nat :=
  let c0_74 : Index := 0#32
  let c2_i32_50 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v85 : BitVec 32 := Scalar.muli c2_i32_50 v45
  let c0_i32_51 : BitVec 32 := 0#32
  let v86 : BitVec 32 := Scalar.addi v85 c0_i32_51
  let c1_i32_72 : BitVec 32 := 1#32
  let v118 : BitVec 32 := Scalar.addi v86 c1_i32_72
  let v119 : BitVec 32 := Scalar.minsi v118 arg1
  let c512_i32_73 : BitVec 32 := 512#32
  let v120 : BitVec 32 := Scalar.muli v119 c512_i32_73
  let v121 : BitVec 32 := v120
  let v122 : Index := Scalar.indexCast v121
  let c0_75 : Index := 0#32
  ![0, v122.toNat, 0]
def k0_mult47 (i : grid0.Coords) : BitVec 32 :=
  let c2_i32_50 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v85 : BitVec 32 := Scalar.muli c2_i32_50 v45
  let c0_i32_51 : BitVec 32 := 0#32
  let v86 : BitVec 32 := Scalar.addi v85 c0_i32_51
  let c1_i32_76 : BitVec 32 := 1#32
  let v125 : BitVec 32 := Scalar.subi v86 c1_i32_76
  let c0_i32_77 : BitVec 32 := 0#32
  let v126 : BitVec 32 := Scalar.maxsi v125 c0_i32_77
  let c512_i32_78 : BitVec 32 := 512#32
  let v127 : BitVec 32 := Scalar.muli v126 c512_i32_78
  v127
def k0_off22 (i : grid0.Coords) : Fin 3 → Nat :=
  let c0_79 : Index := 0#32
  let c2_i32_50 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v85 : BitVec 32 := Scalar.muli c2_i32_50 v45
  let c0_i32_51 : BitVec 32 := 0#32
  let v86 : BitVec 32 := Scalar.addi v85 c0_i32_51
  let c1_i32_76 : BitVec 32 := 1#32
  let v125 : BitVec 32 := Scalar.subi v86 c1_i32_76
  let c0_i32_77 : BitVec 32 := 0#32
  let v126 : BitVec 32 := Scalar.maxsi v125 c0_i32_77
  let c512_i32_78 : BitVec 32 := 512#32
  let v127 : BitVec 32 := Scalar.muli v126 c512_i32_78
  let v128 : BitVec 32 := v127
  let v129 : Index := Scalar.indexCast v128
  let c0_80 : Index := 0#32
  ![0, v129.toNat, 0]
def k0_cond5 (i : grid0.Coords) : BitVec 1 :=
  let c2_i32_53 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v90 : BitVec 32 := Scalar.muli c2_i32_53 v45
  let c1_i32_54 : BitVec 32 := 1#32
  let v91 : BitVec 32 := Scalar.addi v90 c1_i32_54
  let v92 : BitVec 1 := Scalar.cmpi .sle v91 arg1
  let v93 : BitVec 32 := Scalar.extui v92
  let c0_i32_55 : BitVec 32 := 0#32
  let v94 : BitVec 1 := Scalar.cmpi .ne v93 c0_i32_55
  v94

def k0_mult48 (i : grid0.Coords) : BitVec 32 :=
  let c2_i32_53 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v90 : BitVec 32 := Scalar.muli c2_i32_53 v45
  let c1_i32_54 : BitVec 32 := 1#32
  let v91 : BitVec 32 := Scalar.addi v90 c1_i32_54
  let c1_i32_72 : BitVec 32 := 1#32
  let v118 : BitVec 32 := Scalar.addi v91 c1_i32_72
  let v119 : BitVec 32 := Scalar.minsi v118 arg1
  let c512_i32_73 : BitVec 32 := 512#32
  let v120 : BitVec 32 := Scalar.muli v119 c512_i32_73
  v120
def k0_off23 (i : grid0.Coords) : Fin 3 → Nat :=
  let c0_74 : Index := 0#32
  let c2_i32_53 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v90 : BitVec 32 := Scalar.muli c2_i32_53 v45
  let c1_i32_54 : BitVec 32 := 1#32
  let v91 : BitVec 32 := Scalar.addi v90 c1_i32_54
  let c1_i32_72 : BitVec 32 := 1#32
  let v118 : BitVec 32 := Scalar.addi v91 c1_i32_72
  let v119 : BitVec 32 := Scalar.minsi v118 arg1
  let c512_i32_73 : BitVec 32 := 512#32
  let v120 : BitVec 32 := Scalar.muli v119 c512_i32_73
  let v121 : BitVec 32 := v120
  let v122 : Index := Scalar.indexCast v121
  let c0_75 : Index := 0#32
  ![0, v122.toNat, 0]
def k0_mult49 (i : grid0.Coords) : BitVec 32 :=
  let c2_i32_53 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v90 : BitVec 32 := Scalar.muli c2_i32_53 v45
  let c1_i32_54 : BitVec 32 := 1#32
  let v91 : BitVec 32 := Scalar.addi v90 c1_i32_54
  let c1_i32_76 : BitVec 32 := 1#32
  let v125 : BitVec 32 := Scalar.subi v91 c1_i32_76
  let c0_i32_77 : BitVec 32 := 0#32
  let v126 : BitVec 32 := Scalar.maxsi v125 c0_i32_77
  let c512_i32_78 : BitVec 32 := 512#32
  let v127 : BitVec 32 := Scalar.muli v126 c512_i32_78
  v127
def k0_off24 (i : grid0.Coords) : Fin 3 → Nat :=
  let c0_79 : Index := 0#32
  let c2_i32_53 : BitVec 32 := 2#32
  let arg1 : BitVec 32 := BitVec.ofNat 32 (i 1).val
  let c1_i32 : BitVec 32 := 1#32
  let v26 : BitVec 32 := Scalar.subi arg1 c1_i32
  let c1_i32_22 : BitVec 32 := 1#32
  let v27 : BitVec 32 := Scalar.addi v26 c1_i32_22
  let c0_i32_23 : BitVec 32 := 0#32
  let v28 : BitVec 32 := Scalar.maxsi v27 c0_i32_23
  let c0_i32_24 : BitVec 32 := 0#32
  let v30 : BitVec 1 := Scalar.cmpi .sgt v28 c0_i32_24
  let v31 : BitVec 32 := Scalar.extui v30
  let c0_i32_25 : BitVec 32 := 0#32
  let v32 : BitVec 1 := Scalar.cmpi .slt v28 c0_i32_25
  let v33 : BitVec 32 := Scalar.extui v32
  let v34 : BitVec 32 := Scalar.subi v31 v33
  let c2_i32 : BitVec 32 := 2#32
  let c0_i32_26 : BitVec 32 := 0#32
  let v35 : BitVec 1 := Scalar.cmpi .sgt c2_i32 c0_i32_26
  let v36 : BitVec 32 := Scalar.extui v35
  let c0_i32_27 : BitVec 32 := 0#32
  let v37 : BitVec 1 := Scalar.cmpi .slt c2_i32 c0_i32_27
  let v38 : BitVec 32 := Scalar.extui v37
  let v39 : BitVec 32 := Scalar.subi v36 v38
  let v40 : BitVec 1 := Scalar.cmpi .ne v34 v39
  let v41 : BitVec 32 := Scalar.remsi v28 c2_i32
  let c0_i32_28 : BitVec 32 := 0#32
  let v42 : BitVec 1 := Scalar.cmpi .ne v41 c0_i32_28
  let v43 : BitVec 1 := Scalar.andi v40 v42
  let v29 : BitVec 32 := Scalar.divsi v28 c2_i32
  let c1_i32_29 : BitVec 32 := 1#32
  let v44 : BitVec 32 := Scalar.subi v29 c1_i32_29
  let v45 : BitVec 32 := Scalar.select v43 v44 v29
  let v90 : BitVec 32 := Scalar.muli c2_i32_53 v45
  let c1_i32_54 : BitVec 32 := 1#32
  let v91 : BitVec 32 := Scalar.addi v90 c1_i32_54
  let c1_i32_76 : BitVec 32 := 1#32
  let v125 : BitVec 32 := Scalar.subi v91 c1_i32_76
  let c0_i32_77 : BitVec 32 := 0#32
  let v126 : BitVec 32 := Scalar.maxsi v125 c0_i32_77
  let c512_i32_78 : BitVec 32 := 512#32
  let v127 : BitVec 32 := Scalar.muli v126 c512_i32_78
  let v128 : BitVec 32 := v127
  let v129 : Index := Scalar.indexCast v128
  let c0_80 : Index := 0#32
  ![0, v129.toNat, 0]
def k0_mult50 (i : grid0.Coords) : BitVec 32 :=
  let arg1 : BitVec 32 := BitVec.ofNat 32 (i 1).val
  let c512_i32 : BitVec 32 := 512#32
  let v96 : BitVec 32 := Scalar.muli arg1 c512_i32
  v96
def k0_off25 (i : grid0.Coords) : Fin 3 → Nat :=
  let c0_57 : Index := 0#32
  let arg1 : BitVec 32 := BitVec.ofNat 32 (i 1).val
  let c512_i32 : BitVec 32 := 512#32
  let v96 : BitVec 32 := Scalar.muli arg1 c512_i32
  let v97 : BitVec 32 := v96
  let v98 : Index := Scalar.indexCast v97
  let c0_58 : Index := 0#32
  ![0, v98.toNat, 0]
def k0_off26 (i : grid0.Coords) : Fin 3 → Nat :=
  let arg1 : BitVec 32 := BitVec.ofNat 32 (i 1).val
  let c2_i32_56 : BitVec 32 := 2#32
  let v95 : BitVec 32 := Scalar.remsi arg1 c2_i32_56
  let v103 : Index := Scalar.indexCast v95
  let c0_62 : Index := 0#32
  let c0_63 : Index := 0#32
  ![v103.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "neg" => some ⊥
  | _ => none
-- ==== ReferenceIdeal.lean ====
abbrev S4x16384x256 : Shape := ⟨3, ![4, 16384, 256]⟩
abbrev S4x16384x128 : Shape := ⟨3, ![4, 16384, 128]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x16384 : Shape := ⟨2, ![4, 16384]⟩
abbrev S4x16384x1 : Shape := ⟨3, ![4, 16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x16384x256, .bf16⟩
  | .hbm, ⟨1, _⟩ => ⟨S4x16384x256, .bf16⟩
  | .hbm, ⟨2, _⟩ => ⟨S4x16384x128, .bf16⟩
  | .hbm, ⟨3, _⟩ => ⟨S4x16384x256, .f32⟩
  | .hbm, ⟨4, _⟩ => ⟨S4x16384x256, .f32⟩
  | .hbm, ⟨5, _⟩ => ⟨S4x16384x16384, .f32⟩
  | .hbm, ⟨6, _⟩ => ⟨S_, .f32⟩
  | .hbm, ⟨7, _⟩ => ⟨S_, .f32⟩
  | .hbm, ⟨8, _⟩ => ⟨S4x16384x16384, .f32⟩
  | .hbm, ⟨9, _⟩ => ⟨S4x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S_, .f32⟩
  | .hbm, ⟨17, _⟩ => ⟨S_, .f32⟩
  | .hbm, ⟨18, _⟩ => ⟨S4x16384x16384, .i1⟩
  | .hbm, ⟨19, _⟩ => ⟨S4x16384x16384, .f32⟩
  | .hbm, ⟨20, _⟩ => ⟨S4x16384x16384, .f32⟩
  | .hbm, ⟨21, _⟩ => ⟨S_, .f32⟩
  | .hbm, ⟨22, _⟩ => ⟨S4x16384, .f32⟩
  | .hbm, ⟨23, _⟩ => ⟨S_, .f32⟩
  | .hbm, ⟨24, _⟩ => ⟨S4x16384, .f32⟩
  | .hbm, ⟨25, _⟩ => ⟨S4x16384, .f32⟩
  | .hbm, ⟨26, _⟩ => ⟨S4x16384x1, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S_, .f32⟩
  | .hbm, ⟨31, _⟩ => ⟨S4x16384, .f32⟩
  | .hbm, ⟨32, _⟩ => ⟨S4x16384x1, .f32⟩
  | .hbm, ⟨33, _⟩ => ⟨S4x16384x16384, .f32⟩
  | .hbm, ⟨34, _⟩ => ⟨S4x16384x16384, .f32⟩
  | .hbm, ⟨35, _⟩ => ⟨S4x16384x128, .f32⟩
  | .hbm, ⟨36, _⟩ => ⟨S4x16384x128, .f32⟩
  | .hbm, ⟨37, _⟩ => ⟨S4x16384x128, .bf16⟩
  | _, _ => ⟨S4x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Merge.lean ====
abbrev S16384x2048 : Shape := ⟨2, ![16384, 2048]⟩
abbrev S4x16384x128 : Shape := ⟨3, ![4, 16384, 128]⟩
abbrev S4x2048x2048 : Shape := ⟨3, ![4, 2048, 2048]⟩
abbrev S4x1x2048 : Shape := ⟨3, ![4, 1, 2048]⟩
abbrev S4x512x2048 : Shape := ⟨3, ![4, 512, 2048]⟩
abbrev S512x2048 : Shape := ⟨2, ![512, 2048]⟩
abbrev S4x512x128 : Shape := ⟨3, ![4, 512, 128]⟩
abbrev S4x2048x512 : Shape := ⟨3, ![4, 2048, 512]⟩
abbrev S4x1x512 : Shape := ⟨3, ![4, 1, 512]⟩
abbrev S4x512x512 : Shape := ⟨3, ![4, 512, 512]⟩
abbrev S512x512 : Shape := ⟨2, ![512, 512]⟩
abbrev S1x2048x512 : Shape := ⟨3, ![1, 2048, 512]⟩
abbrev S2048x512 : Shape := ⟨2, ![2048, 512]⟩
abbrev S1x1x512 : Shape := ⟨3, ![1, 1, 512]⟩
abbrev S1x512 : Shape := ⟨2, ![1, 512]⟩
abbrev S1x512x128 : Shape := ⟨3, ![1, 512, 128]⟩
abbrev S512x128 : Shape := ⟨2, ![512, 128]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S4x16384x128, .bf16⟩
  | .hbm, ⟨2, _⟩ => ⟨S4x16384x128, .bf16⟩
  | .hbm, ⟨3, _⟩ => ⟨S4x16384x128, .bf16⟩
  | .hbm, ⟨4, _⟩ => ⟨S4x16384x128, .bf16⟩
  | .hbm, ⟨5, _⟩ => ⟨S4x2048x2048, .bf16⟩
  | .hbm, ⟨6, _⟩ => ⟨S4x1x2048, .f32⟩
  | .hbm, ⟨7, _⟩ => ⟨S4x512x2048, .bf16⟩
  | .hbm, ⟨8, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S4x512x128, .bf16⟩
  | .local _ .vmem, ⟨9, _⟩ => ⟨S4x512x128, .bf16⟩
  | .local _ .vmem, ⟨10, _⟩ => ⟨S4x2048x512, .bf16⟩
  | .local _ .vmem, ⟨11, _⟩ => ⟨S4x2048x512, .bf16⟩
  | .local _ .vmem, ⟨12, _⟩ => ⟨S4x1x512, .f32⟩
  | .local _ .vmem, ⟨13, _⟩ => ⟨S4x1x512, .f32⟩
  | .local _ .vmem, ⟨14, _⟩ => ⟨S4x512x512, .bf16⟩
  | .local _ .vmem, ⟨15, _⟩ => ⟨S4x512x512, .bf16⟩
  | .local _ .vmem, ⟨16, _⟩ => ⟨S512x512, .bf16⟩
  | .local _ .vmem, ⟨17, _⟩ => ⟨S512x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S16384x2048 : Shape := ⟨2, ![16384, 2048]⟩
abbrev S4x16384x128 : Shape := ⟨3, ![4, 16384, 128]⟩
abbrev S4x2048x2048 : Shape := ⟨3, ![4, 2048, 2048]⟩
abbrev S4x1x2048 : Shape := ⟨3, ![4, 1, 2048]⟩
abbrev S4x512x2048 : Shape := ⟨3, ![4, 512, 2048]⟩
abbrev S16384x4x128 : Shape := ⟨3, ![16384, 4, 128]⟩
abbrev S16384x512 : Shape := ⟨2, ![16384, 512]⟩
abbrev S1x2048x2048 : Shape := ⟨3, ![1, 2048, 2048]⟩
abbrev S2048x2048 : Shape := ⟨2, ![2048, 2048]⟩
abbrev S1x1x2048 : Shape := ⟨3, ![1, 1, 2048]⟩
abbrev S1x2048 : Shape := ⟨2, ![1, 2048]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 112
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x16384x128, .bf16⟩
  | .hbm, ⟨2, _⟩ => ⟨S4x16384x128, .bf16⟩
  | .hbm, ⟨3, _⟩ => ⟨S4x16384x128, .bf16⟩
  | .hbm, ⟨4, _⟩ => ⟨S4x16384x128, .bf16⟩
  | .hbm, ⟨5, _⟩ => ⟨S4x2048x2048, .bf16⟩
  | .hbm, ⟨6, _⟩ => ⟨S4x1x2048, .f32⟩
  | .hbm, ⟨7, _⟩ => ⟨S4x512x2048, .bf16⟩
  | .hbm, ⟨8, _⟩ => ⟨S16384x2048, .f32⟩
  | .hbm, ⟨9, _⟩ => ⟨S16384x4x128, .bf16⟩
  | .hbm, ⟨10, _⟩ => ⟨S16384x512, .bf16⟩
  | .hbm, ⟨11, _⟩ => ⟨S16384x512, .f32⟩
  | .hbm, ⟨12, _⟩ => ⟨S16384x4x128, .bf16⟩
  | .hbm, ⟨13, _⟩ => ⟨S16384x512, .bf16⟩
  | .hbm, ⟨14, _⟩ => ⟨S16384x512, .f32⟩
  | .hbm, ⟨15, _⟩ => ⟨S16384x4x128, .bf16⟩
  | .hbm, ⟨16, _⟩ => ⟨S16384x512, .bf16⟩
  | .hbm, ⟨17, _⟩ => ⟨S16384x512, .f32⟩
  | .hbm, ⟨18, _⟩ => ⟨S16384x4x128, .bf16⟩
  | .hbm, ⟨19, _⟩ => ⟨S16384x512, .bf16⟩
  | .hbm, ⟨20, _⟩ => ⟨S16384x512, .f32⟩
  | .hbm, ⟨21, _⟩ => ⟨S1x2048x2048, .bf16⟩
  | .hbm, ⟨22, _⟩ => ⟨S2048x2048, .bf16⟩
  | .hbm, ⟨23, _⟩ => ⟨S2048x2048, .f32⟩
  | .hbm, ⟨24, _⟩ => ⟨S16384x2048, .f32⟩
  | .hbm, ⟨25, _⟩ => ⟨S1x1x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S1x512x2048, .bf16⟩
  | .hbm, ⟨38, _⟩ => ⟨S512x2048, .bf16⟩
  | .hbm, ⟨39, _⟩ => ⟨S512x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S1x2048x2048, .bf16⟩
  | .hbm, ⟨46, _⟩ => ⟨S2048x2048, .bf16⟩
  | .hbm, ⟨47, _⟩ => ⟨S2048x2048, .f32⟩
  | .hbm, ⟨48, _⟩ => ⟨S16384x2048, .f32⟩
  | .hbm, ⟨49, _⟩ => ⟨S1x1x2048, .f32⟩
  | .hbm, ⟨50, _⟩ => ⟨S1x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384x2048, .f32⟩
  | .hbm, ⟨60, _⟩ => ⟨S16384x2048, .f32⟩
  | .hbm, ⟨61, _⟩ => ⟨S1x512x2048, .bf16⟩
  | .hbm, ⟨62, _⟩ => ⟨S512x2048, .bf16⟩
  | .hbm, ⟨63, _⟩ => ⟨S512x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S1x2048x2048, .bf16⟩
  | .hbm, ⟨68, _⟩ => ⟨S2048x2048, .bf16⟩
  | .hbm, ⟨69, _⟩ => ⟨S2048x2048, .f32⟩
  | .hbm, ⟨70, _⟩ => ⟨S16384x2048, .f32⟩
  | .hbm, ⟨71, _⟩ => ⟨S1x1x2048, .f32⟩
  | .hbm, ⟨72, _⟩ => ⟨S1x2048, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384x2048, .f32⟩
  | .hbm, ⟨82, _⟩ => ⟨S16384x2048, .f32⟩
  | .hbm, ⟨83, _⟩ => ⟨S1x512x2048, .bf16⟩
  | .hbm, ⟨84, _⟩ => ⟨S512x2048, .bf16⟩
  | .hbm, ⟨85, _⟩ => ⟨S512x2048, .f32⟩
  | .hbm, ⟨86, _⟩ => ⟨S16384x2048, .f32⟩
  | .hbm, ⟨87, _⟩ => ⟨S16384x2048, .f32⟩
  | .hbm, ⟨88, _⟩ => ⟨S16384x2048, .f32⟩
  | .hbm, ⟨89, _⟩ => ⟨S1x2048x2048, .bf16⟩
  | .hbm, ⟨90, _⟩ => ⟨S2048x2048, .bf16⟩
  | .hbm, ⟨91, _⟩ => ⟨S2048x2048, .f32⟩
  | .hbm, ⟨92, _⟩ => ⟨S16384x2048, .f32⟩
  | .hbm, ⟨93, _⟩ => ⟨S1x1x2048, .f32⟩
  | .hbm, ⟨94, _⟩ => ⟨S1x2048, .f32⟩
  | .hbm, ⟨95, _⟩ => ⟨S16384x2048, .f32⟩
  | .hbm, ⟨96, _⟩ => ⟨S16384x2048, .f32⟩
  | .hbm, ⟨97, _⟩ => ⟨S16384x2048, .f32⟩
  | .hbm, ⟨98, _⟩ => ⟨S16384x2048, .f32⟩
  | .hbm, ⟨99, _⟩ => ⟨S_, .f32⟩
  | .hbm, ⟨100, _⟩ => ⟨S16384x2048, .f32⟩
  | .hbm, ⟨101, _⟩ => ⟨S16384x2048, .f32⟩
  | .hbm, ⟨102, _⟩ => ⟨S_, .f32⟩
  | .hbm, ⟨103, _⟩ => ⟨S16384x2048, .f32⟩
  | .hbm, ⟨104, _⟩ => ⟨S16384x2048, .f32⟩
  | .hbm, ⟨105, _⟩ => ⟨S1x512x2048, .bf16⟩
  | .hbm, ⟨106, _⟩ => ⟨S512x2048, .bf16⟩
  | .hbm, ⟨107, _⟩ => ⟨S512x2048, .f32⟩
  | .hbm, ⟨108, _⟩ => ⟨S16384x2048, .f32⟩
  | .hbm, ⟨109, _⟩ => ⟨S16384x2048, .f32⟩
  | .hbm, ⟨110, _⟩ => ⟨S16384x2048, .f32⟩
  | .hbm, ⟨111, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_v65 : Ref sig .tc := ⟨.hbm, 79, rfl⟩
abbrev main_cst_5 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_6 : Ref sig .tc := ⟨.hbm, 99, rfl⟩
abbrev main_v84 : Ref sig .tc := ⟨.hbm, 100, rfl⟩
abbrev main_v85 : Ref sig .tc := ⟨.hbm, 101, rfl⟩
abbrev main_cst_7 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩

abbrev nD : Nat := 1
abbrev τ : Topo := Topo.v7x

variable {F : FTy → Type} [FloatOps F]
-- ==== Mixer.lean ====
abbrev S16384x2048 : Shape := ⟨2, ![16384, 2048]⟩
abbrev S2048x4096 : Shape := ⟨2, ![2048, 4096]⟩
abbrev S1x4096 : Shape := ⟨2, ![1, 4096]⟩
abbrev S32x16384x128 : Shape := ⟨3, ![32, 16384, 128]⟩
abbrev S512x2048 : Shape := ⟨2, ![512, 2048]⟩
abbrev S2048x1024 : Shape := ⟨2, ![2048, 1024]⟩
abbrev S1x1024 : Shape := ⟨2, ![1, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S1x4096, .f32⟩
  | .hbm, ⟨3, _⟩ => ⟨S32x16384x128, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S8x512x128, .bf16⟩
  | .local _ .vmem, ⟨7, _⟩ => ⟨S8x512x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixerReferenceIdeal.lean ====
abbrev S16384x2048 : Shape := ⟨2, ![16384, 2048]⟩
abbrev S2048x4096 : Shape := ⟨2, ![2048, 4096]⟩
abbrev S1x4096 : Shape := ⟨2, ![1, 4096]⟩
abbrev S16384x4096 : Shape := ⟨2, ![16384, 4096]⟩
abbrev S16384x32x128 : Shape := ⟨3, ![16384, 32, 128]⟩
abbrev S32x16384x128 : Shape := ⟨3, ![32, 16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S1x4096, .f32⟩
  | .hbm, ⟨3, _⟩ => ⟨S16384x2048, .f32⟩
  | .hbm, ⟨4, _⟩ => ⟨S2048x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x32x128, .f32⟩
  | .hbm, ⟨9, _⟩ => ⟨S32x16384x128, .f32⟩
  | .hbm, ⟨10, _⟩ => ⟨S32x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Latent.lean ====
abbrev S16384x2048 : Shape := ⟨2, ![16384, 2048]⟩
abbrev S2048x1024 : Shape := ⟨2, ![2048, 1024]⟩
abbrev S1x1024 : Shape := ⟨2, ![1, 1024]⟩
abbrev S8x16384x128 : Shape := ⟨3, ![8, 16384, 128]⟩
abbrev S512x2048 : Shape := ⟨2, ![512, 2048]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S1x1024, .f32⟩
  | .hbm, ⟨3, _⟩ => ⟨S8x16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S8x512x128, .f32⟩
  | .local _ .vmem, ⟨5, _⟩ => ⟨S8x512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LatentIdeal.lean ====
abbrev S16384x2048 : Shape := ⟨2, ![16384, 2048]⟩
abbrev S2048x1024 : Shape := ⟨2, ![2048, 1024]⟩
abbrev S1x1024 : Shape := ⟨2, ![1, 1024]⟩
abbrev S8x16384x128 : Shape := ⟨3, ![8, 16384, 128]⟩
abbrev S512x2048 : Shape := ⟨2, ![512, 2048]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S1x1024, .f32⟩
  | .hbm, ⟨3, _⟩ => ⟨S8x16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S8x512x128, .f32⟩
  | .local _ .vmem, ⟨5, _⟩ => ⟨S8x512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LatentReferenceIdeal.lean ====
abbrev S16384x2048 : Shape := ⟨2, ![16384, 2048]⟩
abbrev S2048x1024 : Shape := ⟨2, ![2048, 1024]⟩
abbrev S1x1024 : Shape := ⟨2, ![1, 1024]⟩
abbrev S16384x1024 : Shape := ⟨2, ![16384, 1024]⟩
abbrev S16384x8x128 : Shape := ⟨3, ![16384, 8, 128]⟩
abbrev S8x16384x128 : Shape := ⟨3, ![8, 16384, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S1x1024, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x8x128, .f32⟩
  | .hbm, ⟨9, _⟩ => ⟨S8x16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Query.lean ====
abbrev S16384x2048 : Shape := ⟨2, ![16384, 2048]⟩
abbrev S2048x2048 : Shape := ⟨2, ![2048, 2048]⟩
abbrev S1x2048 : Shape := ⟨2, ![1, 2048]⟩
abbrev S16x16384x128 : Shape := ⟨3, ![16, 16384, 128]⟩
abbrev S512x2048 : Shape := ⟨2, ![512, 2048]⟩
abbrev S2048x1024 : Shape := ⟨2, ![2048, 1024]⟩
abbrev S1x1024 : Shape := ⟨2, ![1, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S1x2048, .f32⟩
  | .hbm, ⟨3, _⟩ => ⟨S16x16384x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S8x512x128, .f32⟩
  | .local _ .vmem, ⟨7, _⟩ => ⟨S8x512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryReferenceIdeal.lean ====
abbrev S16384x2048 : Shape := ⟨2, ![16384, 2048]⟩
abbrev S2048x2048 : Shape := ⟨2, ![2048, 2048]⟩
abbrev S1x2048 : Shape := ⟨2, ![1, 2048]⟩
abbrev S16384x16x128 : Shape := ⟨3, ![16384, 16, 128]⟩
abbrev S16x16384x128 : Shape := ⟨3, ![16, 16384, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S1x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x16x128, .f32⟩
  | .hbm, ⟨9, _⟩ => ⟨S16x16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .bf16⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S16384x2048 : Shape := ⟨2, ![16384, 2048]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .bf16⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Diff.lean ====
abbrev S4x16384x128 : Shape := ⟨3, ![4, 16384, 128]⟩
abbrev S4x1x4x512x512 : Shape := ⟨5, ![4, 1, 4, 512, 512]⟩
abbrev S4x64 : Shape := ⟨2, ![4, 64]⟩
abbrev S1x128 : Shape := ⟨2, ![1, 128]⟩
abbrev S1x512x128 : Shape := ⟨3, ![1, 512, 128]⟩
abbrev S1x16384x128 : Shape := ⟨3, ![1, 16384, 128]⟩
abbrev S1x1x4x512x512 : Shape := ⟨5, ![1, 1, 4, 512, 512]⟩
abbrev S2x512x128 : Shape := ⟨3, ![2, 512, 128]⟩
abbrev S2x512x512 : Shape := ⟨3, ![2, 512, 512]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x1x1x512x512 : Shape := ⟨5, ![1, 1, 1, 512, 512]⟩
abbrev S1x64 : Shape := ⟨2, ![1, 64]⟩
abbrev S1 : Shape := ⟨1, ![1]⟩
abbrev S1x1 : Shape := ⟨2, ![1, 1]⟩

abbrev nBuf : Space → Nat
  | .hbm => 7
  | .vmem => 19
  | .smem => 0
  | _ => 0

abbrev bufTy : (tb : Table) → Fin (tcTables nBuf tb) → BufTy
  | .hbm, ⟨0, _⟩ => ⟨S4x16384x128, .bf16⟩
  | .hbm, ⟨1, _⟩ => ⟨S4x16384x128, .bf16⟩
  | .hbm, ⟨2, _⟩ => ⟨S4x16384x128, .bf16⟩
  | .hbm, ⟨3, _⟩ => ⟨S4x1x4x512x512, .f32⟩
  | .hbm, ⟨4, _⟩ => ⟨S4x64, .f32⟩
  | .hbm, ⟨5, _⟩ => ⟨S1x128, .f32⟩
  | .hbm, ⟨6, _⟩ => ⟨S4x16384x128, .bf16⟩
  | .local _ .vmem, ⟨0, _⟩ => ⟨S1x512x128, .bf16⟩
  | .local _ .vmem, ⟨1, _⟩ => ⟨S1x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x1x4x512x512, .f32⟩
  | .local _ .vmem, ⟨7, _⟩ => ⟨S1x1x4x512x512, .f32⟩
  | .local _ .vmem, ⟨8, _⟩ => ⟨S4x64, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S2x512x128, .f32⟩
  | .local _ .vmem, ⟨13, _⟩ => ⟨S2x512x128, .f32⟩
  | .local _ .vmem, ⟨14, _⟩ => ⟨S2x512x128, .f32⟩
  | .local _ .vmem, ⟨15, _⟩ => ⟨S2x512x512, .f32⟩
  | .local _ .vmem, ⟨16, _⟩ => ⟨S2x512x512, .f32⟩
  | .local _ .vmem, ⟨17, _⟩ => ⟨S2x512x512, .bf16⟩
  | .local _ .vmem, ⟨18, _⟩ => ⟨S2x512x512, .bf16⟩
  | _, _ => ⟨S4x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def k0_mult1 : BitVec 32 :=
  let c0_i32 : BitVec 32 := 0#32
  c0_i32
@[reducible] def k0_t1_loop (i : grid0.Coords) : Scf.Loop 32 :=
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_60 : BitVec 32 := 1#32
  ⟨c0_i32_57, v95, c1_i32_60⟩
def k0_mult2 (i : grid0.Coords) (k0_t1 : Fin (k0_t1_loop i).trips) : BitVec 32 :=
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let c0_i32_120 : BitVec 32 := 0#32
  let v204 : BitVec 32 := Scalar.addi v203 c0_i32_120
  let c1_i32_121 : BitVec 32 := 1#32
  let v205 : BitVec 32 := Scalar.addi v204 c1_i32_121
  let arg1 : BitVec 32 := BitVec.ofNat 32 (i 1).val
  let v206 : BitVec 32 := Scalar.minsi v205 arg1
  let c512_i32_122 : BitVec 32 := 512#32
  let v207 : BitVec 32 := Scalar.muli v206 c512_i32_122
  v207
def k0_off1 (i : grid0.Coords) (k0_t1 : Fin (k0_t1_loop i).trips) (c0_i32_120 : BitVec 32) : Fin 3 → Nat :=
  let c0_123 : Index := 0#32
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let v204 : BitVec 32 := Scalar.addi v203 c0_i32_120
  let c1_i32_121 : BitVec 32 := 1#32
  let v205 : BitVec 32 := Scalar.addi v204 c1_i32_121
  let arg1 : BitVec 32 := BitVec.ofNat 32 (i 1).val
  let v206 : BitVec 32 := Scalar.minsi v205 arg1
  let c512_i32_122 : BitVec 32 := 512#32
  let v207 : BitVec 32 := Scalar.muli v206 c512_i32_122
  let v208 : BitVec 32 := v207
  let v209 : Index := Scalar.indexCast v208
  let c0_124 : Index := 0#32
  ![0, v209.toNat, 0]
def k0_mult3 (i : grid0.Coords) (k0_t1 : Fin (k0_t1_loop i).trips) : BitVec 32 :=
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let c0_i32_120 : BitVec 32 := 0#32
  let v204 : BitVec 32 := Scalar.addi v203 c0_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  v214
def k0_off2 (i : grid0.Coords) (k0_t1 : Fin (k0_t1_loop i).trips) (c0_i32_120 : BitVec 32) : Fin 3 → Nat :=
  let c0_128 : Index := 0#32
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let v204 : BitVec 32 := Scalar.addi v203 c0_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  let v215 : BitVec 32 := v214
  let v216 : Index := Scalar.indexCast v215
  let c0_129 : Index := 0#32
  ![0, v216.toNat, 0]
def k0_mult4 (i : grid0.Coords) (k0_t1 : Fin (k0_t1_loop i).trips) : BitVec 32 :=
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let c0_i32_120 : BitVec 32 := 0#32
  let v204 : BitVec 32 := Scalar.addi v203 c0_i32_120
  let c1_i32_196 : BitVec 32 := 1#32
  let v327 : BitVec 32 := Scalar.addi v204 c1_i32_196
  let c1_i32_197 : BitVec 32 := 1#32
  let v328 : BitVec 32 := Scalar.addi v327 c1_i32_197
  let arg1 : BitVec 32 := BitVec.ofNat 32 (i 1).val
  let v329 : BitVec 32 := Scalar.minsi v328 arg1
  let c512_i32_198 : BitVec 32 := 512#32
  let v330 : BitVec 32 := Scalar.muli v329 c512_i32_198
  v330
def k0_off3 (i : grid0.Coords) (k0_t1 : Fin (k0_t1_loop i).trips) (c0_i32_120 : BitVec 32) : Fin 3 → Nat :=
  let c0_199 : Index := 0#32
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let v204 : BitVec 32 := Scalar.addi v203 c0_i32_120
  let c1_i32_196 : BitVec 32 := 1#32
  let v327 : BitVec 32 := Scalar.addi v204 c1_i32_196
  let c1_i32_197 : BitVec 32 := 1#32
  let v328 : BitVec 32 := Scalar.addi v327 c1_i32_197
  let arg1 : BitVec 32 := BitVec.ofNat 32 (i 1).val
  let v329 : BitVec 32 := Scalar.minsi v328 arg1
  let c512_i32_198 : BitVec 32 := 512#32
  let v330 : BitVec 32 := Scalar.muli v329 c512_i32_198
  let v331 : BitVec 32 := v330
  let v332 : Index := Scalar.indexCast v331
  let c0_200 : Index := 0#32
  ![0, v332.toNat, 0]
def k0_mult5 (i : grid0.Coords) (k0_t1 : Fin (k0_t1_loop i).trips) : BitVec 32 :=
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let c0_i32_120 : BitVec 32 := 0#32
  let v204 : BitVec 32 := Scalar.addi v203 c0_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  v337
def k0_off4 (i : grid0.Coords) (k0_t1 : Fin (k0_t1_loop i).trips) (c0_i32_120 : BitVec 32) : Fin 3 → Nat :=
  let c0_204 : Index := 0#32
  let c8_i32 : BitVec 32 := 8#32
  let c0_i32_57 : BitVec 32 := 0#32
  let c1_i32_60 : BitVec 32 := 1#32
  let arg16 : BitVec 32 := Scf.iv c0_i32_57 c1_i32_60 k0_t1
  let v203 : BitVec 32 := Scalar.muli c8_i32 arg16
  let v204 : BitVec 32 := Scalar.addi v203 c0_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  let v338 : BitVec 32 := v337
  let v339 : Index := Scalar.indexCast v338
  let c0_205 : Index := 0#32
  ![0, v339.toNat, 0]
def k0_mult6 (i : grid0.Coords) (k0_t1 : Fin (k0_t1_loop i).trips) : BitVec 32 :=
  let c8_i32_272 : BitVec 32 := 8#32
  let c0_i32_57 : BitVec 32 := 0#32
  let c1_i32_60 : BitVec 32 := 1#32
  let arg16 : BitVec 32 := Scf.iv c0_i32_57 c1_i32_60 k0_t1
  let v450 : BitVec 32 := Scalar.muli c8_i32_272 arg16
  let c2_i32_273 : BitVec 32 := 2#32
  let v451 : BitVec 32 := Scalar.addi v450 c2_i32_273
  let c1_i32_274 : BitVec 32 := 1#32
  let v452 : BitVec 32 := Scalar.addi v451 c1_i32_274
  let arg1 : BitVec 32 := BitVec.ofNat 32 (i 1).val
  let v453 : BitVec 32 := Scalar.minsi v452 arg1
  let c512_i32_275 : BitVec 32 := 512#32
  let v454 : BitVec 32 := Scalar.muli v453 c512_i32_275
  v454
def k0_mult7 (i : grid0.Coords) (k0_t1 : Fin (k0_t1_loop i).trips) : BitVec 32 :=
  let c8_i32_272 : BitVec 32 := 8#32
  let c0_i32_57 : BitVec 32 := 0#32
  let c1_i32_60 : BitVec 32 := 1#32
  let arg16 : BitVec 32 := Scf.iv c0_i32_57 c1_i32_60 k0_t1
  let v450 : BitVec 32 := Scalar.muli c8_i32_272 arg16
  let c2_i32_273 : BitVec 32 := 2#32
  let v451 : BitVec 32 := Scalar.addi v450 c2_i32_273
  let c1_i32_278 : BitVec 32 := 1#32
  let v459 : BitVec 32 := Scalar.subi v451 c1_i32_278
  let c0_i32_279 : BitVec 32 := 0#32
  let v460 : BitVec 32 := Scalar.maxsi v459 c0_i32_279
  let c512_i32_280 : BitVec 32 := 512#32
  let v461 : BitVec 32 := Scalar.muli v460 c512_i32_280
  v461
def k0_mult8 (i : grid0.Coords) (k0_t1 : Fin (k0_t1_loop i).trips) : BitVec 32 :=
  let c8_i32_272 : BitVec 32 := 8#32
  let c0_i32_57 : BitVec 32 := 0#32
  let c1_i32_60 : BitVec 32 := 1#32
  let arg16 : BitVec 32 := Scf.iv c0_i32_57 c1_i32_60 k0_t1
  let v450 : BitVec 32 := Scalar.muli c8_i32_272 arg16
  let c2_i32_273 : BitVec 32 := 2#32
  let v451 : BitVec 32 := Scalar.addi v450 c2_i32_273
  let c1_i32_349 : BitVec 32 := 1#32
  let v574 : BitVec 32 := Scalar.addi v451 c1_i32_349
  let c1_i32_350 : BitVec 32 := 1#32
  let v575 : BitVec 32 := Scalar.addi v574 c1_i32_350
  let arg1 : BitVec 32 := BitVec.ofNat 32 (i 1).val
  let v576 : BitVec 32 := Scalar.minsi v575 arg1
  let c512_i32_351 : BitVec 32 := 512#32
  let v577 : BitVec 32 := Scalar.muli v576 c512_i32_351
  v577
def k0_mult9 (i : grid0.Coords) (k0_t1 : Fin (k0_t1_loop i).trips) : BitVec 32 :=
  let c8_i32_272 : BitVec 32 := 8#32
  let c0_i32_57 : BitVec 32 := 0#32
  let c1_i32_60 : BitVec 32 := 1#32
  let arg16 : BitVec 32 := Scf.iv c0_i32_57 c1_i32_60 k0_t1
  let v450 : BitVec 32 := Scalar.muli c8_i32_272 arg16
  let c2_i32_273 : BitVec 32 := 2#32
  let v451 : BitVec 32 := Scalar.addi v450 c2_i32_273
  let c1_i32_349 : BitVec 32 := 1#32
  let v574 : BitVec 32 := Scalar.addi v451 c1_i32_349
  let c1_i32_354 : BitVec 32 := 1#32
  let v582 : BitVec 32 := Scalar.subi v574 c1_i32_354
  let c0_i32_355 : BitVec 32 := 0#32
  let v583 : BitVec 32 := Scalar.maxsi v582 c0_i32_355
  let c512_i32_356 : BitVec 32 := 512#32
  let v584 : BitVec 32 := Scalar.muli v583 c512_i32_356
  v584
def k0_mult10 (i : grid0.Coords) (k0_t1 : Fin (k0_t1_loop i).trips) : BitVec 32 :=
  let c8_i32_425 : BitVec 32 := 8#32
  let c0_i32_57 : BitVec 32 := 0#32
  let c1_i32_60 : BitVec 32 := 1#32
  let arg16 : BitVec 32 := Scf.iv c0_i32_57 c1_i32_60 k0_t1
  let v697 : BitVec 32 := Scalar.muli c8_i32_425 arg16
  let c4_i32_426 : BitVec 32 := 4#32
  let v698 : BitVec 32 := Scalar.addi v697 c4_i32_426
  let c1_i32_427 : BitVec 32 := 1#32
  let v699 : BitVec 32 := Scalar.addi v698 c1_i32_427
  let arg1 : BitVec 32 := BitVec.ofNat 32 (i 1).val
  let v700 : BitVec 32 := Scalar.minsi v699 arg1
  let c512_i32_428 : BitVec 32 := 512#32
  let v701 : BitVec 32 := Scalar.muli v700 c512_i32_428
  v701
def k0_mult11 (i : grid0.Coords) (k0_t1 : Fin (k0_t1_loop i).trips) : BitVec 32 :=
  let c8_i32_425 : BitVec 32 := 8#32
  let c0_i32_57 : BitVec 32 := 0#32
  let c1_i32_60 : BitVec 32 := 1#32
  let arg16 : BitVec 32 := Scf.iv c0_i32_57 c1_i32_60 k0_t1
  let v697 : BitVec 32 := Scalar.muli c8_i32_425 arg16
  let c4_i32_426 : BitVec 32 := 4#32
  let v698 : BitVec 32 := Scalar.addi v697 c4_i32_426
  let c1_i32_431 : BitVec 32 := 1#32
  let v706 : BitVec 32 := Scalar.subi v698 c1_i32_431
  let c0_i32_432 : BitVec 32 := 0#32
  let v707 : BitVec 32 := Scalar.maxsi v706 c0_i32_432
  let c512_i32_433 : BitVec 32 := 512#32
  let v708 : BitVec 32 := Scalar.muli v707 c512_i32_433
  v708
def k0_mult12 (i : grid0.Coords) (k0_t1 : Fin (k0_t1_loop i).trips) : BitVec 32 :=
  let c8_i32_425 : BitVec 32 := 8#32
  let c0_i32_57 : BitVec 32 := 0#32
  let c1_i32_60 : BitVec 32 := 1#32
  let arg16 : BitVec 32 := Scf.iv c0_i32_57 c1_i32_60 k0_t1
  let v697 : BitVec 32 := Scalar.muli c8_i32_425 arg16
  let c4_i32_426 : BitVec 32 := 4#32
  let v698 : BitVec 32 := Scalar.addi v697 c4_i32_426
  let c1_i32_502 : BitVec 32 := 1#32
  let v821 : BitVec 32 := Scalar.addi v698 c1_i32_502
  let c1_i32_503 : BitVec 32 := 1#32
  let v822 : BitVec 32 := Scalar.addi v821 c1_i32_503
  let arg1 : BitVec 32 := BitVec.ofNat 32 (i 1).val
  let v823 : BitVec 32 := Scalar.minsi v822 arg1
  let c512_i32_504 : BitVec 32 := 512#32
  let v824 : BitVec 32 := Scalar.muli v823 c512_i32_504
  v824
def k0_mult13 (i : grid0.Coords) (k0_t1 : Fin (k0_t1_loop i).trips) : BitVec 32 :=
  let c8_i32_425 : BitVec 32 := 8#32
  let c0_i32_57 : BitVec 32 := 0#32
  let c1_i32_60 : BitVec 32 := 1#32
  let arg16 : BitVec 32 := Scf.iv c0_i32_57 c1_i32_60 k0_t1
  let v697 : BitVec 32 := Scalar.muli c8_i32_425 arg16
  let c4_i32_426 : BitVec 32 := 4#32
  let v698 : BitVec 32 := Scalar.addi v697 c4_i32_426
  let c1_i32_502 : BitVec 32 := 1#32
  let v821 : BitVec 32 := Scalar.addi v698 c1_i32_502
  let c1_i32_507 : BitVec 32 := 1#32
  let v829 : BitVec 32 := Scalar.subi v821 c1_i32_507
  let c0_i32_508 : BitVec 32 := 0#32
  let v830 : BitVec 32 := Scalar.maxsi v829 c0_i32_508
  let c512_i32_509 : BitVec 32 := 512#32
  let v831 : BitVec 32 := Scalar.muli v830 c512_i32_509
  v831
def k0_mult14 (i : grid0.Coords) (k0_t1 : Fin (k0_t1_loop i).trips) : BitVec 32 :=
  let c8_i32_578 : BitVec 32 := 8#32
  let c0_i32_57 : BitVec 32 := 0#32
  let c1_i32_60 : BitVec 32 := 1#32
  let arg16 : BitVec 32 := Scf.iv c0_i32_57 c1_i32_60 k0_t1
  let v944 : BitVec 32 := Scalar.muli c8_i32_578 arg16
  let c6_i32 : BitVec 32 := 6#32
  let v945 : BitVec 32 := Scalar.addi v944 c6_i32
  let c1_i32_579 : BitVec 32 := 1#32
  let v946 : BitVec 32 := Scalar.addi v945 c1_i32_579
  let arg1 : BitVec 32 := BitVec.ofNat 32 (i 1).val
  let v947 : BitVec 32 := Scalar.minsi v946 arg1
  let c512_i32_580 : BitVec 32 := 512#32
  let v948 : BitVec 32 := Scalar.muli v947 c512_i32_580
  v948
def k0_mult15 (i : grid0.Coords) (k0_t1 : Fin (k0_t1_loop i).trips) : BitVec 32 :=
  let c8_i32_578 : BitVec 32 := 8#32
  let c0_i32_57 : BitVec 32 := 0#32
  let c1_i32_60 : BitVec 32 := 1#32
  let arg16 : BitVec 32 := Scf.iv c0_i32_57 c1_i32_60 k0_t1
  let v944 : BitVec 32 := Scalar.muli c8_i32_578 arg16
  let c6_i32 : BitVec 32 := 6#32
  let v945 : BitVec 32 := Scalar.addi v944 c6_i32
  let c1_i32_583 : BitVec 32 := 1#32
  let v953 : BitVec 32 := Scalar.subi v945 c1_i32_583
  let c0_i32_584 : BitVec 32 := 0#32
  let v954 : BitVec 32 := Scalar.maxsi v953 c0_i32_584
  let c512_i32_585 : BitVec 32 := 512#32
  let v955 : BitVec 32 := Scalar.muli v954 c512_i32_585
  v955
def k0_mult16 (i : grid0.Coords) (k0_t1 : Fin (k0_t1_loop i).trips) : BitVec 32 :=
  let c8_i32_578 : BitVec 32 := 8#32
  let c0_i32_57 : BitVec 32 := 0#32
  let c1_i32_60 : BitVec 32 := 1#32
  let arg16 : BitVec 32 := Scf.iv c0_i32_57 c1_i32_60 k0_t1
  let v944 : BitVec 32 := Scalar.muli c8_i32_578 arg16
  let c6_i32 : BitVec 32 := 6#32
  let v945 : BitVec 32 := Scalar.addi v944 c6_i32
  let c1_i32_654 : BitVec 32 := 1#32
  let v1068 : BitVec 32 := Scalar.addi v945 c1_i32_654
  let c1_i32_655 : BitVec 32 := 1#32
  let v1069 : BitVec 32 := Scalar.addi v1068 c1_i32_655
  let arg1 : BitVec 32 := BitVec.ofNat 32 (i 1).val
  let v1070 : BitVec 32 := Scalar.minsi v1069 arg1
  let c512_i32_656 : BitVec 32 := 512#32
  let v1071 : BitVec 32 := Scalar.muli v1070 c512_i32_656
  v1071
def k0_mult17 (i : grid0.Coords) (k0_t1 : Fin (k0_t1_loop i).trips) : BitVec 32 :=
  let c8_i32_578 : BitVec 32 := 8#32
  let c0_i32_57 : BitVec 32 := 0#32
  let c1_i32_60 : BitVec 32 := 1#32
  let arg16 : BitVec 32 := Scf.iv c0_i32_57 c1_i32_60 k0_t1
  let v944 : BitVec 32 := Scalar.muli c8_i32_578 arg16
  let c6_i32 : BitVec 32 := 6#32
  let v945 : BitVec 32 := Scalar.addi v944 c6_i32
  let c1_i32_654 : BitVec 32 := 1#32
  let v1068 : BitVec 32 := Scalar.addi v945 c1_i32_654
  let c1_i32_659 : BitVec 32 := 1#32
  let v1076 : BitVec 32 := Scalar.subi v1068 c1_i32_659
  let c0_i32_660 : BitVec 32 := 0#32
  let v1077 : BitVec 32 := Scalar.maxsi v1076 c0_i32_660
  let c512_i32_661 : BitVec 32 := 512#32
  let v1078 : BitVec 32 := Scalar.muli v1077 c512_i32_661
  v1078
@[reducible] def k0_t2_loop (i : grid0.Coords) : Scf.Loop 32 :=
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let v92 : BitVec 32 := Scalar.addi c0_i32_57 v91
  let c1_i32_61 : BitVec 32 := 1#32
  ⟨v95, v92, c1_i32_61⟩
def k0_mult18 (i : grid0.Coords) (k0_t2 : Fin (k0_t2_loop i).trips) : BitVec 32 :=
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let c0_i32_120 : BitVec 32 := 0#32
  let v204 : BitVec 32 := Scalar.addi v203 c0_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  v207
def k0_off5 (i : grid0.Coords) (k0_t2 : Fin (k0_t2_loop i).trips) (c0_i32_120 : BitVec 32) : Fin 3 → Nat :=
  let c0_123 : Index := 0#32
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let v204 : BitVec 32 := Scalar.addi v203 c0_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  let v208 : BitVec 32 := v207
  let v209 : Index := Scalar.indexCast v208
  let c0_124 : Index := 0#32
  ![0, v209.toNat, 0]
def k0_mult19 (i : grid0.Coords) (k0_t2 : Fin (k0_t2_loop i).trips) : BitVec 32 :=
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let c0_i32_120 : BitVec 32 := 0#32
  let v204 : BitVec 32 := Scalar.addi v203 c0_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  v214
def k0_off6 (i : grid0.Coords) (k0_t2 : Fin (k0_t2_loop i).trips) (c0_i32_120 : BitVec 32) : Fin 3 → Nat :=
  let c0_128 : Index := 0#32
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let v204 : BitVec 32 := Scalar.addi v203 c0_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  let v215 : BitVec 32 := v214
  let v216 : Index := Scalar.indexCast v215
  let c0_129 : Index := 0#32
  ![0, v216.toNat, 0]
def k0_mult20 (i : grid0.Coords) (k0_t2 : Fin (k0_t2_loop i).trips) : BitVec 32 :=
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let c0_i32_120 : BitVec 32 := 0#32
  let v204 : BitVec 32 := Scalar.addi v203 c0_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  v330
def k0_off7 (i : grid0.Coords) (k0_t2 : Fin (k0_t2_loop i).trips) (c0_i32_120 : BitVec 32) : Fin 3 → Nat :=
  let c0_199 : Index := 0#32
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let v204 : BitVec 32 := Scalar.addi v203 c0_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  let v331 : BitVec 32 := v330
  let v332 : Index := Scalar.indexCast v331
  let c0_200 : Index := 0#32
  ![0, v332.toNat, 0]
def k0_mult21 (i : grid0.Coords) (k0_t2 : Fin (k0_t2_loop i).trips) : BitVec 32 :=
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let c0_i32_120 : BitVec 32 := 0#32
  let v204 : BitVec 32 := Scalar.addi v203 c0_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  v337
def k0_off8 (i : grid0.Coords) (k0_t2 : Fin (k0_t2_loop i).trips) (c0_i32_120 : BitVec 32) : Fin 3 → Nat :=
  let c0_204 : Index := 0#32
  let c8_i32 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v203 : BitVec 32 := Scalar.muli c8_i32 arg16
  let v204 : BitVec 32 := Scalar.addi v203 c0_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  let v338 : BitVec 32 := v337
  let v339 : Index := Scalar.indexCast v338
  let c0_205 : Index := 0#32
  ![0, v339.toNat, 0]
def k0_mult22 (i : grid0.Coords) (k0_t2 : Fin (k0_t2_loop i).trips) : BitVec 32 :=
  let c8_i32_272 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v450 : BitVec 32 := Scalar.muli c8_i32_272 arg16
  let c2_i32_273 : BitVec 32 := 2#32
  let v451 : BitVec 32 := Scalar.addi v450 c2_i32_273
  let c1_i32_274 : BitVec 32 := 1#32
  let v452 : BitVec 32 := Scalar.addi v451 c1_i32_274
  let v453 : BitVec 32 := Scalar.minsi v452 arg1
  let c512_i32_275 : BitVec 32 := 512#32
  let v454 : BitVec 32 := Scalar.muli v453 c512_i32_275
  v454
def k0_mult23 (i : grid0.Coords) (k0_t2 : Fin (k0_t2_loop i).trips) : BitVec 32 :=
  let c8_i32_272 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v450 : BitVec 32 := Scalar.muli c8_i32_272 arg16
  let c2_i32_273 : BitVec 32 := 2#32
  let v451 : BitVec 32 := Scalar.addi v450 c2_i32_273
  let c1_i32_278 : BitVec 32 := 1#32
  let v459 : BitVec 32 := Scalar.subi v451 c1_i32_278
  let c0_i32_279 : BitVec 32 := 0#32
  let v460 : BitVec 32 := Scalar.maxsi v459 c0_i32_279
  let c512_i32_280 : BitVec 32 := 512#32
  let v461 : BitVec 32 := Scalar.muli v460 c512_i32_280
  v461
def k0_mult24 (i : grid0.Coords) (k0_t2 : Fin (k0_t2_loop i).trips) : BitVec 32 :=
  let c8_i32_272 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v450 : BitVec 32 := Scalar.muli c8_i32_272 arg16
  let c2_i32_273 : BitVec 32 := 2#32
  let v451 : BitVec 32 := Scalar.addi v450 c2_i32_273
  let c1_i32_349 : BitVec 32 := 1#32
  let v574 : BitVec 32 := Scalar.addi v451 c1_i32_349
  let c1_i32_350 : BitVec 32 := 1#32
  let v575 : BitVec 32 := Scalar.addi v574 c1_i32_350
  let v576 : BitVec 32 := Scalar.minsi v575 arg1
  let c512_i32_351 : BitVec 32 := 512#32
  let v577 : BitVec 32 := Scalar.muli v576 c512_i32_351
  v577
def k0_mult25 (i : grid0.Coords) (k0_t2 : Fin (k0_t2_loop i).trips) : BitVec 32 :=
  let c8_i32_272 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v450 : BitVec 32 := Scalar.muli c8_i32_272 arg16
  let c2_i32_273 : BitVec 32 := 2#32
  let v451 : BitVec 32 := Scalar.addi v450 c2_i32_273
  let c1_i32_349 : BitVec 32 := 1#32
  let v574 : BitVec 32 := Scalar.addi v451 c1_i32_349
  let c1_i32_354 : BitVec 32 := 1#32
  let v582 : BitVec 32 := Scalar.subi v574 c1_i32_354
  let c0_i32_355 : BitVec 32 := 0#32
  let v583 : BitVec 32 := Scalar.maxsi v582 c0_i32_355
  let c512_i32_356 : BitVec 32 := 512#32
  let v584 : BitVec 32 := Scalar.muli v583 c512_i32_356
  v584
def k0_mult26 (i : grid0.Coords) (k0_t2 : Fin (k0_t2_loop i).trips) : BitVec 32 :=
  let c8_i32_425 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v697 : BitVec 32 := Scalar.muli c8_i32_425 arg16
  let c4_i32_426 : BitVec 32 := 4#32
  let v698 : BitVec 32 := Scalar.addi v697 c4_i32_426
  let c1_i32_427 : BitVec 32 := 1#32
  let v699 : BitVec 32 := Scalar.addi v698 c1_i32_427
  let v700 : BitVec 32 := Scalar.minsi v699 arg1
  let c512_i32_428 : BitVec 32 := 512#32
  let v701 : BitVec 32 := Scalar.muli v700 c512_i32_428
  v701
def k0_mult27 (i : grid0.Coords) (k0_t2 : Fin (k0_t2_loop i).trips) : BitVec 32 :=
  let c8_i32_425 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v697 : BitVec 32 := Scalar.muli c8_i32_425 arg16
  let c4_i32_426 : BitVec 32 := 4#32
  let v698 : BitVec 32 := Scalar.addi v697 c4_i32_426
  let c1_i32_431 : BitVec 32 := 1#32
  let v706 : BitVec 32 := Scalar.subi v698 c1_i32_431
  let c0_i32_432 : BitVec 32 := 0#32
  let v707 : BitVec 32 := Scalar.maxsi v706 c0_i32_432
  let c512_i32_433 : BitVec 32 := 512#32
  let v708 : BitVec 32 := Scalar.muli v707 c512_i32_433
  v708
def k0_mult28 (i : grid0.Coords) (k0_t2 : Fin (k0_t2_loop i).trips) : BitVec 32 :=
  let c8_i32_425 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v697 : BitVec 32 := Scalar.muli c8_i32_425 arg16
  let c4_i32_426 : BitVec 32 := 4#32
  let v698 : BitVec 32 := Scalar.addi v697 c4_i32_426
  let c1_i32_502 : BitVec 32 := 1#32
  let v821 : BitVec 32 := Scalar.addi v698 c1_i32_502
  let c1_i32_503 : BitVec 32 := 1#32
  let v822 : BitVec 32 := Scalar.addi v821 c1_i32_503
  let v823 : BitVec 32 := Scalar.minsi v822 arg1
  let c512_i32_504 : BitVec 32 := 512#32
  let v824 : BitVec 32 := Scalar.muli v823 c512_i32_504
  v824
def k0_mult29 (i : grid0.Coords) (k0_t2 : Fin (k0_t2_loop i).trips) : BitVec 32 :=
  let c8_i32_425 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v697 : BitVec 32 := Scalar.muli c8_i32_425 arg16
  let c4_i32_426 : BitVec 32 := 4#32
  let v698 : BitVec 32 := Scalar.addi v697 c4_i32_426
  let c1_i32_502 : BitVec 32 := 1#32
  let v821 : BitVec 32 := Scalar.addi v698 c1_i32_502
  let c1_i32_507 : BitVec 32 := 1#32
  let v829 : BitVec 32 := Scalar.subi v821 c1_i32_507
  let c0_i32_508 : BitVec 32 := 0#32
  let v830 : BitVec 32 := Scalar.maxsi v829 c0_i32_508
  let c512_i32_509 : BitVec 32 := 512#32
  let v831 : BitVec 32 := Scalar.muli v830 c512_i32_509
  v831
def k0_mult30 (i : grid0.Coords) (k0_t2 : Fin (k0_t2_loop i).trips) : BitVec 32 :=
  let c8_i32_578 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v944 : BitVec 32 := Scalar.muli c8_i32_578 arg16
  let c6_i32 : BitVec 32 := 6#32
  let v945 : BitVec 32 := Scalar.addi v944 c6_i32
  let c1_i32_579 : BitVec 32 := 1#32
  let v946 : BitVec 32 := Scalar.addi v945 c1_i32_579
  let v947 : BitVec 32 := Scalar.minsi v946 arg1
  let c512_i32_580 : BitVec 32 := 512#32
  let v948 : BitVec 32 := Scalar.muli v947 c512_i32_580
  v948
def k0_mult31 (i : grid0.Coords) (k0_t2 : Fin (k0_t2_loop i).trips) : BitVec 32 :=
  let c8_i32_578 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v944 : BitVec 32 := Scalar.muli c8_i32_578 arg16
  let c6_i32 : BitVec 32 := 6#32
  let v945 : BitVec 32 := Scalar.addi v944 c6_i32
  let c1_i32_583 : BitVec 32 := 1#32
  let v953 : BitVec 32 := Scalar.subi v945 c1_i32_583
  let c0_i32_584 : BitVec 32 := 0#32
  let v954 : BitVec 32 := Scalar.maxsi v953 c0_i32_584
  let c512_i32_585 : BitVec 32 := 512#32
  let v955 : BitVec 32 := Scalar.muli v954 c512_i32_585
  v955
def k0_mult32 (i : grid0.Coords) (k0_t2 : Fin (k0_t2_loop i).trips) : BitVec 32 :=
  let c8_i32_578 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v944 : BitVec 32 := Scalar.muli c8_i32_578 arg16
  let c6_i32 : BitVec 32 := 6#32
  let v945 : BitVec 32 := Scalar.addi v944 c6_i32
  let c1_i32_654 : BitVec 32 := 1#32
  let v1068 : BitVec 32 := Scalar.addi v945 c1_i32_654
  let c1_i32_655 : BitVec 32 := 1#32
  let v1069 : BitVec 32 := Scalar.addi v1068 c1_i32_655
  let v1070 : BitVec 32 := Scalar.minsi v1069 arg1
  let c512_i32_656 : BitVec 32 := 512#32
  let v1071 : BitVec 32 := Scalar.muli v1070 c512_i32_656
  v1071
def k0_mult33 (i : grid0.Coords) (k0_t2 : Fin (k0_t2_loop i).trips) : BitVec 32 :=
  let c8_i32_578 : BitVec 32 := 8#32
  let c0_i32_57 : BitVec 32 := 0#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v91 : BitVec 32 := Scalar.subi v90 c0_i32_57
  let c1_i32_59 : BitVec 32 := 1#32
  let v93 : BitVec 32 := Scalar.divsi v91 c1_i32_59
  let v94 : BitVec 32 := Scalar.muli v93 c1_i32_59
  let v95 : BitVec 32 := Scalar.addi c0_i32_57 v94
  let c1_i32_61 : BitVec 32 := 1#32
  let arg16 : BitVec 32 := Scf.iv v95 c1_i32_61 k0_t2
  let v944 : BitVec 32 := Scalar.muli c8_i32_578 arg16
  let c6_i32 : BitVec 32 := 6#32
  let v945 : BitVec 32 := Scalar.addi v944 c6_i32
  let c1_i32_654 : BitVec 32 := 1#32
  let v1068 : BitVec 32 := Scalar.addi v945 c1_i32_654
  let c1_i32_659 : BitVec 32 := 1#32
  let v1076 : BitVec 32 := Scalar.subi v1068 c1_i32_659
  let c0_i32_660 : BitVec 32 := 0#32
  let v1077 : BitVec 32 := Scalar.maxsi v1076 c0_i32_660
  let c512_i32_661 : BitVec 32 := 512#32
  let v1078 : BitVec 32 := Scalar.muli v1077 c512_i32_661
  v1078
def k0_cond1 (i : grid0.Coords) : BitVec 1 :=
  let c4_i32_62 : BitVec 32 := 4#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v98 : BitVec 32 := Scalar.muli c4_i32_62 v90
  let c0_i32_63 : BitVec 32 := 0#32
  let v99 : BitVec 32 := Scalar.addi v98 c0_i32_63
  let v100 : BitVec 1 := Scalar.cmpi .slt v99 v73
  let v101 : BitVec 32 := Scalar.extui v100
  let c0_i32_64 : BitVec 32 := 0#32
  let v102 : BitVec 1 := Scalar.cmpi .ne v101 c0_i32_64
  v102

def k0_mult34 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  v207
def k0_off9 (i : grid0.Coords) : Fin 3 → Nat :=
  let c0_123 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  let v208 : BitVec 32 := v207
  let v209 : Index := Scalar.indexCast v208
  let c0_124 : Index := 0#32
  ![0, v209.toNat, 0]
def k0_mult35 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  v214
def k0_off10 (i : grid0.Coords) : Fin 3 → Nat :=
  let c0_128 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  let v215 : BitVec 32 := v214
  let v216 : Index := Scalar.indexCast v215
  let c0_129 : Index := 0#32
  ![0, v216.toNat, 0]
def k0_mult36 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  v330
def k0_off11 (i : grid0.Coords) : Fin 3 → Nat :=
  let c0_199 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  let v331 : BitVec 32 := v330
  let v332 : Index := Scalar.indexCast v331
  let c0_200 : Index := 0#32
  ![0, v332.toNat, 0]
def k0_mult37 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  v337
def k0_off12 (i : grid0.Coords) : Fin 3 → Nat :=
  let c0_204 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c0_i32_120 : BitVec 32 := 0#32
  let v204 : BitVec 32 := Scalar.addi v203 c0_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  let v338 : BitVec 32 := v337
  let v339 : Index := Scalar.indexCast v338
  let c0_205 : Index := 0#32
  ![0, v339.toNat, 0]
def k0_cond2 (i : grid0.Coords) : BitVec 1 :=
  let c4_i32_65 : BitVec 32 := 4#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v103 : BitVec 32 := Scalar.muli c4_i32_65 v90
  let c1_i32_66 : BitVec 32 := 1#32
  let v104 : BitVec 32 := Scalar.addi v103 c1_i32_66
  let v105 : BitVec 1 := Scalar.cmpi .slt v104 v73
  let v106 : BitVec 32 := Scalar.extui v105
  let c0_i32_67 : BitVec 32 := 0#32
  let v107 : BitVec 1 := Scalar.cmpi .ne v106 c0_i32_67
  v107

def k0_mult38 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  v207
def k0_off13 (i : grid0.Coords) : Fin 3 → Nat :=
  let c0_123 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  let v208 : BitVec 32 := v207
  let v209 : Index := Scalar.indexCast v208
  let c0_124 : Index := 0#32
  ![0, v209.toNat, 0]
def k0_mult39 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  v214
def k0_off14 (i : grid0.Coords) : Fin 3 → Nat :=
  let c0_128 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  let v215 : BitVec 32 := v214
  let v216 : Index := Scalar.indexCast v215
  let c0_129 : Index := 0#32
  ![0, v216.toNat, 0]
def k0_mult40 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  v330
def k0_off15 (i : grid0.Coords) : Fin 3 → Nat :=
  let c0_199 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  let v331 : BitVec 32 := v330
  let v332 : Index := Scalar.indexCast v331
  let c0_200 : Index := 0#32
  ![0, v332.toNat, 0]
def k0_mult41 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  v337
def k0_off16 (i : grid0.Coords) : Fin 3 → Nat :=
  let c0_204 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c2_i32_120 : BitVec 32 := 2#32
  let v204 : BitVec 32 := Scalar.addi v203 c2_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  let v338 : BitVec 32 := v337
  let v339 : Index := Scalar.indexCast v338
  let c0_205 : Index := 0#32
  ![0, v339.toNat, 0]
def k0_cond3 (i : grid0.Coords) : BitVec 1 :=
  let c4_i32_68 : BitVec 32 := 4#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v108 : BitVec 32 := Scalar.muli c4_i32_68 v90
  let c2_i32_69 : BitVec 32 := 2#32
  let v109 : BitVec 32 := Scalar.addi v108 c2_i32_69
  let v110 : BitVec 1 := Scalar.cmpi .slt v109 v73
  let v111 : BitVec 32 := Scalar.extui v110
  let c0_i32_70 : BitVec 32 := 0#32
  let v112 : BitVec 1 := Scalar.cmpi .ne v111 c0_i32_70
  v112

def k0_mult42 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  v207
def k0_off17 (i : grid0.Coords) : Fin 3 → Nat :=
  let c0_123 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_121 : BitVec 32 := 1#32
  let v205 : BitVec 32 := Scalar.addi v204 c1_i32_121
  let v206 : BitVec 32 := Scalar.minsi v205 arg1
  let c512_i32_122 : BitVec 32 := 512#32
  let v207 : BitVec 32 := Scalar.muli v206 c512_i32_122
  let v208 : BitVec 32 := v207
  let v209 : Index := Scalar.indexCast v208
  let c0_124 : Index := 0#32
  ![0, v209.toNat, 0]
def k0_mult43 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  v214
def k0_off18 (i : grid0.Coords) : Fin 3 → Nat :=
  let c0_128 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_125 : BitVec 32 := 1#32
  let v212 : BitVec 32 := Scalar.subi v204 c1_i32_125
  let c0_i32_126 : BitVec 32 := 0#32
  let v213 : BitVec 32 := Scalar.maxsi v212 c0_i32_126
  let c512_i32_127 : BitVec 32 := 512#32
  let v214 : BitVec 32 := Scalar.muli v213 c512_i32_127
  let v215 : BitVec 32 := v214
  let v216 : Index := Scalar.indexCast v215
  let c0_129 : Index := 0#32
  ![0, v216.toNat, 0]
def k0_mult44 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  v330
def k0_off19 (i : grid0.Coords) : Fin 3 → Nat :=
  let c0_199 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_196 : BitVec 32 := 1#32
  let v327 : BitVec 32 := Scalar.addi v204 c1_i32_196
  let c1_i32_197 : BitVec 32 := 1#32
  let v328 : BitVec 32 := Scalar.addi v327 c1_i32_197
  let v329 : BitVec 32 := Scalar.minsi v328 arg1
  let c512_i32_198 : BitVec 32 := 512#32
  let v330 : BitVec 32 := Scalar.muli v329 c512_i32_198
  let v331 : BitVec 32 := v330
  let v332 : Index := Scalar.indexCast v331
  let c0_200 : Index := 0#32
  ![0, v332.toNat, 0]
def k0_mult45 (i : grid0.Coords) : BitVec 32 :=
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  v337
def k0_off20 (i : grid0.Coords) : Fin 3 → Nat :=
  let c0_204 : Index := 0#32
  let c8_i32 : BitVec 32 := 8#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let c0_i32_51 : BitVec 32 := 0#32
  let v75 : BitVec 1 := Scalar.cmpi .sgt v73 c0_i32_51
  let v76 : BitVec 32 := Scalar.extui v75
  let c0_i32_52 : BitVec 32 := 0#32
  let v77 : BitVec 1 := Scalar.cmpi .slt v73 c0_i32_52
  let v78 : BitVec 32 := Scalar.extui v77
  let v79 : BitVec 32 := Scalar.subi v76 v78
  let c4_i32 : BitVec 32 := 4#32
  let c0_i32_53 : BitVec 32 := 0#32
  let v80 : BitVec 1 := Scalar.cmpi .sgt c4_i32 c0_i32_53
  let v81 : BitVec 32 := Scalar.extui v80
  let c0_i32_54 : BitVec 32 := 0#32
  let v82 : BitVec 1 := Scalar.cmpi .slt c4_i32 c0_i32_54
  let v83 : BitVec 32 := Scalar.extui v82
  let v84 : BitVec 32 := Scalar.subi v81 v83
  let v85 : BitVec 1 := Scalar.cmpi .ne v79 v84
  let v86 : BitVec 32 := Scalar.remsi v73 c4_i32
  let c0_i32_55 : BitVec 32 := 0#32
  let v87 : BitVec 1 := Scalar.cmpi .ne v86 c0_i32_55
  let v88 : BitVec 1 := Scalar.andi v85 v87
  let v74 : BitVec 32 := Scalar.divsi v73 c4_i32
  let c1_i32_56 : BitVec 32 := 1#32
  let v89 : BitVec 32 := Scalar.subi v74 c1_i32_56
  let v90 : BitVec 32 := Scalar.select v88 v89 v74
  let v203 : BitVec 32 := Scalar.muli c8_i32 v90
  let c4_i32_120 : BitVec 32 := 4#32
  let v204 : BitVec 32 := Scalar.addi v203 c4_i32_120
  let c1_i32_196 : BitVec 32 := 1#32
  let v327 : BitVec 32 := Scalar.addi v204 c1_i32_196
  let c1_i32_201 : BitVec 32 := 1#32
  let v335 : BitVec 32 := Scalar.subi v327 c1_i32_201
  let c0_i32_202 : BitVec 32 := 0#32
  let v336 : BitVec 32 := Scalar.maxsi v335 c0_i32_202
  let c512_i32_203 : BitVec 32 := 512#32
  let v337 : BitVec 32 := Scalar.muli v336 c512_i32_203
  let v338 : BitVec 32 := v337
  let v339 : Index := Scalar.indexCast v338
  let c0_205 : Index := 0#32
  ![0, v339.toNat, 0]
def k0_cond4 (i : grid0.Coords) : BitVec 1 :=
  let c2_i32_71 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v113 : BitVec 32 := Scalar.muli c2_i32_71 v73
  let c0_i32_72 : BitVec 32 := 0#32
  let v114 : BitVec 32 := Scalar.addi v113 c0_i32_72
  let v115 : BitVec 1 := Scalar.cmpi .sle v114 arg1
  let v116 : BitVec 32 := Scalar.extui v115
  let c0_i32_73 : BitVec 32 := 0#32
  let v117 : BitVec 1 := Scalar.cmpi .ne v116 c0_i32_73
  v117

def k0_mult46 (i : grid0.Coords) : BitVec 32 :=
  let c2_i32_71 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v113 : BitVec 32 := Scalar.muli c2_i32_71 v73
  let c0_i32_72 : BitVec 32 := 0#32
  let v114 : BitVec 32 := Scalar.addi v113 c0_i32_72
  let c1_i32_120 : BitVec 32 := 1#32
  let v203 : BitVec 32 := Scalar.addi v114 c1_i32_120
  let v204 : BitVec 32 := Scalar.minsi v203 arg1
  let c512_i32_121 : BitVec 32 := 512#32
  let v205 : BitVec 32 := Scalar.muli v204 c512_i32_121
  v205
def k0_off21 (i : grid0.Coords) : Fin 3 → Nat :=
  let c0_122 : Index := 0#32
  let c2_i32_71 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v113 : BitVec 32 := Scalar.muli c2_i32_71 v73
  let c0_i32_72 : BitVec 32 := 0#32
  let v114 : BitVec 32 := Scalar.addi v113 c0_i32_72
  let c1_i32_120 : BitVec 32 := 1#32
  let v203 : BitVec 32 := Scalar.addi v114 c1_i32_120
  let v204 : BitVec 32 := Scalar.minsi v203 arg1
  let c512_i32_121 : BitVec 32 := 512#32
  let v205 : BitVec 32 := Scalar.muli v204 c512_i32_121
  let v206 : BitVec 32 := v205
  let v207 : Index := Scalar.indexCast v206
  let c0_123 : Index := 0#32
  ![0, v207.toNat, 0]
def k0_mult47 (i : grid0.Coords) : BitVec 32 :=
  let c2_i32_71 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v113 : BitVec 32 := Scalar.muli c2_i32_71 v73
  let c0_i32_72 : BitVec 32 := 0#32
  let v114 : BitVec 32 := Scalar.addi v113 c0_i32_72
  let c1_i32_124 : BitVec 32 := 1#32
  let v210 : BitVec 32 := Scalar.subi v114 c1_i32_124
  let c0_i32_125 : BitVec 32 := 0#32
  let v211 : BitVec 32 := Scalar.maxsi v210 c0_i32_125
  let c512_i32_126 : BitVec 32 := 512#32
  let v212 : BitVec 32 := Scalar.muli v211 c512_i32_126
  v212
def k0_off22 (i : grid0.Coords) : Fin 3 → Nat :=
  let c0_127 : Index := 0#32
  let c2_i32_71 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v113 : BitVec 32 := Scalar.muli c2_i32_71 v73
  let c0_i32_72 : BitVec 32 := 0#32
  let v114 : BitVec 32 := Scalar.addi v113 c0_i32_72
  let c1_i32_124 : BitVec 32 := 1#32
  let v210 : BitVec 32 := Scalar.subi v114 c1_i32_124
  let c0_i32_125 : BitVec 32 := 0#32
  let v211 : BitVec 32 := Scalar.maxsi v210 c0_i32_125
  let c512_i32_126 : BitVec 32 := 512#32
  let v212 : BitVec 32 := Scalar.muli v211 c512_i32_126
  let v213 : BitVec 32 := v212
  let v214 : Index := Scalar.indexCast v213
  let c0_128 : Index := 0#32
  ![0, v214.toNat, 0]
def k0_off23 (i : grid0.Coords) : Fin 5 → Nat :=
  let c0_142 : Index := 0#32
  let c0_143 : Index := 0#32
  let arg1 : BitVec 32 := BitVec.ofNat 32 (i 1).val
  let c2_i32_71 : BitVec 32 := 2#32
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v113 : BitVec 32 := Scalar.muli c2_i32_71 v73
  let c0_i32_72 : BitVec 32 := 0#32
  let v114 : BitVec 32 := Scalar.addi v113 c0_i32_72
  let v217 : BitVec 32 := Scalar.subi arg1 v114
  let v235 : Index := Scalar.indexCast v217
  let c0_144 : Index := 0#32
  let c0_145 : Index := 0#32
  ![0, 0, v235.toNat, 0, 0]
def k0_cond5 (i : grid0.Coords) : BitVec 1 :=
  let c2_i32_74 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v118 : BitVec 32 := Scalar.muli c2_i32_74 v73
  let c1_i32_75 : BitVec 32 := 1#32
  let v119 : BitVec 32 := Scalar.addi v118 c1_i32_75
  let v120 : BitVec 1 := Scalar.cmpi .sle v119 arg1
  let v121 : BitVec 32 := Scalar.extui v120
  let c0_i32_76 : BitVec 32 := 0#32
  let v122 : BitVec 1 := Scalar.cmpi .ne v121 c0_i32_76
  v122

def k0_mult48 (i : grid0.Coords) : BitVec 32 :=
  let c2_i32_74 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v118 : BitVec 32 := Scalar.muli c2_i32_74 v73
  let c1_i32_75 : BitVec 32 := 1#32
  let v119 : BitVec 32 := Scalar.addi v118 c1_i32_75
  let c1_i32_120 : BitVec 32 := 1#32
  let v203 : BitVec 32 := Scalar.addi v119 c1_i32_120
  let v204 : BitVec 32 := Scalar.minsi v203 arg1
  let c512_i32_121 : BitVec 32 := 512#32
  let v205 : BitVec 32 := Scalar.muli v204 c512_i32_121
  v205
def k0_off24 (i : grid0.Coords) : Fin 3 → Nat :=
  let c0_122 : Index := 0#32
  let c2_i32_74 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v118 : BitVec 32 := Scalar.muli c2_i32_74 v73
  let c1_i32_75 : BitVec 32 := 1#32
  let v119 : BitVec 32 := Scalar.addi v118 c1_i32_75
  let c1_i32_120 : BitVec 32 := 1#32
  let v203 : BitVec 32 := Scalar.addi v119 c1_i32_120
  let v204 : BitVec 32 := Scalar.minsi v203 arg1
  let c512_i32_121 : BitVec 32 := 512#32
  let v205 : BitVec 32 := Scalar.muli v204 c512_i32_121
  let v206 : BitVec 32 := v205
  let v207 : Index := Scalar.indexCast v206
  let c0_123 : Index := 0#32
  ![0, v207.toNat, 0]
def k0_mult49 (i : grid0.Coords) : BitVec 32 :=
  let c2_i32_74 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v118 : BitVec 32 := Scalar.muli c2_i32_74 v73
  let c1_i32_75 : BitVec 32 := 1#32
  let v119 : BitVec 32 := Scalar.addi v118 c1_i32_75
  let c1_i32_124 : BitVec 32 := 1#32
  let v210 : BitVec 32 := Scalar.subi v119 c1_i32_124
  let c0_i32_125 : BitVec 32 := 0#32
  let v211 : BitVec 32 := Scalar.maxsi v210 c0_i32_125
  let c512_i32_126 : BitVec 32 := 512#32
  let v212 : BitVec 32 := Scalar.muli v211 c512_i32_126
  v212
def k0_off25 (i : grid0.Coords) : Fin 3 → Nat :=
  let c0_127 : Index := 0#32
  let c2_i32_74 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v118 : BitVec 32 := Scalar.muli c2_i32_74 v73
  let c1_i32_75 : BitVec 32 := 1#32
  let v119 : BitVec 32 := Scalar.addi v118 c1_i32_75
  let c1_i32_124 : BitVec 32 := 1#32
  let v210 : BitVec 32 := Scalar.subi v119 c1_i32_124
  let c0_i32_125 : BitVec 32 := 0#32
  let v211 : BitVec 32 := Scalar.maxsi v210 c0_i32_125
  let c512_i32_126 : BitVec 32 := 512#32
  let v212 : BitVec 32 := Scalar.muli v211 c512_i32_126
  let v213 : BitVec 32 := v212
  let v214 : Index := Scalar.indexCast v213
  let c0_128 : Index := 0#32
  ![0, v214.toNat, 0]
def k0_off26 (i : grid0.Coords) : Fin 5 → Nat :=
  let c0_142 : Index := 0#32
  let c0_143 : Index := 0#32
  let arg1 : BitVec 32 := BitVec.ofNat 32 (i 1).val
  let c2_i32_74 : BitVec 32 := 2#32
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v118 : BitVec 32 := Scalar.muli c2_i32_74 v73
  let c1_i32_75 : BitVec 32 := 1#32
  let v119 : BitVec 32 := Scalar.addi v118 c1_i32_75
  let v217 : BitVec 32 := Scalar.subi arg1 v119
  let v235 : Index := Scalar.indexCast v217
  let c0_144 : Index := 0#32
  let c0_145 : Index := 0#32
  ![0, 0, v235.toNat, 0, 0]
def k0_cond6 (i : grid0.Coords) : BitVec 1 :=
  let c2_i32_77 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v123 : BitVec 32 := Scalar.muli c2_i32_77 v73
  let c2_i32_78 : BitVec 32 := 2#32
  let v124 : BitVec 32 := Scalar.addi v123 c2_i32_78
  let v125 : BitVec 1 := Scalar.cmpi .sle v124 arg1
  let v126 : BitVec 32 := Scalar.extui v125
  let c0_i32_79 : BitVec 32 := 0#32
  let v127 : BitVec 1 := Scalar.cmpi .ne v126 c0_i32_79
  v127

def k0_mult50 (i : grid0.Coords) : BitVec 32 :=
  let c2_i32_77 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v123 : BitVec 32 := Scalar.muli c2_i32_77 v73
  let c2_i32_78 : BitVec 32 := 2#32
  let v124 : BitVec 32 := Scalar.addi v123 c2_i32_78
  let c1_i32_120 : BitVec 32 := 1#32
  let v203 : BitVec 32 := Scalar.addi v124 c1_i32_120
  let v204 : BitVec 32 := Scalar.minsi v203 arg1
  let c512_i32_121 : BitVec 32 := 512#32
  let v205 : BitVec 32 := Scalar.muli v204 c512_i32_121
  v205
def k0_off27 (i : grid0.Coords) : Fin 3 → Nat :=
  let c0_122 : Index := 0#32
  let c2_i32_77 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v123 : BitVec 32 := Scalar.muli c2_i32_77 v73
  let c2_i32_78 : BitVec 32 := 2#32
  let v124 : BitVec 32 := Scalar.addi v123 c2_i32_78
  let c1_i32_120 : BitVec 32 := 1#32
  let v203 : BitVec 32 := Scalar.addi v124 c1_i32_120
  let v204 : BitVec 32 := Scalar.minsi v203 arg1
  let c512_i32_121 : BitVec 32 := 512#32
  let v205 : BitVec 32 := Scalar.muli v204 c512_i32_121
  let v206 : BitVec 32 := v205
  let v207 : Index := Scalar.indexCast v206
  let c0_123 : Index := 0#32
  ![0, v207.toNat, 0]
def k0_mult51 (i : grid0.Coords) : BitVec 32 :=
  let c2_i32_77 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v123 : BitVec 32 := Scalar.muli c2_i32_77 v73
  let c2_i32_78 : BitVec 32 := 2#32
  let v124 : BitVec 32 := Scalar.addi v123 c2_i32_78
  let c1_i32_124 : BitVec 32 := 1#32
  let v210 : BitVec 32 := Scalar.subi v124 c1_i32_124
  let c0_i32_125 : BitVec 32 := 0#32
  let v211 : BitVec 32 := Scalar.maxsi v210 c0_i32_125
  let c512_i32_126 : BitVec 32 := 512#32
  let v212 : BitVec 32 := Scalar.muli v211 c512_i32_126
  v212
def k0_off28 (i : grid0.Coords) : Fin 3 → Nat :=
  let c0_127 : Index := 0#32
  let c2_i32_77 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v123 : BitVec 32 := Scalar.muli c2_i32_77 v73
  let c2_i32_78 : BitVec 32 := 2#32
  let v124 : BitVec 32 := Scalar.addi v123 c2_i32_78
  let c1_i32_124 : BitVec 32 := 1#32
  let v210 : BitVec 32 := Scalar.subi v124 c1_i32_124
  let c0_i32_125 : BitVec 32 := 0#32
  let v211 : BitVec 32 := Scalar.maxsi v210 c0_i32_125
  let c512_i32_126 : BitVec 32 := 512#32
  let v212 : BitVec 32 := Scalar.muli v211 c512_i32_126
  let v213 : BitVec 32 := v212
  let v214 : Index := Scalar.indexCast v213
  let c0_128 : Index := 0#32
  ![0, v214.toNat, 0]
def k0_off29 (i : grid0.Coords) : Fin 5 → Nat :=
  let c0_142 : Index := 0#32
  let c0_143 : Index := 0#32
  let arg1 : BitVec 32 := BitVec.ofNat 32 (i 1).val
  let c2_i32_77 : BitVec 32 := 2#32
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v123 : BitVec 32 := Scalar.muli c2_i32_77 v73
  let c2_i32_78 : BitVec 32 := 2#32
  let v124 : BitVec 32 := Scalar.addi v123 c2_i32_78
  let v217 : BitVec 32 := Scalar.subi arg1 v124
  let v235 : Index := Scalar.indexCast v217
  let c0_144 : Index := 0#32
  let c0_145 : Index := 0#32
  ![0, 0, v235.toNat, 0, 0]
def k0_cond7 (i : grid0.Coords) : BitVec 1 :=
  let c2_i32_80 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v128 : BitVec 32 := Scalar.muli c2_i32_80 v73
  let c3_i32_81 : BitVec 32 := 3#32
  let v129 : BitVec 32 := Scalar.addi v128 c3_i32_81
  let v130 : BitVec 1 := Scalar.cmpi .sle v129 arg1
  let v131 : BitVec 32 := Scalar.extui v130
  let c0_i32_82 : BitVec 32 := 0#32
  let v132 : BitVec 1 := Scalar.cmpi .ne v131 c0_i32_82
  v132

def k0_mult52 (i : grid0.Coords) : BitVec 32 :=
  let c2_i32_80 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v128 : BitVec 32 := Scalar.muli c2_i32_80 v73
  let c3_i32_81 : BitVec 32 := 3#32
  let v129 : BitVec 32 := Scalar.addi v128 c3_i32_81
  let c1_i32_120 : BitVec 32 := 1#32
  let v203 : BitVec 32 := Scalar.addi v129 c1_i32_120
  let v204 : BitVec 32 := Scalar.minsi v203 arg1
  let c512_i32_121 : BitVec 32 := 512#32
  let v205 : BitVec 32 := Scalar.muli v204 c512_i32_121
  v205
def k0_off30 (i : grid0.Coords) : Fin 3 → Nat :=
  let c0_122 : Index := 0#32
  let c2_i32_80 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v128 : BitVec 32 := Scalar.muli c2_i32_80 v73
  let c3_i32_81 : BitVec 32 := 3#32
  let v129 : BitVec 32 := Scalar.addi v128 c3_i32_81
  let c1_i32_120 : BitVec 32 := 1#32
  let v203 : BitVec 32 := Scalar.addi v129 c1_i32_120
  let v204 : BitVec 32 := Scalar.minsi v203 arg1
  let c512_i32_121 : BitVec 32 := 512#32
  let v205 : BitVec 32 := Scalar.muli v204 c512_i32_121
  let v206 : BitVec 32 := v205
  let v207 : Index := Scalar.indexCast v206
  let c0_123 : Index := 0#32
  ![0, v207.toNat, 0]
def k0_mult53 (i : grid0.Coords) : BitVec 32 :=
  let c2_i32_80 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v128 : BitVec 32 := Scalar.muli c2_i32_80 v73
  let c3_i32_81 : BitVec 32 := 3#32
  let v129 : BitVec 32 := Scalar.addi v128 c3_i32_81
  let c1_i32_124 : BitVec 32 := 1#32
  let v210 : BitVec 32 := Scalar.subi v129 c1_i32_124
  let c0_i32_125 : BitVec 32 := 0#32
  let v211 : BitVec 32 := Scalar.maxsi v210 c0_i32_125
  let c512_i32_126 : BitVec 32 := 512#32
  let v212 : BitVec 32 := Scalar.muli v211 c512_i32_126
  v212
def k0_off31 (i : grid0.Coords) : Fin 3 → Nat :=
  let c0_127 : Index := 0#32
  let c2_i32_80 : BitVec 32 := 2#32
  let arg1 : BitVec 32 := BitVec.ofNat 32 (i 1).val
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v128 : BitVec 32 := Scalar.muli c2_i32_80 v73
  let c3_i32_81 : BitVec 32 := 3#32
  let v129 : BitVec 32 := Scalar.addi v128 c3_i32_81
  let c1_i32_124 : BitVec 32 := 1#32
  let v210 : BitVec 32 := Scalar.subi v129 c1_i32_124
  let c0_i32_125 : BitVec 32 := 0#32
  let v211 : BitVec 32 := Scalar.maxsi v210 c0_i32_125
  let c512_i32_126 : BitVec 32 := 512#32
  let v212 : BitVec 32 := Scalar.muli v211 c512_i32_126
  let v213 : BitVec 32 := v212
  let v214 : Index := Scalar.indexCast v213
  let c0_128 : Index := 0#32
  ![0, v214.toNat, 0]
def k0_off32 (i : grid0.Coords) : Fin 5 → Nat :=
  let c0_142 : Index := 0#32
  let c0_143 : Index := 0#32
  let arg1 : BitVec 32 := BitVec.ofNat 32 (i 1).val
  let c2_i32_80 : BitVec 32 := 2#32
  let c3_i32 : BitVec 32 := 3#32
  let v54 : BitVec 32 := Scalar.subi arg1 c3_i32
  let c1_i32 : BitVec 32 := 1#32
  let v55 : BitVec 32 := Scalar.addi v54 c1_i32
  let c0_i32_44 : BitVec 32 := 0#32
  let v56 : BitVec 32 := Scalar.maxsi v55 c0_i32_44
  let c0_i32_45 : BitVec 32 := 0#32
  let v58 : BitVec 1 := Scalar.cmpi .sgt v56 c0_i32_45
  let v59 : BitVec 32 := Scalar.extui v58
  let c0_i32_46 : BitVec 32 := 0#32
  let v60 : BitVec 1 := Scalar.cmpi .slt v56 c0_i32_46
  let v61 : BitVec 32 := Scalar.extui v60
  let v62 : BitVec 32 := Scalar.subi v59 v61
  let c2_i32 : BitVec 32 := 2#32
  let c0_i32_47 : BitVec 32 := 0#32
  let v63 : BitVec 1 := Scalar.cmpi .sgt c2_i32 c0_i32_47
  let v64 : BitVec 32 := Scalar.extui v63
  let c0_i32_48 : BitVec 32 := 0#32
  let v65 : BitVec 1 := Scalar.cmpi .slt c2_i32 c0_i32_48
  let v66 : BitVec 32 := Scalar.extui v65
  let v67 : BitVec 32 := Scalar.subi v64 v66
  let v68 : BitVec 1 := Scalar.cmpi .ne v62 v67
  let v69 : BitVec 32 := Scalar.remsi v56 c2_i32
  let c0_i32_49 : BitVec 32 := 0#32
  let v70 : BitVec 1 := Scalar.cmpi .ne v69 c0_i32_49
  let v71 : BitVec 1 := Scalar.andi v68 v70
  let v57 : BitVec 32 := Scalar.divsi v56 c2_i32
  let c1_i32_50 : BitVec 32 := 1#32
  let v72 : BitVec 32 := Scalar.subi v57 c1_i32_50
  let v73 : BitVec 32 := Scalar.select v71 v72 v57
  let v128 : BitVec 32 := Scalar.muli c2_i32_80 v73
  let c3_i32_81 : BitVec 32 := 3#32
  let v129 : BitVec 32 := Scalar.addi v128 c3_i32_81
  let v217 : BitVec 32 := Scalar.subi arg1 v129
  let v235 : Index := Scalar.indexCast v217
  let c0_144 : Index := 0#32
  let c0_145 : Index := 0#32
  ![0, 0, v235.toNat, 0, 0]
def k0_mult54 (i : grid0.Coords) : BitVec 32 :=
  let arg1 : BitVec 32 := BitVec.ofNat 32 (i 1).val
  let c512_i32 : BitVec 32 := 512#32
  let v134 : BitVec 32 := Scalar.muli arg1 c512_i32
  v134
def k0_off33 (i : grid0.Coords) : Fin 3 → Nat :=
  let c0_84 : Index := 0#32
  let arg1 : BitVec 32 := BitVec.ofNat 32 (i 1).val
  let c512_i32 : BitVec 32 := 512#32
  let v134 : BitVec 32 := Scalar.muli arg1 c512_i32
  let v135 : BitVec 32 := v134
  let v136 : Index := Scalar.indexCast v135
  let c0_85 : Index := 0#32
  ![0, v136.toNat, 0]
def k0_off34 (i : grid0.Coords) : Fin 3 → Nat :=
  let arg1 : BitVec 32 := BitVec.ofNat 32 (i 1).val
  let c2_i32_83 : BitVec 32 := 2#32
  let v133 : BitVec 32 := Scalar.remsi arg1 c2_i32_83
  let v141 : Index := Scalar.indexCast v133
  let c0_89 : Index := 0#32
  let c0_90 : Index := 0#32
  ![v141.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DiffIdeal.lean ====
variable {F : FTy → Type} [FloatOps F] [Named F]
def κ : String → Option EReal := fun
  | "neg" => some ⊥
  | _ => none
-- ==== DiffReferenceIdeal.lean ====
abbrev S4x16384x128 : Shape := ⟨3, ![4, 16384, 128]⟩
abbrev S4x1x4x512x512 : Shape := ⟨5, ![4, 1, 4, 512, 512]⟩
abbrev S4x64 : Shape := ⟨2, ![4, 64]⟩
abbrev S1x128 : Shape := ⟨2, ![1, 128]⟩
abbrev S1x64 : Shape := ⟨2, ![1, 64]⟩
abbrev S64 : Shape := ⟨1, ![64]⟩
abbrev S_ : Shape := ⟨0, ![]⟩
abbrev S4x16384x2x64 : Shape := ⟨4, ![4, 16384, 2, 64]⟩
abbrev S4x2x16384x16384 : Shape := ⟨4, ![4, 2, 16384, 16384]⟩
abbrev S32 : Shape := ⟨1, ![32]⟩
abbrev S32x1x1x1 : Shape := ⟨4, ![32, 1, 1, 1]⟩
abbrev S32x1 : Shape := ⟨2, ![32, 1]⟩
abbrev S1x1x32x1 : Shape := ⟨4, ![1, 1, 32, 1]⟩
abbrev S32x1x32x1 : Shape := ⟨4, ![32, 1, 32, 1]⟩
abbrev S4x32x512x32x512 : Shape := ⟨5, ![4, 32, 512, 32, 512]⟩
abbrev S4x1x1x512x512 : Shape := ⟨5, ![4, 1, 1, 512, 512]⟩
abbrev S4x512x512 : Shape := ⟨3, ![4, 512, 512]⟩
abbrev S4x1x512x1x512 : Shape := ⟨5, ![4, 1, 512, 1, 512]⟩
abbrev S4x1x16384x16384 : Shape := ⟨4, ![4, 1, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x2x16384 : Shape := ⟨3, ![4, 2, 16384]⟩
abbrev S4x2x16384x1 : Shape := ⟨4, ![4, 2, 16384, 1]⟩
abbrev S4x16384x16384 : Shape := ⟨3, ![4, 16384, 16384]⟩
abbrev S4x16384 : Shape := ⟨2, ![4, 16384]⟩
abbrev S4x16384x1 : Shape := ⟨3, ![4, 16384, 1]⟩
abbrev S1x1x128 : Shape := ⟨3, ![1, 1, 128]⟩

abbrev nBuf : Space → Nat
  | .hbm => 137
  | .vmem => 0
  | .smem => 0
  | _ => 0

abbrev hbmTy0_0 (i : Nat) : BufTy := match i % 128 with
  | 0 => ⟨S4x16384x128, .bf16⟩
  | 1 => ⟨S4x16384x128, .bf16⟩
  | 2 => ⟨S4x16384x128, .bf16⟩
  | 3 => ⟨S4x1x4x512x512, .f32⟩
  | 4 => ⟨S4x64, .f32⟩
  | 5 => ⟨S1x128, .f32⟩
  | 6 => ⟨S1x64, .f32⟩
  | 7 => ⟨S64, .f32⟩
  | 8 => ⟨S1x64, .f32⟩
  | 9 => ⟨S64, .f32⟩
  | 10 => ⟨S64, .f32⟩
  | 11 => ⟨S_, .f32⟩
  | 12 => ⟨S_, .f32⟩
  | 13 => ⟨S_, .f32⟩
  | 14 => ⟨S1x64, .f32⟩
  | 15 => ⟨S64, .f32⟩
  | 16 => ⟨S1x64, .f32⟩
  | 17 => ⟨S64, .f32⟩
  | 18 => ⟨S64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S4x16384x128, .f32⟩
  | 26 => ⟨S4x16384x2x64, .f32⟩
  | 27 => ⟨S4x16384x128, .f32⟩
  | 28 => ⟨S4x16384x2x64, .f32⟩
  | 29 => ⟨S4x2x16384x16384, .f32⟩
  | 30 => ⟨S32, .i32⟩
  | 31 => ⟨S32x1x1x1, .i32⟩
  | 32 => ⟨S32, .i32⟩
  | 33 => ⟨S32x1, .i32⟩
  | 34 => ⟨S1x1x32x1, .i32⟩
  | 35 => ⟨S32x1x32x1, .i32⟩
  | 36 => ⟨S32x1x32x1, .i32⟩
  | 37 => ⟨S32x1x32x1, .i32⟩
  | 38 => ⟨S_, .f32⟩
  | 39 => ⟨S4x32x512x32x512, .f32⟩
  | 40 => ⟨S_, .i32⟩
  | 41 => ⟨S32x1x32x1, .i32⟩
  | 42 => ⟨S32x1x32x1, .i1⟩
  | 43 => ⟨S4x1x1x512x512, .f32⟩
  | 44 => ⟨S4x512x512, .f32⟩
  | 45 => ⟨S4x1x512x1x512, .f32⟩
  | 46 => ⟨S4x32x512x32x512, .i1⟩
  | 47 => ⟨S4x32x512x32x512, .f32⟩
  | 48 => ⟨S4x32x512x32x512, .f32⟩
  | 49 => ⟨S_, .i32⟩
  | 50 => ⟨S32x1x32x1, .i32⟩
  | 51 => ⟨S32x1x32x1, .i1⟩
  | 52 => ⟨S4x1x1x512x512, .f32⟩
  | 53 => ⟨S4x512x512, .f32⟩
  | 54 => ⟨S4x1x512x1x512, .f32⟩
  | 55 => ⟨S4x32x512x32x512, .i1⟩
  | 56 => ⟨S4x32x512x32x512, .f32⟩
  | 57 => ⟨S4x32x512x32x512, .f32⟩
  | 58 => ⟨S_, .i32⟩
  | 59 => ⟨S32x1x32x1, .i32⟩
  | 60 => ⟨S32x1x32x1, .i1⟩
  | 61 => ⟨S4x1x1x512x512, .f32⟩
  | 62 => ⟨S4x512x512, .f32⟩
  | 63 => ⟨S4x1x512x1x512, .f32⟩
  | 64 => ⟨S4x32x512x32x512, .i1⟩
  | 65 => ⟨S4x32x512x32x512, .f32⟩
  | 66 => ⟨S4x32x512x32x512, .f32⟩
  | 67 => ⟨S_, .i32⟩
  | 68 => ⟨S32x1x32x1, .i32⟩
  | 69 => ⟨S32x1x32x1, .i1⟩
  | 70 => ⟨S4x1x1x512x512, .f32⟩
  | 71 => ⟨S4x512x512, .f32⟩
  | 72 => ⟨S4x1x512x1x512, .f32⟩
  | 73 => ⟨S4x32x512x32x512, .i1⟩
  | 74 => ⟨S4x32x512x32x512, .f32⟩
  | 75 => ⟨S4x32x512x32x512, .f32⟩
  | 76 => ⟨S4x1x16384x16384, .f32⟩
  | 77 => ⟨S4x2x16384x16384, .f32⟩
  | 78 => ⟨S4x2x16384x16384, .f32⟩
  | 79 => ⟨S_, .f32⟩
  | 80 => ⟨S_, .f32⟩
  | 81 => ⟨S4x2x16384x16384, .f32⟩
  | 82 => ⟨S4x2x16384x16384, .f32⟩
  | 83 => ⟨S16384, .i32⟩
  | 84 => ⟨S1x16384, .i32⟩
  | 85 => ⟨S16384x1, .i32⟩
  | 86 => ⟨S16384x16384, .i32⟩
  | 87 => ⟨S16384x16384, .i32⟩
  | 88 => ⟨S16384x16384, .i1⟩
  | 89 => ⟨S_, .f32⟩
  | 90 => ⟨S_, .f32⟩
  | 91 => ⟨S4x2x16384x16384, .i1⟩
  | 92 => ⟨S4x2x16384x16384, .f32⟩
  | 93 => ⟨S4x2x16384x16384, .f32⟩
  | 94 => ⟨S_, .f32⟩
  | 95 => ⟨S4x2x16384, .f32⟩
  | 96 => ⟨S_, .f32⟩
  | 97 => ⟨S4x2x16384, .f32⟩
  | 98 => ⟨S4x2x16384, .f32⟩
  | 99 => ⟨S4x2x16384x1, .f32⟩
  | 100 => ⟨S4x2x16384x16384, .f32⟩
  | 101 => ⟨S4x2x16384x16384, .f32⟩
  | 102 => ⟨S4x2x16384x16384, .f32⟩
  | 103 => ⟨S_, .f32⟩
  | 104 => ⟨S4x2x16384, .f32⟩
  | 105 => ⟨S4x2x16384x1, .f32⟩
  | 106 => ⟨S4x2x16384x16384, .f32⟩
  | 107 => ⟨S4x2x16384x16384, .f32⟩
  | 108 => ⟨S4x1x16384x16384, .f32⟩
  | 109 => ⟨S4x16384x16384, .f32⟩
  | 110 => ⟨S4x1x16384x16384, .f32⟩
  | 111 => ⟨S4x16384x16384, .f32⟩
  | 112 => ⟨S4x16384x16384, .f32⟩
  | 113 => ⟨S4x16384x16384, .f32⟩
  | 114 => ⟨S4x16384x16384, .f32⟩
  | 115 => ⟨S4x16384x128, .f32⟩
  | 116 => ⟨S4x16384x128, .f32⟩
  | 117 => ⟨S4x16384x128, .f32⟩
  | 118 => ⟨S_, .f32⟩
  | 119 => ⟨S4x16384, .f32⟩
  | 120 => ⟨S4x16384x1, .f32⟩
  | 121 => ⟨S_, .f32⟩
  | 122 => ⟨S4x16384x1, .f32⟩
  | 123 => ⟨S4x16384x1, .f32⟩
  | 124 => ⟨S_, .f32⟩
  | 125 => ⟨S4x16384x1, .f32⟩
  | 126 => ⟨S4x16384x1, .f32⟩
  | 127 => ⟨S4x16384x1, .f32⟩
  | _ => ⟨S4x16384x128, .bf16⟩

abbrev hbmTy0_1 (i : Nat) : BufTy := match i % 128 with
  | 0 => ⟨S4x16384x128, .f32⟩
  | 1 => ⟨S4x16384x128, .f32⟩
  | 2 => ⟨S1x1x128, .f32⟩
  | 3 => ⟨S4x16384x128, .f32⟩
  | 4 => ⟨S4x16384x128, .f32⟩
  | 5 => ⟨S_, .f32⟩
  | 6 => ⟨S4x16384x128, .f32⟩
  | 7 => ⟨S4x16384x128, .f32⟩
  | 8 => ⟨S4x16384x128, .bf16⟩
  | _ => ⟨S4x16384x128, .bf16⟩

abbrev hbmTy (i : Nat) : BufTy := match i / 128 with
  | 0 => hbmTy0_0 i
  | 1 => hbmTy0_1 i
  | _ => ⟨S4x16384x128, .bf16⟩

abbrev bufTy : (tb : Table) → Fin (tcTables nBuf tb) → BufTy
  | .hbm, ⟨i, _⟩ => hbmTy i
  | _, _ => ⟨S4x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_v35 : Ref sig .tc := ⟨.hbm, 48, rfl⟩
abbrev main_c_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call1_v0 : Ref sig .tc := ⟨.hbm, 55, rfl⟩
abbrev main_call1_v1 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call2_v0 : Ref sig .tc := ⟨.hbm, 64, rfl⟩
abbrev main_call2_v1 : Ref sig .tc := ⟨.hbm, 65, rfl⟩
abbrev main_v47 : Ref sig .tc := ⟨.hbm, 66, rfl⟩
abbrev main_c_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call3_v0 : Ref sig .tc := ⟨.hbm, 73, rfl⟩
abbrev main_call3_v1 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_7 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_11 : Ref sig .tc := ⟨.hbm, 118, rfl⟩
abbrev main_v88 : Ref sig .tc := ⟨.hbm, 119, rfl⟩
abbrev main_v89 : Ref sig .tc := ⟨.hbm, 120, rfl⟩
abbrev main_cst_12 : Ref sig .tc := ⟨.hbm, 121, rfl⟩
abbrev main_v90 : Ref sig .tc := ⟨.hbm, 122, rfl⟩
abbrev main_v91 : Ref sig .tc := ⟨.hbm, 123, rfl⟩
abbrev main_cst_13 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_14 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]
-- ==== Prep.lean ====
abbrev S8x16384x128 : Shape := ⟨3, ![8, 16384, 128]⟩
abbrev S1x512 : Shape := ⟨2, ![1, 512]⟩
abbrev S1x256 : Shape := ⟨2, ![1, 256]⟩
abbrev S512x1024 : Shape := ⟨2, ![512, 1024]⟩
abbrev S256x1024 : Shape := ⟨2, ![256, 1024]⟩
abbrev S16384x256 : Shape := ⟨2, ![16384, 256]⟩
abbrev S4x16384x256 : Shape := ⟨3, ![4, 16384, 256]⟩
abbrev S4x16384x128 : Shape := ⟨3, ![4, 16384, 128]⟩
abbrev S8x512x128 : Shape := ⟨3, ![8, 512, 128]⟩
abbrev S512x256 : Shape := ⟨2, ![512, 256]⟩
abbrev S4x512x256 : Shape := ⟨3, ![4, 512, 256]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x256 : Shape := ⟨3, ![1, 512, 256]⟩

abbrev nBuf : Space → Nat
  | .hbm => 11
  | .vmem => 17
  | .smem => 0
  | _ => 0

abbrev bufTy : (tb : Table) → Fin (tcTables nBuf tb) → BufTy
  | .hbm, ⟨0, _⟩ => ⟨S8x16384x128, .f32⟩
  | .hbm, ⟨1, _⟩ => ⟨S1x512, .f32⟩
  | .hbm, ⟨2, _⟩ => ⟨S1x256, .f32⟩
  | .hbm, ⟨3, _⟩ => ⟨S512x1024, .bf16⟩
  | .hbm, ⟨4, _⟩ => ⟨S512x1024, .bf16⟩
  | .hbm, ⟨5, _⟩ => ⟨S256x1024, .bf16⟩
  | .hbm, ⟨6, _⟩ => ⟨S16384x256, .f32⟩
  | .hbm, ⟨7, _⟩ => ⟨S16384x256, .f32⟩
  | .hbm, ⟨8, _⟩ => ⟨S4x16384x256, .bf16⟩
  | .hbm, ⟨9, _⟩ => ⟨S4x16384x256, .bf16⟩
  | .hbm, ⟨10, _⟩ => ⟨S4x16384x128, .bf16⟩
  | .local _ .vmem, ⟨0, _⟩ => ⟨S8x512x128, .f32⟩
  | .local _ .vmem, ⟨1, _⟩ => ⟨S8x512x128, .f32⟩
  | .local _ .vmem, ⟨2, _⟩ => ⟨S1x512, .f32⟩
  | .local _ .vmem, ⟨3, _⟩ => ⟨S1x256, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S4x512x256, .bf16⟩
  | .local _ .vmem, ⟨12, _⟩ => ⟨S4x512x256, .bf16⟩
  | .local _ .vmem, ⟨13, _⟩ => ⟨S4x512x256, .bf16⟩
  | .local _ .vmem, ⟨14, _⟩ => ⟨S4x512x256, .bf16⟩
  | .local _ .vmem, ⟨15, _⟩ => ⟨S4x512x128, .bf16⟩
  | .local _ .vmem, ⟨16, _⟩ => ⟨S4x512x128, .bf16⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PrepReferenceIdeal.lean ====
abbrev S8x16384x128 : Shape := ⟨3, ![8, 16384, 128]⟩
abbrev S1x512 : Shape := ⟨2, ![1, 512]⟩
abbrev S1x256 : Shape := ⟨2, ![1, 256]⟩
abbrev S512x1024 : Shape := ⟨2, ![512, 1024]⟩
abbrev S256x1024 : Shape := ⟨2, ![256, 1024]⟩
abbrev S16384x256 : Shape := ⟨2, ![16384, 256]⟩
abbrev S16384x8x128 : Shape := ⟨3, ![16384, 8, 128]⟩
abbrev S16384x4x128 : Shape := ⟨3, ![16384, 4, 128]⟩
abbrev S16384x512 : Shape := ⟨2, ![16384, 512]⟩
abbrev S16384x2x128 : Shape := ⟨3, ![16384, 2, 128]⟩
abbrev S16384x1x128 : Shape := ⟨3, ![16384, 1, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S16384x4x256 : Shape := ⟨3, ![16384, 4, 256]⟩
abbrev S16384x1x256 : Shape := ⟨3, ![16384, 1, 256]⟩
abbrev S16384x2x4x128 : Shape := ⟨4, ![16384, 2, 4, 128]⟩
abbrev S16384x1x4x128 : Shape := ⟨4, ![16384, 1, 4, 128]⟩
abbrev S4x16384x256 : Shape := ⟨3, ![4, 16384, 256]⟩
abbrev S4x16384x128 : Shape := ⟨3, ![4, 16384, 128]⟩

abbrev nBuf : Space → Nat
  | .hbm => 84
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S1x512, .f32⟩
  | .hbm, ⟨2, _⟩ => ⟨S1x256, .f32⟩
  | .hbm, ⟨3, _⟩ => ⟨S512x1024, .bf16⟩
  | .hbm, ⟨4, _⟩ => ⟨S512x1024, .bf16⟩
  | .hbm, ⟨5, _⟩ => ⟨S256x1024, .bf16⟩
  | .hbm, ⟨6, _⟩ => ⟨S16384x256, .f32⟩
  | .hbm, ⟨7, _⟩ => ⟨S16384x256, .f32⟩
  | .hbm, ⟨8, _⟩ => ⟨S16384x8x128, .f32⟩
  | .hbm, ⟨9, _⟩ => ⟨S16384x4x128, .f32⟩
  | .hbm, ⟨10, _⟩ => ⟨S16384x512, .f32⟩
  | .hbm, ⟨11, _⟩ => ⟨S16384x2x128, .f32⟩
  | .hbm, ⟨12, _⟩ => ⟨S16384x256, .f32⟩
  | .hbm, ⟨13, _⟩ => ⟨S16384x1x128, .f32⟩
  | .hbm, ⟨14, _⟩ => ⟨S16384x128, .f32⟩
  | .hbm, ⟨15, _⟩ => ⟨S16384x1x128, .f32⟩
  | .hbm, ⟨16, _⟩ => ⟨S16384x128, .f32⟩
  | .hbm, ⟨17, _⟩ => ⟨S16384x512, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x256, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S512x1024, .f32⟩
  | .hbm, ⟨48, _⟩ => ⟨S16384x1024, .f32⟩
  | .hbm, ⟨49, _⟩ => ⟨S16384x4x256, .f32⟩
  | .hbm, ⟨50, _⟩ => ⟨S512x1024, .f32⟩
  | .hbm, ⟨51, _⟩ => ⟨S16384x1024, .f32⟩
  | .hbm, ⟨52, _⟩ => ⟨S16384x4x256, .f32⟩
  | .hbm, ⟨53, _⟩ => ⟨S16384x1x256, .f32⟩
  | .hbm, ⟨54, _⟩ => ⟨S16384x4x256, .f32⟩
  | .hbm, ⟨55, _⟩ => ⟨S16384x4x256, .f32⟩
  | .hbm, ⟨56, _⟩ => ⟨S16384x1x256, .f32⟩
  | .hbm, ⟨57, _⟩ => ⟨S16384x4x256, .f32⟩
  | .hbm, ⟨58, _⟩ => ⟨S16384x4x256, .f32⟩
  | .hbm, ⟨59, _⟩ => ⟨S16384x4x256, .f32⟩
  | .hbm, ⟨60, _⟩ => ⟨S_, .f32⟩
  | .hbm, ⟨61, _⟩ => ⟨S16384x4x256, .f32⟩
  | .hbm, ⟨62, _⟩ => ⟨S16384x4x256, .f32⟩
  | .hbm, ⟨63, _⟩ => ⟨S256x1024, .f32⟩
  | .hbm, ⟨64, _⟩ => ⟨S16384x1024, .f32⟩
  | .hbm, ⟨65, _⟩ => ⟨S16384x2x4x128, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S16384x128, .f32⟩
  | .hbm, ⟨70, _⟩ => ⟨S16384x128, .f32⟩
  | .hbm, ⟨71, _⟩ => ⟨S16384x1x4x128, .f32⟩
  | .hbm, ⟨72, _⟩ => ⟨S16384x4x128, .f32⟩
  | .hbm, ⟨73, _⟩ => ⟨S16384x1x128, .f32⟩
  | .hbm, ⟨74, _⟩ => ⟨S16384x4x128, .f32⟩
  | .hbm, ⟨75, _⟩ => ⟨S16384x4x256, .f32⟩
  | .hbm, ⟨76, _⟩ => ⟨S16384x1x4x128, .f32⟩
  | .hbm, ⟨77, _⟩ => ⟨S16384x4x128, .f32⟩
  | .hbm, ⟨78, _⟩ => ⟨S4x16384x256, .f32⟩
  | .hbm, ⟨79, _⟩ => ⟨S4x16384x256, .bf16⟩
  | .hbm, ⟨80, _⟩ => ⟨S4x16384x256, .f32⟩
  | .hbm, ⟨81, _⟩ => ⟨S4x16384x256, .bf16⟩
  | .hbm, ⟨82, _⟩ => ⟨S4x16384x128, .f32⟩
  | .hbm, ⟨83, _⟩ => ⟨S4x16384x128, .bf16⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩

abbrev nD : Nat := 1
abbrev τ : Topo := Topo.v7x

variable {F : FTy → Type} [FloatOps F]
-- ==== Last.lean ====
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S16384x2048, .f32⟩
  | .hbm, ⟨5, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastReferenceIdeal.lean ====
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Means.lean ====
abbrev S32x16384x128 : Shape := ⟨3, ![32, 16384, 128]⟩
abbrev S4x64x128 : Shape := ⟨3, ![4, 64, 128]⟩
abbrev S1x16384x128 : Shape := ⟨3, ![1, 16384, 128]⟩
abbrev S1x64x128 : Shape := ⟨3, ![1, 64, 128]⟩
abbrev S16384x128 : Shape := ⟨2, ![16384, 128]⟩
abbrev S64x256x128 : Shape := ⟨3, ![64, 256, 128]⟩
abbrev S64x128 : Shape := ⟨2, ![64, 128]⟩

abbrev nBuf : Space → Nat
  | .hbm => 2
  | .vmem => 4
  | .smem => 0
  | _ => 0

abbrev bufTy : (tb : Table) → Fin (tcTables nBuf tb) → BufTy
  | .hbm, ⟨0, _⟩ => ⟨S32x16384x128, .bf16⟩
  | .hbm, ⟨1, _⟩ => ⟨S4x64x128, .f32⟩
  | .local _ .vmem, ⟨0, _⟩ => ⟨S1x16384x128, .bf16⟩
  | .local _ .vmem, ⟨1, _⟩ => ⟨S1x16384x128, .bf16⟩
  | .local _ .vmem, ⟨2, _⟩ => ⟨S1x64x128, .f32⟩
  | .local _ .vmem, ⟨3, _⟩ => ⟨S1x64x128, .f32⟩
  | _, _ => ⟨S32x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MeansReferenceIdeal.lean ====
abbrev S32x16384x128 : Shape := ⟨3, ![32, 16384, 128]⟩
abbrev S4x16384x128 : Shape := ⟨3, ![4, 16384, 128]⟩
abbrev S4x64x256x128 : Shape := ⟨4, ![4, 64, 256, 128]⟩
abbrev S_ : Shape := ⟨0, ![]⟩
abbrev S4x64x128 : Shape := ⟨3, ![4, 64, 128]⟩

abbrev nBuf : Space → Nat
  | .hbm => 9
  | .vmem => 0
  | .smem => 0
  | _ => 0

abbrev bufTy : (tb : Table) → Fin (tcTables nBuf tb) → BufTy
  | .hbm, ⟨0, _⟩ => ⟨S32x16384x128, .bf16⟩
  | .hbm, ⟨1, _⟩ => ⟨S4x16384x128, .bf16⟩
  | .hbm, ⟨2, _⟩ => ⟨S4x16384x128, .f32⟩
  | .hbm, ⟨3, _⟩ => ⟨S4x64x256x128, .f32⟩
  | .hbm, ⟨4, _⟩ => ⟨S_, .f32⟩
  | .hbm, ⟨5, _⟩ => ⟨S4x64x128, .f32⟩
  | .hbm, ⟨6, _⟩ => ⟨S_, .f32⟩
  | .hbm, ⟨7, _⟩ => ⟨S4x64x128, .f32⟩
  | .hbm, ⟨8, _⟩ => ⟨S4x64x128, .f32⟩
  | _, _ => ⟨S32x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Step.lean ====
/-
  ONE STEP of the streamed attention: the memory operations of a tile's update, as a program over the scratch memrefs,
  and what it does to what they hold. Stated at any signature and any floats, so the printed program and its idealized
  form share it.
-/
module

public import proofs.«01_k».proof.Proof.Gen.KernelIdeal
public import Idealize.ShloMosaic.Lib.Exec
public import Idealize.ShloMosaic.Lib.WritesUnit
public import Idealize.ShloMosaic.Lib.Tactic
public import Idealize.ShloMosaic.Lib.Pipeline.Kit
public import Idealize.ShloMosaic.Lib.Pipeline.TableIdle

@[expose] public section

noncomputable section

namespace Cert.Proof.Flash

open Cert.KernelIdeal Cert.KernelIdeal.Facts₀

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The words a step stores -/

section Pay
variable {F : FTy → Type} [FloatOps F]

/-- The scores of the query tile against a key tile. -/
def scores (q : FVec F S512x256 .bf16) (kt : Vec F S1x512x256 .bf16) : FVec F S1x512x512 .f32 :=
  shapeCast S1x512x512 (matmul dot_S512x256_S512x256_S512x512_1_1_0_0_n_n none q
    (shapeCast S512x256 kt shapeCasts_S1x512x256_S512x256) (constant S512x512 .f32 0x00000000#32)) shapeCasts_S512x512_S1x512x512

/-- The unmasked reading of a score tile. -/
def plain (s : Vec F S1x512x512 .f32) : FVec F S512x512 .f32 := shapeCast S512x512 s shapeCasts_S1x512x512_S512x512

/-- The reading of a score tile under the causal mask, `fill` where the key comes after the query; the tiles are
    `row − col` apart. -/
def masked (fill : F .f32) (row col : BitVec 32) (s : Vec F S1x512x512 .f32) : FVec F S512x512 .f32 :=
  select (cmpi .sge (addi (subi (iota .tc S512x512 32 [0] iota_S512x512_d0_w32) (iota .tc S512x512 32 [1] iota_S512x512_d1_w32))
      (broadcast S512x512 (Scalar.muli (Scalar.subi row col) 512#32))) (broadcast S512x512 0#32))
    (plain s) (broadcast S512x512 fill)

/-- A per-row value flattened to its own tile. -/
def flat (m : Vec F S1x512x128 .f32) : FVec F S512x128 .f32 := shapeCast S512x128 m shapeCasts_S1x512x128_S512x128

/-- A tile of per-row values as stored. -/
def unflat (m : FVec F S512x128 .f32) : FVec F S1x512x128 .f32 := shapeCast S1x512x128 m shapeCasts_S512x128_S1x512x128

/-- The row maximum after the tile. -/
def newMax (s : FVec F S512x512 .f32) (m : Vec F S1x512x128 .f32) : FVec F S512x128 .f32 :=
  maximumf (flat m) (broadcastTo S512x128 (shapeCast S512x1
    (multiReduction .maximumf [1] S512 s 0xFF800000#32 reduces_S512x512_S512 (.inl rfl) rfl) shapeCasts_S512_S512x1) broadcasts_S512x1_S512x128)

/-- The factor that moves what was gathered to the new maximum. -/
def rescale (s : FVec F S512x512 .f32) (m : Vec F S1x512x128 .f32) : FVec F S512x128 .f32 :=
  exp2 (subf (flat m) (newMax s m))

/-- The exponentials of a tile's four runs of 128 keys. -/
def run0 (s : FVec F S512x512 .f32) (m : Vec F S1x512x128 .f32) : FVec F S512x128 .f32 :=
  exp2 (subf (extractStridedSlice S512x128 ![0, 0] s slices_S512x512_o0_0_S512x128) (newMax s m))
def run1 (s : FVec F S512x512 .f32) (m : Vec F S1x512x128 .f32) : FVec F S512x128 .f32 :=
  exp2 (subf (extractStridedSlice S512x128 ![0, 128] s slices_S512x512_o0_128_S512x128) (newMax s m))
def run2 (s : FVec F S512x512 .f32) (m : Vec F S1x512x128 .f32) : FVec F S512x128 .f32 :=
  exp2 (subf (extractStridedSlice S512x128 ![0, 256] s slices_S512x512_o0_256_S512x128) (newMax s m))
def run3 (s : FVec F S512x512 .f32) (m : Vec F S1x512x128 .f32) : FVec F S512x128 .f32 :=
  exp2 (subf (extractStridedSlice S512x128 ![0, 384] s slices_S512x512_o0_384_S512x128) (newMax s m))

/-- The exponentials of the tile, as stored for the next step's product. -/
def expTile (s : FVec F S512x512 .f32) (m : Vec F S1x512x128 .f32) : FVec F S1x512x512 .bf16 :=
  shapeCast S1x512x512 (truncf .bf16 (concatenate S512x512 1 [⟨S512x128, run0 s m⟩, ⟨S512x128, run1 s m⟩, ⟨S512x128, run2 s m⟩, ⟨S512x128, run3 s m⟩]
    concatenates_S512x128_S512x128_S512x128_S512x128_S512x512_d1) bitsLt_bf16_f32) shapeCasts_S512x512_S1x512x512

/-- The sums by lane after the tile. -/
def newSum (s : FVec F S512x512 .f32) (m l : Vec F S1x512x128 .f32) : FVec F S1x512x128 .f32 :=
  unflat (addf (mulf (rescale s m) (flat l)) (addf (addf (addf (run0 s m) (run1 s m)) (run2 s m)) (run3 s m)))

/-- The product of a tile's exponentials with its values. -/
def productV (p : Vec F S1x512x512 .bf16) (vt : FVec F S512x128 .bf16) : FVec F S512x128 .f32 :=
  matmul dot_S512x512_S512x128_S512x128_1_0_0_1_n_n none (shapeCast S512x512 p shapeCasts_S1x512x512_S512x512)
    vt (constant S512x128 .f32 0x00000000#32)
def product (p : Vec F S1x512x512 .bf16) (vt : Vec F S1x512x128 .bf16) : FVec F S512x128 .f32 :=
  productV p (shapeCast S512x128 vt shapeCasts_S1x512x128_S512x128)

/-- What was gathered, the previous tile's product with it, at the new maximum. -/
def newAcc (p : Vec F S1x512x512 .bf16) (vt : Vec F S1x512x128 .bf16) (s : FVec F S512x512 .f32) (m a : Vec F S1x512x128 .f32) :
    FVec F S1x512x128 .f32 :=
  unflat (mulf (rescale s m) (addf (flat a) (product p vt)))

/-- What the scratch holds: the row maxima, the sums by lane, the gathered products, and two tiles each of scores and
    of exponentials. -/
structure Carry (F : FTy → Type) [FloatOps F] where
  m : Vec F S1x512x128 .f32
  l : Vec F S1x512x128 .f32
  a : Vec F S1x512x128 .f32
  s : Fin 2 → Vec F S1x512x512 .f32
  p : Fin 2 → Vec F S1x512x512 .bf16

/-- One step on what the scratch holds, at slot `b`: the next key tile `kt` is scored into the other slot, the
    tile read through `g` is folded in, and the previous tile's exponentials meet the value tile `vt`. -/
def Carry.step (b : Fin 2) (q : FVec F S512x256 .bf16) (g : Vec F S1x512x512 .f32 → FVec F S512x512 .f32)
    (kt : Vec F S1x512x256 .bf16) (vt : Vec F S1x512x128 .bf16) (x : Carry F) : Carry F where
  m := unflat (newMax (g (x.s b)) x.m)
  l := newSum (g (x.s b)) x.m x.l
  a := newAcc (x.p (1 - b)) vt (g (x.s b)) x.m x.a
  s := Function.update x.s (1 - b) (scores q kt)
  p := Function.update x.p b (expTile (g (x.s b)) x.m)

end Pay

/-! ## Two tiles as one buffer -/

/-- The tile a stack's index is in, and where in it. -/
def outer (i : S2x512x512.Idx) : Fin 2 := i 0
def inner (i : S2x512x512.Idx) : S1x512x512.Idx := fun | 0 => (⟨0, Nat.one_pos⟩ : Fin 1) | 1 => i 1 | 2 => i 2

/-- Two tiles, stacked. -/
def stack {α : Type} (s : Fin 2 → S1x512x512.Idx → α) : S2x512x512.Idx → α := fun i => s (outer i) (inner i)

/-- A stack's tile. -/
def tileOf {α : Type} (b : Fin 2) (f : S2x512x512.Idx → α) : S1x512x512.Idx → α :=
  fun i => f (fun | 0 => b | 1 => i 1 | 2 => i 2)

theorem stack_tileOf {α : Type} (f : S2x512x512.Idx → α) : stack (fun b => tileOf b f) = f := by
  funext i
  refine congrArg f (funext fun a => ?_)
  match a with
  | 0 => rfl
  | 1 => rfl
  | 2 => rfl

/-- The corner of tile `b` of a stack. -/
abbrev corner (b : Fin 2) : Fin 3 → ℕ := ![b.val, 0, 0]

theorem corner_inb (b : Fin 2) : ∀ a, corner b a + S1x512x512.size a ≤ S2x512x512.size a := by
  match b with
  | 0 => exact inb_S2x512x512_S1x512x512_0_0_0
  | 1 => exact inb_S2x512x512_S1x512x512_1_0_0

theorem corner_packed (b : Fin 2) :
    (Rect.unit (s := S2x512x512) (corner b) S1x512x512.size (corner_inb b)).PackedRows (EltTy.packing .bf16) := by
  match b with
  | 0 => exact packedbf16_S2x512x512_S1x512x512_0_0_0
  | 1 => exact packedbf16_S2x512x512_S1x512x512_1_0_0

theorem tileOf_stack {α : Type} (s : Fin 2 → S1x512x512.Idx → α) (b : Fin 2) : tileOf b (stack s) = s b := by
  funext i
  refine congrArg (s b) (funext fun a => ?_)
  match a with
  | 0 => exact Fin.ext (by have := (i 0).isLt; change (i 0).val < 1 at this; change 0 = (i 0).val; omega)
  | 1 => rfl
  | 2 => rfl

/-- A load of tile `b` reads it. -/
theorem load_corner {α : Type} (f : S2x512x512.Idx → α) (b : Fin 2) :
    (fun y => f ((Rect.unit (s := S2x512x512) (corner b) S1x512x512.size (corner_inb b)).toLoadRect.idx y)) = tileOf b f := by
  funext y
  refine congrArg f (funext fun a => Fin.ext ?_)
  show corner b a + 1 * (y a).val = _
  rw [Nat.one_mul]
  match a with
  | 0 => have := (y 0).isLt; change (y 0).val < 1 at this; change b.val + (y 0).val = b.val; omega
  | 1 => exact Nat.zero_add _
  | 2 => exact Nat.zero_add _

/-- A load of all of a flat memref reads it. -/
theorem load_full {α : Type} (f : S1x512x128.Idx → α) :
    (fun y => f ((Rect.unit (s := S1x512x128) ![0, 0, 0] S1x512x128.size inb_S1x512x128_S1x512x128_0_0_0).toLoadRect.idx y)) = f := by
  funext y
  refine congrArg f (funext fun a => Fin.ext ?_)
  show (![0, 0, 0] : Fin 3 → ℕ) a + 1 * (y a).val = _
  rw [Nat.one_mul]
  match a with
  | 0 => exact Nat.zero_add _
  | 1 => exact Nat.zero_add _
  | 2 => exact Nat.zero_add _

section Reads
variable {sig : RefSig} {e : EltTy} {Val : EltTy → Type}

/-- What a store of tile `b` leaves of a stack. -/
theorem store_corner (v : View sig .tc .vmem S2x512x512 e) (f : v.ty.Contents Val) (b : Fin 2) (w : S1x512x512.Idx → Val e) :
    v.read Val ((v.slice (Rect.unit (s := S2x512x512) (corner b) S1x512x512.size (corner_inb b))).write Val f w Finset.univ)
      = stack (Function.update (fun j => tileOf j (v.read Val f)) b w) := by
  funext y
  by_cases h : outer y = b
  · have e1 := View.read_writes_cons_unit_of_mem v f (corner_inb b) w [] y (inner y) rfl (fun a => by
        match a with
        | 0 => subst h; rfl
        | 1 => exact (Nat.zero_add _).symm
        | 2 => exact (Nat.zero_add _).symm)
    refine e1.trans (congrFun (?_ : w = Function.update (fun j => tileOf j (v.read Val f)) b w (outer y)) (inner y))
    rw [h, Function.update_self]
  · have e1 := View.read_writes_cons_unit_of_not_mem v f (corner_inb b) w [] y rfl 0 (by
      show (outer y).val < b.val ∨ b.val + 1 ≤ (outer y).val
      have : (outer y).val ≠ b.val := fun hc => h (Fin.ext hc)
      omega)
    refine e1.trans ((congrFun (stack_tileOf (v.read Val f)).symm y).trans
      (congrFun (?_ : tileOf (outer y) (v.read Val f) = Function.update (fun j => tileOf j (v.read Val f)) b w (outer y)) (inner y)))
    rw [Function.update_of_ne h]

/-- What a store of all of a flat memref leaves. -/
theorem store_full (v : View sig .tc .vmem S1x512x128 e) (f : v.ty.Contents Val) (w : S1x512x128.Idx → Val e) :
    v.read Val ((v.slice (Rect.unit (s := S1x512x128) ![0, 0, 0] S1x512x128.size inb_S1x512x128_S1x512x128_0_0_0)).write Val f w Finset.univ)
      = w := by
  funext y
  exact View.read_writes_cons_unit_of_mem v f inb_S1x512x128_S1x512x128_0_0_0 w [] y y rfl (fun a => by
    match a with
    | 0 => exact (Nat.zero_add _).symm
    | 1 => exact (Nat.zero_add _).symm
    | 2 => exact (Nat.zero_add _).symm)

end Reads

/-! ## The step, as a program -/

section Prog
variable {nD : Nat} {τ : Topo} {sig : RefSig} {Λ : Labels} {F : FTy → Type} [FloatOps F]

/-- The step's memory operations, in the order the kernel makes them. -/
def stepProg (b : Fin 2) (q : FVec F S512x256 .bf16) (g : Vec F S1x512x512 .f32 → FVec F S512x512 .f32)
    (a3 : Memref sig .tc .vmem S1x16384x256 .bf16) (a4 : Memref sig .tc .vmem S1x16384x128 .bf16)
    (a6 a7 a8 : Memref sig .tc .vmem S1x512x128 .f32) (a9 : Memref sig .tc .vmem S2x512x512 .f32)
    (a10 : Memref sig .tc .vmem S2x512x512 .bf16) (h10 : a10.IsWhole)
    (ok ov : Fin 3 → ℕ) (hk : ∀ a, ok a + S1x512x256.size a ≤ S1x16384x256.size a)
    (hv : ∀ a, ov a + S1x512x128.size a ≤ S1x16384x128.size a) : Prog (TpuEff nD τ sig (Elt F) Λ .tc) PUnit := do
  let kt : Vec F S1x512x256 .bf16 ← Prog.lift (.load a3 (Rect.unit (s := S1x16384x256) ok S1x512x256.size hk).toLoadRect (View.loadsAt_vmem h_S1x512x256))
  let vt : Vec F S1x512x128 .bf16 ← Prog.lift (.load a4 (Rect.unit (s := S1x16384x128) ov S1x512x128.size hv).toLoadRect (View.loadsAt_vmem h_S1x512x128))
  let p : Vec F S1x512x512 .bf16 ← Prog.lift (.load a10 (Rect.unit (s := S2x512x512) (corner (1 - b)) S1x512x512.size (corner_inb _)).toLoadRect (View.loadsAt_vmem h_S1x512x512))
  let s : Vec F S1x512x512 .f32 ← Prog.lift (.load a9 (Rect.unit (s := S2x512x512) (corner b) S1x512x512.size (corner_inb _)).toLoadRect (View.loadsAt_vmem h_S1x512x512))
  let _ : Vec F S1x512x512 .f32 ← Prog.lift (.load a9 (Rect.unit (s := S2x512x512) (corner (1 - b)) S1x512x512.size (corner_inb _)).toLoadRect (View.loadsAt_vmem h_S1x512x512))
  Prog.lift (.store a9 (Rect.unit (s := S2x512x512) (corner (1 - b)) S1x512x512.size (corner_inb _)) (scores q kt) Finset.univ (View.stores_vmem_bits_univ h_S1x512x512 rfl) (.inl rfl))
  let m : Vec F S1x512x128 .f32 ← Prog.lift (.load a6 (Rect.unit (s := S1x512x128) ![0, 0, 0] S1x512x128.size inb_S1x512x128_S1x512x128_0_0_0).toLoadRect (View.loadsAt_vmem h_S1x512x128))
  let _ : Vec F S1x512x512 .bf16 ← Prog.lift (.load a10 (Rect.unit (s := S2x512x512) (corner b) S1x512x512.size (corner_inb _)).toLoadRect (View.loadsAt_vmem h_S1x512x512))
  Prog.lift (.store a10 (Rect.unit (s := S2x512x512) (corner b) S1x512x512.size (corner_inb _)) (expTile (g s) m) Finset.univ (View.stores_vmem h_S1x512x512 (h10.storeExact_slice rfl _ (corner_packed b)) (fun _ => rfl)) (.inl rfl))
  let l : Vec F S1x512x128 .f32 ← Prog.lift (.load a7 (Rect.unit (s := S1x512x128) ![0, 0, 0] S1x512x128.size inb_S1x512x128_S1x512x128_0_0_0).toLoadRect (View.loadsAt_vmem h_S1x512x128))
  let _ : Vec F S1x512x128 .f32 ← Prog.lift (.load a7 (Rect.unit (s := S1x512x128) ![0, 0, 0] S1x512x128.size inb_S1x512x128_S1x512x128_0_0_0).toLoadRect (View.loadsAt_vmem h_S1x512x128))
  Prog.lift (.store a7 (Rect.unit (s := S1x512x128) ![0, 0, 0] S1x512x128.size inb_S1x512x128_S1x512x128_0_0_0) (newSum (g s) m l) Finset.univ (View.stores_vmem_bits_univ h_S1x512x128 rfl) (.inl rfl))
  let a : Vec F S1x512x128 .f32 ← Prog.lift (.load a8 (Rect.unit (s := S1x512x128) ![0, 0, 0] S1x512x128.size inb_S1x512x128_S1x512x128_0_0_0).toLoadRect (View.loadsAt_vmem h_S1x512x128))
  let _ : Vec F S1x512x128 .f32 ← Prog.lift (.load a8 (Rect.unit (s := S1x512x128) ![0, 0, 0] S1x512x128.size inb_S1x512x128_S1x512x128_0_0_0).toLoadRect (View.loadsAt_vmem h_S1x512x128))
  Prog.lift (.store a8 (Rect.unit (s := S1x512x128) ![0, 0, 0] S1x512x128.size inb_S1x512x128_S1x512x128_0_0_0) (newAcc p vt (g s) m a) Finset.univ (View.stores_vmem_bits_univ h_S1x512x128 rfl) (.inl rfl))
  let _ : Vec F S1x512x128 .f32 ← Prog.lift (.load a6 (Rect.unit (s := S1x512x128) ![0, 0, 0] S1x512x128.size inb_S1x512x128_S1x512x128_0_0_0).toLoadRect (View.loadsAt_vmem h_S1x512x128))
  Prog.lift (.store a6 (Rect.unit (s := S1x512x128) ![0, 0, 0] S1x512x128.size inb_S1x512x128_S1x512x128_0_0_0) (unflat (newMax (g s) m)) Finset.univ (View.stores_vmem_bits_univ h_S1x512x128 rfl) (.inl rfl))
  pure ⟨⟩

end Prog

/-! ## Loads and stores of an owned memref -/

section Rules
variable {nD : Nat} {τ : Topo} {sig : RefSig} {Λ : Labels} {F : FTy → Type} [FloatOps F]
variable {defs : Defs nD τ sig (Elt F) Λ} (𝒱 : Variants) (c : Dev nD) (bd : Option 𝒱.V) (E : Set ℕ)

local notation "𝕄" => MT nD τ sig Unit (Elt F) ℕ (UR sig nD τ) ℕ

/-- A load from an owned memref. -/
theorem owned_load {α : Type} {Q : α → sProp 𝕄} {s : Shape} {e : EltTy} {m : Memref sig .tc .vmem s e} {r : LoadRect s} {hl : m.view.LoadsAt r}
    {k : (r.shape.Idx → Elt F e) → Prog (TpuEff nD τ sig (Elt F) Λ .tc) α} {q : PosShare TreeShare} {X : s.Idx → Elt F e}
    {w : r.shape.Idx → Elt F e} (hw : (fun y => X (r.idx y)) = w) :
    (owns (c : Thread nD τ) m q X : sProp 𝕄) ⊢ iprop((owns (c : Thread nD τ) m q X -∗ wp frame (wpE defs 𝒱 (c : Thread nD τ) bd) E (k w) Q)
      -∗ wp frame (wpE defs 𝒱 (c : Thread nD τ) bd) E (Prog.lift (.load m r hl) >>= k) Q) := by
  subst hw
  unfold owns
  iintro ⟨%f, %hf, H⟩ Hk
  subst hf
  iapply (wp_load 𝒱 (c : Thread nD τ) bd E (m := m) (r := r) (hl := hl) (k := k) (q := q) (f := f) (View.setOn_subset_set _ _)) $$ H
  iintro H
  iapply Hk
  iexists f
  isplitr
  · ipureintro; rfl
  · iexact H

/-- A store into an owned memref, all of a box, leaving it at what the box's write reads back as. -/
theorem owned_store {α : Type} {Q : α → sProp 𝕄} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ .tc) α} {X Y : s.Idx → Elt F e}
    (hY : ∀ f, m.view.read (Elt F) f = X → m.view.read (Elt F) ((m.access r).write (Elt F) f w Finset.univ) = Y) :
    (owns (c : Thread nD τ) m fullShare X : sProp 𝕄) ⊢ iprop((owns (c : Thread nD τ) m fullShare Y -∗ wp frame (wpE defs 𝒱 (c : Thread nD τ) bd) E (k ⟨⟩) Q)
      -∗ wp frame (wpE defs 𝒱 (c : Thread nD τ) bd) E (Prog.lift (.store m r w Finset.univ hx hm) >>= k) Q) := by
  unfold owns
  iintro ⟨%f, %hf, H⟩ Hk
  iapply (wp_store 𝒱 (c : Thread nD τ) bd E (m := m) (r := r) (w := w) (hx := hx) (hm := hm) (k := k) (S := m.view.set) (f := f)
    (by rw [View.setOn_univ]; exact View.set_slice_subset _ _)) $$ H
  iintro H
  iapply Hk
  iexists _
  isplitr
  · ipureintro; exact hY f hf
  · iexact H

/-- A store of tile `b` of a stack. -/
theorem owned_store_corner {α : Type} {Q : α → sProp 𝕄} {e : EltTy} {m : Memref sig .tc .vmem S2x512x512 e} (b : Fin 2) {w : S1x512x512.Idx → Elt F e}
    {hx : (m.access (Rect.unit (s := S2x512x512) (corner b) S1x512x512.size (corner_inb b))).Stores Finset.univ}
    {hm : (Finset.univ : Finset S1x512x512.Idx) = Finset.univ ∨ ∀ a, (Rect.unit (s := S2x512x512) (corner b) S1x512x512.size (corner_inb b)).stride a = 1}
    {k : PUnit → Prog (TpuEff nD τ sig (Elt F) Λ .tc) α} {X : Fin 2 → S1x512x512.Idx → Elt F e} :
    (owns (c : Thread nD τ) m fullShare (stack X) : sProp 𝕄) ⊢ iprop((owns (c : Thread nD τ) m fullShare (stack (Function.update X b w))
        -∗ wp frame (wpE defs 𝒱 (c : Thread nD τ) bd) E (k ⟨⟩) Q)
      -∗ wp frame (wpE defs 𝒱 (c : Thread nD τ) bd) E (Prog.lift (.store m (Rect.unit (s := S2x512x512) (corner b) S1x512x512.size (corner_inb b)) w Finset.univ hx hm) >>= k) Q) :=
  owned_store 𝒱 c bd E fun f hf => (store_corner m.view f b w).trans (by rw [hf]; simp only [tileOf_stack])

/-- A store of all of a flat memref. -/
theorem owned_store_full {α : Type} {Q : α → sProp 𝕄} {e : EltTy} {m : Memref sig .tc .vmem S1x512x128 e} {w X : S1x512x128.Idx → Elt F e}
    {hx : (m.access (Rect.unit (s := S1x512x128) ![0, 0, 0] S1x512x128.size inb_S1x512x128_S1x512x128_0_0_0)).Stores Finset.univ}
    {hm : (Finset.univ : Finset S1x512x128.Idx) = Finset.univ ∨ ∀ a, (Rect.unit (s := S1x512x128) ![0, 0, 0] S1x512x128.size inb_S1x512x128_S1x512x128_0_0_0).stride a = 1}
    {k : PUnit → Prog (TpuEff nD τ sig (Elt F) Λ .tc) α} :
    (owns (c : Thread nD τ) m fullShare X : sProp 𝕄) ⊢ iprop((owns (c : Thread nD τ) m fullShare w
        -∗ wp frame (wpE defs 𝒱 (c : Thread nD τ) bd) E (k ⟨⟩) Q)
      -∗ wp frame (wpE defs 𝒱 (c : Thread nD τ) bd) E (Prog.lift (.store m (Rect.unit (s := S1x512x128) ![0, 0, 0] S1x512x128.size inb_S1x512x128_S1x512x128_0_0_0) w Finset.univ hx hm) >>= k) Q) :=
  owned_store 𝒱 c bd E fun f _ => store_full m.view f w

/-- The scratch owned at a carry. -/
def carried (a6 a7 a8 : Memref sig .tc .vmem S1x512x128 .f32) (a9 : Memref sig .tc .vmem S2x512x512 .f32)
    (a10 : Memref sig .tc .vmem S2x512x512 .bf16) (x : Carry F) : sProp 𝕄 :=
  iprop(owns (c : Thread nD τ) a6 fullShare x.m ∗ owns (c : Thread nD τ) a7 fullShare x.l ∗ owns (c : Thread nD τ) a8 fullShare x.a
    ∗ owns (c : Thread nD τ) a9 fullShare (stack x.s) ∗ owns (c : Thread nD τ) a10 fullShare (stack x.p))

/-- The key tile, and the value tile, at an offset. -/
def keyAt {α : Type} (X : S1x16384x256.Idx → α) (o : Fin 3 → ℕ) (h : ∀ a, o a + S1x512x256.size a ≤ S1x16384x256.size a) : S1x512x256.Idx → α :=
  fun y => X ((Rect.unit (s := S1x16384x256) o S1x512x256.size h).toLoadRect.idx y)
def valAt {α : Type} (X : S1x16384x128.Idx → α) (o : Fin 3 → ℕ) (h : ∀ a, o a + S1x512x128.size a ≤ S1x16384x128.size a) : S1x512x128.Idx → α :=
  fun y => X ((Rect.unit (s := S1x16384x128) o S1x512x128.size h).toLoadRect.idx y)

/-- THE STEP: from the keys and values owned at any share and the scratch at a carry, the step runs to its return with
    the scratch at the carry's step. -/
theorem step_run (b : Fin 2) (q : FVec F S512x256 .bf16) (g : Vec F S1x512x512 .f32 → FVec F S512x512 .f32)
    (a3 : Memref sig .tc .vmem S1x16384x256 .bf16) (a4 : Memref sig .tc .vmem S1x16384x128 .bf16)
    (a6 a7 a8 : Memref sig .tc .vmem S1x512x128 .f32) (a9 : Memref sig .tc .vmem S2x512x512 .f32)
    (a10 : Memref sig .tc .vmem S2x512x512 .bf16) (h10 : a10.IsWhole)
    (ok ov : Fin 3 → ℕ) (hk : ∀ a, ok a + S1x512x256.size a ≤ S1x16384x256.size a)
    (hv : ∀ a, ov a + S1x512x128.size a ≤ S1x16384x128.size a)
    (q3 q4 : PosShare TreeShare) (X3 : Vec F S1x16384x256 .bf16) (X4 : Vec F S1x16384x128 .bf16) (x : Carry F) {Q : PUnit → sProp 𝕄} :
    iprop(owns (c : Thread nD τ) a3 q3 X3 ∗ owns (c : Thread nD τ) a4 q4 X4 ∗ carried c a6 a7 a8 a9 a10 x
      ∗ (owns (c : Thread nD τ) a3 q3 X3 ∗ owns (c : Thread nD τ) a4 q4 X4
          ∗ carried c a6 a7 a8 a9 a10 (x.step b q g (keyAt X3 ok hk) (valAt X4 ov hv)) -∗ Q ⟨⟩))
      ⊢ wp frame (wpE defs 𝒱 (c : Thread nD τ) bd) E (stepProg b q g a3 a4 a6 a7 a8 a9 a10 h10 ok ov hk hv) Q := by
  unfold carried stepProg
  iintro ⟨H3, H4, ⟨Hm, Hl, Ha, Hs, Hp⟩, Hk⟩
  iapply (owned_load 𝒱 c bd E (w := keyAt X3 ok hk) rfl) $$ H3; iintro H3
  iapply (owned_load 𝒱 c bd E (w := valAt X4 ov hv) rfl) $$ H4; iintro H4
  iapply (owned_load 𝒱 c bd E ((load_corner _ (1 - b)).trans (tileOf_stack _ _))) $$ Hp; iintro Hp
  iapply (owned_load 𝒱 c bd E ((load_corner _ b).trans (tileOf_stack _ _))) $$ Hs; iintro Hs
  iapply (owned_load 𝒱 c bd E ((load_corner _ (1 - b)).trans (tileOf_stack _ _))) $$ Hs; iintro Hs
  iapply (owned_store_corner 𝒱 c bd E (1 - b)) $$ Hs; iintro Hs
  iapply (owned_load 𝒱 c bd E (load_full _)) $$ Hm; iintro Hm
  iapply (owned_load 𝒱 c bd E ((load_corner _ b).trans (tileOf_stack _ _))) $$ Hp; iintro Hp
  iapply (owned_store_corner 𝒱 c bd E b) $$ Hp; iintro Hp
  iapply (owned_load 𝒱 c bd E (load_full _)) $$ Hl; iintro Hl
  iapply (owned_load 𝒱 c bd E (load_full _)) $$ Hl; iintro Hl
  iapply (owned_store_full 𝒱 c bd E) $$ Hl; iintro Hl
  iapply (owned_load 𝒱 c bd E (load_full _)) $$ Ha; iintro Ha
  iapply (owned_load 𝒱 c bd E (load_full _)) $$ Ha; iintro Ha
  iapply (owned_store_full 𝒱 c bd E) $$ Ha; iintro Ha
  iapply (owned_load 𝒱 c bd E (load_full _)) $$ Hm; iintro Hm
  iapply (owned_store_full 𝒱 c bd E) $$ Hm; iintro Hm
  iapply (le_wp_ret frame (wpE defs 𝒱 (c : Thread nD τ) bd) E PUnit.unit Q)
  iapply Hk
  unfold Carry.step
  isplitl [H3]; · iexact H3
  isplitl [H4]; · iexact H4
  isplitl [Hm]; · iexact Hm
  isplitl [Hl]; · iexact Hl
  isplitl [Ha]; · iexact Ha
  isplitl [Hs]; · iexact Hs
  iexact Hp

end Rules

end Cert.Proof.Flash

end
-- ==== Proof.Body.lean ====
/-
  THE KERNEL BODY as steps: the printed body is a prologue, a counted loop of eight steps a trip, a remainder loop, three
  guarded pairs of steps, two guarded masked steps, and the division. Stated at any signature and any floats.
-/
module

public import proofs.«01_k».proof.Proof.Step

@[expose] public section

noncomputable section

namespace Cert.Proof.Flash

open Cert.KernelIdeal Cert.KernelIdeal.Facts₀ Cert.KernelIdeal.Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Prog
variable {nD : Nat} {τ : Topo} {sig : RefSig} {Λ : Labels} {F : FTy → Type} [FloatOps F]

/-- Floor division of words, as the kernel spells it. -/
def floorDiv (a b : BitVec 32) : BitVec 32 :=
  Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The query tile's number, and the number of unmasked pairs of key tiles. -/
def rowWord (i : grid0.Coords) : BitVec 32 := BitVec.ofNat 32 (i 1).val
def pairsWord (i : grid0.Coords) : BitVec 32 :=
  floorDiv (Scalar.maxsi (Scalar.addi (Scalar.subi (rowWord i) 1#32) 1#32) 0#32) 2#32

/-- The query tile flattened. -/
def flatQ (q : Vec F S1x512x256 .bf16) : FVec F S512x256 .bf16 := shapeCast S512x256 q shapeCasts_S1x512x256_S512x256

/-- A value tile flattened. -/
def flatV (v : Vec F S1x512x128 .bf16) : FVec F S512x128 .bf16 := shapeCast S512x128 v shapeCasts_S1x512x128_S512x128

/-- The tile of zeros the first product meets, the maxima before the first tile, and zero sums. -/
def noTile : FVec F S1x512x512 .bf16 :=
  shapeCast S1x512x512 (broadcast S512x512 (Scalar.ofBits .bf16 0x0000#16)) shapeCasts_S512x512_S1x512x512
def noMax (fill : F .f32) : FVec F S1x512x128 .f32 := unflat (broadcast S512x128 fill)
def noSum : FVec F S1x512x128 .f32 := unflat (broadcast S512x128 (Scalar.ofBits .f32 0x00000000#32))

/-- The result tile: what was gathered and the last tile's product, over the sum of the lanes. -/
def finish (vt : FVec F S512x128 .bf16) (a : Vec F S1x512x128 .f32) (p : Vec F S1x512x512 .bf16) (l : Vec F S1x512x128 .f32) :
    FVec F S1x512x128 .bf16 :=
  shapeCast S1x512x128 (truncf .bf16 (divf (addf (flat a) (productV p vt))
    (broadcastTo S512x128 (shapeCast S512x1 (multiReduction .add [1] S512 (flat l) 0x00000000#32 reduces_S512x128_S512 (.inl rfl) rfl)
      shapeCasts_S512_S512x1) broadcasts_S512x1_S512x128)) bitsLt_bf16_f32) shapeCasts_S512x128_S1x512x128

section
variable (q : FVec F S512x256 .bf16) (fill : F .f32) (i : grid0.Coords)
    (a3 : Memref sig .tc .vmem S1x16384x256 .bf16) (a4 : Memref sig .tc .vmem S1x16384x128 .bf16)
    (a6 a7 a8 : Memref sig .tc .vmem S1x512x128 .f32) (a9 : Memref sig .tc .vmem S2x512x512 .f32)
    (a10 : Memref sig .tc .vmem S2x512x512 .bf16) (h10 : a10.IsWhole)

/-- Eight unmasked steps, at offsets even and odd. -/
def octet (okE ovE okO ovO : Fin 4 → Fin 3 → ℕ)
    (hkE : ∀ r a, okE r a + S1x512x256.size a ≤ S1x16384x256.size a) (hvE : ∀ r a, ovE r a + S1x512x128.size a ≤ S1x16384x128.size a)
    (hkO : ∀ r a, okO r a + S1x512x256.size a ≤ S1x16384x256.size a) (hvO : ∀ r a, ovO r a + S1x512x128.size a ≤ S1x16384x128.size a) :
    Prog (TpuEff nD τ sig (Elt F) Λ .tc) PUnit := do
  stepProg 0 q plain a3 a4 a6 a7 a8 a9 a10 h10 (okE 0) (ovE 0) (hkE 0) (hvE 0)
  stepProg 1 q plain a3 a4 a6 a7 a8 a9 a10 h10 (okO 0) (ovO 0) (hkO 0) (hvO 0)
  stepProg 0 q plain a3 a4 a6 a7 a8 a9 a10 h10 (okE 1) (ovE 1) (hkE 1) (hvE 1)
  stepProg 1 q plain a3 a4 a6 a7 a8 a9 a10 h10 (okO 1) (ovO 1) (hkO 1) (hvO 1)
  stepProg 0 q plain a3 a4 a6 a7 a8 a9 a10 h10 (okE 2) (ovE 2) (hkE 2) (hvE 2)
  stepProg 1 q plain a3 a4 a6 a7 a8 a9 a10 h10 (okO 2) (ovO 2) (hkO 2) (hvO 2)
  stepProg 0 q plain a3 a4 a6 a7 a8 a9 a10 h10 (okE 3) (ovE 3) (hkE 3) (hvE 3)
  stepProg 1 q plain a3 a4 a6 a7 a8 a9 a10 h10 (okO 3) (ovO 3) (hkO 3) (hvO 3)

/-- One trip of the loop of eights, and of the remainder loop. -/
def trip1 (t : Fin (k0_t1_loop i).trips) : Prog (TpuEff nD τ sig (Elt F) Λ .tc) (BitVec 32) := do
  octet q a3 a4 a6 a7 a8 a9 a10 h10 (fun r => k0_off1 i t (BitVec.ofNat 32 (2 * r.val))) (fun r => k0_off2 i t (BitVec.ofNat 32 (2 * r.val)))
    (fun r => k0_off3 i t (BitVec.ofNat 32 (2 * r.val))) (fun r => k0_off4 i t (BitVec.ofNat 32 (2 * r.val)))
    (k0_off1_inb i t) (k0_off2_inb i t) (k0_off3_inb i t) (k0_off4_inb i t)
  pure 0#32

def trip2 (t : Fin (k0_t2_loop i).trips) : Prog (TpuEff nD τ sig (Elt F) Λ .tc) (BitVec 32) := do
  octet q a3 a4 a6 a7 a8 a9 a10 h10 (fun r => k0_off5 i t (BitVec.ofNat 32 (2 * r.val))) (fun r => k0_off6 i t (BitVec.ofNat 32 (2 * r.val)))
    (fun r => k0_off7 i t (BitVec.ofNat 32 (2 * r.val))) (fun r => k0_off8 i t (BitVec.ofNat 32 (2 * r.val)))
    (k0_off5_inb i t) (k0_off6_inb i t) (k0_off7_inb i t) (k0_off8_inb i t)
  pure 0#32

/-- Two unmasked steps under a guard. -/
def pairIf {α : Type} (g : Prop) [Decidable g] (okE ovE okO ovO : Fin 3 → ℕ)
    (hkE : g → ∀ a, okE a + S1x512x256.size a ≤ S1x16384x256.size a) (hvE : g → ∀ a, ovE a + S1x512x128.size a ≤ S1x16384x128.size a)
    (hkO : g → ∀ a, okO a + S1x512x256.size a ≤ S1x16384x256.size a) (hvO : g → ∀ a, ovO a + S1x512x128.size a ≤ S1x16384x128.size a)
    (next : Prog (TpuEff nD τ sig (Elt F) Λ .tc) α) : Prog (TpuEff nD τ sig (Elt F) Λ .tc) α :=
  if h : g then do
    stepProg 0 q plain a3 a4 a6 a7 a8 a9 a10 h10 okE ovE (hkE h) (hvE h)
    stepProg 1 q plain a3 a4 a6 a7 a8 a9 a10 h10 okO ovO (hkO h) (hvO h)
    next
  else next

/-- One masked step under a guard. -/
def maskedIf {α : Type} (g : Prop) [Decidable g] (b : Fin 2) (col : BitVec 32) (ok ov : Fin 3 → ℕ)
    (hk : g → ∀ a, ok a + S1x512x256.size a ≤ S1x16384x256.size a) (hv : g → ∀ a, ov a + S1x512x128.size a ≤ S1x16384x128.size a)
    (next : Prog (TpuEff nD τ sig (Elt F) Λ .tc) α) : Prog (TpuEff nD τ sig (Elt F) Λ .tc) α :=
  if h : g then do
    stepProg b q (masked fill (rowWord i) col) a3 a4 a6 a7 a8 a9 a10 h10 ok ov (hk h) (hv h)
    next
  else next

/-- All the steps, and the last value tile. -/
def steps : Prog (TpuEff nD τ sig (Elt F) Λ .tc) (Σ' (_ : BitVec 32), FVec F S512x128 .bf16) := do
  let w ← Scf.Loop.for (k0_t1_loop i) (k0_t1_ok i) 0#32 (fun t _ => trip1 q i a3 a4 a6 a7 a8 a9 a10 h10 t)
  let _ ← Scf.Loop.for (k0_t2_loop i) (k0_t2_ok i) w (fun t _ => trip2 q i a3 a4 a6 a7 a8 a9 a10 h10 t)
  pairIf q a3 a4 a6 a7 a8 a9 a10 h10 (k0_cond1 i = 1#1) (k0_off9 i) (k0_off10 i) (k0_off11 i) (k0_off12 i)
    (k0_off9_inb i) (k0_off10_inb i) (k0_off11_inb i) (k0_off12_inb i) <|
  pairIf q a3 a4 a6 a7 a8 a9 a10 h10 (k0_cond2 i = 1#1) (k0_off13 i) (k0_off14 i) (k0_off15 i) (k0_off16 i)
    (k0_off13_inb i) (k0_off14_inb i) (k0_off15_inb i) (k0_off16_inb i) <|
  pairIf q a3 a4 a6 a7 a8 a9 a10 h10 (k0_cond3 i = 1#1) (k0_off17 i) (k0_off18 i) (k0_off19 i) (k0_off20 i)
    (k0_off17_inb i) (k0_off18_inb i) (k0_off19_inb i) (k0_off20_inb i) <|
  maskedIf q fill i a3 a4 a6 a7 a8 a9 a10 h10 (k0_cond4 i = 1#1) 0 (Scalar.addi (Scalar.muli 2#32 (pairsWord i)) 0#32)
    (k0_off21 i) (k0_off22 i) (k0_off21_inb i) (k0_off22_inb i) <|
  maskedIf q fill i a3 a4 a6 a7 a8 a9 a10 h10 (k0_cond5 i = 1#1) 1 (Scalar.addi (Scalar.muli 2#32 (pairsWord i)) 1#32)
    (k0_off23 i) (k0_off24 i) (k0_off23_inb i) (k0_off24_inb i) <| do
  let vt : Vec F S1x512x128 .bf16 ← Prog.lift (.load a4 (Rect.unit (s := S1x16384x128) (k0_off25 i) S1x512x128.size (k0_off25_inb i)).toLoadRect (View.loadsAt_vmem h_S1x512x128))
  pure ⟨Scalar.remsi (rowWord i) 2#32, flatV vt⟩

end

/-- The body. -/
def body (fill : F .f32) (i : grid0.Coords)
    (a2 : Memref sig .tc .vmem S1x512x256 .bf16) (a3 : Memref sig .tc .vmem S1x16384x256 .bf16)
    (a4 : Memref sig .tc .vmem S1x16384x128 .bf16) (a5 : Memref sig .tc .vmem S1x512x128 .bf16) (h5 : a5.IsWhole)
    (a6 a7 a8 : Memref sig .tc .vmem S1x512x128 .f32) (a9 : Memref sig .tc .vmem S2x512x512 .f32)
    (a10 : Memref sig .tc .vmem S2x512x512 .bf16) (h10 : a10.IsWhole) : Prog (TpuEff nD τ sig (Elt F) Λ .tc) PUnit := do
  let q : Vec F S1x512x256 .bf16 ← Prog.lift (.load a2 (Rect.unit (s := S1x512x256) ![0, 0, 0] S1x512x256.size inb_S1x512x256_S1x512x256_0_0_0).toLoadRect (View.loadsAt_vmem h_S1x512x256))
  let kt : Vec F S1x512x256 .bf16 ← Prog.lift (.load a3 (Rect.unit (s := S1x16384x256) ![0, 0, 0] S1x512x256.size inb_S1x16384x256_S1x512x256_0_0_0).toLoadRect (View.loadsAt_vmem h_S1x512x256))
  let _ : Vec F S1x512x512 .f32 ← Prog.lift (.load a9 (Rect.unit (s := S2x512x512) (corner 0) S1x512x512.size (corner_inb 0)).toLoadRect (View.loadsAt_vmem h_S1x512x512))
  Prog.lift (.store a9 (Rect.unit (s := S2x512x512) (corner 0) S1x512x512.size (corner_inb 0)) (scores (flatQ q) kt) Finset.univ (View.stores_vmem_bits_univ h_S1x512x512 rfl) (.inl rfl))
  let _ : Vec F S1x512x512 .bf16 ← Prog.lift (.load a10 (Rect.unit (s := S2x512x512) (corner 1) S1x512x512.size (corner_inb 1)).toLoadRect (View.loadsAt_vmem h_S1x512x512))
  Prog.lift (.store a10 (Rect.unit (s := S2x512x512) (corner 1) S1x512x512.size (corner_inb 1)) noTile Finset.univ (View.stores_vmem h_S1x512x512 (h10.storeExact_slice rfl _ (corner_packed 1)) (fun _ => rfl)) (.inl rfl))
  let _ : Vec F S1x512x128 .f32 ← Prog.lift (.load a6 (Rect.unit (s := S1x512x128) ![0, 0, 0] S1x512x128.size inb_S1x512x128_S1x512x128_0_0_0).toLoadRect (View.loadsAt_vmem h_S1x512x128))
  Prog.lift (.store a6 (Rect.unit (s := S1x512x128) ![0, 0, 0] S1x512x128.size inb_S1x512x128_S1x512x128_0_0_0) (noMax fill) Finset.univ (View.stores_vmem_bits_univ h_S1x512x128 rfl) (.inl rfl))
  let _ : Vec F S1x512x128 .f32 ← Prog.lift (.load a7 (Rect.unit (s := S1x512x128) ![0, 0, 0] S1x512x128.size inb_S1x512x128_S1x512x128_0_0_0).toLoadRect (View.loadsAt_vmem h_S1x512x128))
  Prog.lift (.store a7 (Rect.unit (s := S1x512x128) ![0, 0, 0] S1x512x128.size inb_S1x512x128_S1x512x128_0_0_0) noSum Finset.univ (View.stores_vmem_bits_univ h_S1x512x128 rfl) (.inl rfl))
  let _ : Vec F S1x512x128 .f32 ← Prog.lift (.load a8 (Rect.unit (s := S1x512x128) ![0, 0, 0] S1x512x128.size inb_S1x512x128_S1x512x128_0_0_0).toLoadRect (View.loadsAt_vmem h_S1x512x128))
  Prog.lift (.store a8 (Rect.unit (s := S1x512x128) ![0, 0, 0] S1x512x128.size inb_S1x512x128_S1x512x128_0_0_0) noSum Finset.univ (View.stores_vmem_bits_univ h_S1x512x128 rfl) (.inl rfl))
  let ⟨_, vt⟩ ← steps (flatQ q) fill i a3 a4 a6 a7 a8 a9 a10 h10
  let a : Vec F S1x512x128 .f32 ← Prog.lift (.load a8 (Rect.unit (s := S1x512x128) ![0, 0, 0] S1x512x128.size inb_S1x512x128_S1x512x128_0_0_0).toLoadRect (View.loadsAt_vmem h_S1x512x128))
  let p : Vec F S1x512x512 .bf16 ← Prog.lift (.load a10 (Rect.unit (s := S2x512x512) (k0_off26 i) S1x512x512.size (k0_off26_inb i)).toLoadRect (View.loadsAt_vmem h_S1x512x512))
  let l : Vec F S1x512x128 .f32 ← Prog.lift (.load a7 (Rect.unit (s := S1x512x128) ![0, 0, 0] S1x512x128.size inb_S1x512x128_S1x512x128_0_0_0).toLoadRect (View.loadsAt_vmem h_S1x512x128))
  let _ : Vec F S1x512x128 .bf16 ← Prog.lift (.load a5 (Rect.unit (s := S1x512x128) ![0, 0, 0] S1x512x128.size inb_S1x512x128_S1x512x128_0_0_0).toLoadRect (View.loadsAt_vmem h_S1x512x128))
  Prog.lift (.store a5 (Rect.unit (s := S1x512x128) ![0, 0, 0] S1x512x128.size inb_S1x512x128_S1x512x128_0_0_0) (finish vt a p l) Finset.univ (View.stores_vmem h_S1x512x128 (h5.storeExact_slice rfl _ packedbf16_S1x512x128_S1x512x128_0_0_0) (fun _ => rfl)) (.inl rfl))
  pure ⟨⟩

end Prog

/-- Sequences agree where their parts do. -/
theorem bound {M : Type → Type 1} [Bind M] {α β : Type} {x y : M α} {f g : α → M β}
    (h : x = y) (h' : ∀ a, f a = g a) : (x >>= f) = (y >>= g) := by
  rw [h, funext h']

/-- A branch followed by the same continuation on both sides. -/
theorem joined {X : Type 1} (jp : PUnit.{1} → X) (n : X) (p : (PUnit.{1} → X) → X) (p' : X → X)
    (h : jp ⟨⟩ = n) (h' : ∀ k, p (fun _ => k) = p' k) : (have j := jp; p j) = p' n :=
  .trans (h' (jp ⟨⟩)) (congrArg p' h)

end Cert.Proof.Flash
-- ==== Proof.Words.lean ====
/-
  The kernel's words as numbers: the loops' trips, the guards, and every offset, of a query tile `n`'s place in the grid.
-/
module

public import proofs.«01_k».proof.Proof.Body

@[expose] public section

namespace Cert.Proof.Flash

open Cert.KernelIdeal Idealize.ShloMosaic

/-- Tile `j` of a buffer of rows. -/
abbrev tileOff (j : ℕ) : Fin 3 → ℕ := ![0, 512 * j, 0]

/-- The step the remainder loop starts at, and each guarded pair. -/
abbrev pairStart (n p : ℕ) : ℕ := 2 * min (4 * (n / 8) + p) (n / 2)

/-- Two guarded steps: where the guard holds they are the steps `j` and `j + 1`, and where it fails none is due. -/
abbrev PairDue (n p : ℕ) (g : Prop) (okE ovE okO ovO : Fin 3 → ℕ) : Prop :=
  (g → okE = tileOff (min (pairStart n p + 1) n) ∧ ovE = tileOff (pairStart n p - 1)
      ∧ okO = tileOff (min (pairStart n p + 1 + 1) n) ∧ ovO = tileOff (pairStart n p + 1 - 1) ∧ pairStart n (p + 1) = pairStart n p + 1 + 1
      ∧ pairStart n p + 1 < 2 * (n / 2))
    ∧ (¬ g → pairStart n (p + 1) = pairStart n p)

/-- A guarded masked step: where the guard holds it is step `j`, and where it fails none is due. -/
abbrev StepDue (n j j' : ℕ) (g : Prop) (ok ov : Fin 3 → ℕ) : Prop :=
  (g → ok = tileOff (min (j + 1) n) ∧ ov = tileOff (j - 1) ∧ j' = j + 1) ∧ (¬ g → j' = j)

theorem trips1 : ∀ i : grid0.Coords, (k0_t1_loop i).trips = (i 1).val / 8 := by decide +kernel
theorem trips2 : ∀ i : grid0.Coords, (k0_t2_loop i).trips = 0 := by decide +kernel
theorem off1 : ∀ (i : grid0.Coords) (t : Fin (k0_t1_loop i).trips) (r : Fin 4),
    k0_off1 i t (BitVec.ofNat 32 (2 * r.val)) = tileOff (min (8 * t.val + 2 * r.val + 1) (i 1).val) := by decide +kernel
theorem off2 : ∀ (i : grid0.Coords) (t : Fin (k0_t1_loop i).trips) (r : Fin 4),
    k0_off2 i t (BitVec.ofNat 32 (2 * r.val)) = tileOff (8 * t.val + 2 * r.val - 1) := by decide +kernel
theorem off3 : ∀ (i : grid0.Coords) (t : Fin (k0_t1_loop i).trips) (r : Fin 4),
    k0_off3 i t (BitVec.ofNat 32 (2 * r.val)) = tileOff (min (8 * t.val + 2 * r.val + 1 + 1) (i 1).val) := by decide +kernel
theorem off4 : ∀ (i : grid0.Coords) (t : Fin (k0_t1_loop i).trips) (r : Fin 4),
    k0_off4 i t (BitVec.ofNat 32 (2 * r.val)) = tileOff (8 * t.val + 2 * r.val + 1 - 1) := by decide +kernel
theorem early1 : ∀ (i : grid0.Coords) (t : Fin (k0_t1_loop i).trips), 8 * t.val + 7 < 2 * ((i 1).val / 2) := by decide +kernel
theorem pair1 : ∀ i : grid0.Coords, PairDue (i 1).val 0 (k0_cond1 i = 1#1) (k0_off9 i) (k0_off10 i) (k0_off11 i) (k0_off12 i) := by decide +kernel
theorem pair2 : ∀ i : grid0.Coords, PairDue (i 1).val 1 (k0_cond2 i = 1#1) (k0_off13 i) (k0_off14 i) (k0_off15 i) (k0_off16 i) := by decide +kernel
theorem pair3 : ∀ i : grid0.Coords, PairDue (i 1).val 2 (k0_cond3 i = 1#1) (k0_off17 i) (k0_off18 i) (k0_off19 i) (k0_off20 i) := by decide +kernel
theorem near1 : ∀ i : grid0.Coords, StepDue (i 1).val (2 * ((i 1).val / 2)) (2 * ((i 1).val / 2) + 1) (k0_cond4 i = 1#1) (k0_off21 i) (k0_off22 i) := by decide +kernel
theorem near2 : ∀ i : grid0.Coords, StepDue (i 1).val (2 * ((i 1).val / 2) + 1) ((i 1).val + 1) (k0_cond5 i = 1#1) (k0_off23 i) (k0_off24 i) := by decide +kernel
theorem starts : ∀ i : grid0.Coords, pairStart (i 1).val 0 = 8 * ((i 1).val / 8) ∧ pairStart (i 1).val 3 = 2 * ((i 1).val / 2) := by decide +kernel
theorem col1 : ∀ i : grid0.Coords, Scalar.addi (Scalar.muli 2#32 (pairsWord i)) 0#32 = BitVec.ofNat 32 (2 * ((i 1).val / 2)) := by decide +kernel
theorem col2 : ∀ i : grid0.Coords, Scalar.addi (Scalar.muli 2#32 (pairsWord i)) 1#32 = BitVec.ofNat 32 (2 * ((i 1).val / 2) + 1) := by decide +kernel
theorem off25 : ∀ i : grid0.Coords, k0_off25 i = tileOff (i 1).val := by decide +kernel
theorem off26 : ∀ i : grid0.Coords, k0_off26 i = ![(i 1).val % 2, 0, 0] := by decide +kernel

end Cert.Proof.Flash
-- ==== Proof.Run.lean ====
/-
  THE KERNEL BODY's run: from its query tile, keys and values owned, the body returns with the result tile at `result`, the
  steps' fold over the key tiles, and the scratch at something.
-/
module

public import proofs.«01_k».proof.Proof.Words

@[expose] public section

noncomputable section

namespace Cert.Proof.Flash

open Cert.KernelIdeal Cert.KernelIdeal.Facts₀ Cert.KernelIdeal.Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## What the scratch carries, by role -/

section Tiles
variable {F : FTy → Type} [FloatOps F]

/-- What the next step reads of the scratch: the row maxima, the sums by lane, the gathered products, the scores of the tile to
    fold and the exponentials of the tile before. -/
structure Tiles (F : FTy → Type) [FloatOps F] where
  m : Vec F S1x512x128 .f32
  l : Vec F S1x512x128 .f32
  a : Vec F S1x512x128 .f32
  s : Vec F S1x512x512 .f32
  p : Vec F S1x512x512 .bf16

/-- One step. -/
def Tiles.next (q : FVec F S512x256 .bf16) (g : Vec F S1x512x512 .f32 → FVec F S512x512 .f32)
    (kt : Vec F S1x512x256 .bf16) (vt : Vec F S1x512x128 .bf16) (y : Tiles F) : Tiles F where
  m := unflat (newMax (g y.s) y.m)
  l := newSum (g y.s) y.m y.l
  a := newAcc y.p vt (g y.s) y.m y.a
  s := scores q kt
  p := expTile (g y.s) y.m

/-- The roles of a carry's tiles at slot `b`. -/
def Carry.at (x : Carry F) (b : Fin 2) : Tiles F := ⟨x.m, x.l, x.a, x.s b, x.p (1 - b)⟩

theorem Carry.at_step (x : Carry F) (b b' : Fin 2) (hb : b' = 1 - b) (q : FVec F S512x256 .bf16) (g : Vec F S1x512x512 .f32 → FVec F S512x512 .f32)
    (kt : Vec F S1x512x256 .bf16) (vt : Vec F S1x512x128 .bf16) :
    (x.step b q g kt vt).at b' = (x.at b).next q g kt vt := by
  subst hb
  have e : (1 : Fin 2) - (1 - b) = b := by match b with | 0 => rfl | 1 => rfl
  unfold Carry.at Carry.step Tiles.next
  rw [e]
  simp only [Function.update_self]

/-- Key tile and value tile `j`. -/
def keyTile {α : Type} (X : S1x16384x256.Idx → α) (j : ℕ) : S1x512x256.Idx → α :=
  fun y => X (fun | 0 => (⟨0, Nat.one_pos⟩ : Fin 1) | 1 => (⟨(512 * j + (y 1).val) % 16384, Nat.mod_lt _ (by decide)⟩ : Fin 16384) | 2 => y 2)
def valTile {α : Type} (X : S1x16384x128.Idx → α) (j : ℕ) : S1x512x128.Idx → α :=
  fun y => X (fun | 0 => (⟨0, Nat.one_pos⟩ : Fin 1) | 1 => (⟨(512 * j + (y 1).val) % 16384, Nat.mod_lt _ (by decide)⟩ : Fin 16384) | 2 => y 2)

theorem keyAt_eq {α : Type} (X : S1x16384x256.Idx → α) {o : Fin 3 → ℕ} (h : ∀ a, o a + S1x512x256.size a ≤ S1x16384x256.size a) {j : ℕ}
    (ho : o = tileOff j) : keyAt X o h = keyTile X j := by
  subst ho
  funext y
  refine congrArg X (funext fun a => Fin.ext ?_)
  show tileOff j a + 1 * (y a).val = _
  rw [Nat.one_mul]
  have h1 : 512 * j + 512 ≤ 16384 := h 1
  match a with
  | 0 => have := (y 0).isLt; change (y 0).val < 1 at this; change 0 + (y 0).val = 0; omega
  | 1 => have := (y 1).isLt; change (y 1).val < 512 at this; change 512 * j + (y 1).val = (512 * j + (y 1).val) % 16384; omega
  | 2 => exact Nat.zero_add _

theorem valAt_eq {α : Type} (X : S1x16384x128.Idx → α) {o : Fin 3 → ℕ} (h : ∀ a, o a + S1x512x128.size a ≤ S1x16384x128.size a) {j : ℕ}
    (ho : o = tileOff j) : valAt X o h = valTile X j := by
  subst ho
  funext y
  refine congrArg X (funext fun a => Fin.ext ?_)
  show tileOff j a + 1 * (y a).val = _
  rw [Nat.one_mul]
  have h1 : 512 * j + 512 ≤ 16384 := h 1
  match a with
  | 0 => have := (y 0).isLt; change (y 0).val < 1 at this; change 0 + (y 0).val = 0; omega
  | 1 => have := (y 1).isLt; change (y 1).val < 512 at this; change 512 * j + (y 1).val = (512 * j + (y 1).val) % 16384; omega
  | 2 => exact Nat.zero_add _

variable (fill : F .f32) (n : ℕ) (q : FVec F S512x256 .bf16) (X3 : Vec F S1x16384x256 .bf16) (X4 : Vec F S1x16384x128 .bf16)

/-- How query tile `n` reads the scores of key tile `j`: as they are below the diagonal pair, and masked in it. -/
def reading (j : ℕ) : Vec F S1x512x512 .f32 → FVec F S512x512 .f32 :=
  if j < 2 * (n / 2) then plain else masked fill (BitVec.ofNat 32 n) (BitVec.ofNat 32 j)

/-- The scratch's tiles before step `j`. -/
def stateAt : ℕ → Tiles F
  | 0 => ⟨noMax fill, noSum, noSum, scores q (keyTile X3 0), noTile⟩
  | j + 1 => (stateAt j).next q (reading fill n j) (keyTile X3 (min (j + 1) n)) (valTile X4 (j - 1))

/-- The result tile. -/
def result : FVec F S1x512x128 .bf16 :=
  finish (flatV (valTile X4 n)) (stateAt fill n q X3 X4 (n + 1)).a (stateAt fill n q X3 X4 (n + 1)).p (stateAt fill n q X3 X4 (n + 1)).l

end Tiles

/-! ## The steps by number -/

section Rules
variable {nD : Nat} {τ : Topo} {sig : RefSig} {Λ : Labels} {F : FTy → Type} [FloatOps F]
variable {defs : Defs nD τ sig (Elt F) Λ} (𝒱 : Variants) (c : Dev nD) (bd : Option 𝒱.V) (E : Set ℕ)

local notation "𝕄" => MT nD τ sig Unit (Elt F) ℕ (UR sig nD τ) ℕ

variable (fill : F .f32) (n : ℕ) (q : FVec F S512x256 .bf16)
    (a3 : Memref sig .tc .vmem S1x16384x256 .bf16) (a4 : Memref sig .tc .vmem S1x16384x128 .bf16)
    (a6 a7 a8 : Memref sig .tc .vmem S1x512x128 .f32) (a9 : Memref sig .tc .vmem S2x512x512 .f32)
    (a10 : Memref sig .tc .vmem S2x512x512 .bf16) (h10 : a10.IsWhole)
    (q3 q4 : PosShare TreeShare) (X3 : Vec F S1x16384x256 .bf16) (X4 : Vec F S1x16384x128 .bf16)

/-- The keys and values owned, and the scratch at the tiles before step `j`, in the slots of `j`. -/
def held (j : ℕ) : sProp 𝕄 :=
  iprop(owns (c : Thread nD τ) a3 q3 X3 ∗ owns (c : Thread nD τ) a4 q4 X4
    ∗ ∃ x : Carry F, ⌜∀ b : Fin 2, b.val = j % 2 → x.at b = stateAt fill n q X3 X4 j⌝ ∗ carried c a6 a7 a8 a9 a10 x)

/-- STEP `j`. -/
theorem step_num {α : Type} {j : ℕ} {b : Fin 2} (hb : b.val = j % 2) {g : Vec F S1x512x512 .f32 → FVec F S512x512 .f32}
    (hg : g = reading fill n j) {ok ov : Fin 3 → ℕ} (hok : ok = tileOff (min (j + 1) n)) (hov : ov = tileOff (j - 1))
    (hk : ∀ a, ok a + S1x512x256.size a ≤ S1x16384x256.size a) (hv : ∀ a, ov a + S1x512x128.size a ≤ S1x16384x128.size a)
    {k : PUnit → Prog (TpuEff nD τ sig (Elt F) Λ .tc) α} {Q : α → sProp 𝕄} :
    held c fill n q a3 a4 a6 a7 a8 a9 a10 q3 q4 X3 X4 j
      ⊢ iprop((held c fill n q a3 a4 a6 a7 a8 a9 a10 q3 q4 X3 X4 (j + 1) -∗ wp frame (wpE defs 𝒱 (c : Thread nD τ) bd) E (k ⟨⟩) Q)
        -∗ wp frame (wpE defs 𝒱 (c : Thread nD τ) bd) E (stepProg b q g a3 a4 a6 a7 a8 a9 a10 h10 ok ov hk hv >>= k) Q) := by
  rw [wp_bind]
  unfold held
  iintro ⟨H3, H4, %x, %hx, Hx⟩ Hk
  iapply (step_run 𝒱 c bd E b q g a3 a4 a6 a7 a8 a9 a10 h10 ok ov hk hv q3 q4 X3 X4 x)
  isplitl [H3]; · iexact H3
  isplitl [H4]; · iexact H4
  isplitl [Hx]; · iexact Hx
  iintro ⟨H3, H4, Hx⟩
  iapply Hk
  isplitl [H3]; · iexact H3
  isplitl [H4]; · iexact H4
  iexists _
  isplitr
  rotate_left
  · iexact Hx
  · ipureintro
    intro b' hb'
    have e : b' = 1 - b := by
      have h1 : b.val = 0 ∨ b.val = 1 := by omega
      apply Fin.ext
      rcases h1 with h | h
      · have : b = 0 := Fin.ext h
        subst this
        change b'.val = 1
        omega
      · have : b = 1 := Fin.ext h
        subst this
        change b'.val = 0
        omega
    rw [Carry.at_step x b b' e, hx b hb, keyAt_eq X3 hk hok, valAt_eq X4 hv hov, hg]
    rfl

/-- A guarded pair of steps. -/
theorem pair_num {α : Type} {p : ℕ} {g : Prop} [Decidable g] {okE ovE okO ovO : Fin 3 → ℕ} (due : PairDue n p g okE ovE okO ovO)
    (hkE : g → ∀ a, okE a + S1x512x256.size a ≤ S1x16384x256.size a) (hvE : g → ∀ a, ovE a + S1x512x128.size a ≤ S1x16384x128.size a)
    (hkO : g → ∀ a, okO a + S1x512x256.size a ≤ S1x16384x256.size a) (hvO : g → ∀ a, ovO a + S1x512x128.size a ≤ S1x16384x128.size a)
    {k : Prog (TpuEff nD τ sig (Elt F) Λ .tc) α} {Q : α → sProp 𝕄} :
    held c fill n q a3 a4 a6 a7 a8 a9 a10 q3 q4 X3 X4 (pairStart n p)
      ⊢ iprop((held c fill n q a3 a4 a6 a7 a8 a9 a10 q3 q4 X3 X4 (pairStart n (p + 1)) -∗ wp frame (wpE defs 𝒱 (c : Thread nD τ) bd) E k Q)
        -∗ wp frame (wpE defs 𝒱 (c : Thread nD τ) bd) E (pairIf q a3 a4 a6 a7 a8 a9 a10 h10 g okE ovE okO ovO hkE hvE hkO hvO k) Q) := by
  unfold pairIf
  by_cases hg : g
  · obtain ⟨e1, e2, e3, e4, e5, e6⟩ := due.1 hg
    rw [dif_pos hg, e5]
    iintro H Hk
    iapply (step_num 𝒱 c bd E fill n q a3 a4 a6 a7 a8 a9 a10 h10 q3 q4 X3 X4 (j := pairStart n p) (by show 0 = (2 * _) % 2; omega)
      (by unfold reading; rw [if_pos (by omega)]) e1 e2 _ _) $$ H
    iintro H
    iapply (step_num 𝒱 c bd E fill n q a3 a4 a6 a7 a8 a9 a10 h10 q3 q4 X3 X4 (j := pairStart n p + 1) (by show 1 = (2 * _ + 1) % 2; omega)
      (by unfold reading; rw [if_pos (by omega)]) e3 e4 _ _) $$ H
    iexact Hk
  · rw [dif_neg hg, due.2 hg]
    iintro H Hk
    iapply Hk
    iexact H

/-- A guarded masked step. -/
theorem masked_num {α : Type} {i : grid0.Coords} {j j' : ℕ} {b : Fin 2} {g : Prop} [Decidable g] {ok ov : Fin 3 → ℕ} {col : BitVec 32}
    (due : StepDue (i 1).val j j' g ok ov) (hcol : col = BitVec.ofNat 32 j) (hb : b.val = j % 2) (hj : ¬ j < 2 * ((i 1).val / 2))
    (hk : g → ∀ a, ok a + S1x512x256.size a ≤ S1x16384x256.size a) (hv : g → ∀ a, ov a + S1x512x128.size a ≤ S1x16384x128.size a)
    {k : Prog (TpuEff nD τ sig (Elt F) Λ .tc) α} {Q : α → sProp 𝕄} :
    held c fill (i 1).val q a3 a4 a6 a7 a8 a9 a10 q3 q4 X3 X4 j
      ⊢ iprop((held c fill (i 1).val q a3 a4 a6 a7 a8 a9 a10 q3 q4 X3 X4 j' -∗ wp frame (wpE defs 𝒱 (c : Thread nD τ) bd) E k Q)
        -∗ wp frame (wpE defs 𝒱 (c : Thread nD τ) bd) E (maskedIf q fill i a3 a4 a6 a7 a8 a9 a10 h10 g b col ok ov hk hv k) Q) := by
  unfold maskedIf
  by_cases hg : g
  · obtain ⟨e1, e2, e3⟩ := due.1 hg
    subst hcol
    rw [dif_pos hg, e3]
    iintro H Hk
    iapply (step_num 𝒱 c bd E fill (i 1).val q a3 a4 a6 a7 a8 a9 a10 h10 q3 q4 X3 X4 (j := j) hb
      (by unfold reading rowWord; rw [if_neg hj]) e1 e2 _ _) $$ H
    iexact Hk
  · rw [dif_neg hg, due.2 hg]
    iintro H Hk
    iapply Hk
    iexact H

/-- Eight unmasked steps. -/
theorem octet_num {j : ℕ} (hj8 : j % 8 = 0) (hj : j + 7 < 2 * (n / 2)) {okE ovE okO ovO : Fin 4 → Fin 3 → ℕ}
    (eE : ∀ r : Fin 4, okE r = tileOff (min (j + 2 * r.val + 1) n)) (eV : ∀ r : Fin 4, ovE r = tileOff (j + 2 * r.val - 1))
    (oE : ∀ r : Fin 4, okO r = tileOff (min (j + 2 * r.val + 1 + 1) n)) (oV : ∀ r : Fin 4, ovO r = tileOff (j + 2 * r.val + 1 - 1))
    (hkE : ∀ r a, okE r a + S1x512x256.size a ≤ S1x16384x256.size a) (hvE : ∀ r a, ovE r a + S1x512x128.size a ≤ S1x16384x128.size a)
    (hkO : ∀ r a, okO r a + S1x512x256.size a ≤ S1x16384x256.size a) (hvO : ∀ r a, ovO r a + S1x512x128.size a ≤ S1x16384x128.size a)
    (w : BitVec 32) {Q : BitVec 32 → sProp 𝕄} :
    iprop(held c fill n q a3 a4 a6 a7 a8 a9 a10 q3 q4 X3 X4 j
        ∗ (held c fill n q a3 a4 a6 a7 a8 a9 a10 q3 q4 X3 X4 (j + 8) -∗ Q w))
      ⊢ wp frame (wpE defs 𝒱 (c : Thread nD τ) bd) E (octet q a3 a4 a6 a7 a8 a9 a10 h10 okE ovE okO ovO hkE hvE hkO hvO >>= fun _ => pure w) Q := by
  have hr : ∀ k, k ≤ 7 → plain = reading fill n (j + k) := fun k hk => by unfold reading; rw [if_pos (by omega)]
  unfold octet
  simp only [bind_assoc]
  iintro ⟨H, Hk⟩
  iapply (step_num 𝒱 c bd E fill n q a3 a4 a6 a7 a8 a9 a10 h10 q3 q4 X3 X4 (j := j) (by show 0 = _; omega) (hr 0 (by omega)) (eE 0) (eV 0) _ _) $$ H
  iintro H
  iapply (step_num 𝒱 c bd E fill n q a3 a4 a6 a7 a8 a9 a10 h10 q3 q4 X3 X4 (j := j + 1) (by show 1 = _; omega) (hr 1 (by omega)) (oE 0) (oV 0) _ _) $$ H
  iintro H
  iapply (step_num 𝒱 c bd E fill n q a3 a4 a6 a7 a8 a9 a10 h10 q3 q4 X3 X4 (j := j + 2) (by show 0 = _; omega) (hr 2 (by omega)) (eE 1) (eV 1) _ _) $$ H
  iintro H
  iapply (step_num 𝒱 c bd E fill n q a3 a4 a6 a7 a8 a9 a10 h10 q3 q4 X3 X4 (j := j + 3) (by show 1 = _; omega) (hr 3 (by omega)) (oE 1) (oV 1) _ _) $$ H
  iintro H
  iapply (step_num 𝒱 c bd E fill n q a3 a4 a6 a7 a8 a9 a10 h10 q3 q4 X3 X4 (j := j + 4) (by show 0 = _; omega) (hr 4 (by omega)) (eE 2) (eV 2) _ _) $$ H
  iintro H
  iapply (step_num 𝒱 c bd E fill n q a3 a4 a6 a7 a8 a9 a10 h10 q3 q4 X3 X4 (j := j + 5) (by show 1 = _; omega) (hr 5 (by omega)) (oE 2) (oV 2) _ _) $$ H
  iintro H
  iapply (step_num 𝒱 c bd E fill n q a3 a4 a6 a7 a8 a9 a10 h10 q3 q4 X3 X4 (j := j + 6) (by show 0 = _; omega) (hr 6 (by omega)) (eE 3) (eV 3) _ _) $$ H
  iintro H
  iapply (step_num 𝒱 c bd E fill n q a3 a4 a6 a7 a8 a9 a10 h10 q3 q4 X3 X4 (j := j + 7) (by show 1 = _; omega) (hr 7 (by omega)) (oE 3) (oV 3) _ _) $$ H
  iintro H
  iapply (le_wp_ret frame (wpE defs 𝒱 (c : Thread nD τ) bd) E w Q)
  iapply Hk
  iexact H

/-- All the steps. -/
theorem steps_num {α : Type} (i : grid0.Coords) {k : (Σ' (_ : BitVec 32), FVec F S512x128 .bf16) → Prog (TpuEff nD τ sig (Elt F) Λ .tc) α} {Q : α → sProp 𝕄} :
    held c fill (i 1).val q a3 a4 a6 a7 a8 a9 a10 q3 q4 X3 X4 0
      ⊢ iprop((∀ w, held c fill (i 1).val q a3 a4 a6 a7 a8 a9 a10 q3 q4 X3 X4 ((i 1).val + 1)
          -∗ wp frame (wpE defs 𝒱 (c : Thread nD τ) bd) E (k ⟨w, flatV (valTile X4 (i 1).val)⟩) Q)
        -∗ wp frame (wpE defs 𝒱 (c : Thread nD τ) bd) E (steps q fill i a3 a4 a6 a7 a8 a9 a10 h10 >>= k) Q) := by
  rw [wp_bind]
  unfold steps
  iintro H Hk
  iapply (Scf.wp_for_bind frame (wpE defs 𝒱 (c : Thread nD τ) bd) E _ _ _ _ _ _
    (fun t _ => held c fill (i 1).val q a3 a4 a6 a7 a8 a9 a10 q3 q4 X3 X4 (8 * t)) (fun t acc => by
      unfold trip1
      iintro H
      iapply (octet_num 𝒱 c bd E fill (i 1).val q a3 a4 a6 a7 a8 a9 a10 h10 q3 q4 X3 X4 (j := 8 * t.val) (by omega) (early1 i t)
        (off1 i t) (off2 i t) (off3 i t) (off4 i t))
      isplitl [H]; · iexact H
      iintro H
      iexact H)) $$ H
  iintro %w H
  iapply (Scf.wp_for_bind frame (wpE defs 𝒱 (c : Thread nD τ) bd) E _ _ _ _ _ _
    (fun _ _ => held c fill (i 1).val q a3 a4 a6 a7 a8 a9 a10 q3 q4 X3 X4 (8 * (k0_t1_loop i).trips)) (fun t acc =>
      absurd t.isLt (by have := trips2 i; have h' : (k0_t2_loop i).trips = 0 := this; unfold Scf.Loop.trips at h'; omega))) $$ H
  iintro %w2 H
  have e0 : 8 * (k0_t1_loop i).trips = pairStart (i 1).val 0 := by rw [(starts i).1, trips1 i]
  rw [e0]
  iapply (pair_num 𝒱 c bd E fill (i 1).val q a3 a4 a6 a7 a8 a9 a10 h10 q3 q4 X3 X4 (pair1 i) _ _ _ _) $$ H
  iintro H
  iapply (pair_num 𝒱 c bd E fill (i 1).val q a3 a4 a6 a7 a8 a9 a10 h10 q3 q4 X3 X4 (pair2 i) _ _ _ _) $$ H
  iintro H
  iapply (pair_num 𝒱 c bd E fill (i 1).val q a3 a4 a6 a7 a8 a9 a10 h10 q3 q4 X3 X4 (pair3 i) _ _ _ _) $$ H
  iintro H
  have e3 : pairStart (i 1).val (2 + 1) = 2 * ((i 1).val / 2) := (starts i).2
  rw [e3]
  iapply (masked_num 𝒱 c bd E fill q a3 a4 a6 a7 a8 a9 a10 h10 q3 q4 X3 X4 (near1 i) (col1 i) (by show 0 = _; omega) (by omega) _ _) $$ H
  iintro H
  iapply (masked_num 𝒱 c bd E fill q a3 a4 a6 a7 a8 a9 a10 h10 q3 q4 X3 X4 (near2 i) (col2 i) (by show 1 = _; omega) (by omega) _ _) $$ H
  unfold held
  iintro ⟨H3, H4, Hx⟩
  iapply (owned_load 𝒱 c bd E (w := valAt X4 (k0_off25 i) (k0_off25_inb i)) rfl) $$ H4; iintro H4
  rw [valAt_eq X4 (k0_off25_inb i) (off25 i)]
  iapply (le_wp_ret frame (wpE defs 𝒱 (c : Thread nD τ) bd) E)
  iapply Hk
  isplitl [H3]; · iexact H3
  isplitl [H4]; · iexact H4
  iexact Hx

/-- A load of a whole query tile reads it, and a load at a tile's corner reads the tile. -/
theorem load_query {β : Type} (f : S1x512x256.Idx → β) :
    (fun y => f ((Rect.unit (s := S1x512x256) ![0, 0, 0] S1x512x256.size inb_S1x512x256_S1x512x256_0_0_0).toLoadRect.idx y)) = f := by
  funext y
  refine congrArg f (funext fun a => Fin.ext ?_)
  show (![0, 0, 0] : Fin 3 → ℕ) a + 1 * (y a).val = _
  rw [Nat.one_mul]
  match a with
  | 0 => exact Nat.zero_add _
  | 1 => exact Nat.zero_add _
  | 2 => exact Nat.zero_add _

theorem load_slot {β : Type} (s : Fin 2 → S1x512x512.Idx → β) (b : Fin 2) {o : Fin 3 → ℕ} (ho : o = corner b)
    (h : ∀ a, o a + S1x512x512.size a ≤ S2x512x512.size a) :
    (fun y => stack s ((Rect.unit (s := S2x512x512) o S1x512x512.size h).toLoadRect.idx y)) = s b := by
  subst ho
  exact (load_corner (stack s) b).trans (tileOf_stack s b)

/-- THE BODY: from the windows and the scratch owned, the body returns with the result tile written. -/
theorem body_run (i : grid0.Coords) (a2 : Memref sig .tc .vmem S1x512x256 .bf16) (a5 : Memref sig .tc .vmem S1x512x128 .bf16) (h5 : a5.IsWhole)
    (q2 : PosShare TreeShare) (X2 : Vec F S1x512x256 .bf16) (X5 : Vec F S1x512x128 .bf16) (x : Carry F) {Q : PUnit → sProp 𝕄} :
    iprop(owns (c : Thread nD τ) a2 q2 X2 ∗ owns (c : Thread nD τ) a3 q3 X3 ∗ owns (c : Thread nD τ) a4 q4 X4 ∗ owns (c : Thread nD τ) a5 fullShare X5
        ∗ carried c a6 a7 a8 a9 a10 x
        ∗ (owns (c : Thread nD τ) a2 q2 X2 ∗ owns (c : Thread nD τ) a3 q3 X3 ∗ owns (c : Thread nD τ) a4 q4 X4
            ∗ owns (c : Thread nD τ) a5 fullShare (result fill (i 1).val (flatQ X2) X3 X4) ∗ (∃ x : Carry F, carried c a6 a7 a8 a9 a10 x) -∗ Q ⟨⟩))
      ⊢ wp frame (wpE defs 𝒱 (c : Thread nD τ) bd) E (body fill i a2 a3 a4 a5 h5 a6 a7 a8 a9 a10 h10) Q := by
  unfold carried body
  iintro ⟨H2, H3, H4, H5, ⟨Hm, Hl, Ha, Hs, Hp⟩, Hk⟩
  iapply (owned_load 𝒱 c bd E (load_query _)) $$ H2; iintro H2
  iapply (owned_load 𝒱 c bd E (w := keyAt X3 ![0, 0, 0] inb_S1x16384x256_S1x512x256_0_0_0) rfl) $$ H3; iintro H3
  iapply (owned_load 𝒱 c bd E ((load_corner _ 0).trans (tileOf_stack _ _))) $$ Hs; iintro Hs
  iapply (owned_store_corner 𝒱 c bd E 0) $$ Hs; iintro Hs
  iapply (owned_load 𝒱 c bd E ((load_corner _ 1).trans (tileOf_stack _ _))) $$ Hp; iintro Hp
  iapply (owned_store_corner 𝒱 c bd E 1) $$ Hp; iintro Hp
  iapply (owned_load 𝒱 c bd E (load_full _)) $$ Hm; iintro Hm
  iapply (owned_store_full 𝒱 c bd E) $$ Hm; iintro Hm
  iapply (owned_load 𝒱 c bd E (load_full _)) $$ Hl; iintro Hl
  iapply (owned_store_full 𝒱 c bd E) $$ Hl; iintro Hl
  iapply (owned_load 𝒱 c bd E (load_full _)) $$ Ha; iintro Ha
  iapply (owned_store_full 𝒱 c bd E) $$ Ha; iintro Ha
  ihave H : held c fill (i 1).val (flatQ X2) a3 a4 a6 a7 a8 a9 a10 q3 q4 X3 X4 0 $$ [H3 H4 Hm Hl Ha Hs Hp]
  · unfold held carried
    isplitl [H3]; · iexact H3
    isplitl [H4]; · iexact H4
    iexists (⟨noMax fill, noSum, noSum, Function.update x.s 0 (scores (flatQ X2) (keyAt X3 ![0, 0, 0] inb_S1x16384x256_S1x512x256_0_0_0)),
      Function.update x.p 1 noTile⟩ : Carry F)
    isplitr
    · ipureintro
      intro b hb
      have : b = 0 := Fin.ext hb
      subst this
      rw [keyAt_eq X3 _ (j := 0) rfl]
      show Carry.at _ 0 = Tiles.mk _ _ _ _ _
      unfold Carry.at
      have e : (1 : Fin 2) - 0 = 1 := rfl
      rw [e]
      simp only [Function.update_self]
    isplitl [Hm]; · iexact Hm
    isplitl [Hl]; · iexact Hl
    isplitl [Ha]; · iexact Ha
    isplitl [Hs]; · iexact Hs
    iexact Hp
  iapply (steps_num 𝒱 c bd E fill (flatQ X2) a3 a4 a6 a7 a8 a9 a10 h10 q3 q4 X3 X4 i) $$ H
  unfold held carried
  iintro %w ⟨H3, H4, %y, %hy, Hm, Hl, Ha, Hs, Hp⟩
  have hb := hy ⟨((i 1).val + 1) % 2, Nat.mod_lt _ (by decide)⟩ rfl
  have hp : y.p ⟨(i 1).val % 2, Nat.mod_lt _ (by decide)⟩ = (stateAt fill (i 1).val (flatQ X2) X3 X4 ((i 1).val + 1)).p := by
    rw [← hb]
    refine congrArg y.p (Fin.ext ?_)
    show (i 1).val % 2 = (1 - (⟨((i 1).val + 1) % 2, Nat.mod_lt _ (by decide)⟩ : Fin 2)).val
    rw [Fin.sub_def]
    show (i 1).val % 2 = (2 - ((i 1).val + 1) % 2 + 1) % 2
    omega
  have hl : y.l = (stateAt fill (i 1).val (flatQ X2) X3 X4 ((i 1).val + 1)).l := by rw [← hb]; rfl
  have ha : y.a = (stateAt fill (i 1).val (flatQ X2) X3 X4 ((i 1).val + 1)).a := by rw [← hb]; rfl
  iapply (owned_load 𝒱 c bd E (load_full _)) $$ Ha; iintro Ha
  iapply (owned_load 𝒱 c bd E (load_slot y.p ⟨(i 1).val % 2, Nat.mod_lt _ (by decide)⟩ (off26 i) (k0_off26_inb i))) $$ Hp; iintro Hp
  iapply (owned_load 𝒱 c bd E (load_full _)) $$ Hl; iintro Hl
  iapply (owned_load 𝒱 c bd E (load_full _)) $$ H5; iintro H5
  iapply (owned_store_full 𝒱 c bd E) $$ H5; iintro H5
  iapply (le_wp_ret frame (wpE defs 𝒱 (c : Thread nD τ) bd) E PUnit.unit Q)
  iapply Hk
  isplitl [H2]; · iexact H2
  isplitl [H3]; · iexact H3
  isplitl [H4]; · iexact H4
  isplitl [H5]
  · unfold result
    rw [← hp, ← hl, ← ha]
    iexact H5
  iexists y
  isplitl [Hm]; · iexact Hm
  isplitl [Hl]; · iexact Hl
  isplitl [Ha]; · iexact Ha
  isplitl [Hs]; · iexact Hs
  iexact Hp

/-- The scratch at something, buffer by buffer. -/
def scratch : sProp 𝕄 :=
  iprop((∃ X : Vec F S1x512x128 .f32, owns (c : Thread nD τ) a6 fullShare X) ∗ (∃ X : Vec F S1x512x128 .f32, owns (c : Thread nD τ) a7 fullShare X)
    ∗ (∃ X : Vec F S1x512x128 .f32, owns (c : Thread nD τ) a8 fullShare X) ∗ (∃ X : Vec F S2x512x512 .f32, owns (c : Thread nD τ) a9 fullShare X)
    ∗ (∃ X : Vec F S2x512x512 .bf16, owns (c : Thread nD τ) a10 fullShare X))

/-- The scratch at something is the scratch at a carry. -/
theorem scratch_carried : scratch c a6 a7 a8 a9 a10 ⊢ (∃ x : Carry F, carried c a6 a7 a8 a9 a10 x : sProp 𝕄) := by
  unfold scratch carried
  iintro ⟨⟨%xm, Hm⟩, ⟨%xl, Hl⟩, ⟨%xa, Ha⟩, ⟨%xs, Hs⟩, ⟨%xp, Hp⟩⟩
  iexists (⟨xm, xl, xa, fun b => tileOf b xs, fun b => tileOf b xp⟩ : Carry F)
  isplitl [Hm]; · iexact Hm
  isplitl [Hl]; · iexact Hl
  isplitl [Ha]; · iexact Ha
  isplitl [Hs]
  · show _ ⊢ owns (c : Thread nD τ) a9 fullShare (stack fun b => tileOf b xs)
    rw [stack_tileOf]
  · show _ ⊢ owns (c : Thread nD τ) a10 fullShare (stack fun b => tileOf b xp)
    rw [stack_tileOf]

theorem carried_scratch (x : Carry F) : carried c a6 a7 a8 a9 a10 x ⊢ (scratch c a6 a7 a8 a9 a10 : sProp 𝕄) := by
  unfold scratch carried
  iintro ⟨Hm, Hl, Ha, Hs, Hp⟩
  isplitl [Hm]; · iexists _; iexact Hm
  isplitl [Hl]; · iexists _; iexact Hl
  isplitl [Ha]; · iexists _; iexact Ha
  isplitl [Hs]; · iexists _; iexact Hs
  iexists _; iexact Hp

end Rules

end Cert.Proof.Flash

end
-- ==== Proof.IsBodyBits.lean ====
/-
  The printed program's kernel is the body of steps, by unfolding.
-/
module

public import proofs.«01_k».proof.Proof.Body
public import proofs.«01_k».proof.Proof.Gen.Kernel.Skeleton

@[expose] public section

noncomputable section

namespace Cert.Proof.Flash

open Idealize.ShloMosaic Idealize.ShloMosaic.TcCoe Idealize.SL.Sem
open Cert.Kernel

variable {F : FTy → Type} [FloatOps F]

set_option maxRecDepth 65536 in
/-- A turn of the first loop. -/
theorem trip1_bits (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole)
    (q : FVec F S512x256 .bf16) (w1 w2 w3 w4 : BitVec 32) (t : Fin (k0_t1_loop i).trips) (acc : BitVec 32) :
    Gen.k0_t1_body (F := F) i a2 h2 a3 h3 a4 h4 a5 h5 a6 h6 a7 h7 a8 h8 a9 h9 a10 h10 w1 q w2 w3 0#32 0#32 w4 t acc
      = trip1 q i a3 a4 a6 a7 a8 a9 a10 h10 t := rfl

set_option maxRecDepth 65536 in
/-- A turn of the second loop. -/
theorem trip2_bits (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole)
    (q : FVec F S512x256 .bf16) (w1 w2 w3 w4 w5 : BitVec 32) (t : Fin (k0_t2_loop i).trips) (acc : BitVec 32) :
    Gen.k0_t2_body (F := F) i a2 h2 a3 h3 a4 h4 a5 h5 a6 h6 a7 h7 a8 h8 a9 h9 a10 h10 w1 q w2 w3 0#32 0#32 w4 w5 t acc
      = trip2 q i a3 a4 a6 a7 a8 a9 a10 h10 t := rfl

set_option maxRecDepth 65536 in
/-- The steps. -/
theorem steps_bits (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole)
    (q : FVec F S512x256 .bf16) (w w' : BitVec 32) :
    Gen.k0_part48_skel (F := F) i a2 h2 a3 h3 a4 h4 a5 h5 a6 h6 a7 h7 a8 h8 a9 h9 a10 h10 (rowWord i) q (pairsWord i) w 0#32 0#32 w'
      = steps q (Scalar.ofBits .f32 0xF149F2CA#32 : F .f32) i a3 a4 a6 a7 a8 a9 a10 h10 := by
  unfold Gen.k0_part48_skel steps
  refine bound (congrArg (Scf.Loop.for _ _ _) (funext fun t => funext fun acc => trip1_bits i a2 h2 a3 h3 a4 h4 a5 h5 a6 h6 a7 h7 a8 h8 a9 h9 a10 h10 q _ _ _ _ t acc)) fun w => ?_
  refine bound (congrArg (Scf.Loop.for _ _ _) (funext fun t => funext fun acc => trip2_bits i a2 h2 a3 h3 a4 h4 a5 h5 a6 h6 a7 h7 a8 h8 a9 h9 a10 h10 q _ _ _ _ _ t acc)) fun w => ?_
  dsimp only
  generalize e2 : (dite (k0_cond2 i = 1#1) _ _ : Prog (TpuEff nD τ sig (Elt F) Λ₀ .tc) (Σ' (_ : BitVec 32), FVec F S512x128 .bf16)) = n2
  refine .trans (b := pairIf q a3 a4 a6 a7 a8 a9 a10 h10 (k0_cond1 i = 1#1) (k0_off9 i) (k0_off10 i) (k0_off11 i) (k0_off12 i)
    (Gen.k0_off9_inb i) (Gen.k0_off10_inb i) (Gen.k0_off11_inb i) (Gen.k0_off12_inb i) n2) rfl (congrArg _ (e2.symm.trans ?_))
  generalize e3 : (dite (k0_cond3 i = 1#1) _ _ : Prog (TpuEff nD τ sig (Elt F) Λ₀ .tc) (Σ' (_ : BitVec 32), FVec F S512x128 .bf16)) = n3
  refine .trans (b := pairIf q a3 a4 a6 a7 a8 a9 a10 h10 (k0_cond2 i = 1#1) (k0_off13 i) (k0_off14 i) (k0_off15 i) (k0_off16 i)
    (Gen.k0_off13_inb i) (Gen.k0_off14_inb i) (Gen.k0_off15_inb i) (Gen.k0_off16_inb i) n3) rfl (congrArg _ (e3.symm.trans ?_))
  generalize e4 : (dite (k0_cond4 i = 1#1) _ _ : Prog (TpuEff nD τ sig (Elt F) Λ₀ .tc) (Σ' (_ : BitVec 32), FVec F S512x128 .bf16)) = n4
  refine .trans (b := pairIf q a3 a4 a6 a7 a8 a9 a10 h10 (k0_cond3 i = 1#1) (k0_off17 i) (k0_off18 i) (k0_off19 i) (k0_off20 i)
    (Gen.k0_off17_inb i) (Gen.k0_off18_inb i) (Gen.k0_off19_inb i) (Gen.k0_off20_inb i) n4) rfl (congrArg _ (e4.symm.trans ?_))
  generalize e5 : (dite (k0_cond5 i = 1#1) _ _ : Prog (TpuEff nD τ sig (Elt F) Λ₀ .tc) (Σ' (_ : BitVec 32), FVec F S512x128 .bf16)) = n5
  refine .trans (b := maskedIf q (Scalar.ofBits .f32 0xF149F2CA#32 : F .f32) i a3 a4 a6 a7 a8 a9 a10 h10 (k0_cond4 i = 1#1) 0 (Scalar.addi (Scalar.muli 2#32 (pairsWord i)) 0#32)
    (k0_off21 i) (k0_off22 i) (Gen.k0_off21_inb i) (Gen.k0_off22_inb i) n5) rfl (congrArg _ (e5.symm.trans ?_))
  rfl

set_option maxRecDepth 65536 in
/-- The kernel. -/
theorem body_bits (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole) :
    cc0_flashp_D (F := F) i a2 h2 a3 h3 a4 h4 a5 h5 a6 h6 a7 h7 a8 h8 a9 h9 a10 h10
      = body (Scalar.ofBits .f32 0xF149F2CA#32 : F .f32) i a2 a3 a4 a5 h5 a6 a7 a8 a9 a10 h10 := by
  have e : ∀ q w w', k0_part48 (F := F) i a2 h2 a3 h3 a4 h4 a5 h5 a6 h6 a7 h7 a8 h8 a9 h9 a10 h10 (rowWord i) q (pairsWord i) w 0#32 0#32 w'
      = steps q (Scalar.ofBits .f32 0xF149F2CA#32 : F .f32) i a3 a4 a6 a7 a8 a9 a10 h10 :=
    fun q w w' => .trans (by rw [Gen.k0_part48_eq_skeleton]) (steps_bits i a2 h2 a3 h3 a4 h4 a5 h5 a6 h6 a7 h7 a8 h8 a9 h9 a10 h10 q w w')
  rw [Gen.cc0_flashp_D_eq_skeleton]
  unfold Gen.cc0_flashp_D_skel body
  rfl

end Cert.Proof.Flash

end
-- ==== Proof.IsBodyIdeal.lean ====
/-
  The idealized program's kernel is the body of steps, by unfolding.
-/
module

public import proofs.«01_k».proof.Proof.Body
public import proofs.«01_k».proof.Proof.Gen.KernelIdeal.Skeleton

@[expose] public section

noncomputable section

namespace Cert.Proof.Flash

open Idealize.ShloMosaic Idealize.ShloMosaic.TcCoe Idealize.SL.Sem
open Cert.KernelIdeal

variable {F : FTy → Type} [FloatOps F] [Named F]

set_option maxRecDepth 65536 in
/-- A turn of the first loop. -/
theorem trip1_ideal (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole)
    (q : FVec F S512x256 .bf16) (w1 w2 w3 w4 : BitVec 32) (t : Fin (k0_t1_loop i).trips) (acc : BitVec 32) :
    Gen.k0_t1_body (F := F) i a2 h2 a3 h3 a4 h4 a5 h5 a6 h6 a7 h7 a8 h8 a9 h9 a10 h10 w1 q w2 w3 0#32 0#32 w4 t acc
      = trip1 q i a3 a4 a6 a7 a8 a9 a10 h10 t := rfl

set_option maxRecDepth 65536 in
/-- A turn of the second loop. -/
theorem trip2_ideal (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole)
    (q : FVec F S512x256 .bf16) (w1 w2 w3 w4 w5 : BitVec 32) (t : Fin (k0_t2_loop i).trips) (acc : BitVec 32) :
    Gen.k0_t2_body (F := F) i a2 h2 a3 h3 a4 h4 a5 h5 a6 h6 a7 h7 a8 h8 a9 h9 a10 h10 w1 q w2 w3 0#32 0#32 w4 w5 t acc
      = trip2 q i a3 a4 a6 a7 a8 a9 a10 h10 t := rfl

set_option maxRecDepth 65536 in
/-- The steps. -/
theorem steps_ideal (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole)
    (q : FVec F S512x256 .bf16) (w w' : BitVec 32) :
    Gen.k0_part48_skel (F := F) i a2 h2 a3 h3 a4 h4 a5 h5 a6 h6 a7 h7 a8 h8 a9 h9 a10 h10 (rowWord i) q (pairsWord i) w 0#32 0#32 w'
      = steps q (Named.named κ "neg" 0xF149F2CA#32 : F .f32) i a3 a4 a6 a7 a8 a9 a10 h10 := by
  unfold Gen.k0_part48_skel steps
  refine bound (congrArg (Scf.Loop.for _ _ _) (funext fun t => funext fun acc => trip1_ideal i a2 h2 a3 h3 a4 h4 a5 h5 a6 h6 a7 h7 a8 h8 a9 h9 a10 h10 q _ _ _ _ t acc)) fun w => ?_
  refine bound (congrArg (Scf.Loop.for _ _ _) (funext fun t => funext fun acc => trip2_ideal i a2 h2 a3 h3 a4 h4 a5 h5 a6 h6 a7 h7 a8 h8 a9 h9 a10 h10 q _ _ _ _ _ t acc)) fun w => ?_
  dsimp only
  generalize e2 : (dite (k0_cond2 i = 1#1) _ _ : Prog (TpuEff nD τ sig (Elt F) Λ₀ .tc) (Σ' (_ : BitVec 32), FVec F S512x128 .bf16)) = n2
  refine .trans (b := pairIf q a3 a4 a6 a7 a8 a9 a10 h10 (k0_cond1 i = 1#1) (k0_off9 i) (k0_off10 i) (k0_off11 i) (k0_off12 i)
    (Gen.k0_off9_inb i) (Gen.k0_off10_inb i) (Gen.k0_off11_inb i) (Gen.k0_off12_inb i) n2) rfl (congrArg _ (e2.symm.trans ?_))
  generalize e3 : (dite (k0_cond3 i = 1#1) _ _ : Prog (TpuEff nD τ sig (Elt F) Λ₀ .tc) (Σ' (_ : BitVec 32), FVec F S512x128 .bf16)) = n3
  refine .trans (b := pairIf q a3 a4 a6 a7 a8 a9 a10 h10 (k0_cond2 i = 1#1) (k0_off13 i) (k0_off14 i) (k0_off15 i) (k0_off16 i)
    (Gen.k0_off13_inb i) (Gen.k0_off14_inb i) (Gen.k0_off15_inb i) (Gen.k0_off16_inb i) n3) rfl (congrArg _ (e3.symm.trans ?_))
  generalize e4 : (dite (k0_cond4 i = 1#1) _ _ : Prog (TpuEff nD τ sig (Elt F) Λ₀ .tc) (Σ' (_ : BitVec 32), FVec F S512x128 .bf16)) = n4
  refine .trans (b := pairIf q a3 a4 a6 a7 a8 a9 a10 h10 (k0_cond3 i = 1#1) (k0_off17 i) (k0_off18 i) (k0_off19 i) (k0_off20 i)
    (Gen.k0_off17_inb i) (Gen.k0_off18_inb i) (Gen.k0_off19_inb i) (Gen.k0_off20_inb i) n4) rfl (congrArg _ (e4.symm.trans ?_))
  generalize e5 : (dite (k0_cond5 i = 1#1) _ _ : Prog (TpuEff nD τ sig (Elt F) Λ₀ .tc) (Σ' (_ : BitVec 32), FVec F S512x128 .bf16)) = n5
  refine .trans (b := maskedIf q (Named.named κ "neg" 0xF149F2CA#32 : F .f32) i a3 a4 a6 a7 a8 a9 a10 h10 (k0_cond4 i = 1#1) 0 (Scalar.addi (Scalar.muli 2#32 (pairsWord i)) 0#32)
    (k0_off21 i) (k0_off22 i) (Gen.k0_off21_inb i) (Gen.k0_off22_inb i) n5) rfl (congrArg _ (e5.symm.trans ?_))
  rfl

set_option maxRecDepth 65536 in
/-- The kernel. -/
theorem body_ideal (i : grid0.Coords) (a2 : Memref sig .tc .vmem S1x512x256 .bf16) (h2 : a2.IsWhole)
    (a3 : Memref sig .tc .vmem S1x16384x256 .bf16) (h3 : a3.IsWhole)
    (a4 : Memref sig .tc .vmem S1x16384x128 .bf16) (h4 : a4.IsWhole) (a5 : Memref sig .tc .vmem S1x512x128 .bf16) (h5 : a5.IsWhole)
    (a6 : Memref sig .tc .vmem S1x512x128 .f32) (h6 : a6.IsWhole) (a7 : Memref sig .tc .vmem S1x512x128 .f32) (h7 : a7.IsWhole)
    (a8 : Memref sig .tc .vmem S1x512x128 .f32) (h8 : a8.IsWhole) (a9 : Memref sig .tc .vmem S2x512x512 .f32) (h9 : a9.IsWhole)
    (a10 : Memref sig .tc .vmem S2x512x512 .bf16) (h10 : a10.IsWhole) :
    cc0_flashp_D (F := F) i a2 h2 a3 h3 a4 h4 a5 h5 a6 h6 a7 h7 a8 h8 a9 h9 a10 h10
      = body (Named.named κ "neg" 0xF149F2CA#32 : F .f32) i a2 a3 a4 a5 h5 a6 a7 a8 a9 a10 h10 := by
  have e : ∀ q w w', k0_part48 (F := F) i a2 h2 a3 h3 a4 h4 a5 h5 a6 h6 a7 h7 a8 h8 a9 h9 a10 h10 (rowWord i) q (pairsWord i) w 0#32 0#32 w'
      = steps q (Named.named κ "neg" 0xF149F2CA#32 : F .f32) i a3 a4 a6 a7 a8 a9 a10 h10 :=
    fun q w w' => .trans (by rw [Gen.k0_part48_eq_skeleton]) (steps_ideal i a2 h2 a3 h3 a4 h4 a5 h5 a6 h6 a7 h7 a8 h8 a9 h9 a10 h10 q w w')
  rw [Gen.cc0_flashp_D_eq_skeleton]
  unfold Gen.cc0_flashp_D_skel body
  rfl

end Cert.Proof.Flash

end
-- ==== Proof.FrameIdeal.lean ====
/-
  The idealized kernel program's frame: its pipeline run with the body's result at every point, and the arguments and counters after.
-/
module

public import proofs.«01_k».proof.Proof.Run
public import proofs.«01_k».proof.Proof.IsBodyIdeal
public import proofs.«01_k».proof.Proof.Gen.KernelIdeal.Frame
public import Idealize.ShloMosaic.Lib.Claim

@[expose] public section

noncomputable section

namespace Cert.Proof.FrameIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The value a masked score takes. -/
abbrev fill : F .f32 := Named.named κ "neg" 0xF149F2CA#32

/-- The result tile at a point. -/
def tile (c : Dev nD) (t : Fin cfg0.N) : Vec F S1x512x128 .bf16 :=
  Flash.result (fill : F .f32) (grid0.coords t 1).val (Flash.flatQ (iblk m c 0 t)) (iblk m c 1 t) (iblk m c 2 t)

/-- The proof data: the inputs' blocks stay, the output's buffer ends at the result tile, the scratch is at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = tile m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The scratch buffers, as the body's memrefs. -/
theorem rest_eq (c : Dev nD) :
    (Pipeline.scopedRest (Ix := Unit) (Name := ℕ) (U := UR sig nD τ) (Lvl := ℕ) (Val := Elt F) spec0 c : sProp 𝕄)
      = Flash.scratch c (Memref.whole cc0_scratch0) (Memref.whole cc0_scratch1) (Memref.whole cc0_scratch2) (Memref.whole cc0_scratch3) (Memref.whole cc0_scratch4) := by
  have e := fun b : Ref sig .tc => Memref.IsWhole.exists_owns_eq (Ix := Unit) (Name := ℕ) (U := UR sig nD τ) (Lvl := ℕ) (Val := Elt F)
    (c := (c : Thread nD τ)) (Memref.isWhole_whole b) fullShare
  have pair : ∀ {a a' b b' : sProp 𝕄}, a = a' → b = b' → iprop(a ∗ b) = iprop(a' ∗ b') := fun h h' => by rw [h, h']
  exact (scopedRest0_eq c).trans (pair (e cc0_scratch0).symm (pair (e cc0_scratch1).symm (pair (e cc0_scratch2).symm
    (pair (e cc0_scratch3).symm (e cc0_scratch4).symm))))

/-- What the body takes at a point, and gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, Flash.body_ideal]
  unfold Pipeline.ΦA
  rw [rest_eq]
  iintro ⟨⟨Hs, Hr⟩, Ho, ⟨%d0, H0⟩, ⟨%d1, H1⟩, ⟨%d2, H2⟩, ⟨%d3, H3⟩⟩
  ihave Hs := (Flash.scratch_carried c _ _ _ _ _) $$ Hs
  icases Hs with ⟨%x, Hx⟩
  iapply (Flash.body_run Variants.none c none Set.univ (fill : F .f32) _ _ _ _ _ _ _ (Memref.isWhole_whole _) fullShare fullShare
    (iblk m c 1 t) (iblk m c 2 t) (grid0.coords t) _ _ _ fullShare (iblk m c 0 t) _ x)
  isplitl [H0]; · iexact H0
  isplitl [H1]; · iexact H1
  isplitl [H2]; · iexact H2
  isplitl [H3]; · iexact H3
  isplitl [Hx]; · iexact Hx
  iintro ⟨H0, H1, H2, H3, %y, Hy⟩
  isplitl [Hy Hr]
  · isplitl [Hy]
    · iapply (Flash.carried_scratch c _ _ _ _ _ y); iexact Hy
    · iexact Hr
  isplitl [Ho]; · iexact Ho
  isplitl [H0]; · iexact H0
  isplitl [H1]; · iexact H1
  isplitl [H2]; · iexact H2
  iexact H3

/-- The body table's row at a point is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The run, with every counter back at zero. -/
theorem launch : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.Proof.FrameIdeal

end
-- ==== Proof.Rows.lean ====
/-
  The words of a step, read at a row: over the extended reals each is the plain scalar expression.
-/
module

public import proofs.«01_k».proof.Proof.Run
public import proofs.«01_k».proof.Proof.Gen.KernelIdeal
public import Idealize.ShloMosaic.Lib.Pointwise

@[expose] public section

set_option maxRecDepth 16384

noncomputable section

namespace Cert.Proof.Flash

open Cert.KernelIdeal Cert.KernelIdeal.Gen Idealize.ShloMosaic

variable (q : FVec Ideal S512x256 .bf16) (kt : Vec Ideal S1x512x256 .bf16) (vt : Vec Ideal S1x512x128 .bf16)
    (s : FVec Ideal S512x512 .f32) (t : Vec Ideal S1x512x512 .f32) (p : Vec Ideal S1x512x512 .bf16) (m l a : Vec Ideal S1x512x128 .f32)

theorem negInf : Ideal.ofBits .f32 0xFF800000#32 = ⊥ := by simp [Ideal.ofBits, Ideal.ieee]

theorem scores_row (r y : Fin 512) : scores q kt (ix3 0 r y) = ∑ d : Fin 256, q (ix2 r d) * kt (ix3 0 y d) := by
  pointwise [scores]

theorem plain_row (r y : Fin 512) : plain t (ix2 r y) = t (ix3 0 r y) := by
  pointwise [plain]

theorem newMax_row (r : Fin 512) (x : Fin 128) :
    newMax s m (ix2 r x) = max (m (ix3 0 r x)) (Finset.univ.fold max ⊥ fun y : Fin 512 => s (ix2 r y)) := by
  pointwise [newMax, flat, negInf]

theorem unflat_row (f : FVec Ideal S512x128 .f32) (r : Fin 512) (x : Fin 128) : unflat f (ix3 0 r x) = f (ix2 r x) := by
  pointwise [unflat]

theorem rescale_row (r : Fin 512) (x : Fin 128) : rescale s m (ix2 r x) = Ideal.exp2 (m (ix3 0 r x) - newMax s m (ix2 r x)) := by
  generalize e : newMax s m = M
  pointwise [rescale, flat, e]
  rfl

theorem run0_row (r : Fin 512) (x : Fin 128) : run0 s m (ix2 r x) = Ideal.exp2 (s (ix2 r ⟨x.val, by omega⟩) - newMax s m (ix2 r x)) := by
  generalize e : newMax s m = M
  pointwise [run0, e]
  rfl

theorem run1_row (r : Fin 512) (x : Fin 128) : run1 s m (ix2 r x) = Ideal.exp2 (s (ix2 r ⟨128 + x.val, by omega⟩) - newMax s m (ix2 r x)) := by
  generalize e : newMax s m = M
  pointwise [run1, e]
  rfl

theorem run2_row (r : Fin 512) (x : Fin 128) : run2 s m (ix2 r x) = Ideal.exp2 (s (ix2 r ⟨256 + x.val, by omega⟩) - newMax s m (ix2 r x)) := by
  generalize e : newMax s m = M
  pointwise [run2, e]
  rfl

theorem run3_row (r : Fin 512) (x : Fin 128) : run3 s m (ix2 r x) = Ideal.exp2 (s (ix2 r ⟨384 + x.val, by omega⟩) - newMax s m (ix2 r x)) := by
  generalize e : newMax s m = M
  pointwise [run3, e]
  rfl

theorem productV_row (vt : FVec Ideal S512x128 .bf16) (r : Fin 512) (x : Fin 128) :
    productV p vt (ix2 r x) = ∑ y : Fin 512, p (ix3 0 r y) * vt (ix2 y x) := by
  pointwise [productV]

theorem flatV_row (y : Fin 512) (x : Fin 128) : flatV vt (ix2 y x) = vt (ix3 0 y x) := by
  pointwise [flatV]

theorem flatQ_row (q : Vec Ideal S1x512x256 .bf16) (y : Fin 512) (x : Fin 256) : flatQ q (ix2 y x) = q (ix3 0 y x) := by
  pointwise [flatQ]

theorem newSum_row (r : Fin 512) (x : Fin 128) : newSum s m l (ix3 0 r x)
    = rescale s m (ix2 r x) * l (ix3 0 r x) + (((run0 s m (ix2 r x) + run1 s m (ix2 r x)) + run2 s m (ix2 r x)) + run3 s m (ix2 r x)) := by
  generalize e : rescale s m = M; generalize e0 : run0 s m = M0; generalize e1 : run1 s m = M1; generalize e2 : run2 s m = M2
  generalize e3 : run3 s m = M3
  pointwise [newSum, unflat, flat, e, e0, e1, e2, e3]

theorem newAcc_row (r : Fin 512) (x : Fin 128) : newAcc p vt s m a (ix3 0 r x)
    = rescale s m (ix2 r x) * (a (ix3 0 r x) + ∑ y : Fin 512, p (ix3 0 r y) * vt (ix3 0 y x)) := by
  generalize e : rescale s m = M
  pointwise [newAcc, unflat, flat, product, productV, e]

theorem finish_row (vt : FVec Ideal S512x128 .bf16) (r : Fin 512) (x : Fin 128) : finish vt a p l (ix3 0 r x)
    = Ideal.div (a (ix3 0 r x) + ∑ y : Fin 512, p (ix3 0 r y) * vt (ix2 y x)) (∑ b : Fin 128, l (ix3 0 r b)) := by
  pointwise [finish, flat, productV]

theorem noTile_row (r y : Fin 512) : (noTile : FVec Ideal S1x512x512 .bf16) (ix3 0 r y) = 0 := by
  pointwise [noTile]

theorem noSum_row (r : Fin 512) (x : Fin 128) : (noSum : FVec Ideal S1x512x128 .f32) (ix3 0 r x) = 0 := by
  pointwise [noSum, unflat]

theorem noMax_row (fill : Ideal .f32) (r : Fin 512) (x : Fin 128) : noMax fill (ix3 0 r x) = fill := by
  pointwise [noMax, unflat]

theorem expTile_row (r y : Fin 512) (M : EReal) (hM : ∀ x : Fin 128, newMax s m (ix2 r x) = M) :
    expTile s m (ix3 0 r y) = Ideal.exp2 (s (ix2 r y) - M) := by
  pointwise [expTile]
  have e : ∀ (k : Fin 512), k.val = y.val → s (ix2 r k) = s (ix2 r y) := fun k hk => congrArg (fun k => s (ix2 r k)) (Fin.ext hk)
  split
  · rw [run0_row, hM, e]; rfl
  · split
    · rw [run1_row, hM, e]; show 128 + (y.val - 128) = y.val; omega
    · split
      · rw [run2_row, hM, e]; show 256 + (y.val - 128 - 128) = y.val; omega
      · rw [run3_row, hM, e]; show 384 + (y.val - 128 - 128 - 128) = y.val; omega

theorem word_sge {z : ℤ} (h1 : -2147483648 ≤ z) (h2 : z < 2147483648) :
    IntOp.cmpi .sge (BitVec.ofInt 32 z) 0#32 = if 0 ≤ z then 1#1 else 0#1 := by
  have e : (BitVec.ofInt 32 z).toInt = z := by
    rw [BitVec.toInt_ofInt, Int.bmod_def]
    split <;> omega
  show BitVec.ofBool ((0#32).sle (BitVec.ofInt 32 z)) = _
  rw [BitVec.sle, e]
  by_cases h : 0 ≤ z <;> simp [h]

/-- The mask keeps a key that is not after the query. -/
theorem masked_row (fill : Ideal .f32) {n j : ℕ} (hn : n < 32) (hj : j < 32) (r y : Fin 512) :
    masked fill (BitVec.ofNat 32 n) (BitVec.ofNat 32 j) t (ix2 r y)
      = if 512 * j + y.val ≤ 512 * n + r.val then t (ix3 0 r y) else fill := by
  pointwise [masked, plain]
  have e : IntOp.addi (IntOp.subi (BitVec.ofNat 32 r.val) (BitVec.ofNat 32 y.val))
      (Scalar.muli (Scalar.subi (BitVec.ofNat 32 n) (BitVec.ofNat 32 j)) 512#32)
      = BitVec.ofInt 32 (((r.val : ℤ) - y.val) + ((n : ℤ) - j) * 512) := by
    rw [sub_eq_add_neg, sub_eq_add_neg, BitVec.ofInt_add, BitVec.ofInt_mul, BitVec.ofInt_add, BitVec.ofInt_add, BitVec.ofInt_neg, BitVec.ofInt_neg,
      ← BitVec.sub_eq_add_neg, ← BitVec.sub_eq_add_neg]
    rfl
  have := r.isLt
  have := y.isLt
  rw [e, word_sge (by omega) (by omega)]
  by_cases h : 512 * j + y.val ≤ 512 * n + r.val
  · rw [if_pos h, if_pos (by omega)]; rfl
  · rw [if_neg h, if_neg (by omega)]; rfl

end Cert.Proof.Flash

end
-- ==== Proof.Softmax.lean ====
/-
  Softmax gathered tile by tile, over the extended reals: a row's scores are a sequence, and what is kept of its first keys
  is their maximum, and sums of exponentials below that maximum, moved when the maximum moves.
-/
module

public import Idealize.ShloMosaic.PureOps.Ideal

@[expose] public section

noncomputable section

namespace Cert.Proof.Soft

open Idealize.ShloMosaic

/-! ## Powers of two -/

theorem exp2_nonneg (x : EReal) : 0 ≤ Ideal.exp2 x := by
  induction x with
  | bot => exact le_rfl
  | top => exact le_top
  | coe r => exact EReal.coe_nonneg.2 (Real.rpow_nonneg (by norm_num) r)

theorem exp2_ne_top {x : EReal} (h : x ≤ 0) : Ideal.exp2 x ≠ ⊤ := by
  induction x with
  | bot => exact EReal.zero_ne_top
  | top => exact absurd h (by simp)
  | coe r => exact EReal.coe_ne_top _

theorem bot_sub (x : EReal) : (⊥ : EReal) - x = ⊥ := by rw [sub_eq_add_neg]; exact EReal.bot_add _

theorem sub_top (x : EReal) : x - ⊤ = ⊥ := by rw [sub_eq_add_neg, EReal.neg_top]; exact EReal.add_bot _

theorem sub_nonpos {a b : EReal} (h : a ≤ b) : a - b ≤ 0 := by
  induction b with
  | bot => rw [le_bot_iff.1 h, bot_sub]; exact bot_le
  | top => rw [sub_top]; exact bot_le
  | coe b =>
    induction a with
    | bot => rw [bot_sub]; exact bot_le
    | top => exact absurd h (by simp)
    | coe a =>
      rw [← EReal.coe_sub]
      exact_mod_cast sub_nonpos_of_le (EReal.coe_le_coe_iff.1 h)

/-- Moving a term from one maximum to a later one. -/
theorem exp2_move {s a b : EReal} (hs : s ≤ a) (h : a ≤ b) : Ideal.exp2 (a - b) * Ideal.exp2 (s - a) = Ideal.exp2 (s - b) := by
  induction s with
  | bot => rw [bot_sub, bot_sub, Ideal.exp2_bot, mul_zero]
  | top => rw [top_le_iff.1 (hs.trans h), sub_top, sub_top, Ideal.exp2_bot, zero_mul]
  | coe s =>
    induction a with
    | bot => exact absurd hs (by simp)
    | top => rw [top_le_iff.1 h, sub_top, sub_top, Ideal.exp2_bot, zero_mul]
    | coe a =>
      induction b with
      | bot => exact absurd h (by simp)
      | top => rw [sub_top, sub_top, Ideal.exp2_bot, zero_mul]
      | coe b =>
        rw [← EReal.coe_sub, ← EReal.coe_sub, ← EReal.coe_sub, Ideal.exp2_coe, Ideal.exp2_coe, Ideal.exp2_coe, ← EReal.coe_mul]
        exact congrArg _ ((Real.rpow_add (by norm_num) _ _).symm.trans (congrArg _ (by ring)))

/-- A finite factor that is not negative passes into a sum. -/
theorem mul_sum {ι : Type} {c : EReal} (h0 : 0 ≤ c) (h1 : c ≠ ⊤) (t : Finset ι) (f : ι → EReal) :
    c * ∑ k ∈ t, f k = ∑ k ∈ t, c * f k := by
  classical
  induction t using Finset.induction_on with
  | empty => rw [Finset.sum_empty, Finset.sum_empty, mul_zero]
  | insert k t hk ih => rw [Finset.sum_insert hk, Finset.sum_insert hk, EReal.left_distrib_of_nonneg_of_ne_top h0 h1, ih]

/-! ## The first keys of a row -/

section
variable (s : ℕ → EReal)

/-- The greatest of the first `n` scores. -/
def peak (n : ℕ) : EReal := (Finset.range n).sup s

theorem le_peak {n k : ℕ} (h : k < n) : s k ≤ peak s n := Finset.le_sup (Finset.mem_range.2 h)

theorem peak_mono {n n' : ℕ} (h : n ≤ n') : peak s n ≤ peak s n' := Finset.sup_mono (Finset.range_mono h)

theorem peak_zero : peak s 0 = ⊥ := rfl

/-- The maximum after a further tile of `b` scores. -/
theorem peak_add (n b : ℕ) : peak s (n + b) = max (peak s n) (Finset.univ.fold max ⊥ fun y : Fin b => s (n + y.val)) := by
  have e : (Finset.univ.fold max ⊥ fun y : Fin b => s (n + y.val)) = Finset.univ.sup fun y : Fin b => s (n + y.val) := rfl
  rw [e]
  refine le_antisymm (Finset.sup_le fun k hk => ?_) (max_le (peak_mono s (Nat.le_add_right _ _)) (Finset.sup_le fun y _ => le_peak s (by have := y.isLt; omega)))
  rw [Finset.mem_range] at hk
  by_cases h : k < n
  · exact (le_peak s h).trans (le_max_left _ _)
  · refine le_trans ?_ (le_max_right _ _)
    have := Finset.le_sup (f := fun y : Fin b => s (n + y.val)) (Finset.mem_univ (⟨k - n, by omega⟩ : Fin b))
    refine le_trans (le_of_eq ?_) this
    exact congrArg s (by show k = n + (k - n); omega)

/-- A key's weight below the maximum of the first `n`. -/
def wt (n k : ℕ) : EReal := Ideal.exp2 (s k - peak s n)

/-- What moves a weight from the first `n` keys to the first `n'`. -/
def move (n n' : ℕ) : EReal := Ideal.exp2 (peak s n - peak s n')

theorem move_nonneg (n n' : ℕ) : 0 ≤ move s n n' := exp2_nonneg _

theorem move_ne_top {n n' : ℕ} (h : n ≤ n') : move s n n' ≠ ⊤ := exp2_ne_top (sub_nonpos (peak_mono s h))

theorem move_wt {n n' k : ℕ} (hk : k < n) (h : n ≤ n') : move s n n' * wt s n k = wt s n' k :=
  exp2_move (le_peak s hk) (peak_mono s h)

/-- The sum of the weights at lane `a`, over the first `i` runs of 128 keys. -/
def lane (n i a : ℕ) : EReal := ∑ x ∈ Finset.range i, wt s n (128 * x + a)

/-- The lanes of the first `n` keys move, and the next tile's four runs join them. -/
theorem lane_step {j a : ℕ} (ha : a < 128) :
    move s (512 * j) (512 * (j + 1)) * lane s (512 * j) (4 * j) a
        + (((wt s (512 * (j + 1)) (512 * j + a) + wt s (512 * (j + 1)) (512 * j + (128 + a)))
          + wt s (512 * (j + 1)) (512 * j + (256 + a))) + wt s (512 * (j + 1)) (512 * j + (384 + a)))
      = lane s (512 * (j + 1)) (4 * (j + 1)) a := by
  unfold lane
  rw [mul_sum (move_nonneg s _ _) (move_ne_top s (by omega)), show 4 * (j + 1) = 4 * j + 1 + 1 + 1 + 1 by ring,
    Finset.sum_range_succ, Finset.sum_range_succ, Finset.sum_range_succ, Finset.sum_range_succ, add_assoc, add_assoc, add_assoc, add_assoc, add_assoc]
  refine congrArg₂ _ (Finset.sum_congr rfl fun x hx => move_wt s ?_ (by omega)) ?_
  · have := Finset.mem_range.1 hx; omega
  · rw [show 128 * (4 * j) + a = 512 * j + a by ring, show 128 * (4 * j + 1) + a = 512 * j + (128 + a) by ring,
      show 128 * (4 * j + 1 + 1) + a = 512 * j + (256 + a) by ring, show 128 * (4 * j + 1 + 1 + 1) + a = 512 * j + (384 + a) by ring]

/-- The lanes together hold the sum of the weights. -/
theorem sum_lane (n i : ℕ) : ∑ a : Fin 128, lane s n i a.val = ∑ k ∈ Finset.range (128 * i), wt s n k := by
  unfold lane
  rw [Finset.sum_comm]
  induction i with
  | zero => rfl
  | succ i ih => rw [Finset.sum_range_succ, ih, Nat.mul_succ, Finset.sum_range_add, Finset.sum_range fun x => wt s n (128 * i + x)]

variable (v : ℕ → EReal)

/-- The values of the first `i` keys, weighted. -/
def gathered (n i : ℕ) : EReal := ∑ k ∈ Finset.range i, wt s n k * v k

/-- A further tile of values. -/
theorem gathered_add (n i b : ℕ) :
    gathered s v n i + ∑ y : Fin b, wt s n (i + y.val) * v (i + y.val) = gathered s v n (i + b) := by
  unfold gathered
  rw [Finset.sum_range_add, Finset.sum_range fun x => wt s n (i + x) * v (i + x)]

/-- What was gathered moves to a later maximum. -/
theorem gathered_move {n n' i : ℕ} (hi : i ≤ n) (h : n ≤ n') : move s n n' * gathered s v n i = gathered s v n' i := by
  unfold gathered
  rw [mul_sum (move_nonneg s _ _) (move_ne_top s h)]
  refine Finset.sum_congr rfl fun k hk => ?_
  rw [← mul_assoc, move_wt s ((Finset.mem_range.1 hk).trans_le hi) h]

end

end Cert.Proof.Soft

end
-- ==== Proof.Online.lean ====
/-
  The streamed attention's result tile: row by row it is the quotient of the weighted values by the weights, over the keys
  up to the query's own.
-/
module

public import proofs.«01_k».proof.Proof.Rows
public import proofs.«01_k».proof.Proof.Softmax

@[expose] public section

noncomputable section

namespace Cert.Proof.Flash

open Cert.KernelIdeal Cert.KernelIdeal.Gen Idealize.ShloMosaic Cert.Proof.Soft

theorem keyTile_row {α : Type} (X : S1x16384x256.Idx → α) (j : ℕ) (y : Fin 512) (d : Fin 256) :
    keyTile X j (ix3 0 y d) = X (ix3 0 ⟨(512 * j + y.val) % 16384, Nat.mod_lt _ (by decide)⟩ d) := by
  refine congrArg X (funext fun a => ?_)
  match a with
  | 0 => rfl
  | 1 => rfl
  | 2 => rfl

theorem valTile_row {α : Type} (X : S1x16384x128.Idx → α) (j : ℕ) (y : Fin 512) (d : Fin 128) :
    valTile X j (ix3 0 y d) = X (ix3 0 ⟨(512 * j + y.val) % 16384, Nat.mod_lt _ (by decide)⟩ d) := by
  refine congrArg X (funext fun a => ?_)
  match a with
  | 0 => rfl
  | 1 => rfl
  | 2 => rfl

section
variable (n : ℕ) (q : FVec Ideal S512x256 .bf16) (X3 : Vec Ideal S1x16384x256 .bf16) (X4 : Vec Ideal S1x16384x128 .bf16) (r : Fin 512)

/-- The score of a key at a row of query tile `n`, -/
def rawScore (k : ℕ) : EReal := ∑ d : Fin 256, q (ix2 r d) * X3 (ix3 0 ⟨k % 16384, Nat.mod_lt _ (by decide)⟩ d)

/-- under the causal mask, -/
def score (k : ℕ) : EReal := if k ≤ 512 * n + r.val then rawScore q X3 r k else ⊥

/-- and a key's value. -/
def value (x : Fin 128) (k : ℕ) : EReal := X4 (ix3 0 ⟨k % 16384, Nat.mod_lt _ (by decide)⟩ x)

/-- What the tiles hold of a row before step `j`. -/
structure Holds (j : ℕ) (y : Tiles Ideal) : Prop where
  m : ∀ x : Fin 128, y.m (ix3 0 r x) = peak (score n q X3 r) (512 * j)
  l : ∀ x : Fin 128, y.l (ix3 0 r x) = lane (score n q X3 r) (512 * j) (4 * j) x.val
  a : ∀ x : Fin 128, y.a (ix3 0 r x) = gathered (score n q X3 r) (value X4 x) (512 * j) (512 * (j - 1))
  s : ∀ k : Fin 512, y.s (ix3 0 r k) = rawScore q X3 r (512 * min j n + k.val)
  p : ∀ k : Fin 512, y.p (ix3 0 r k) = if j = 0 then 0 else wt (score n q X3 r) (512 * j) (512 * (j - 1) + k.val)

variable {n q X3 X4 r}

/-- The tile is read under the causal mask, whichever way. -/
theorem reading_row {j : ℕ} (hn : n < 32) (hj : j ≤ n) {y : Tiles Ideal} (h : Holds n q X3 X4 r j y) (k : Fin 512) :
    reading (⊥ : EReal) n j y.s (ix2 r k) = score n q X3 r (512 * j + k.val) := by
  unfold reading score
  split
  · rw [plain_row, h.s, min_eq_left hj, if_pos (by have := k.isLt; omega)]
  · rw [masked_row _ _ hn (by omega), h.s, min_eq_left hj]

/-- A step keeps what the tiles hold. -/
theorem Holds.next {j : ℕ} (hn : n < 32) (hj : j ≤ n) {y : Tiles Ideal} (h : Holds n q X3 X4 r j y) :
    Holds n q X3 X4 r (j + 1) (y.next q (reading (⊥ : EReal) n j) (keyTile X3 (min (j + 1) n)) (valTile X4 (j - 1))) := by
  have hM : ∀ x : Fin 128, newMax (reading (⊥ : EReal) n j y.s) y.m (ix2 r x) = peak (score n q X3 r) (512 * (j + 1)) := fun x => by
    rw [newMax_row, h.m, Nat.mul_succ, peak_add]
    exact congrArg _ (congrArg (fun f => Finset.fold max ⊥ f Finset.univ) (funext fun k => reading_row hn hj h k))
  have hR : ∀ x : Fin 128, rescale (reading (⊥ : EReal) n j y.s) y.m (ix2 r x) = move (score n q X3 r) (512 * j) (512 * (j + 1)) := fun x => by
    rw [rescale_row, hM, h.m]; rfl
  refine ⟨fun x => ?_, fun x => ?_, fun x => ?_, fun k => ?_, fun k => ?_⟩
  · exact (unflat_row _ r x).trans (hM x)
  · refine (newSum_row _ _ _ r x).trans ?_
    rw [hR, h.l, run0_row, run1_row, run2_row, run3_row, hM, reading_row hn hj h, reading_row hn hj h, reading_row hn hj h, reading_row hn hj h]
    exact lane_step _ x.isLt
  · refine (newAcc_row _ _ _ _ _ r x).trans ?_
    rw [hR, h.a]
    have e : ∑ k : Fin 512, y.p (ix3 0 r k) * valTile X4 (j - 1) (ix3 0 k x)
        = if j = 0 then 0 else ∑ k : Fin 512, wt (score n q X3 r) (512 * j) (512 * (j - 1) + k.val) * value X4 x (512 * (j - 1) + k.val) := by
      split
      · exact Finset.sum_eq_zero fun k _ => by rw [h.p, if_pos ‹_›, zero_mul]
      · exact Finset.sum_congr rfl fun k _ => by rw [h.p, if_neg ‹_›, valTile_row]; rfl
    rw [e]
    rw [Nat.add_sub_cancel]
    by_cases h0 : j = 0
    · rw [if_pos h0, add_zero, show 512 * (j - 1) = 512 * j by omega]
      exact gathered_move _ _ le_rfl (by omega)
    · rw [if_neg h0, gathered_add, show 512 * (j - 1) + 512 = 512 * j by omega]
      exact gathered_move _ _ le_rfl (by omega)
  · refine (scores_row _ _ r k).trans (Finset.sum_congr rfl fun d _ => ?_)
    rw [keyTile_row]
  · refine (expTile_row _ _ r k _ hM).trans ?_
    rw [reading_row hn hj h]
    rfl

/-- Before the first step. -/
theorem Holds.start : Holds n q X3 X4 r 0 (stateAt (⊥ : EReal) n q X3 X4 0) := by
  refine ⟨fun x => ?_, fun x => ?_, fun x => ?_, fun k => ?_, fun k => ?_⟩
  · exact noMax_row _ r x
  · exact (noSum_row r x).trans rfl
  · exact (noSum_row r x).trans rfl
  · refine (scores_row _ _ r k).trans (Finset.sum_congr rfl fun d _ => ?_)
    rw [keyTile_row, Nat.zero_min]
  · exact noTile_row r k

theorem Holds.at (hn : n < 32) : ∀ j, j ≤ n + 1 → Holds n q X3 X4 r j (stateAt (⊥ : EReal) n q X3 X4 j)
  | 0, _ => Holds.start
  | j + 1, h => (Holds.at hn j (by omega)).next hn (by omega)

/-- The result tile at a row and a column. -/
theorem result_row (hn : n < 32) (x : Fin 128) : result (⊥ : EReal) n q X3 X4 (ix3 0 r x)
    = Ideal.div (gathered (score n q X3 r) (value X4 x) (512 * (n + 1)) (512 * (n + 1)))
        (∑ k ∈ Finset.range (512 * (n + 1)), wt (score n q X3 r) (512 * (n + 1)) k) := by
  have h := Holds.at (q := q) (X3 := X3) (X4 := X4) (r := r) hn (n + 1) le_rfl
  refine (finish_row _ _ _ _ r x).trans (congrArg₂ _ ?_ ?_)
  · rw [h.a]
    refine Eq.trans (congrArg _ (Finset.sum_congr rfl fun k _ => ?_)) (gathered_add (score n q X3 r) (value X4 x) (512 * (n + 1)) (512 * n) 512)
    rw [h.p, if_neg (Nat.succ_ne_zero n), flatV_row, valTile_row]
    rfl
  · rw [show 512 * (n + 1) = 128 * (4 * (n + 1)) by ring, ← sum_lane]
    exact Finset.sum_congr rfl fun x _ => (h.l x).trans (by rw [show 128 * (4 * (n + 1)) = 512 * (n + 1) by ring])

end

end Cert.Proof.Flash

end
-- ==== Proof.Natural.lean ====
/-
  The softmax in natural units over all the keys is the base-two one over the keys a row sees.
-/
module

public import proofs.«01_k».proof.Proof.Softmax
public import Mathlib.Analysis.SpecialFunctions.Log.Basic
public import Mathlib.Analysis.SpecialFunctions.Pow.Real

@[expose] public section

noncomputable section

namespace Cert.Proof.Soft

open Idealize.ShloMosaic

/-- The natural units of one base-two unit. -/
def unit2 : ℝ := Real.log 2

theorem unit2_pos : 0 < unit2 := Real.log_pos (by norm_num)

theorem bot_unit2 : (⊥ : EReal) * (unit2 : EReal) = ⊥ := EReal.bot_mul_coe_of_pos unit2_pos

theorem unit2_mono : Monotone fun x : EReal => x * (unit2 : EReal) := fun _ _ h =>
  mul_le_mul_of_nonneg_right h (EReal.coe_nonneg.2 unit2_pos.le)

theorem exp_units {x : EReal} (hx : x ≠ ⊤) (M : ℝ) :
    Ideal.exp (x * (unit2 : EReal) - (M : EReal) * (unit2 : EReal)) = Ideal.exp2 (x - (M : EReal)) := by
  induction x with
  | bot => rw [bot_unit2, bot_sub, bot_sub]; rfl
  | top => exact absurd rfl hx
  | coe x =>
    rw [← EReal.coe_mul, ← EReal.coe_mul, ← EReal.coe_sub, ← EReal.coe_sub, Ideal.exp2_coe, Ideal.exp_coe]
    refine congrArg _ ?_
    show _ = (2 : ℝ) ^ (x - M)
    rw [Real.rpow_def_of_pos (by norm_num), unit2]
    exact congrArg _ (by ring)

section
variable (s : ℕ → EReal) (v : ℕ → EReal)

theorem peak_units (n : ℕ) : peak (fun k => s k * (unit2 : EReal)) n = peak s n * (unit2 : EReal) :=
  (Finset.comp_sup_eq_sup_comp_of_is_total (s := Finset.range n) (f := s) (fun x : EReal => x * (unit2 : EReal)) unit2_mono bot_unit2).symm

theorem fold_eq_peak (N : ℕ) : ((Finset.univ : Finset (Fin N)).fold max ⊥ fun j => s j.val) = peak s N := by
  have h := peak_add s 0 N
  simp only [peak_zero, Nat.zero_add, max_eq_right bot_le] at h
  exact h.symm

variable {s} {n N : ℕ} (hN : n ≤ N) (hs : ∀ k, s k ≠ ⊤) (hfar : ∀ k, n ≤ k → s k = ⊥) (o : ℕ) (ho : o < n) (hso : s o ≠ ⊥)

include hN hfar in
theorem peak_far : peak s N = peak s n :=
  le_antisymm (Finset.sup_le fun k _ => by
    by_cases h : k < n
    · exact le_peak s h
    · rw [hfar k (by omega)]; exact bot_le) (peak_mono s hN)

include hs ho hso in
theorem peak_real : ∃ M : ℝ, peak s n = (M : EReal) := by
  have h1 : peak s n ≠ ⊤ := fun h => by
    obtain ⟨k, _, hk⟩ := Finset.exists_mem_eq_sup (Finset.range n) ⟨o, Finset.mem_range.2 ho⟩ s
    exact hs k (hk.symm.trans h)
  have h2 : peak s n ≠ ⊥ := fun h => hso (le_bot_iff.1 (h ▸ le_peak s ho))
  exact ⟨(peak s n).toReal, (EReal.coe_toReal h1 h2).symm⟩

include hs ho hso in
theorem total_real : ∃ L : ℝ, 0 < L ∧ ∑ k ∈ Finset.range n, wt s n k = (L : EReal) := by
  obtain ⟨M, hM⟩ := peak_real hs o ho hso
  have hw : ∀ k ∈ Finset.range n, 0 ≤ wt s n k := fun k _ => exp2_nonneg _
  have h1 : ∑ k ∈ Finset.range n, wt s n k ≠ ⊤ := by
    refine Finset.sum_induction _ (fun x => x ≠ ⊤) (fun a b => EReal.add_ne_top) EReal.zero_ne_top fun k hk => ?_
    exact exp2_ne_top (sub_nonpos (le_peak s (Finset.mem_range.1 hk)))
  have h2 : 0 < wt s n o := by
    unfold wt
    lift s o to ℝ using ⟨hs o, hso⟩ with y
    rw [hM, ← EReal.coe_sub, Ideal.exp2_coe]
    exact EReal.coe_pos.2 (Real.rpow_pos_of_pos (by norm_num) _)
  have h3 := h2.trans_le (Finset.single_le_sum hw (Finset.mem_range.2 ho))
  refine ⟨(∑ k ∈ Finset.range n, wt s n k).toReal, ?_, (EReal.coe_toReal h1 (ne_of_gt (bot_le.trans_lt h3))).symm⟩
  exact EReal.toReal_pos h3 h1

include hN hs hfar ho hso in
/-- The softmax in natural units, weighting the values. -/
theorem natural : ∑ j : Fin N, Ideal.div (Ideal.exp (s j.val * (unit2 : EReal) - max ⊥ ((Finset.univ : Finset (Fin N)).fold max ⊥ fun j => s j.val * (unit2 : EReal))))
      (∑ j : Fin N, Ideal.exp (s j.val * (unit2 : EReal) - max ⊥ ((Finset.univ : Finset (Fin N)).fold max ⊥ fun j => s j.val * (unit2 : EReal)))) * v j.val
    = Ideal.div (gathered s v n n) (∑ k ∈ Finset.range n, wt s n k) := by
  obtain ⟨M, hM⟩ := peak_real hs o ho hso
  obtain ⟨L, hL, eL⟩ := total_real hs o ho hso
  have ew : ∀ k, Ideal.exp (s k * (unit2 : EReal) - (M : EReal) * (unit2 : EReal)) = wt s n k := fun k => by
    rw [exp_units (hs k), wt, hM]
  rw [fold_eq_peak (fun k => s k * (unit2 : EReal)), peak_units, peak_far hN hfar, hM, max_eq_right bot_le]
  simp only [ew]
  have cut : ∀ f : ℕ → EReal, (∀ k, n ≤ k → f k = 0) → ∑ j : Fin N, f j.val = ∑ k ∈ Finset.range n, f k := fun f hf => by
    rw [Fin.sum_univ_eq_sum_range]
    exact (Finset.sum_subset (Finset.range_mono hN) fun k _ hk => hf k (by simpa using hk)).symm
  have w0 : ∀ k, n ≤ k → wt s n k = 0 := fun k hk => by rw [wt, hfar k hk, bot_sub, Ideal.exp2_bot]
  rw [cut _ w0, eL, cut (fun k => Ideal.div (wt s n k) (L : EReal) * v k) fun k hk => by rw [w0 k hk, Ideal.div_coe hL.ne', zero_mul, zero_mul]]
  rw [Ideal.div_coe hL.ne', gathered, mul_comm (∑ k ∈ _, _), mul_sum (EReal.coe_nonneg.2 (by positivity)) (EReal.coe_ne_top _)]
  refine Finset.sum_congr rfl fun k _ => ?_
  rw [Ideal.div_coe hL.ne', mul_comm (wt s n k), mul_assoc]

end

end Cert.Proof.Soft

end
-- ==== Proof.RefValue.lean ====
/-
  The reference's value, at an index.
-/
module

public import proofs.«01_k».proof.Proof.Gen.ReferenceIdeal.Run
public import proofs.«01_k».proof.Proof.Natural
public import Idealize.ShloMosaic.Lib.Pointwise

@[expose] public section

set_option maxRecDepth 16384

noncomputable section

namespace Cert.Proof.Ref

open Cert.Proof.Soft Cert.ReferenceIdeal Cert.ReferenceIdeal.Gen Idealize.ShloMosaic Idealize.ShloMosaic.TcCoe

/-- A maximum along the last axis, at a row. -/
theorem reduce_max {n0 n1 n2 : ℕ} {u : Shape} (h : Shape.Reduces ⟨3, ![n0, n1, n2]⟩ [2] ⟨2, ![n0, n1]⟩)
    (s : FVec Ideal ⟨3, ![n0, n1, n2]⟩ .f32) (init : FVec Ideal u .f32) (h' : Shape.ReducesTo ⟨3, ![n0, n1, n2]⟩ [2] ⟨2, ![n0, n1]⟩)
    (hu : 0 < u.numel) (i : Fin n0) (j : Fin n1) :
    Host.reduce FloatOps.maximumf s init h' hu (ix2 i j)
      = (Finset.univ : Finset (Fin n2)).fold max (init (Shape.Idx.first hu)) fun k => s (ix3 i j k) := by
  have e : s ∘ h.lift (ix2 i j) = fun k : Fin n2 => s (ix3 i j k) := by
    funext k
    refine congrArg s (funext fun a => ?_)
    match a with
    | 0 => rfl
    | 1 => rfl
    | 2 => rfl
  exact (Host.reduce_eq_fold_single FloatOps.maximumf s init h' h hu (ix2 i j)).trans (by rw [e]; rfl)

/-! ## The stages -/

section
variable (q k : FVec Ideal S4x16384x256 .bf16) (v : FVec Ideal S4x16384x128 .bf16) (s e : FVec Ideal S4x16384x16384 .f32)

/-- The scores, in natural units. -/
def units : FVec Ideal S4x16384x16384 .f32 :=
  mulf (Host.dotGeneral dot_S4x16384x256_S4x16384x256_S4x16384x16384_2_2_1_1_0_0 none (extf .f32 q bitsLt_bf16_f32) (extf .f32 k bitsLt_bf16_f32))
    (broadcastInDim S4x16384x16384 ![] bcast_S_S4x16384x16384 (Host.log (constant S_ .f32 0x40000000#32)))

/-- The causal mask. -/
def causal : IVec S4x16384x16384 1 :=
  broadcastInDim S4x16384x16384 ![1, 2] bcast_S16384x16384_S4x16384x16384_1_2 (cmpi .sle
    (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

/-- The scores under the mask. -/
def kept : FVec Ideal S4x16384x16384 .f32 :=
  select causal s (broadcastInDim S4x16384x16384 ![] bcast_S_S4x16384x16384 (id (constant S_ .f32 0xFF800000#32)))

/-- A row's maximum, -/
def most : FVec Ideal S4x16384 .f32 :=
  Host.reduce FloatOps.maximumf s (constant S_ .f32 0xFF800000#32) reducesTo_S4x16384x16384_S4x16384_d2 h_S_

/-- beside a value below all. -/
def top : FVec Ideal S4x16384 .f32 :=
  maximumf (broadcastInDim S4x16384 ![] bcast_S_S4x16384 (constant S_ .f32 0xFF800000#32)) (most s)

/-- A value by row, over the row. -/
def along (t : FVec Ideal S4x16384 .f32) : FVec Ideal S4x16384x16384 .f32 :=
  broadcastInDim S4x16384x16384 ![0, 1, 2] bcast_S4x16384x1_S4x16384x16384_0_1_2 (broadcastInDim S4x16384x1 ![0, 1] bcast_S4x16384_S4x16384x1_0_1 t)

/-- The exponentials. -/
def expo : FVec Ideal S4x16384x16384 .f32 := Host.exp (subf s (along (top s)))

/-- A row's sum. -/
def total : FVec Ideal S4x16384 .f32 := Host.reduceAdd e (constant S_ .f32 0x00000000#32) reducesTo_S4x16384x16384_S4x16384_d2 h_S_

/-- The values, weighted. -/
def weighted : FVec Ideal S4x16384x128 .bf16 :=
  truncf .bf16 (Host.dotGeneral dot_S4x16384x16384_S4x16384x128_S4x16384x128_2_1_1_2_0_0 none (Host.divf e (along (total e)))
    (extf .f32 v bitsLt_bf16_f32)) bitsLt_bf16_f32

variable (u : Fin 4) (i j : Fin 16384) (x : Fin 128)

theorem units_at : units q k (ix3 u i j) = (∑ d : Fin 256, q (ix3 u i d) * k (ix3 u j d)) * Ideal.log (Ideal.ofBits .f32 0x40000000#32) := by
  pointwise [units]

theorem causal_at : causal (ix3 u i j) = IntOp.cmpi .sle (BitVec.ofNat 32 j.val) (BitVec.ofNat 32 i.val) := by
  pointwise [causal]

theorem kept_at : kept s (ix3 u i j) = Scalar.select (causal (ix3 u i j)) (s (ix3 u i j)) (Ideal.ofBits .f32 0xFF800000#32) := by
  generalize h : causal = b
  pointwise [kept, h]
  rfl

theorem along_at (t : FVec Ideal S4x16384 .f32) : along t (ix3 u i j) = t (ix2 u i) := by
  pointwise [along]

theorem expo_at : expo s (ix3 u i j) = Ideal.exp (s (ix3 u i j) - top s (ix2 u i)) := by
  generalize h : top s = b
  pointwise [expo, along, h]

theorem total_at : total e (ix2 u i) = ∑ j : Fin 16384, e (ix3 u i j) := by
  pointwise [total]

theorem low : constant (F := Ideal) S_ .f32 0xFF800000#32 (Shape.Idx.first h_S_) = (⊥ : EReal) :=
  show Ideal.ofBits .f32 0xFF800000#32 = ⊥ by simp [Ideal.ofBits, Ideal.ieee]

theorem most_at : most s (ix2 u i) = (Finset.univ : Finset (Fin 16384)).fold max ⊥ fun j => s (ix3 u i j) := by
  unfold most
  rw [reduce_max (u := S_) (by decide), low]

theorem max_at {t : Shape} (a b : FVec Ideal t .f32) (y : t.Idx) : maximumf a b y = max (a y) (b y) := rfl

theorem floor_at {t : Shape} (h) (y : t.Idx) : broadcastInDim t ![] h (constant (F := Ideal) S_ .f32 0xFF800000#32) y = (⊥ : EReal) :=
  show Ideal.ofBits .f32 0xFF800000#32 = ⊥ by simp [Ideal.ofBits, Ideal.ieee]

theorem top_at : top s (ix2 u i) = max ⊥ (most s (ix2 u i)) := by
  unfold top
  rw [max_at, floor_at]

theorem weighted_at : weighted v e (ix3 u i x) = ∑ j : Fin 16384, Ideal.div (e (ix3 u i j)) (total e (ix2 u i)) * v (ix3 u j x) := by
  generalize h : total e = b
  pointwise [weighted, along, h]

end

/-! ## A row -/

section
variable (q k : FVec Ideal S4x16384x256 .bf16) (v : FVec Ideal S4x16384x128 .bf16) (u : Fin 4) (i : Fin 16384) (x : Fin 128)

/-- A query's score of a key, under the causal mask, -/
def rowScore (y : ℕ) : EReal :=
  if y ≤ i.val then ∑ d : Fin 256, q (ix3 u i d) * k (ix3 u ⟨y % 16384, Nat.mod_lt _ (by decide)⟩ d) else ⊥

/-- and a key's value. -/
def rowValue (y : ℕ) : EReal := v (ix3 u ⟨y % 16384, Nat.mod_lt _ (by decide)⟩ x)

theorem at_lt (j : Fin 16384) : (⟨j.val % 16384, Nat.mod_lt _ (by decide)⟩ : Fin 16384) = j := Fin.ext (Nat.mod_eq_of_lt j.isLt)

theorem log_two : Ideal.log (Ideal.ofBits .f32 0x40000000#32) = (unit2 : EReal) := by
  have e : Ideal.ofBits .f32 0x40000000#32 = ((2 : ℝ) : EReal) := by
    simp [Ideal.ofBits, Ideal.ieee]
    rw [← EReal.coe_mul]; norm_num
  rw [e]
  show (if (2 : ℝ) ≤ 0 then ⊥ else ((Real.log 2 : ℝ) : EReal)) = _
  rw [if_neg (by norm_num)]
  rfl

theorem word_sle {a b : ℕ} (ha : a < 2147483648) (hb : b < 2147483648) :
    IntOp.cmpi .sle (BitVec.ofNat 32 a) (BitVec.ofNat 32 b) = if a ≤ b then 1#1 else 0#1 := by
  show BitVec.ofBool ((BitVec.ofNat 32 a).sle (BitVec.ofNat 32 b)) = _
  have e : ∀ z, z < 2147483648 → (BitVec.ofNat 32 z).toInt = z := fun z hz => by
    rw [← BitVec.ofInt_natCast, BitVec.toInt_ofInt, Int.bmod_def]
    split <;> omega
  rw [BitVec.sle, e a ha, e b hb]
  by_cases h : a ≤ b <;> simp [h]

theorem kept_row (j : Fin 16384) : kept (units q k) (ix3 u i j) = rowScore q k u i j.val * (unit2 : EReal) := by
  have := i.isLt
  have := j.isLt
  rw [kept_at, causal_at, word_sle (by omega) (by omega), units_at, log_two, rowScore, at_lt]
  by_cases h : j.val ≤ i.val
  · rw [if_pos h, if_pos h]; rfl
  · rw [if_neg h, if_neg h, bot_unit2]
    show Ideal.ofBits .f32 0xFF800000#32 = ⊥
    simp [Ideal.ofBits, Ideal.ieee]

/-- The reference's result at a row: the weighted values by the weights, over the first `n` keys. -/
theorem weighted_row {n : ℕ} (hn : i.val < n) (hN : n ≤ 16384) (hs : ∀ y, rowScore q k u i y ≠ ⊤) (ho : rowScore q k u i i.val ≠ ⊥) :
    weighted v (expo (kept (units q k))) (ix3 u i x)
      = Ideal.div (gathered (rowScore q k u i) (rowValue v u x) n n) (∑ y ∈ Finset.range n, wt (rowScore q k u i) n y) := by
  rw [weighted_at, total_at]
  simp only [expo_at, top_at, most_at, kept_row]
  rw [← natural (s := rowScore q k u i) (v := rowValue v u x) hN hs (fun y hy => if_neg (by omega)) i.val hn ho]
  simp only [rowValue, at_lt]

end

/-- The reference's result, by its stages. -/
theorem result_eq (m : (ℓ : Loc nD τ sig) → Buf (Elt Ideal) ℓ) (c : Dev nD) : Value.res_main_v26 m c
    = weighted (m ((c.tc : Thread nD τ).loc main_arg2)) (expo (kept (units (m ((c.tc : Thread nD τ).loc main_arg0)) (m ((c.tc : Thread nD τ).loc main_arg1))))) := by
  unfold Value.res_main_v26 weighted total expo along top most kept causal units
  rfl

end Cert.Proof.Ref

end
-- ==== Proof.Value.lean ====
/-
  The kernel program's result array, over the extended reals.
-/
module

public import proofs.«01_k».proof.Proof.FrameIdeal
public import proofs.«01_k».proof.Proof.Online
public import proofs.«01_k».proof.Proof.RefValue
public import Idealize.ShloMosaic.Lib.Pipeline.ValueKit

@[expose] public section

noncomputable section

namespace Cert.Proof.Val

open Cert.KernelIdeal Cert.KernelIdeal.Gen Cert.Proof.Soft Cert.Proof.FrameIdeal
open Idealize.ShloMosaic Idealize.ShloMosaic.TcCoe Idealize.ShloMosaic.Tactic
open Idealize.SL Idealize.SL.Sem

variable (m : (ℓ : Loc nD τ sig) → Buf (Elt Ideal) ℓ) (c : Dev nD)

/-- The keys up to the end of a query's tile. -/
def seen (i : Fin 16384) : ℕ := 512 * (i.val / 512 + 1)

/-- The result at a row. -/
def out (q k : FVec Ideal S4x16384x256 .bf16) (v : FVec Ideal S4x16384x128 .bf16) (u : Fin 4) (i : Fin 16384) (x : Fin 128) : EReal :=
  Ideal.div (gathered (Ref.rowScore q k u i) (Ref.rowValue v u x) (seen i) (seen i)) (∑ y ∈ Finset.range (seen i), wt (Ref.rowScore q k u i) (seen i) y)

/-- The result array. -/
def G : S4x16384x128.Idx → EReal := fun y =>
  out (m ((c.tc : Thread nD τ).loc main_arg0)) (m ((c.tc : Thread nD τ).loc main_arg1)) (m ((c.tc : Thread nD τ).loc main_arg2)) (y 0) (y 1) (y 2)

theorem fill_bot : (fill : Ideal .f32) = (⊥ : EReal) := IdealRules.named_const.ideal_named_scalar _ _ _ _ rfl

section
variable (t : Fin cfg0.N)

/-- A point's unit, its query tile, -/
def unit (t : Fin cfg0.N) : Fin 4 := ⟨(grid0.coords t 0).val, (grid0.coords t 0).isLt⟩

theorem tile_lt : (grid0.coords t 1).val < 32 := (grid0.coords t 1).isLt

/-- and a row's query. -/
def query (t : Fin cfg0.N) (r : Fin 512) : Fin 16384 := ⟨512 * (grid0.coords t 1).val + r.val, by have := tile_lt t; have := r.isLt; omega⟩

/-- The blocks' places. -/
theorem places : ∀ t : Fin cfg0.N, (win0_0.index t 0 = (grid0.coords t 0).val ∧ win0_0.index t 1 = (grid0.coords t 1).val ∧ win0_0.index t 2 = 0)
    ∧ (win0_1.index t 0 = (grid0.coords t 0).val ∧ win0_1.index t 1 = 0 ∧ win0_1.index t 2 = 0)
    ∧ (win0_2.index t 0 = (grid0.coords t 0).val ∧ win0_2.index t 1 = 0 ∧ win0_2.index t 2 = 0)
    ∧ (win0_3.index t 0 = (grid0.coords t 0).val ∧ win0_3.index t 1 = (grid0.coords t 1).val ∧ win0_3.index t 2 = 0) := by
  decide +kernel

theorem block_q (r : Fin 512) (d : Fin 256) : iblk m c 0 t (ix3 0 r d) = m ((c.tc : Thread nD τ).loc main_arg0) (ix3 (unit t) (query t r) d) := by
  blk_ext [iblk, V, unit, query, places t]

theorem block_k (y : Fin 16384) (d : Fin 256) : iblk m c 1 t (ix3 0 y d) = m ((c.tc : Thread nD τ).loc main_arg1) (ix3 (unit t) y d) := by
  blk_ext [iblk, V, unit, query, places t]

theorem block_v (y : Fin 16384) (x : Fin 128) : iblk m c 2 t (ix3 0 y x) = m ((c.tc : Thread nD τ).loc main_arg2) (ix3 (unit t) y x) := by
  blk_ext [iblk, V, unit, query, places t]

theorem block_out (r : Fin 512) (x : Fin 128) : ((cfg0.win 3).blk t).view.emb (ix3 0 r x) = ix3 (unit t) (query t r) x := by
  blk_ext [iblk, V, unit, query, places t]

theorem score_eq (r : Fin 512) : Flash.score (grid0.coords t 1).val (Flash.flatQ (iblk m c 0 t)) (iblk m c 1 t) r
    = Ref.rowScore (m ((c.tc : Thread nD τ).loc main_arg0)) (m ((c.tc : Thread nD τ).loc main_arg1)) (unit t) (query t r) := by
  funext y
  unfold Flash.score Flash.rawScore Ref.rowScore
  simp only [Flash.flatQ_row, block_q, block_k]
  rfl

theorem value_eq (x : Fin 128) : Flash.value (iblk m c 2 t) x = Ref.rowValue (m ((c.tc : Thread nD τ).loc main_arg2)) (unit t) x := by
  funext y
  unfold Flash.value Ref.rowValue
  rw [block_v]

theorem tile_row (r : Fin 512) (x : Fin 128) : tile m c t (ix3 0 r x) = G m c (ix3 (unit t) (query t r) x) := by
  have e : 512 * ((grid0.coords t 1).val + 1) = seen (query t r) := by
    have := r.isLt
    unfold seen query
    dsimp only
    omega
  unfold tile
  rw [fill_bot, Flash.result_row (tile_lt t), score_eq, value_eq, e]
  rfl

end

theorem tile_at (t : Fin cfg0.N) (y : S1x512x128.Idx) : tile m c t y = G m c (((cfg0.win 3).blk t).view.emb y) := by
  have key : ∀ (u : Fin 1) (r : Fin 512) (x : Fin 128), tile m c t (ix3 u r x) = G m c (((cfg0.win 3).blk t).view.emb (ix3 u r x)) := fun u r x => by
    rw [Subsingleton.elim u 0, tile_row, block_out]
  have e : y = ix3 (y 0) (y 1) (y 2) := eq_ix3 y
  generalize y 0 = u at e
  generalize y 1 = r at e
  generalize y 2 = x at e
  subst e
  exact key u r x

theorem array : (dats m 0 c).arrAt 3 cfg0.N = G m c := by
  refine (dats m 0 c).arrAt_eq_of_covers 3 _ (by decide +kernel) fun t hf y => ?_
  blk_simp
  rw [after_3]
  exact tile_at m c t y

/-- The run, with the result array. -/
theorem run (ρ : Dev nD → PrngReg) : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  have h0 : θ_run defs (onTc (τ := τ) (main (F := Ideal))) ⟨m, fun _ => 0, ρ⟩ (fun r => ∀ c : Dev nD,
      r.2.mem ((c.tc : Thread nD τ).loc main_v0) = G m c) :=
    (θ_run defs _ _).mono (fun _ h c => ((h.1 c).1 3).trans (array m c)) (launch m ρ)
  (θ_run defs _ _).mono (fun _ h c => ⟨h.1 c, h.2.1 c⟩) (θ_run_and h0 (frame m ρ))

end Cert.Proof.Val

end
-- ==== Proof.Finite.lean ====
/-
  Finite queries and keys: a row's scores are finite up to the query's own key.
-/
module

public import proofs.«01_k».proof.Pre_finite
public import proofs.«01_k».proof.Proof.RefValue

@[expose] public section

set_option maxRecDepth 16384

noncomputable section

namespace Cert.Proof.Finiteness

open Idealize.ShloMosaic

/-- The precondition's shape facts. -/
theorem facts : Cert.Pre_finite.Facts := ⟨by decide, by decide⟩

/-- Below infinity in magnitude. -/
theorem below {x : EReal} (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  refine ⟨fun hx => ?_, fun hx => ?_⟩ <;> subst hx <;> simp [Ideal.cmp] at h

theorem both {a b : BitVec 1} (h : a &&& b = 1#1) : a = 1#1 ∧ b = 1#1 := by
  revert a b; decide

attribute [local instance] facts

theorem entries {q k : FVec Ideal Cert.Pre_finite.S4x16384x256 .bf16} {v : FVec Ideal Cert.Pre_finite.S4x16384x128 .bf16}
    (h : Cert.Pre_finite.fn q k v = fun _ => 1#1) (y : Cert.Pre_finite.S4x16384x256.Idx) : (q y ≠ ⊤ ∧ q y ≠ ⊥) ∧ (k y ≠ ⊤ ∧ k y ≠ ⊥) := by
  have e := congrFun h y
  unfold Cert.Pre_finite.fn at e
  obtain ⟨e1, e2⟩ := both e
  exact ⟨below e1, below e2⟩

/-- A sum of products of finite values is finite. -/
theorem sum_real {ι : Type} (t : Finset ι) (f g : ι → EReal) (hf : ∀ d, f d ≠ ⊤ ∧ f d ≠ ⊥) (hg : ∀ d, g d ≠ ⊤ ∧ g d ≠ ⊥) :
    ∃ r : ℝ, ∑ d ∈ t, f d * g d = (r : EReal) := by
  refine Finset.sum_induction _ (fun x => ∃ r : ℝ, x = (r : EReal)) ?_ ⟨0, rfl⟩ fun d _ => ?_
  · rintro _ _ ⟨a, rfl⟩ ⟨b, rfl⟩
    exact ⟨a + b, (EReal.coe_add a b).symm⟩
  · have hF := hf d
    have hG := hg d
    generalize f d = a at hF
    generalize g d = b at hG
    lift a to ℝ using hF
    lift b to ℝ using hG
    exact ⟨a * b, (EReal.coe_mul a b).symm⟩

section
open Cert.Proof.Ref
variable {q k : FVec Ideal Cert.ReferenceIdeal.S4x16384x256 .bf16} (hq : ∀ y, q y ≠ ⊤ ∧ q y ≠ ⊥) (hk : ∀ y, k y ≠ ⊤ ∧ k y ≠ ⊥)
  (u : Fin 4) (i : Fin 16384)

include hq hk in
theorem rowScore_ne_top (y : ℕ) : rowScore q k u i y ≠ ⊤ := by
  unfold rowScore
  split
  · obtain ⟨r, e⟩ := sum_real Finset.univ (fun d => q (ix3 u i d)) (fun d => k (ix3 u ⟨y % 16384, Nat.mod_lt _ (by decide)⟩ d)) (fun _ => hq _) (fun _ => hk _)
    rw [e]; exact EReal.coe_ne_top r
  · exact bot_ne_top

include hq hk in
theorem rowScore_own : rowScore q k u i i.val ≠ ⊥ := by
  unfold rowScore
  rw [if_pos le_rfl]
  obtain ⟨r, e⟩ := sum_real Finset.univ (fun d => q (ix3 u i d)) (fun d => k (ix3 u ⟨i.val % 16384, Nat.mod_lt _ (by decide)⟩ d)) (fun _ => hq _) (fun _ => hk _)
  rw [e]; exact EReal.coe_ne_bot r

end

end Cert.Proof.Finiteness

end
-- ==== Proof.Attention.lean ====
/-
  The claims of the attention call.
-/
module

public import proofs.«01_k».proof.Defs
public import proofs.«01_k».proof.Proof.FrameBits
public import proofs.«01_k».proof.Proof.Value
public import proofs.«01_k».proof.Proof.Finite
public import Idealize.ShloMosaic.Lib.Quiescent

@[expose] public section

set_option maxRecDepth 16384

noncomputable section

namespace Cert.Proof.Attention

open Idealize.ShloMosaic Idealize.SL.Sem Idealize.ShloMosaic.TcCoe

attribute [local instance] Cert.Proof.Finiteness.facts

theorem frame_p : Cert.quiescent_Kernel := fun m ρ _ => FrameBits.frame m ρ

theorem frame_pi : Cert.quiescent_KernelIdeal := fun m ρ _ => FrameIdeal.frame m ρ

theorem frame_pi_finite : Cert.quiescent_KernelIdeal_pre_finite := fun m ρ _ => FrameIdeal.frame m ρ

open Cert.ReferenceIdeal in
theorem frame_r (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, Idealize.ShloMosaic.sem_eq_zero_of_no_sems (by decide) r.2⟩)
    (Cert.ReferenceIdeal.Value.run (F := Ideal) m ρ)

theorem frame_ri : Cert.quiescent_ReferenceIdeal := fun m ρ _ => frame_r m ρ

theorem frame_ri_finite : Cert.quiescent_ReferenceIdeal_pre_finite := fun m ρ _ => frame_r m ρ

theorem preserves : Cert.preserves_Kernel_KernelIdeal := IdealRules.named_const.statement Cert.KernelIdeal.κ "neg" .f32 0xF149F2CA#32 ⊥ rfl

/-- The two results, from one memory's arguments. -/
theorem results_eq {q k : FVec Ideal Cert.ReferenceIdeal.S4x16384x256 .bf16} (v : FVec Ideal Cert.ReferenceIdeal.S4x16384x128 .bf16)
    (h : ∀ y, (q y ≠ ⊤ ∧ q y ≠ ⊥) ∧ (k y ≠ ⊤ ∧ k y ≠ ⊥)) :
    Ref.weighted v (Ref.expo (Ref.kept (Ref.units q k))) = fun y => Val.out q k v (y 0) (y 1) (y 2) := by
  funext y
  have key : ∀ (u : Fin 4) (i : Fin 16384) (x : Fin 128), Ref.weighted v (Ref.expo (Ref.kept (Ref.units q k))) (ix3 u i x) = Val.out q k v u i x := fun u i x => by
    have := i.isLt
    exact Ref.weighted_row q k v u i x (n := Val.seen i) (by unfold Val.seen; omega) (by unfold Val.seen; omega)
      (Finiteness.rowScore_ne_top (fun y => (h y).1) (fun y => (h y).2) u i) (Finiteness.rowScore_own (fun y => (h y).1) (fun y => (h y).2) u i)
  have e : y = ix3 (y 0) (y 1) (y 2) := eq_ix3 y
  exact (congrArg (Ref.weighted v (Ref.expo (Ref.kept (Ref.units q k)))) e).trans (key (y 0) (y 1) (y 2))

theorem algebraic : Cert.algebraic_KernelIdeal_ReferenceIdeal_pre_finite := by
  intro m ρ m' ρ' hpre hargs
  refine ⟨fun c => Val.G m c, Val.run m ρ, ?_⟩
  refine (θ_run Cert.ReferenceIdeal.defs _ _).mono (fun r h c => ?_) (Cert.ReferenceIdeal.Value.run (F := Ideal) m' ρ')
  refine ⟨(h c).1.trans ?_, (h c).2⟩
  obtain ⟨e0, e1, e2⟩ := hargs c
  have := Ref.result_eq m' c
  rw [e0, e1, e2] at this
  exact this.trans (results_eq _ fun y => Finiteness.entries (hpre c) y)

end Cert.Proof.Attention

end
-- ==== Proof.DuoStep.lean ====
/-
  ONE STEP of the differential attention: the two halves of a head folded one after the other against the same key and value
  tiles, as a program over the scratch memrefs, and what it does to what they hold.
-/
module

public import proofs.«01_k».proof.Proof.Run
public import proofs.«01_k».proof.Proof.Gen.DiffIdeal

@[expose] public section

noncomputable section

namespace Cert.Proof.Duo

open Cert.DiffIdeal Cert.DiffIdeal.Facts₀
open Cert.Proof.Flash (Carry Tiles plain flat unflat newMax rescale expTile newSum newAcc productV flatV stack tileOf corner corner_inb
  corner_packed load_corner tileOf_stack stack_tileOf owned_load owned_store owned_store_corner)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The words a step stores -/

section Pay
variable {F : FTy → Type} [FloatOps F]

/-- The scores of a half of the query tile against a key tile. -/
def scores (q : FVec F S512x128 .bf16) (kt : Vec F S1x512x128 .bf16) : FVec F S1x512x512 .f32 :=
  shapeCast S1x512x512 (matmul dot_S512x128_S512x128_S512x512_1_1_0_0_n_n none q
    (shapeCast S512x128 kt shapeCasts_S1x512x128_S512x128) (constant S512x512 .f32 0x00000000#32)) shapeCasts_S512x512_S1x512x512

/-- The query tile with the lanes of the other half at zero. -/
def lower (q : Vec F S1x512x128 .bf16) : FVec F S512x128 .bf16 :=
  select (cmpi .slt (iota .tc S512x128 32 [1] iota_S512x128_d1_w32) (broadcast S512x128 64#32)) (flatV q)
    (broadcast S512x128 (Scalar.ofBits .bf16 0x0000#16))
def upper (q : Vec F S1x512x128 .bf16) : FVec F S512x128 .bf16 :=
  select (cmpi .sge (iota .tc S512x128 32 [1] iota_S512x128_d1_w32) (broadcast S512x128 64#32)) (flatV q)
    (broadcast S512x128 (Scalar.ofBits .bf16 0x0000#16))

/-- The reading of a score tile near the diagonal: its bias added, and `fill` where the key comes after the query. -/
def near (fill : F .f32) (row col : BitVec 32) (bt : Vec F S1x1x1x512x512 .f32) (s : Vec F S1x512x512 .f32) : FVec F S512x512 .f32 :=
  select (cmpi .sge (addi (subi (iota .tc S512x512 32 [0] iota_S512x512_d0_w32) (iota .tc S512x512 32 [1] iota_S512x512_d1_w32))
      (broadcast S512x512 (Scalar.muli (Scalar.subi row col) 512#32))) (broadcast S512x512 0#32))
    (addf (plain s) (shapeCast S512x512 bt shapeCasts_S1x1x1x512x512_S512x512)) (broadcast S512x512 fill)

/-- One half's step on what its scratch holds, `sc` the next tile's scores. -/
def fold (b : Fin 2) (sc : Vec F S1x512x512 .f32) (g : Vec F S1x512x512 .f32 → FVec F S512x512 .f32) (vt : Vec F S1x512x128 .bf16)
    (x : Carry F) : Carry F where
  m := unflat (newMax (g (x.s b)) x.m)
  l := newSum (g (x.s b)) x.m x.l
  a := newAcc (x.p (1 - b)) vt (g (x.s b)) x.m x.a
  s := Function.update x.s (1 - b) sc
  p := Function.update x.p b (expTile (g (x.s b)) x.m)

end Pay

/-! ## The two halves' rows as one buffer -/

/-- Two tiles of rows, stacked. -/
def rows {α : Type} (s : Fin 2 → S1x512x128.Idx → α) : S2x512x128.Idx → α :=
  fun i => s (i 0) (fun | 0 => (⟨0, Nat.one_pos⟩ : Fin 1) | 1 => i 1 | 2 => i 2)

/-- A half's rows. -/
def rowsOf {α : Type} (c : Fin 2) (f : S2x512x128.Idx → α) : S1x512x128.Idx → α :=
  fun i => f (fun | 0 => c | 1 => i 1 | 2 => i 2)

theorem rows_rowsOf {α : Type} (f : S2x512x128.Idx → α) : rows (fun c => rowsOf c f) = f := by
  funext i
  refine congrArg f (funext fun a => ?_)
  match a with
  | 0 => rfl
  | 1 => rfl
  | 2 => rfl

theorem rowsOf_rows {α : Type} (s : Fin 2 → S1x512x128.Idx → α) (c : Fin 2) : rowsOf c (rows s) = s c := by
  funext i
  refine congrArg (s c) (funext fun a => ?_)
  match a with
  | 0 => exact Fin.ext (by have := (i 0).isLt; change (i 0).val < 1 at this; change 0 = (i 0).val; omega)
  | 1 => rfl
  | 2 => rfl

theorem rows_inb (c : Fin 2) : ∀ a, corner c a + S1x512x128.size a ≤ S2x512x128.size a := by
  match c with
  | 0 => exact inb_S2x512x128_S1x512x128_0_0_0
  | 1 => exact inb_S2x512x128_S1x512x128_1_0_0

/-- A load of a half's rows reads them. -/
theorem load_rows {α : Type} (s : Fin 2 → S1x512x128.Idx → α) (c : Fin 2) :
    (fun y => rows s ((Rect.unit (s := S2x512x128) (corner c) S1x512x128.size (rows_inb c)).toLoadRect.idx y)) = s c := by
  refine Eq.trans (funext fun y => congrArg (rows s) (funext fun a => Fin.ext ?_)) (rowsOf_rows s c)
  show corner c a + 1 * (y a).val = _
  rw [Nat.one_mul]
  match a with
  | 0 => have := (y 0).isLt; change (y 0).val < 1 at this; change c.val + (y 0).val = c.val; omega
  | 1 => exact Nat.zero_add _
  | 2 => exact Nat.zero_add _

section Reads
variable {sig : RefSig} {e : EltTy} {Val : EltTy → Type}

/-- What a store of a half's rows leaves. -/
theorem store_rows (v : View sig .tc .vmem S2x512x128 e) (f : v.ty.Contents Val) (c : Fin 2) (w : S1x512x128.Idx → Val e) :
    v.read Val ((v.slice (Rect.unit (s := S2x512x128) (corner c) S1x512x128.size (rows_inb c))).write Val f w Finset.univ)
      = rows (Function.update (fun j => rowsOf j (v.read Val f)) c w) := by
  funext y
  let inner : S1x512x128.Idx := fun | 0 => (⟨0, Nat.one_pos⟩ : Fin 1) | 1 => y 1 | 2 => y 2
  let outer : Fin 2 := y 0
  by_cases h : outer = c
  · have e1 := View.read_writes_cons_unit_of_mem v f (rows_inb c) w [] y inner rfl (fun a => by
        match a with
        | 0 => subst h; rfl
        | 1 => exact (Nat.zero_add _).symm
        | 2 => exact (Nat.zero_add _).symm)
    refine e1.trans (congrFun (?_ : w = Function.update (fun j => rowsOf j (v.read Val f)) c w outer) inner)
    rw [h, Function.update_self]
  · have e1 := View.read_writes_cons_unit_of_not_mem v f (rows_inb c) w [] y rfl 0 (by
      show outer.val < c.val ∨ c.val + 1 ≤ outer.val
      have : outer.val ≠ c.val := fun hc => h (Fin.ext hc)
      omega)
    refine e1.trans ((congrFun (rows_rowsOf (v.read Val f)).symm y).trans
      (congrFun (?_ : rowsOf outer (v.read Val f) = Function.update (fun j => rowsOf j (v.read Val f)) c w outer) inner))
    rw [Function.update_of_ne h]

end Reads

/-- The halves' things, by half. -/
def pair {α : Type} (u v : α) : Fin 2 → α
  | 0 => u
  | 1 => v

theorem pair_fst {α : Type} (u v w : α) : Function.update (pair u v) 0 w = pair w v := by
  funext c
  match c with
  | 0 => rfl
  | 1 => rfl

theorem pair_snd {α : Type} (u v w : α) : Function.update (pair u v) 1 w = pair u w := by
  funext c
  match c with
  | 0 => rfl
  | 1 => rfl

theorem pair_eta {α : Type} (f : Fin 2 → α) : pair (f 0) (f 1) = f := by
  funext c
  match c with
  | 0 => rfl
  | 1 => rfl

/-! ## The step, as a program -/

section Prog
variable {nD : Nat} {τ : Topo} {sig : RefSig} {Λ : Labels} {F : FTy → Type} [FloatOps F]

/-- The first part of a half's step: the last exponentials and the tile's scores read, the next tile's scores stored. -/
def head (b : Fin 2) (sc : FVec F S1x512x512 .f32) (ax : Memref sig .tc .vmem S2x512x512 .f32) (ap : Memref sig .tc .vmem S2x512x512 .bf16) :
    Prog (TpuEff nD τ sig (Elt F) Λ .tc) (Vec F S1x512x512 .bf16 × Vec F S1x512x512 .f32) := do
  let p : Vec F S1x512x512 .bf16 ← Prog.lift (.load ap (Rect.unit (s := S2x512x512) (corner (1 - b)) S1x512x512.size (corner_inb _)).toLoadRect (View.loadsAt_vmem h_S1x512x512))
  let s : Vec F S1x512x512 .f32 ← Prog.lift (.load ax (Rect.unit (s := S2x512x512) (corner b) S1x512x512.size (corner_inb _)).toLoadRect (View.loadsAt_vmem h_S1x512x512))
  let _ : Vec F S1x512x512 .f32 ← Prog.lift (.load ax (Rect.unit (s := S2x512x512) (corner (1 - b)) S1x512x512.size (corner_inb _)).toLoadRect (View.loadsAt_vmem h_S1x512x512))
  Prog.lift (.store ax (Rect.unit (s := S2x512x512) (corner (1 - b)) S1x512x512.size (corner_inb _)) sc Finset.univ (View.stores_vmem_bits_univ h_S1x512x512 rfl) (.inl rfl))
  pure (p, s)

/-- The rest of a half's step, the tile read as `g`. -/
def tail (b c : Fin 2) (vt : Vec F S1x512x128 .bf16) (p : Vec F S1x512x512 .bf16) (g : FVec F S512x512 .f32)
    (a9 a10 a11 : Memref sig .tc .vmem S2x512x128 .f32) (ap : Memref sig .tc .vmem S2x512x512 .bf16) (hp : ap.IsWhole) :
    Prog (TpuEff nD τ sig (Elt F) Λ .tc) PUnit := do
  let m : Vec F S1x512x128 .f32 ← Prog.lift (.load a9 (Rect.unit (s := S2x512x128) (corner c) S1x512x128.size (rows_inb c)).toLoadRect (View.loadsAt_vmem h_S1x512x128))
  let _ : Vec F S1x512x512 .bf16 ← Prog.lift (.load ap (Rect.unit (s := S2x512x512) (corner b) S1x512x512.size (corner_inb _)).toLoadRect (View.loadsAt_vmem h_S1x512x512))
  Prog.lift (.store ap (Rect.unit (s := S2x512x512) (corner b) S1x512x512.size (corner_inb _)) (expTile g m) Finset.univ (View.stores_vmem h_S1x512x512 (hp.storeExact_slice rfl _ (corner_packed b)) (fun _ => rfl)) (.inl rfl))
  let l : Vec F S1x512x128 .f32 ← Prog.lift (.load a10 (Rect.unit (s := S2x512x128) (corner c) S1x512x128.size (rows_inb c)).toLoadRect (View.loadsAt_vmem h_S1x512x128))
  let _ : Vec F S1x512x128 .f32 ← Prog.lift (.load a10 (Rect.unit (s := S2x512x128) (corner c) S1x512x128.size (rows_inb c)).toLoadRect (View.loadsAt_vmem h_S1x512x128))
  Prog.lift (.store a10 (Rect.unit (s := S2x512x128) (corner c) S1x512x128.size (rows_inb c)) (newSum g m l) Finset.univ (View.stores_vmem_bits_univ h_S1x512x128 rfl) (.inl rfl))
  let a : Vec F S1x512x128 .f32 ← Prog.lift (.load a11 (Rect.unit (s := S2x512x128) (corner c) S1x512x128.size (rows_inb c)).toLoadRect (View.loadsAt_vmem h_S1x512x128))
  let _ : Vec F S1x512x128 .f32 ← Prog.lift (.load a11 (Rect.unit (s := S2x512x128) (corner c) S1x512x128.size (rows_inb c)).toLoadRect (View.loadsAt_vmem h_S1x512x128))
  Prog.lift (.store a11 (Rect.unit (s := S2x512x128) (corner c) S1x512x128.size (rows_inb c)) (newAcc p vt g m a) Finset.univ (View.stores_vmem_bits_univ h_S1x512x128 rfl) (.inl rfl))
  let _ : Vec F S1x512x128 .f32 ← Prog.lift (.load a9 (Rect.unit (s := S2x512x128) (corner c) S1x512x128.size (rows_inb c)).toLoadRect (View.loadsAt_vmem h_S1x512x128))
  Prog.lift (.store a9 (Rect.unit (s := S2x512x128) (corner c) S1x512x128.size (rows_inb c)) (unflat (newMax g m)) Finset.univ (View.stores_vmem_bits_univ h_S1x512x128 rfl) (.inl rfl))
  pure ⟨⟩

section
variable (b : Fin 2) (q0 q1 : FVec F S512x128 .bf16) (a3 a4 : Memref sig .tc .vmem S1x16384x128 .bf16)
    (a5 : Memref sig .tc .vmem S1x1x4x512x512 .f32) (a9 a10 a11 : Memref sig .tc .vmem S2x512x128 .f32)
    (a12 a13 : Memref sig .tc .vmem S2x512x512 .f32) (a14 a15 : Memref sig .tc .vmem S2x512x512 .bf16) (h14 : a14.IsWhole) (h15 : a15.IsWhole)

/-- A step far below the diagonal. -/
def farProg (ok ov : Fin 3 → ℕ) (hk : ∀ a, ok a + S1x512x128.size a ≤ S1x16384x128.size a)
    (hv : ∀ a, ov a + S1x512x128.size a ≤ S1x16384x128.size a) : Prog (TpuEff nD τ sig (Elt F) Λ .tc) PUnit := do
  let kt : Vec F S1x512x128 .bf16 ← Prog.lift (.load a3 (Rect.unit (s := S1x16384x128) ok S1x512x128.size hk).toLoadRect (View.loadsAt_vmem h_S1x512x128))
  let vt : Vec F S1x512x128 .bf16 ← Prog.lift (.load a4 (Rect.unit (s := S1x16384x128) ov S1x512x128.size hv).toLoadRect (View.loadsAt_vmem h_S1x512x128))
  let r ← head b (scores q0 kt) a12 a14
  tail b 0 vt r.1 (plain r.2) a9 a10 a11 a14 h14
  let r ← head b (scores q1 kt) a13 a15
  tail b 1 vt r.1 (plain r.2) a9 a10 a11 a15 h15
  pure ⟨⟩

/-- A step near the diagonal, the bias tile read for each half. -/
def nearProg (fill : F .f32) (row col : BitVec 32) (ok ov : Fin 3 → ℕ) (ob : Fin 5 → ℕ) (hk : ∀ a, ok a + S1x512x128.size a ≤ S1x16384x128.size a)
    (hv : ∀ a, ov a + S1x512x128.size a ≤ S1x16384x128.size a) (hb : ∀ a, ob a + S1x1x1x512x512.size a ≤ S1x1x4x512x512.size a) :
    Prog (TpuEff nD τ sig (Elt F) Λ .tc) PUnit := do
  let kt : Vec F S1x512x128 .bf16 ← Prog.lift (.load a3 (Rect.unit (s := S1x16384x128) ok S1x512x128.size hk).toLoadRect (View.loadsAt_vmem h_S1x512x128))
  let vt : Vec F S1x512x128 .bf16 ← Prog.lift (.load a4 (Rect.unit (s := S1x16384x128) ov S1x512x128.size hv).toLoadRect (View.loadsAt_vmem h_S1x512x128))
  let r ← head b (scores q0 kt) a12 a14
  let bt : Vec F S1x1x1x512x512 .f32 ← Prog.lift (.load a5 (Rect.unit (s := S1x1x4x512x512) ob S1x1x1x512x512.size hb).toLoadRect (View.loadsAt_vmem h_S1x1x1x512x512))
  tail b 0 vt r.1 (near fill row col bt r.2) a9 a10 a11 a14 h14
  let r ← head b (scores q1 kt) a13 a15
  let bt : Vec F S1x1x1x512x512 .f32 ← Prog.lift (.load a5 (Rect.unit (s := S1x1x4x512x512) ob S1x1x1x512x512.size hb).toLoadRect (View.loadsAt_vmem h_S1x1x1x512x512))
  tail b 1 vt r.1 (near fill row col bt r.2) a9 a10 a11 a15 h15
  pure ⟨⟩

end

end Prog

/-! ## What the step does -/

section Rules
variable {nD : Nat} {τ : Topo} {sig : RefSig} {Λ : Labels} {F : FTy → Type} [FloatOps F]
variable {defs : Defs nD τ sig (Elt F) Λ} (𝒱 : Variants) (d : Dev nD) (bd : Option 𝒱.V) (E : Set ℕ)

local notation "𝕄" => MT nD τ sig Unit (Elt F) ℕ (UR sig nD τ) ℕ

/-- A store of a half's rows. -/
theorem owned_store_rows {α : Type} {Q : α → sProp 𝕄} {e : EltTy} {m : Memref sig .tc .vmem S2x512x128 e} (c : Fin 2) {w : S1x512x128.Idx → Elt F e}
    {hx : (m.access (Rect.unit (s := S2x512x128) (corner c) S1x512x128.size (rows_inb c))).Stores Finset.univ}
    {hm : (Finset.univ : Finset S1x512x128.Idx) = Finset.univ ∨ ∀ a, (Rect.unit (s := S2x512x128) (corner c) S1x512x128.size (rows_inb c)).stride a = 1}
    {k : PUnit → Prog (TpuEff nD τ sig (Elt F) Λ .tc) α} {X : Fin 2 → S1x512x128.Idx → Elt F e} :
    (owns (d : Thread nD τ) m fullShare (rows X) : sProp 𝕄) ⊢ iprop((owns (d : Thread nD τ) m fullShare (rows (Function.update X c w))
        -∗ wp frame (wpE defs 𝒱 (d : Thread nD τ) bd) E (k ⟨⟩) Q)
      -∗ wp frame (wpE defs 𝒱 (d : Thread nD τ) bd) E (Prog.lift (.store m (Rect.unit (s := S2x512x128) (corner c) S1x512x128.size (rows_inb c)) w Finset.univ hx hm) >>= k) Q) :=
  owned_store 𝒱 d bd E fun f hf => (store_rows m.view f c w).trans (by rw [hf]; simp only [rowsOf_rows])

/-- The first part of a half's step. -/
theorem head_run {α : Type} (b : Fin 2) (sc : FVec F S1x512x512 .f32) (ax : Memref sig .tc .vmem S2x512x512 .f32)
    (ap : Memref sig .tc .vmem S2x512x512 .bf16) (s : Fin 2 → Vec F S1x512x512 .f32) (p : Fin 2 → Vec F S1x512x512 .bf16)
    {k : Vec F S1x512x512 .bf16 × Vec F S1x512x512 .f32 → Prog (TpuEff nD τ sig (Elt F) Λ .tc) α} {Q : α → sProp 𝕄} :
    iprop(owns (d : Thread nD τ) ax fullShare (stack s) ∗ owns (d : Thread nD τ) ap fullShare (stack p)
        ∗ (owns (d : Thread nD τ) ax fullShare (stack (Function.update s (1 - b) sc)) ∗ owns (d : Thread nD τ) ap fullShare (stack p)
          -∗ wp frame (wpE defs 𝒱 (d : Thread nD τ) bd) E (k (p (1 - b), s b)) Q))
      ⊢ wp frame (wpE defs 𝒱 (d : Thread nD τ) bd) E (head b sc ax ap >>= k) Q := by
  rw [wp_bind]
  unfold head
  iintro ⟨Hs, Hp, Hk⟩
  iapply (owned_load 𝒱 d bd E ((load_corner _ (1 - b)).trans (tileOf_stack _ _))) $$ Hp; iintro Hp
  iapply (owned_load 𝒱 d bd E ((load_corner _ b).trans (tileOf_stack _ _))) $$ Hs; iintro Hs
  iapply (owned_load 𝒱 d bd E ((load_corner _ (1 - b)).trans (tileOf_stack _ _))) $$ Hs; iintro Hs
  iapply (owned_store_corner 𝒱 d bd E (1 - b)) $$ Hs; iintro Hs
  iapply (le_wp_ret frame (wpE defs 𝒱 (d : Thread nD τ) bd) E)
  iapply Hk
  isplitl [Hs]; · iexact Hs
  iexact Hp

/-- The rest of a half's step. -/
theorem tail_run {α : Type} (b c : Fin 2) (vt : Vec F S1x512x128 .bf16) (p : Vec F S1x512x512 .bf16) (g : FVec F S512x512 .f32)
    (a9 a10 a11 : Memref sig .tc .vmem S2x512x128 .f32) (ap : Memref sig .tc .vmem S2x512x512 .bf16) (hp : ap.IsWhole)
    (M L A : Fin 2 → Vec F S1x512x128 .f32) (P : Fin 2 → Vec F S1x512x512 .bf16)
    {k : PUnit → Prog (TpuEff nD τ sig (Elt F) Λ .tc) α} {Q : α → sProp 𝕄} :
    iprop(owns (d : Thread nD τ) a9 fullShare (rows M) ∗ owns (d : Thread nD τ) a10 fullShare (rows L) ∗ owns (d : Thread nD τ) a11 fullShare (rows A)
        ∗ owns (d : Thread nD τ) ap fullShare (stack P)
        ∗ (owns (d : Thread nD τ) a9 fullShare (rows (Function.update M c (unflat (newMax g (M c)))))
            ∗ owns (d : Thread nD τ) a10 fullShare (rows (Function.update L c (newSum g (M c) (L c))))
            ∗ owns (d : Thread nD τ) a11 fullShare (rows (Function.update A c (newAcc p vt g (M c) (A c))))
            ∗ owns (d : Thread nD τ) ap fullShare (stack (Function.update P b (expTile g (M c))))
          -∗ wp frame (wpE defs 𝒱 (d : Thread nD τ) bd) E (k ⟨⟩) Q))
      ⊢ wp frame (wpE defs 𝒱 (d : Thread nD τ) bd) E (tail b c vt p g a9 a10 a11 ap hp >>= k) Q := by
  rw [wp_bind]
  unfold tail
  iintro ⟨Hm, Hl, Ha, Hp, Hk⟩
  iapply (owned_load 𝒱 d bd E (load_rows _ c)) $$ Hm; iintro Hm
  iapply (owned_load 𝒱 d bd E ((load_corner _ b).trans (tileOf_stack _ _))) $$ Hp; iintro Hp
  iapply (owned_store_corner 𝒱 d bd E b) $$ Hp; iintro Hp
  iapply (owned_load 𝒱 d bd E (load_rows _ c)) $$ Hl; iintro Hl
  iapply (owned_load 𝒱 d bd E (load_rows _ c)) $$ Hl; iintro Hl
  iapply (owned_store_rows 𝒱 d bd E c) $$ Hl; iintro Hl
  iapply (owned_load 𝒱 d bd E (load_rows _ c)) $$ Ha; iintro Ha
  iapply (owned_load 𝒱 d bd E (load_rows _ c)) $$ Ha; iintro Ha
  iapply (owned_store_rows 𝒱 d bd E c) $$ Ha; iintro Ha
  iapply (owned_load 𝒱 d bd E (load_rows _ c)) $$ Hm; iintro Hm
  iapply (owned_store_rows 𝒱 d bd E c) $$ Hm; iintro Hm
  iapply (le_wp_ret frame (wpE defs 𝒱 (d : Thread nD τ) bd) E)
  iapply Hk
  isplitl [Hm]; · iexact Hm
  isplitl [Hl]; · iexact Hl
  isplitl [Ha]; · iexact Ha
  iexact Hp

variable (b : Fin 2) (q0 q1 : FVec F S512x128 .bf16) (a3 a4 : Memref sig .tc .vmem S1x16384x128 .bf16)
    (a5 : Memref sig .tc .vmem S1x1x4x512x512 .f32) (a9 a10 a11 : Memref sig .tc .vmem S2x512x128 .f32)
    (a12 a13 : Memref sig .tc .vmem S2x512x512 .f32) (a14 a15 : Memref sig .tc .vmem S2x512x512 .bf16) (h14 : a14.IsWhole) (h15 : a15.IsWhole)

/-- The scratch owned at a carry for each half. -/
def carried (x y : Carry F) : sProp 𝕄 :=
  iprop(owns (d : Thread nD τ) a9 fullShare (rows (pair x.m y.m)) ∗ owns (d : Thread nD τ) a10 fullShare (rows (pair x.l y.l))
    ∗ owns (d : Thread nD τ) a11 fullShare (rows (pair x.a y.a))
    ∗ owns (d : Thread nD τ) a12 fullShare (stack x.s) ∗ owns (d : Thread nD τ) a13 fullShare (stack y.s)
    ∗ owns (d : Thread nD τ) a14 fullShare (stack x.p) ∗ owns (d : Thread nD τ) a15 fullShare (stack y.p))

/-- The bias tile at an offset. -/
def biasAt {α : Type} (X : S1x1x4x512x512.Idx → α) (o : Fin 5 → ℕ) (h : ∀ a, o a + S1x1x1x512x512.size a ≤ S1x1x4x512x512.size a) : S1x1x1x512x512.Idx → α :=
  fun y => X ((Rect.unit (s := S1x1x4x512x512) o S1x1x1x512x512.size h).toLoadRect.idx y)

variable (q3 q4 q5 : PosShare TreeShare) (X3 X4 : Vec F S1x16384x128 .bf16) (X5 : Vec F S1x1x4x512x512 .f32) (x y : Carry F)

/-- A FAR STEP. -/
theorem far_run (ok ov : Fin 3 → ℕ) (hk : ∀ a, ok a + S1x512x128.size a ≤ S1x16384x128.size a)
    (hv : ∀ a, ov a + S1x512x128.size a ≤ S1x16384x128.size a) {Q : PUnit → sProp 𝕄} :
    iprop(owns (d : Thread nD τ) a3 q3 X3 ∗ owns (d : Thread nD τ) a4 q4 X4 ∗ carried d a9 a10 a11 a12 a13 a14 a15 x y
      ∗ (owns (d : Thread nD τ) a3 q3 X3 ∗ owns (d : Thread nD τ) a4 q4 X4
          ∗ carried d a9 a10 a11 a12 a13 a14 a15 (fold b (scores q0 (Flash.valAt X3 ok hk)) plain (Flash.valAt X4 ov hv) x)
              (fold b (scores q1 (Flash.valAt X3 ok hk)) plain (Flash.valAt X4 ov hv) y) -∗ Q ⟨⟩))
      ⊢ wp frame (wpE defs 𝒱 (d : Thread nD τ) bd) E (farProg b q0 q1 a3 a4 a9 a10 a11 a12 a13 a14 a15 h14 h15 ok ov hk hv) Q := by
  unfold carried farProg
  iintro ⟨H3, H4, ⟨Hm, Hl, Ha, Hs, Ht, Hp, Hr⟩, Hk⟩
  iapply (owned_load 𝒱 d bd E (w := Flash.valAt X3 ok hk) rfl) $$ H3; iintro H3
  iapply (owned_load 𝒱 d bd E (w := Flash.valAt X4 ov hv) rfl) $$ H4; iintro H4
  iapply (head_run 𝒱 d bd E b _ a12 a14 x.s x.p)
  isplitl [Hs]; · iexact Hs
  isplitl [Hp]; · iexact Hp
  iintro ⟨Hs, Hp⟩
  iapply (tail_run 𝒱 d bd E b 0 _ _ _ a9 a10 a11 a14 h14 _ _ _ _)
  isplitl [Hm]; · iexact Hm
  isplitl [Hl]; · iexact Hl
  isplitl [Ha]; · iexact Ha
  isplitl [Hp]; · iexact Hp
  simp only [pair_fst]
  iintro ⟨Hm, Hl, Ha, Hp⟩
  iapply (head_run 𝒱 d bd E b _ a13 a15 y.s y.p)
  isplitl [Ht]; · iexact Ht
  isplitl [Hr]; · iexact Hr
  iintro ⟨Ht, Hr⟩
  iapply (tail_run 𝒱 d bd E b 1 _ _ _ a9 a10 a11 a15 h15 _ _ _ _)
  isplitl [Hm]; · iexact Hm
  isplitl [Hl]; · iexact Hl
  isplitl [Ha]; · iexact Ha
  isplitl [Hr]; · iexact Hr
  simp only [pair_snd]
  iintro ⟨Hm, Hl, Ha, Hr⟩
  iapply (le_wp_ret frame (wpE defs 𝒱 (d : Thread nD τ) bd) E PUnit.unit Q)
  iapply Hk
  unfold fold
  isplitl [H3]; · iexact H3
  isplitl [H4]; · iexact H4
  isplitl [Hm]; · iexact Hm
  isplitl [Hl]; · iexact Hl
  isplitl [Ha]; · iexact Ha
  isplitl [Hs]; · iexact Hs
  isplitl [Ht]; · iexact Ht
  isplitl [Hp]; · iexact Hp
  iexact Hr

/-- A NEAR STEP. -/
theorem near_run (fill : F .f32) (row col : BitVec 32) (ok ov : Fin 3 → ℕ) (ob : Fin 5 → ℕ) (hk : ∀ a, ok a + S1x512x128.size a ≤ S1x16384x128.size a)
    (hv : ∀ a, ov a + S1x512x128.size a ≤ S1x16384x128.size a) (hb : ∀ a, ob a + S1x1x1x512x512.size a ≤ S1x1x4x512x512.size a) {Q : PUnit → sProp 𝕄} :
    iprop(owns (d : Thread nD τ) a3 q3 X3 ∗ owns (d : Thread nD τ) a4 q4 X4 ∗ owns (d : Thread nD τ) a5 q5 X5
      ∗ carried d a9 a10 a11 a12 a13 a14 a15 x y
      ∗ (owns (d : Thread nD τ) a3 q3 X3 ∗ owns (d : Thread nD τ) a4 q4 X4 ∗ owns (d : Thread nD τ) a5 q5 X5
          ∗ carried d a9 a10 a11 a12 a13 a14 a15
              (fold b (scores q0 (Flash.valAt X3 ok hk)) (near fill row col (biasAt X5 ob hb)) (Flash.valAt X4 ov hv) x)
              (fold b (scores q1 (Flash.valAt X3 ok hk)) (near fill row col (biasAt X5 ob hb)) (Flash.valAt X4 ov hv) y) -∗ Q ⟨⟩))
      ⊢ wp frame (wpE defs 𝒱 (d : Thread nD τ) bd) E
        (nearProg b q0 q1 a3 a4 a5 a9 a10 a11 a12 a13 a14 a15 h14 h15 fill row col ok ov ob hk hv hb) Q := by
  unfold carried nearProg
  iintro ⟨H3, H4, H5, ⟨Hm, Hl, Ha, Hs, Ht, Hp, Hr⟩, Hk⟩
  iapply (owned_load 𝒱 d bd E (w := Flash.valAt X3 ok hk) rfl) $$ H3; iintro H3
  iapply (owned_load 𝒱 d bd E (w := Flash.valAt X4 ov hv) rfl) $$ H4; iintro H4
  iapply (head_run 𝒱 d bd E b _ a12 a14 x.s x.p)
  isplitl [Hs]; · iexact Hs
  isplitl [Hp]; · iexact Hp
  iintro ⟨Hs, Hp⟩
  iapply (owned_load 𝒱 d bd E (w := biasAt X5 ob hb) rfl) $$ H5; iintro H5
  iapply (tail_run 𝒱 d bd E b 0 _ _ _ a9 a10 a11 a14 h14 _ _ _ _)
  isplitl [Hm]; · iexact Hm
  isplitl [Hl]; · iexact Hl
  isplitl [Ha]; · iexact Ha
  isplitl [Hp]; · iexact Hp
  simp only [pair_fst]
  iintro ⟨Hm, Hl, Ha, Hp⟩
  iapply (head_run 𝒱 d bd E b _ a13 a15 y.s y.p)
  isplitl [Ht]; · iexact Ht
  isplitl [Hr]; · iexact Hr
  iintro ⟨Ht, Hr⟩
  iapply (owned_load 𝒱 d bd E (w := biasAt X5 ob hb) rfl) $$ H5; iintro H5
  iapply (tail_run 𝒱 d bd E b 1 _ _ _ a9 a10 a11 a15 h15 _ _ _ _)
  isplitl [Hm]; · iexact Hm
  isplitl [Hl]; · iexact Hl
  isplitl [Ha]; · iexact Ha
  isplitl [Hr]; · iexact Hr
  simp only [pair_snd]
  iintro ⟨Hm, Hl, Ha, Hr⟩
  iapply (le_wp_ret frame (wpE defs 𝒱 (d : Thread nD τ) bd) E PUnit.unit Q)
  iapply Hk
  unfold fold
  isplitl [H3]; · iexact H3
  isplitl [H4]; · iexact H4
  isplitl [H5]; · iexact H5
  isplitl [Hm]; · iexact Hm
  isplitl [Hl]; · iexact Hl
  isplitl [Ha]; · iexact Ha
  isplitl [Hs]; · iexact Hs
  isplitl [Ht]; · iexact Ht
  isplitl [Hp]; · iexact Hp
  iexact Hr

end Rules

end Cert.Proof.Duo

end
-- ==== Proof.DuoBody.lean ====
/-
  THE DIFFERENTIAL ATTENTION'S BODY as steps: a prologue for each half, a counted loop of eight far steps a trip, a remainder
  loop, three guarded pairs of far steps, four guarded near steps, and the combination of the two halves.
-/
module

public import proofs.«01_k».proof.Proof.DuoStep

@[expose] public section

noncomputable section

namespace Cert.Proof.Duo

open Cert.DiffIdeal Cert.DiffIdeal.Facts₀ Cert.DiffIdeal.Facts
open Cert.Proof.Flash (flat unflat productV flatV noTile noMax noSum floorDiv corner corner_inb corner_packed)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Prog
variable {nD : Nat} {τ : Topo} {sig : RefSig} {Λ : Labels} {F : FTy → Type} [FloatOps F]

/-- The query tile's number, and the number of far pairs of key tiles. -/
def rowWord (i : grid0.Coords) : BitVec 32 := BitVec.ofNat 32 (i 1).val
def pairsWord (i : grid0.Coords) : BitVec 32 :=
  floorDiv (Scalar.maxsi (Scalar.addi (Scalar.subi (rowWord i) 3#32) 1#32) 0#32) 2#32

/-- A half's result: what was gathered and the last tile's product, over the sum of the lanes. -/
def quotient (vt : Vec F S1x512x128 .bf16) (a : Vec F S1x512x128 .f32) (p : Vec F S1x512x512 .bf16) (l : Vec F S1x512x128 .f32) :
    FVec F S512x128 .f32 :=
  divf (addf (flat a) (productV p (flatV vt)))
    (broadcastTo S512x128 (shapeCast S512x1 (multiReduction .add [1] S512 (flat l) 0x00000000#32 reduces_S512x128_S512 (.inl rfl) rfl)
      shapeCasts_S512_S512x1) broadcasts_S512x1_S512x128)

/-- The weight of the second half, from the learnt vectors. -/
def weightOf (lp : Vec F S4x64 .f32) : FVec F S1x1 .f32 :=
  addf (subf
      (exp (shapeCast S1x1 (multiReduction .add [1] S1 (mulf (extractStridedSlice S1x64 ![0, 0] lp slices_S4x64_o0_0_S1x64)
        (extractStridedSlice S1x64 ![1, 0] lp slices_S4x64_o1_0_S1x64)) 0x00000000#32 reduces_S1x64_S1 (.inl rfl) rfl) shapeCasts_S1_S1x1))
      (exp (shapeCast S1x1 (multiReduction .add [1] S1 (mulf (extractStridedSlice S1x64 ![2, 0] lp slices_S4x64_o2_0_S1x64)
        (extractStridedSlice S1x64 ![3, 0] lp slices_S4x64_o3_0_S1x64)) 0x00000000#32 reduces_S1x64_S1 (.inl rfl) rfl) shapeCasts_S1_S1x1)))
    (broadcast S1x1 (Scalar.ofBits .f32 0x3E4CCCCD#32))

/-- The first half less the weighted second. -/
def differ (u v : FVec F S512x128 .f32) (lp : Vec F S4x64 .f32) : FVec F S512x128 .f32 :=
  subf u (mulf (broadcastTo S512x128 (weightOf lp) broadcasts_S1x1_S512x128) v)

/-- One over the root of the mean square of each row. -/
def scaleOf (x : FVec F S512x128 .f32) : FVec F S512x1 .f32 :=
  rsqrt (addf (divf (shapeCast S512x1 (multiReduction .add [1] S512 (mulf x x) 0x00000000#32 reduces_S512x128_S512 (.inl rfl) rfl)
      shapeCasts_S512_S512x1) (broadcast S512x1 (Scalar.ofBits .f32 0x43000000#32))) (broadcast S512x1 (Scalar.ofBits .f32 0x358637BD#32)))

/-- The row scaled to unit mean square and by its gain. -/
def norm (x : FVec F S512x128 .f32) (g : Vec F S1x128 .f32) : FVec F S1x512x128 .bf16 :=
  shapeCast S1x512x128 (truncf .bf16 (mulf (mulf (mulf x (broadcastTo S512x128 (scaleOf x) broadcasts_S512x1_S512x128))
    (broadcastTo S512x128 g broadcasts_S1x128_S512x128)) (broadcast S512x128 (Scalar.ofBits .f32 0x3F4CCCCD#32))) bitsLt_bf16_f32)
    shapeCasts_S512x128_S1x512x128

section
variable (q0 q1 : FVec F S512x128 .bf16) (fill : F .f32) (i : grid0.Coords) (a3 a4 : Memref sig .tc .vmem S1x16384x128 .bf16)
    (a5 : Memref sig .tc .vmem S1x1x4x512x512 .f32) (a9 a10 a11 : Memref sig .tc .vmem S2x512x128 .f32)
    (a12 a13 : Memref sig .tc .vmem S2x512x512 .f32) (a14 a15 : Memref sig .tc .vmem S2x512x512 .bf16) (h14 : a14.IsWhole) (h15 : a15.IsWhole)

/-- Eight far steps, at offsets even and odd. -/
def octet (okE ovE okO ovO : Fin 4 → Fin 3 → ℕ)
    (hkE : ∀ r a, okE r a + S1x512x128.size a ≤ S1x16384x128.size a) (hvE : ∀ r a, ovE r a + S1x512x128.size a ≤ S1x16384x128.size a)
    (hkO : ∀ r a, okO r a + S1x512x128.size a ≤ S1x16384x128.size a) (hvO : ∀ r a, ovO r a + S1x512x128.size a ≤ S1x16384x128.size a) :
    Prog (TpuEff nD τ sig (Elt F) Λ .tc) PUnit := do
  farProg 0 q0 q1 a3 a4 a9 a10 a11 a12 a13 a14 a15 h14 h15 (okE 0) (ovE 0) (hkE 0) (hvE 0)
  farProg 1 q0 q1 a3 a4 a9 a10 a11 a12 a13 a14 a15 h14 h15 (okO 0) (ovO 0) (hkO 0) (hvO 0)
  farProg 0 q0 q1 a3 a4 a9 a10 a11 a12 a13 a14 a15 h14 h15 (okE 1) (ovE 1) (hkE 1) (hvE 1)
  farProg 1 q0 q1 a3 a4 a9 a10 a11 a12 a13 a14 a15 h14 h15 (okO 1) (ovO 1) (hkO 1) (hvO 1)
  farProg 0 q0 q1 a3 a4 a9 a10 a11 a12 a13 a14 a15 h14 h15 (okE 2) (ovE 2) (hkE 2) (hvE 2)
  farProg 1 q0 q1 a3 a4 a9 a10 a11 a12 a13 a14 a15 h14 h15 (okO 2) (ovO 2) (hkO 2) (hvO 2)
  farProg 0 q0 q1 a3 a4 a9 a10 a11 a12 a13 a14 a15 h14 h15 (okE 3) (ovE 3) (hkE 3) (hvE 3)
  farProg 1 q0 q1 a3 a4 a9 a10 a11 a12 a13 a14 a15 h14 h15 (okO 3) (ovO 3) (hkO 3) (hvO 3)

/-- One trip of the loop of eights, and of the remainder loop. -/
def trip1 (t : Fin (k0_t1_loop i).trips) : Prog (TpuEff nD τ sig (Elt F) Λ .tc) (BitVec 32) := do
  octet q0 q1 a3 a4 a9 a10 a11 a12 a13 a14 a15 h14 h15 (fun r => k0_off1 i t (BitVec.ofNat 32 (2 * r.val))) (fun r => k0_off2 i t (BitVec.ofNat 32 (2 * r.val)))
    (fun r => k0_off3 i t (BitVec.ofNat 32 (2 * r.val))) (fun r => k0_off4 i t (BitVec.ofNat 32 (2 * r.val)))
    (k0_off1_inb i t) (k0_off2_inb i t) (k0_off3_inb i t) (k0_off4_inb i t)
  pure 0#32

def trip2 (t : Fin (k0_t2_loop i).trips) : Prog (TpuEff nD τ sig (Elt F) Λ .tc) (BitVec 32) := do
  octet q0 q1 a3 a4 a9 a10 a11 a12 a13 a14 a15 h14 h15 (fun r => k0_off5 i t (BitVec.ofNat 32 (2 * r.val))) (fun r => k0_off6 i t (BitVec.ofNat 32 (2 * r.val)))
    (fun r => k0_off7 i t (BitVec.ofNat 32 (2 * r.val))) (fun r => k0_off8 i t (BitVec.ofNat 32 (2 * r.val)))
    (k0_off5_inb i t) (k0_off6_inb i t) (k0_off7_inb i t) (k0_off8_inb i t)
  pure 0#32

/-- Two far steps under a guard. -/
def pairIf {α : Type} (g : Prop) [Decidable g] (okE ovE okO ovO : Fin 3 → ℕ)
    (hkE : g → ∀ a, okE a + S1x512x128.size a ≤ S1x16384x128.size a) (hvE : g → ∀ a, ovE a + S1x512x128.size a ≤ S1x16384x128.size a)
    (hkO : g → ∀ a, okO a + S1x512x128.size a ≤ S1x16384x128.size a) (hvO : g → ∀ a, ovO a + S1x512x128.size a ≤ S1x16384x128.size a)
    (next : Prog (TpuEff nD τ sig (Elt F) Λ .tc) α) : Prog (TpuEff nD τ sig (Elt F) Λ .tc) α :=
  if h : g then do
    farProg 0 q0 q1 a3 a4 a9 a10 a11 a12 a13 a14 a15 h14 h15 okE ovE (hkE h) (hvE h)
    farProg 1 q0 q1 a3 a4 a9 a10 a11 a12 a13 a14 a15 h14 h15 okO ovO (hkO h) (hvO h)
    next
  else next

/-- One near step under a guard. -/
def nearIf {α : Type} (g : Prop) [Decidable g] (b : Fin 2) (col : BitVec 32) (ok ov : Fin 3 → ℕ) (ob : Fin 5 → ℕ)
    (hk : g → ∀ a, ok a + S1x512x128.size a ≤ S1x16384x128.size a) (hv : g → ∀ a, ov a + S1x512x128.size a ≤ S1x16384x128.size a)
    (hb : g → ∀ a, ob a + S1x1x1x512x512.size a ≤ S1x1x4x512x512.size a)
    (next : Prog (TpuEff nD τ sig (Elt F) Λ .tc) α) : Prog (TpuEff nD τ sig (Elt F) Λ .tc) α :=
  if h : g then do
    nearProg b q0 q1 a3 a4 a5 a9 a10 a11 a12 a13 a14 a15 h14 h15 fill (rowWord i) col ok ov ob (hk h) (hv h) (hb h)
    next
  else next

/-- The steps after the loop of eights, but for the last near one. -/
def laterSteps (w : BitVec 32) : Prog (TpuEff nD τ sig (Elt F) Λ .tc) (Σ' (_ : BitVec 32), BitVec 1) := do
  let _ ← Scf.Loop.for (k0_t2_loop i) (k0_t2_ok i) w (fun t _ => trip2 q0 q1 i a3 a4 a9 a10 a11 a12 a13 a14 a15 h14 h15 t)
  pairIf q0 q1 a3 a4 a9 a10 a11 a12 a13 a14 a15 h14 h15 (k0_cond1 i = 1#1) (k0_off9 i) (k0_off10 i) (k0_off11 i) (k0_off12 i)
    (k0_off9_inb i) (k0_off10_inb i) (k0_off11_inb i) (k0_off12_inb i) <|
  pairIf q0 q1 a3 a4 a9 a10 a11 a12 a13 a14 a15 h14 h15 (k0_cond2 i = 1#1) (k0_off13 i) (k0_off14 i) (k0_off15 i) (k0_off16 i)
    (k0_off13_inb i) (k0_off14_inb i) (k0_off15_inb i) (k0_off16_inb i) <|
  pairIf q0 q1 a3 a4 a9 a10 a11 a12 a13 a14 a15 h14 h15 (k0_cond3 i = 1#1) (k0_off17 i) (k0_off18 i) (k0_off19 i) (k0_off20 i)
    (k0_off17_inb i) (k0_off18_inb i) (k0_off19_inb i) (k0_off20_inb i) <|
  nearIf q0 q1 fill i a3 a4 a5 a9 a10 a11 a12 a13 a14 a15 h14 h15 (k0_cond4 i = 1#1) 0 (Scalar.addi (Scalar.muli 2#32 (pairsWord i)) 0#32)
    (k0_off21 i) (k0_off22 i) (k0_off23 i) (k0_off21_inb i) (k0_off22_inb i) (k0_off23_inb i) <|
  nearIf q0 q1 fill i a3 a4 a5 a9 a10 a11 a12 a13 a14 a15 h14 h15 (k0_cond5 i = 1#1) 1 (Scalar.addi (Scalar.muli 2#32 (pairsWord i)) 1#32)
    (k0_off24 i) (k0_off25 i) (k0_off26 i) (k0_off24_inb i) (k0_off25_inb i) (k0_off26_inb i) <|
  nearIf q0 q1 fill i a3 a4 a5 a9 a10 a11 a12 a13 a14 a15 h14 h15 (k0_cond6 i = 1#1) 0 (Scalar.addi (Scalar.muli 2#32 (pairsWord i)) 2#32)
    (k0_off27 i) (k0_off28 i) (k0_off29 i) (k0_off27_inb i) (k0_off28_inb i) (k0_off29_inb i) <|
  pure ⟨Scalar.addi (Scalar.muli 2#32 (pairsWord i)) 3#32, Scalar.cmpi .sle (Scalar.addi (Scalar.muli 2#32 (pairsWord i)) 3#32) (rowWord i)⟩

/-- The last near step, and the two halves' results. -/
def lastStep (col : BitVec 32) : Prog (TpuEff nD τ sig (Elt F) Λ .tc) (Σ' (_ : FVec F S512x128 .f32), FVec F S512x128 .f32) := do
  nearIf q0 q1 fill i a3 a4 a5 a9 a10 a11 a12 a13 a14 a15 h14 h15 (k0_cond7 i = 1#1) 1 col
    (k0_off30 i) (k0_off31 i) (k0_off32 i) (k0_off30_inb i) (k0_off31_inb i) (k0_off32_inb i) <| do
  let vt : Vec F S1x512x128 .bf16 ← Prog.lift (.load a4 (Rect.unit (s := S1x16384x128) (k0_off33 i) S1x512x128.size (k0_off33_inb i)).toLoadRect (View.loadsAt_vmem h_S1x512x128))
  let a : Vec F S1x512x128 .f32 ← Prog.lift (.load a11 (Rect.unit (s := S2x512x128) (corner 0) S1x512x128.size (rows_inb 0)).toLoadRect (View.loadsAt_vmem h_S1x512x128))
  let p : Vec F S1x512x512 .bf16 ← Prog.lift (.load a14 (Rect.unit (s := S2x512x512) (k0_off34 i) S1x512x512.size (k0_off34_inb i)).toLoadRect (View.loadsAt_vmem h_S1x512x512))
  let l : Vec F S1x512x128 .f32 ← Prog.lift (.load a10 (Rect.unit (s := S2x512x128) (corner 0) S1x512x128.size (rows_inb 0)).toLoadRect (View.loadsAt_vmem h_S1x512x128))
  let a' : Vec F S1x512x128 .f32 ← Prog.lift (.load a11 (Rect.unit (s := S2x512x128) (corner 1) S1x512x128.size (rows_inb 1)).toLoadRect (View.loadsAt_vmem h_S1x512x128))
  let p' : Vec F S1x512x512 .bf16 ← Prog.lift (.load a15 (Rect.unit (s := S2x512x512) (k0_off34 i) S1x512x512.size (k0_off34_inb i)).toLoadRect (View.loadsAt_vmem h_S1x512x512))
  let l' : Vec F S1x512x128 .f32 ← Prog.lift (.load a10 (Rect.unit (s := S2x512x128) (corner 1) S1x512x128.size (rows_inb 1)).toLoadRect (View.loadsAt_vmem h_S1x512x128))
  pure ⟨quotient vt a p l, quotient vt a' p' l'⟩

end

/-- A half's scratch before the first step. -/
def prologue (fill : F .f32) (sc : FVec F S1x512x512 .f32) (c : Fin 2) (a9 a10 a11 : Memref sig .tc .vmem S2x512x128 .f32)
    (ax : Memref sig .tc .vmem S2x512x512 .f32) (ap : Memref sig .tc .vmem S2x512x512 .bf16) (hp : ap.IsWhole) :
    Prog (TpuEff nD τ sig (Elt F) Λ .tc) PUnit := do
  let _ : Vec F S1x512x512 .f32 ← Prog.lift (.load ax (Rect.unit (s := S2x512x512) (corner 0) S1x512x512.size (corner_inb 0)).toLoadRect (View.loadsAt_vmem h_S1x512x512))
  Prog.lift (.store ax (Rect.unit (s := S2x512x512) (corner 0) S1x512x512.size (corner_inb 0)) sc Finset.univ (View.stores_vmem_bits_univ h_S1x512x512 rfl) (.inl rfl))
  let _ : Vec F S1x512x512 .bf16 ← Prog.lift (.load ap (Rect.unit (s := S2x512x512) (corner 1) S1x512x512.size (corner_inb 1)).toLoadRect (View.loadsAt_vmem h_S1x512x512))
  Prog.lift (.store ap (Rect.unit (s := S2x512x512) (corner 1) S1x512x512.size (corner_inb 1)) noTile Finset.univ (View.stores_vmem h_S1x512x512 (hp.storeExact_slice rfl _ (corner_packed 1)) (fun _ => rfl)) (.inl rfl))
  let _ : Vec F S1x512x128 .f32 ← Prog.lift (.load a9 (Rect.unit (s := S2x512x128) (corner c) S1x512x128.size (rows_inb c)).toLoadRect (View.loadsAt_vmem h_S1x512x128))
  Prog.lift (.store a9 (Rect.unit (s := S2x512x128) (corner c) S1x512x128.size (rows_inb c)) (noMax fill) Finset.univ (View.stores_vmem_bits_univ h_S1x512x128 rfl) (.inl rfl))
  let _ : Vec F S1x512x128 .f32 ← Prog.lift (.load a10 (Rect.unit (s := S2x512x128) (corner c) S1x512x128.size (rows_inb c)).toLoadRect (View.loadsAt_vmem h_S1x512x128))
  Prog.lift (.store a10 (Rect.unit (s := S2x512x128) (corner c) S1x512x128.size (rows_inb c)) noSum Finset.univ (View.stores_vmem_bits_univ h_S1x512x128 rfl) (.inl rfl))
  let _ : Vec F S1x512x128 .f32 ← Prog.lift (.load a11 (Rect.unit (s := S2x512x128) (corner c) S1x512x128.size (rows_inb c)).toLoadRect (View.loadsAt_vmem h_S1x512x128))
  Prog.lift (.store a11 (Rect.unit (s := S2x512x128) (corner c) S1x512x128.size (rows_inb c)) noSum Finset.univ (View.stores_vmem_bits_univ h_S1x512x128 rfl) (.inl rfl))
  pure ⟨⟩

/-- The query tile and the first key tile read, and both halves' scratch. -/
def opening {α : Type} (fill : F .f32) (a2 : Memref sig .tc .vmem S1x512x128 .bf16) (a3 : Memref sig .tc .vmem S1x16384x128 .bf16)
    (a9 a10 a11 : Memref sig .tc .vmem S2x512x128 .f32)
    (a12 a13 : Memref sig .tc .vmem S2x512x512 .f32) (a14 a15 : Memref sig .tc .vmem S2x512x512 .bf16) (h14 : a14.IsWhole) (h15 : a15.IsWhole)
    (k : Vec F S1x512x128 .bf16 → Prog (TpuEff nD τ sig (Elt F) Λ .tc) α) : Prog (TpuEff nD τ sig (Elt F) Λ .tc) α := do
  let q : Vec F S1x512x128 .bf16 ← Prog.lift (.load a2 (Rect.unit (s := S1x512x128) ![0, 0, 0] S1x512x128.size inb_S1x512x128_S1x512x128_0_0_0).toLoadRect (View.loadsAt_vmem h_S1x512x128))
  let kt : Vec F S1x512x128 .bf16 ← Prog.lift (.load a3 (Rect.unit (s := S1x16384x128) ![0, 0, 0] S1x512x128.size inb_S1x16384x128_S1x512x128_0_0_0).toLoadRect (View.loadsAt_vmem h_S1x512x128))
  prologue fill (scores (lower q) kt) 0 a9 a10 a11 a12 a14 h14
  prologue fill (scores (upper q) kt) 1 a9 a10 a11 a13 a15 h15
  k q

/-- The two halves' results combined, normalized and stored. -/
def closing (u v : FVec F S512x128 .f32) (a6 : Memref sig .tc .vmem S4x64 .f32) (a7 : Memref sig .tc .vmem S1x128 .f32)
    (a8 : Memref sig .tc .vmem S1x512x128 .bf16) (h8 : a8.IsWhole) : Prog (TpuEff nD τ sig (Elt F) Λ .tc) PUnit := do
  let lp : Vec F S4x64 .f32 ← Prog.lift (.load a6 (Rect.unit (s := S4x64) ![0, 0] S4x64.size inb_S4x64_S4x64_0_0).toLoadRect (View.loadsAt_vmem h_S4x64))
  let g : Vec F S1x128 .f32 ← Prog.lift (.load a7 (Rect.unit (s := S1x128) ![0, 0] S1x128.size inb_S1x128_S1x128_0_0).toLoadRect (View.loadsAt_vmem h_S1x128))
  let _ : Vec F S1x512x128 .bf16 ← Prog.lift (.load a8 (Rect.unit (s := S1x512x128) ![0, 0, 0] S1x512x128.size inb_S1x512x128_S1x512x128_0_0_0).toLoadRect (View.loadsAt_vmem h_S1x512x128))
  Prog.lift (.store a8 (Rect.unit (s := S1x512x128) ![0, 0, 0] S1x512x128.size inb_S1x512x128_S1x512x128_0_0_0) (norm (differ u v lp) g) Finset.univ (View.stores_vmem h_S1x512x128 (h8.storeExact_slice rfl _ packedbf16_S1x512x128_S1x512x128_0_0_0) (fun _ => rfl)) (.inl rfl))
  pure ⟨⟩

/-- The body. -/
def body (fill : F .f32) (i : grid0.Coords) (a2 : Memref sig .tc .vmem S1x512x128 .bf16) (a3 a4 : Memref sig .tc .vmem S1x16384x128 .bf16)
    (a5 : Memref sig .tc .vmem S1x1x4x512x512 .f32) (a6 : Memref sig .tc .vmem S4x64 .f32) (a7 : Memref sig .tc .vmem S1x128 .f32)
    (a8 : Memref sig .tc .vmem S1x512x128 .bf16) (h8 : a8.IsWhole) (a9 a10 a11 : Memref sig .tc .vmem S2x512x128 .f32)
    (a12 a13 : Memref sig .tc .vmem S2x512x512 .f32) (a14 a15 : Memref sig .tc .vmem S2x512x512 .bf16) (h14 : a14.IsWhole) (h15 : a15.IsWhole) :
    Prog (TpuEff nD τ sig (Elt F) Λ .tc) PUnit := do
  opening fill a2 a3 a9 a10 a11 a12 a13 a14 a15 h14 h15 fun q => do
  let w ← Scf.Loop.for (k0_t1_loop i) (k0_t1_ok i) 0#32 (fun t _ => trip1 (lower q) (upper q) i a3 a4 a9 a10 a11 a12 a13 a14 a15 h14 h15 t)
  let ⟨col, _⟩ ← laterSteps (lower q) (upper q) fill i a3 a4 a5 a9 a10 a11 a12 a13 a14 a15 h14 h15 w
  let ⟨u, v⟩ ← lastStep (lower q) (upper q) fill i a3 a4 a5 a9 a10 a11 a12 a13 a14 a15 h14 h15 col
  closing u v a6 a7 a8 h8

end Prog

end Cert.Proof.Duo
-- ==== Proof.DuoWords.lean ====
/-
  The differential attention's words as numbers: the loops' trips, the guards, and every offset, of a query tile `n`'s place in
  the grid.
-/
module

public import proofs.«01_k».proof.Proof.DuoBody

@[expose] public section

namespace Cert.Proof.Duo

open Cert.DiffIdeal Idealize.ShloMosaic
open Cert.Proof.Flash (tileOff)

/-- The first tile near the diagonal of query tile `n`. -/
abbrev nearStart (n : ℕ) : ℕ := 2 * ((n - 2) / 2)

/-- The step the remainder loop starts at, and each guarded pair. -/
abbrev pairStart (n p : ℕ) : ℕ := 2 * min (4 * ((n - 2) / 2 / 4) + p) ((n - 2) / 2)

/-- Two guarded steps: where the guard holds they are the steps `j` and `j + 1`, and where it fails none is due. -/
abbrev PairDue (n p : ℕ) (g : Prop) (okE ovE okO ovO : Fin 3 → ℕ) : Prop :=
  (g → okE = tileOff (min (pairStart n p + 1) n) ∧ ovE = tileOff (pairStart n p - 1)
      ∧ okO = tileOff (min (pairStart n p + 1 + 1) n) ∧ ovO = tileOff (pairStart n p + 1 - 1) ∧ pairStart n (p + 1) = pairStart n p + 1 + 1
      ∧ pairStart n p + 1 < nearStart n)
    ∧ (¬ g → pairStart n (p + 1) = pairStart n p)

/-- A guarded near step: where the guard holds it is step `j`, and where it fails none is due. -/
abbrev StepDue (n j j' : ℕ) (g : Prop) (ok ov : Fin 3 → ℕ) (ob : Fin 5 → ℕ) : Prop :=
  (g → ok = tileOff (min (j + 1) n) ∧ ov = tileOff (j - 1) ∧ ob = ![0, 0, n - j, 0, 0] ∧ j' = j + 1) ∧ (¬ g → j' = j)

theorem trips1 : ∀ i : grid0.Coords, (k0_t1_loop i).trips = ((i 1).val - 2) / 2 / 4 := by decide +kernel
theorem trips2 : ∀ i : grid0.Coords, (k0_t2_loop i).trips = 0 := by decide +kernel
theorem off1 : ∀ (i : grid0.Coords) (t : Fin (k0_t1_loop i).trips) (r : Fin 4),
    k0_off1 i t (BitVec.ofNat 32 (2 * r.val)) = tileOff (min (8 * t.val + 2 * r.val + 1) (i 1).val) := by decide +kernel
theorem off2 : ∀ (i : grid0.Coords) (t : Fin (k0_t1_loop i).trips) (r : Fin 4),
    k0_off2 i t (BitVec.ofNat 32 (2 * r.val)) = tileOff (8 * t.val + 2 * r.val - 1) := by decide +kernel
theorem off3 : ∀ (i : grid0.Coords) (t : Fin (k0_t1_loop i).trips) (r : Fin 4),
    k0_off3 i t (BitVec.ofNat 32 (2 * r.val)) = tileOff (min (8 * t.val + 2 * r.val + 1 + 1) (i 1).val) := by decide +kernel
theorem off4 : ∀ (i : grid0.Coords) (t : Fin (k0_t1_loop i).trips) (r : Fin 4),
    k0_off4 i t (BitVec.ofNat 32 (2 * r.val)) = tileOff (8 * t.val + 2 * r.val + 1 - 1) := by decide +kernel
theorem early1 : ∀ (i : grid0.Coords) (t : Fin (k0_t1_loop i).trips), 8 * t.val + 7 < nearStart (i 1).val := by decide +kernel
theorem pair1 : ∀ i : grid0.Coords, PairDue (i 1).val 0 (k0_cond1 i = 1#1) (k0_off9 i) (k0_off10 i) (k0_off11 i) (k0_off12 i) := by decide +kernel
theorem pair2 : ∀ i : grid0.Coords, PairDue (i 1).val 1 (k0_cond2 i = 1#1) (k0_off13 i) (k0_off14 i) (k0_off15 i) (k0_off16 i) := by decide +kernel
theorem pair3 : ∀ i : grid0.Coords, PairDue (i 1).val 2 (k0_cond3 i = 1#1) (k0_off17 i) (k0_off18 i) (k0_off19 i) (k0_off20 i) := by decide +kernel
/-- The step after the near ones before `t`. -/
abbrev nearAt (n t : ℕ) : ℕ := min (nearStart n + t) (n + 1)
theorem near1 : ∀ i : grid0.Coords, StepDue (i 1).val (nearAt (i 1).val 0) (nearAt (i 1).val 1) (k0_cond4 i = 1#1) (k0_off21 i) (k0_off22 i) (k0_off23 i) := by decide +kernel
theorem near2 : ∀ i : grid0.Coords, StepDue (i 1).val (nearAt (i 1).val 1) (nearAt (i 1).val 2) (k0_cond5 i = 1#1) (k0_off24 i) (k0_off25 i) (k0_off26 i) := by decide +kernel
theorem near3 : ∀ i : grid0.Coords, StepDue (i 1).val (nearAt (i 1).val 2) (nearAt (i 1).val 3) (k0_cond6 i = 1#1) (k0_off27 i) (k0_off28 i) (k0_off29 i) := by decide +kernel
theorem near4 : ∀ i : grid0.Coords, StepDue (i 1).val (nearAt (i 1).val 3) ((i 1).val + 1) (k0_cond7 i = 1#1) (k0_off30 i) (k0_off31 i) (k0_off32 i) := by decide +kernel
theorem slot2 : ∀ i : grid0.Coords, k0_cond5 i = 1#1 → nearAt (i 1).val 1 = nearStart (i 1).val + 1 := by decide +kernel
theorem slot3 : ∀ i : grid0.Coords, k0_cond6 i = 1#1 → nearAt (i 1).val 2 = nearStart (i 1).val + 2 := by decide +kernel
theorem slot4 : ∀ i : grid0.Coords, k0_cond7 i = 1#1 → nearAt (i 1).val 3 = nearStart (i 1).val + 3 := by decide +kernel
theorem starts : ∀ i : grid0.Coords, pairStart (i 1).val 0 = 8 * (((i 1).val - 2) / 2 / 4) ∧ pairStart (i 1).val 3 = nearAt (i 1).val 0 := by decide +kernel
theorem col1 : ∀ i : grid0.Coords, Scalar.addi (Scalar.muli 2#32 (pairsWord i)) 0#32 = BitVec.ofNat 32 (nearStart (i 1).val) := by decide +kernel
theorem col2 : ∀ i : grid0.Coords, Scalar.addi (Scalar.muli 2#32 (pairsWord i)) 1#32 = BitVec.ofNat 32 (nearStart (i 1).val + 1) := by decide +kernel
theorem col3 : ∀ i : grid0.Coords, Scalar.addi (Scalar.muli 2#32 (pairsWord i)) 2#32 = BitVec.ofNat 32 (nearStart (i 1).val + 2) := by decide +kernel
theorem col4 : ∀ i : grid0.Coords, Scalar.addi (Scalar.muli 2#32 (pairsWord i)) 3#32 = BitVec.ofNat 32 (nearStart (i 1).val + 3) := by decide +kernel
theorem off33 : ∀ i : grid0.Coords, k0_off33 i = tileOff (i 1).val := by decide +kernel
theorem off34 : ∀ i : grid0.Coords, k0_off34 i = ![(i 1).val % 2, 0, 0] := by decide +kernel

end Cert.Proof.Duo
-- ==== Proof.DuoRun.lean ====
/-
  THE DIFFERENTIAL ATTENTION'S run: from its query tile, keys, values, bias and weights owned, the body returns with the result
  tile at `result`, two folds over the key tiles, and the scratch at something.
-/
module

public import proofs.«01_k».proof.Proof.DuoWords

@[expose] public section

noncomputable section

namespace Cert.Proof.Duo

open Cert.DiffIdeal Cert.DiffIdeal.Facts₀ Cert.DiffIdeal.Facts
open Cert.Proof.Flash (Carry Tiles plain flat unflat newMax rescale expTile newSum newAcc productV flatV stack tileOf corner corner_inb
  load_corner tileOf_stack stack_tileOf owned_load owned_store_corner owned_store_full load_full load_slot noTile noMax noSum valAt valTile valAt_eq tileOff)

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## What a half's scratch carries, by role -/

section Tiles
variable {F : FTy → Type} [FloatOps F]

/-- One half's step. -/
def next (sc : Vec F S1x512x512 .f32) (g : Vec F S1x512x512 .f32 → FVec F S512x512 .f32) (vt : Vec F S1x512x128 .bf16) (y : Tiles F) : Tiles F where
  m := unflat (newMax (g y.s) y.m)
  l := newSum (g y.s) y.m y.l
  a := newAcc y.p vt (g y.s) y.m y.a
  s := sc
  p := expTile (g y.s) y.m

theorem at_fold (x : Carry F) (b b' : Fin 2) (hb : b' = 1 - b) (sc : Vec F S1x512x512 .f32) (g : Vec F S1x512x512 .f32 → FVec F S512x512 .f32)
    (vt : Vec F S1x512x128 .bf16) : (fold b sc g vt x).at b' = next sc g vt (x.at b) := by
  subst hb
  have e : (1 : Fin 2) - (1 - b) = b := by match b with | 0 => rfl | 1 => rfl
  unfold Carry.at fold next
  rw [e]
  simp only [Function.update_self]

/-- Bias tile `t`. -/
def biasTile {α : Type} (X : S1x1x4x512x512.Idx → α) (t : ℕ) : S1x1x1x512x512.Idx → α :=
  fun y => X (fun | 0 => (⟨0, Nat.one_pos⟩ : Fin 1) | 1 => (⟨0, Nat.one_pos⟩ : Fin 1) | 2 => (⟨t % 4, Nat.mod_lt _ (by decide)⟩ : Fin 4) | 3 => y 3 | 4 => y 4)

theorem biasAt_eq {α : Type} (X : S1x1x4x512x512.Idx → α) {o : Fin 5 → ℕ} (h : ∀ a, o a + S1x1x1x512x512.size a ≤ S1x1x4x512x512.size a) {t : ℕ}
    (ho : o = ![0, 0, t, 0, 0]) : biasAt X o h = biasTile X t := by
  subst ho
  funext y
  refine congrArg X (funext fun a => Fin.ext ?_)
  show (![0, 0, t, 0, 0] : Fin 5 → ℕ) a + 1 * (y a).val = _
  rw [Nat.one_mul]
  have h1 : t + 1 ≤ 4 := h 2
  match a with
  | 0 => have := (y 0).isLt; change (y 0).val < 1 at this; change 0 + (y 0).val = 0; omega
  | 1 => have := (y 1).isLt; change (y 1).val < 1 at this; change 0 + (y 1).val = 0; omega
  | 2 => have := (y 2).isLt; change (y 2).val < 1 at this; change t + (y 2).val = t % 4; omega
  | 3 => exact Nat.zero_add _
  | 4 => exact Nat.zero_add _

variable (fill : F .f32) (n : ℕ) (q : FVec F S512x128 .bf16) (X3 X4 : Vec F S1x16384x128 .bf16) (X5 : Vec F S1x1x4x512x512 .f32)

/-- How query tile `n` reads the scores of key tile `j`: as they are far below the diagonal, and biased and masked near it. -/
def reading (j : ℕ) : Vec F S1x512x512 .f32 → FVec F S512x512 .f32 :=
  if j < nearStart n then plain else near fill (BitVec.ofNat 32 n) (BitVec.ofNat 32 j) (biasTile X5 (n - j))

/-- A half's tiles before step `j`. -/
def stateAt : ℕ → Tiles F
  | 0 => ⟨noMax fill, noSum, noSum, scores q (valTile X3 0), noTile⟩
  | j + 1 => next (scores q (valTile X3 (min (j + 1) n))) (reading fill n X5 j) (valTile X4 (j - 1)) (stateAt j)

/-- A half's result. -/
def halfResult : FVec F S512x128 .f32 :=
  quotient (valTile X4 n) (stateAt fill n q X3 X4 X5 (n + 1)).a (stateAt fill n q X3 X4 X5 (n + 1)).p (stateAt fill n q X3 X4 X5 (n + 1)).l

/-- The result tile. -/
def result (X2 : Vec F S1x512x128 .bf16) (X6 : Vec F S4x64 .f32) (X7 : Vec F S1x128 .f32) : FVec F S1x512x128 .bf16 :=
  norm (differ (halfResult fill n (lower X2) X3 X4 X5) (halfResult fill n (upper X2) X3 X4 X5) X6) X7

end Tiles

/-! ## The steps by number -/

section Rules
variable {nD : Nat} {τ : Topo} {sig : RefSig} {Λ : Labels} {F : FTy → Type} [FloatOps F]
variable {defs : Defs nD τ sig (Elt F) Λ} (𝒱 : Variants) (d : Dev nD) (bd : Option 𝒱.V) (E : Set ℕ)

local notation "𝕄" => MT nD τ sig Unit (Elt F) ℕ (UR sig nD τ) ℕ

variable (fill : F .f32) (n : ℕ) (q0 q1 : FVec F S512x128 .bf16) (a3 a4 : Memref sig .tc .vmem S1x16384x128 .bf16)
    (a5 : Memref sig .tc .vmem S1x1x4x512x512 .f32) (a9 a10 a11 : Memref sig .tc .vmem S2x512x128 .f32)
    (a12 a13 : Memref sig .tc .vmem S2x512x512 .f32) (a14 a15 : Memref sig .tc .vmem S2x512x512 .bf16) (h14 : a14.IsWhole) (h15 : a15.IsWhole)
    (q3 q4 q5 : PosShare TreeShare) (X3 X4 : Vec F S1x16384x128 .bf16) (X5 : Vec F S1x1x4x512x512 .f32)

/-- The keys, values and bias owned, and each half's scratch at the tiles before step `j`, in the slots of `j`. -/
def held (j : ℕ) : sProp 𝕄 :=
  iprop(owns (d : Thread nD τ) a3 q3 X3 ∗ owns (d : Thread nD τ) a4 q4 X4 ∗ owns (d : Thread nD τ) a5 q5 X5
    ∗ ∃ x y : Carry F, ⌜∀ b : Fin 2, b.val = j % 2 → x.at b = stateAt fill n q0 X3 X4 X5 j ∧ y.at b = stateAt fill n q1 X3 X4 X5 j⌝
      ∗ carried d a9 a10 a11 a12 a13 a14 a15 x y)

theorem other_slot {j : ℕ} {b b' : Fin 2} (hb : b.val = j % 2) (hb' : b'.val = (j + 1) % 2) : b' = 1 - b := by
  have h1 : b.val = 0 ∨ b.val = 1 := by omega
  apply Fin.ext
  rcases h1 with h | h
  · have : b = 0 := Fin.ext h
    subst this
    change b'.val = 1
    omega
  · have : b = 1 := Fin.ext h
    subst this
    change b'.val = 0
    omega

/-- FAR STEP `j`. -/
theorem far_num {α : Type} {j : ℕ} {b : Fin 2} (hb : b.val = j % 2) (hj : j < nearStart n) {ok ov : Fin 3 → ℕ}
    (hok : ok = tileOff (min (j + 1) n)) (hov : ov = tileOff (j - 1))
    (hk : ∀ a, ok a + S1x512x128.size a ≤ S1x16384x128.size a) (hv : ∀ a, ov a + S1x512x128.size a ≤ S1x16384x128.size a)
    {k : PUnit → Prog (TpuEff nD τ sig (Elt F) Λ .tc) α} {Q : α → sProp 𝕄} :
    held d fill n q0 q1 a3 a4 a5 a9 a10 a11 a12 a13 a14 a15 q3 q4 q5 X3 X4 X5 j
      ⊢ iprop((held d fill n q0 q1 a3 a4 a5 a9 a10 a11 a12 a13 a14 a15 q3 q4 q5 X3 X4 X5 (j + 1) -∗ wp frame (wpE defs 𝒱 (d : Thread nD τ) bd) E (k ⟨⟩) Q)
        -∗ wp frame (wpE defs 𝒱 (d : Thread nD τ) bd) E (farProg b q0 q1 a3 a4 a9 a10 a11 a12 a13 a14 a15 h14 h15 ok ov hk hv >>= k) Q) := by
  rw [wp_bind]
  unfold held
  iintro ⟨H3, H4, H5, %x, %y, %hx, Hx⟩ Hk
  iapply (far_run 𝒱 d bd E b q0 q1 a3 a4 a9 a10 a11 a12 a13 a14 a15 h14 h15 q3 q4 X3 X4 x y ok ov hk hv)
  isplitl [H3]; · iexact H3
  isplitl [H4]; · iexact H4
  isplitl [Hx]; · iexact Hx
  iintro ⟨H3, H4, Hx⟩
  iapply Hk
  isplitl [H3]; · iexact H3
  isplitl [H4]; · iexact H4
  isplitl [H5]; · iexact H5
  iexists _
  iexists _
  isplitr
  rotate_left
  · iexact Hx
  · ipureintro
    intro b' hb'
    have e := other_slot hb hb'
    have g : reading fill n X5 j = plain := by unfold reading; rw [if_pos hj]
    rw [at_fold x b b' e, at_fold y b b' e, (hx b hb).1, (hx b hb).2, valAt_eq X3 hk hok, valAt_eq X4 hv hov, ← g]
    exact ⟨rfl, rfl⟩

/-- NEAR STEP `j`. -/
theorem near_num {α : Type} {j : ℕ} {b : Fin 2} (hb : b.val = j % 2) (hj : ¬ j < nearStart n) {ok ov : Fin 3 → ℕ} {ob : Fin 5 → ℕ}
    (hok : ok = tileOff (min (j + 1) n)) (hov : ov = tileOff (j - 1)) (hob : ob = ![0, 0, n - j, 0, 0])
    (hk : ∀ a, ok a + S1x512x128.size a ≤ S1x16384x128.size a) (hv : ∀ a, ov a + S1x512x128.size a ≤ S1x16384x128.size a)
    (hbb : ∀ a, ob a + S1x1x1x512x512.size a ≤ S1x1x4x512x512.size a)
    {k : PUnit → Prog (TpuEff nD τ sig (Elt F) Λ .tc) α} {Q : α → sProp 𝕄} :
    held d fill n q0 q1 a3 a4 a5 a9 a10 a11 a12 a13 a14 a15 q3 q4 q5 X3 X4 X5 j
      ⊢ iprop((held d fill n q0 q1 a3 a4 a5 a9 a10 a11 a12 a13 a14 a15 q3 q4 q5 X3 X4 X5 (j + 1) -∗ wp frame (wpE defs 𝒱 (d : Thread nD τ) bd) E (k ⟨⟩) Q)
        -∗ wp frame (wpE defs 𝒱 (d : Thread nD τ) bd) E (nearProg b q0 q1 a3 a4 a5 a9 a10 a11 a12 a13 a14 a15 h14 h15 fill
          (BitVec.ofNat 32 n) (BitVec.ofNat 32 j) ok ov ob hk hv hbb >>= k) Q) := by
  rw [wp_bind]
  unfold held
  iintro ⟨H3, H4, H5, %x, %y, %hx, Hx⟩ Hk
  iapply (near_run 𝒱 d bd E b q0 q1 a3 a4 a5 a9 a10 a11 a12 a13 a14 a15 h14 h15 q3 q4 q5 X3 X4 X5 x y fill _ _ ok ov ob hk hv hbb)
  isplitl [H3]; · iexact H3
  isplitl [H4]; · iexact H4
  isplitl [H5]; · iexact H5
  isplitl [Hx]; · iexact Hx
  iintro ⟨H3, H4, H5, Hx⟩
  iapply Hk
  isplitl [H3]; · iexact H3
  isplitl [H4]; · iexact H4
  isplitl [H5]; · iexact H5
  iexists _
  iexists _
  isplitr
  rotate_left
  · iexact Hx
  · ipureintro
    intro b' hb'
    have e := other_slot hb hb'
    have g : reading fill n X5 j = near fill (BitVec.ofNat 32 n) (BitVec.ofNat 32 j) (biasTile X5 (n - j)) := by unfold reading; rw [if_neg hj]
    rw [at_fold x b b' e, at_fold y b b' e, (hx b hb).1, (hx b hb).2, valAt_eq X3 hk hok, valAt_eq X4 hv hov, biasAt_eq X5 hbb hob, ← g]
    exact ⟨rfl, rfl⟩

/-- A guarded pair of steps. -/
theorem pair_num {α : Type} {p : ℕ} {g : Prop} [Decidable g] {okE ovE okO ovO : Fin 3 → ℕ} (due : PairDue n p g okE ovE okO ovO)
    (hkE : g → ∀ a, okE a + S1x512x128.size a ≤ S1x16384x128.size a) (hvE : g → ∀ a, ovE a + S1x512x128.size a ≤ S1x16384x128.size a)
    (hkO : g → ∀ a, okO a + S1x512x128.size a ≤ S1x16384x128.size a) (hvO : g → ∀ a, ovO a + S1x512x128.size a ≤ S1x16384x128.size a)
    {k : Prog (TpuEff nD τ sig (Elt F) Λ .tc) α} {Q : α → sProp 𝕄} :
    held d fill n q0 q1 a3 a4 a5 a9 a10 a11 a12 a13 a14 a15 q3 q4 q5 X3 X4 X5 (pairStart n p)
      ⊢ iprop((held d fill n q0 q1 a3 a4 a5 a9 a10 a11 a12 a13 a14 a15 q3 q4 q5 X3 X4 X5 (pairStart n (p + 1)) -∗ wp frame (wpE defs 𝒱 (d : Thread nD τ) bd) E k Q)
        -∗ wp frame (wpE defs 𝒱 (d : Thread nD τ) bd) E (pairIf q0 q1 a3 a4 a9 a10 a11 a12 a13 a14 a15 h14 h15 g okE ovE okO ovO hkE hvE hkO hvO k) Q) := by
  unfold pairIf
  by_cases hg : g
  · obtain ⟨e1, e2, e3, e4, e5, e6⟩ := due.1 hg
    rw [dif_pos hg, e5]
    iintro H Hk
    iapply (far_num 𝒱 d bd E fill n q0 q1 a3 a4 a5 a9 a10 a11 a12 a13 a14 a15 h14 h15 q3 q4 q5 X3 X4 X5 (j := pairStart n p) (by show 0 = (2 * _) % 2; omega)
      (by omega) e1 e2 _ _) $$ H
    iintro H
    iapply (far_num 𝒱 d bd E fill n q0 q1 a3 a4 a5 a9 a10 a11 a12 a13 a14 a15 h14 h15 q3 q4 q5 X3 X4 X5 (j := pairStart n p + 1) (by show 1 = (2 * _ + 1) % 2; omega)
      e6 e3 e4 _ _) $$ H
    iexact Hk
  · rw [dif_neg hg, due.2 hg]
    iintro H Hk
    iapply Hk
    iexact H

/-- A guarded near step. -/
theorem nearIf_num {α : Type} {i : grid0.Coords} {j j' : ℕ} {b : Fin 2} {g : Prop} [Decidable g] {ok ov : Fin 3 → ℕ} {ob : Fin 5 → ℕ} {col : BitVec 32}
    (due : StepDue (i 1).val j j' g ok ov ob) (hcol : g → col = BitVec.ofNat 32 j) (hb : g → b.val = j % 2) (hj : g → ¬ j < nearStart (i 1).val)
    (hk : g → ∀ a, ok a + S1x512x128.size a ≤ S1x16384x128.size a) (hv : g → ∀ a, ov a + S1x512x128.size a ≤ S1x16384x128.size a)
    (hbb : g → ∀ a, ob a + S1x1x1x512x512.size a ≤ S1x1x4x512x512.size a)
    {k : Prog (TpuEff nD τ sig (Elt F) Λ .tc) α} {Q : α → sProp 𝕄} :
    held d fill (i 1).val q0 q1 a3 a4 a5 a9 a10 a11 a12 a13 a14 a15 q3 q4 q5 X3 X4 X5 j
      ⊢ iprop((held d fill (i 1).val q0 q1 a3 a4 a5 a9 a10 a11 a12 a13 a14 a15 q3 q4 q5 X3 X4 X5 j' -∗ wp frame (wpE defs 𝒱 (d : Thread nD τ) bd) E k Q)
        -∗ wp frame (wpE defs 𝒱 (d : Thread nD τ) bd) E (nearIf q0 q1 fill i a3 a4 a5 a9 a10 a11 a12 a13 a14 a15 h14 h15 g b col ok ov ob hk hv hbb k) Q) := by
  unfold nearIf
  by_cases hg : g
  · obtain ⟨e1, e2, e3, e4⟩ := due.1 hg
    have ec := hcol hg
    subst ec
    rw [dif_pos hg, e4]
    iintro H Hk
    iapply (near_num 𝒱 d bd E fill (i 1).val q0 q1 a3 a4 a5 a9 a10 a11 a12 a13 a14 a15 h14 h15 q3 q4 q5 X3 X4 X5 (j := j) (hb hg) (hj hg) e1 e2 e3 _ _ _) $$ H
    iexact Hk
  · rw [dif_neg hg, due.2 hg]
    iintro H Hk
    iapply Hk
    iexact H

/-- Eight far steps. -/
theorem octet_num {j : ℕ} (hj8 : j % 8 = 0) (hj : j + 7 < nearStart n) {okE ovE okO ovO : Fin 4 → Fin 3 → ℕ}
    (eE : ∀ r : Fin 4, okE r = tileOff (min (j + 2 * r.val + 1) n)) (eV : ∀ r : Fin 4, ovE r = tileOff (j + 2 * r.val - 1))
    (oE : ∀ r : Fin 4, okO r = tileOff (min (j + 2 * r.val + 1 + 1) n)) (oV : ∀ r : Fin 4, ovO r = tileOff (j + 2 * r.val + 1 - 1))
    (hkE : ∀ r a, okE r a + S1x512x128.size a ≤ S1x16384x128.size a) (hvE : ∀ r a, ovE r a + S1x512x128.size a ≤ S1x16384x128.size a)
    (hkO : ∀ r a, okO r a + S1x512x128.size a ≤ S1x16384x128.size a) (hvO : ∀ r a, ovO r a + S1x512x128.size a ≤ S1x16384x128.size a)
    (w : BitVec 32) {Q : BitVec 32 → sProp 𝕄} :
    iprop(held d fill n q0 q1 a3 a4 a5 a9 a10 a11 a12 a13 a14 a15 q3 q4 q5 X3 X4 X5 j
        ∗ (held d fill n q0 q1 a3 a4 a5 a9 a10 a11 a12 a13 a14 a15 q3 q4 q5 X3 X4 X5 (j + 8) -∗ Q w))
      ⊢ wp frame (wpE defs 𝒱 (d : Thread nD τ) bd) E (octet q0 q1 a3 a4 a9 a10 a11 a12 a13 a14 a15 h14 h15 okE ovE okO ovO hkE hvE hkO hvO >>= fun _ => pure w) Q := by
  unfold octet
  simp only [bind_assoc]
  iintro ⟨H, Hk⟩
  iapply (far_num 𝒱 d bd E fill n q0 q1 a3 a4 a5 a9 a10 a11 a12 a13 a14 a15 h14 h15 q3 q4 q5 X3 X4 X5 (j := j) (by show 0 = _; omega) (by omega) (eE 0) (eV 0) _ _) $$ H
  iintro H
  iapply (far_num 𝒱 d bd E fill n q0 q1 a3 a4 a5 a9 a10 a11 a12 a13 a14 a15 h14 h15 q3 q4 q5 X3 X4 X5 (j := j + 1) (by show 1 = _; omega) (by omega) (oE 0) (oV 0) _ _) $$ H
  iintro H
  iapply (far_num 𝒱 d bd E fill n q0 q1 a3 a4 a5 a9 a10 a11 a12 a13 a14 a15 h14 h15 q3 q4 q5 X3 X4 X5 (j := j + 2) (by show 0 = _; omega) (by omega) (eE 1) (eV 1) _ _) $$ H
  iintro H
  iapply (far_num 𝒱 d bd E fill n q0 q1 a3 a4 a5 a9 a10 a11 a12 a13 a14 a15 h14 h15 q3 q4 q5 X3 X4 X5 (j := j + 3) (by show 1 = _; omega) (by omega) (oE 1) (oV 1) _ _) $$ H
  iintro H
  iapply (far_num 𝒱 d bd E fill n q0 q1 a3 a4 a5 a9 a10 a11 a12 a13 a14 a15 h14 h15 q3 q4 q5 X3 X4 X5 (j := j + 4) (by show 0 = _; omega) (by omega) (eE 2) (eV 2) _ _) $$ H
  iintro H
  iapply (far_num 𝒱 d bd E fill n q0 q1 a3 a4 a5 a9 a10 a11 a12 a13 a14 a15 h14 h15 q3 q4 q5 X3 X4 X5 (j := j + 5) (by show 1 = _; omega) (by omega) (oE 2) (oV 2) _ _) $$ H
  iintro H
  iapply (far_num 𝒱 d bd E fill n q0 q1 a3 a4 a5 a9 a10 a11 a12 a13 a14 a15 h14 h15 q3 q4 q5 X3 X4 X5 (j := j + 6) (by show 0 = _; omega) (by omega) (eE 3) (eV 3) _ _) $$ H
  iintro H
  iapply (far_num 𝒱 d bd E fill n q0 q1 a3 a4 a5 a9 a10 a11 a12 a13 a14 a15 h14 h15 q3 q4 q5 X3 X4 X5 (j := j + 7) (by show 1 = _; omega) (by omega) (oE 3) (oV 3) _ _) $$ H
  iintro H
  iapply (le_wp_ret frame (wpE defs 𝒱 (d : Thread nD τ) bd) E w Q)
  iapply Hk
  iexact H

/-- The loop of eights. -/
theorem eights_num {α : Type} (i : grid0.Coords) {k : BitVec 32 → Prog (TpuEff nD τ sig (Elt F) Λ .tc) α} {Q : α → sProp 𝕄} :
    held d fill (i 1).val q0 q1 a3 a4 a5 a9 a10 a11 a12 a13 a14 a15 q3 q4 q5 X3 X4 X5 0
      ⊢ iprop((∀ w, held d fill (i 1).val q0 q1 a3 a4 a5 a9 a10 a11 a12 a13 a14 a15 q3 q4 q5 X3 X4 X5 (pairStart (i 1).val 0)
          -∗ wp frame (wpE defs 𝒱 (d : Thread nD τ) bd) E (k w) Q)
        -∗ wp frame (wpE defs 𝒱 (d : Thread nD τ) bd) E
          (Scf.Loop.for (k0_t1_loop i) (k0_t1_ok i) 0#32 (fun t _ => trip1 q0 q1 i a3 a4 a9 a10 a11 a12 a13 a14 a15 h14 h15 t) >>= k) Q) := by
  iintro H Hk
  iapply (Scf.wp_for_bind frame (wpE defs 𝒱 (d : Thread nD τ) bd) E _ _ _ _ _ _
    (fun t _ => held d fill (i 1).val q0 q1 a3 a4 a5 a9 a10 a11 a12 a13 a14 a15 q3 q4 q5 X3 X4 X5 (8 * t)) (fun t acc => by
      unfold trip1
      iintro H
      iapply (octet_num 𝒱 d bd E fill (i 1).val q0 q1 a3 a4 a5 a9 a10 a11 a12 a13 a14 a15 h14 h15 q3 q4 q5 X3 X4 X5 (j := 8 * t.val) (by omega) (early1 i t)
        (off1 i t) (off2 i t) (off3 i t) (off4 i t))
      isplitl [H]; · iexact H
      iintro H
      iexact H)) $$ H
  iintro %w H
  have e0 : 8 * (k0_t1_loop i).trips = pairStart (i 1).val 0 := by rw [(starts i).1, trips1 i]
  rw [e0]
  iapply Hk
  iexact H

/-- The steps after it, but for the last near one. -/
theorem later_num {α : Type} (i : grid0.Coords) (w : BitVec 32) {k : (Σ' (_ : BitVec 32), BitVec 1) → Prog (TpuEff nD τ sig (Elt F) Λ .tc) α} {Q : α → sProp 𝕄} :
    held d fill (i 1).val q0 q1 a3 a4 a5 a9 a10 a11 a12 a13 a14 a15 q3 q4 q5 X3 X4 X5 (pairStart (i 1).val 0)
      ⊢ iprop((∀ w, held d fill (i 1).val q0 q1 a3 a4 a5 a9 a10 a11 a12 a13 a14 a15 q3 q4 q5 X3 X4 X5 (nearAt (i 1).val 3)
          -∗ wp frame (wpE defs 𝒱 (d : Thread nD τ) bd) E (k ⟨Scalar.addi (Scalar.muli 2#32 (pairsWord i)) 3#32, w⟩) Q)
        -∗ wp frame (wpE defs 𝒱 (d : Thread nD τ) bd) E (laterSteps q0 q1 fill i a3 a4 a5 a9 a10 a11 a12 a13 a14 a15 h14 h15 w >>= k) Q) := by
  rw [wp_bind]
  unfold laterSteps
  iintro H Hk
  iapply (Scf.wp_for_bind frame (wpE defs 𝒱 (d : Thread nD τ) bd) E _ _ _ _ _ _
    (fun _ _ => held d fill (i 1).val q0 q1 a3 a4 a5 a9 a10 a11 a12 a13 a14 a15 q3 q4 q5 X3 X4 X5 (pairStart (i 1).val 0)) (fun t acc =>
      absurd t.isLt (by have := trips2 i; have h' : (k0_t2_loop i).trips = 0 := this; unfold Scf.Loop.trips at h'; omega))) $$ H
  iintro %w2 H
  iapply (pair_num 𝒱 d bd E fill (i 1).val q0 q1 a3 a4 a5 a9 a10 a11 a12 a13 a14 a15 h14 h15 q3 q4 q5 X3 X4 X5 (pair1 i) _ _ _ _) $$ H
  iintro H
  iapply (pair_num 𝒱 d bd E fill (i 1).val q0 q1 a3 a4 a5 a9 a10 a11 a12 a13 a14 a15 h14 h15 q3 q4 q5 X3 X4 X5 (pair2 i) _ _ _ _) $$ H
  iintro H
  iapply (pair_num 𝒱 d bd E fill (i 1).val q0 q1 a3 a4 a5 a9 a10 a11 a12 a13 a14 a15 h14 h15 q3 q4 q5 X3 X4 X5 (pair3 i) _ _ _ _) $$ H
  iintro H
  have e3 : pairStart (i 1).val (2 + 1) = nearAt (i 1).val 0 := (starts i).2
  have e4 : nearAt (i 1).val 0 = nearStart (i 1).val := by show min (2 * (((i 1).val - 2) / 2) + 0) ((i 1).val + 1) = 2 * (((i 1).val - 2) / 2); omega
  rw [e3]
  iapply (nearIf_num 𝒱 d bd E fill q0 q1 a3 a4 a5 a9 a10 a11 a12 a13 a14 a15 h14 h15 q3 q4 q5 X3 X4 X5 (near1 i)
    (fun _ => by rw [e4]; exact col1 i) (fun _ => by rw [e4]; show 0 = (2 * _) % 2; omega) (fun _ => by rw [e4]; exact lt_irrefl _) _ _ _) $$ H
  iintro H
  iapply (nearIf_num 𝒱 d bd E fill q0 q1 a3 a4 a5 a9 a10 a11 a12 a13 a14 a15 h14 h15 q3 q4 q5 X3 X4 X5 (near2 i)
    (fun h => by rw [slot2 i h]; exact col2 i) (fun h => by rw [slot2 i h]; show 1 = (2 * _ + 1) % 2; omega) (fun h => by rw [slot2 i h]; omega) _ _ _) $$ H
  iintro H
  iapply (nearIf_num 𝒱 d bd E fill q0 q1 a3 a4 a5 a9 a10 a11 a12 a13 a14 a15 h14 h15 q3 q4 q5 X3 X4 X5 (near3 i)
    (fun h => by rw [slot3 i h]; exact col3 i) (fun h => by rw [slot3 i h]; show 0 = (2 * _ + 2) % 2; omega) (fun h => by rw [slot3 i h]; omega) _ _ _) $$ H
  iintro H
  iapply (le_wp_ret frame (wpE defs 𝒱 (d : Thread nD τ) bd) E)
  iapply Hk
  iexact H

/-- The last near step, and the two halves' results. -/
theorem last_num {α : Type} (i : grid0.Coords) {k : (Σ' (_ : FVec F S512x128 .f32), FVec F S512x128 .f32) → Prog (TpuEff nD τ sig (Elt F) Λ .tc) α} {Q : α → sProp 𝕄} :
    held d fill (i 1).val q0 q1 a3 a4 a5 a9 a10 a11 a12 a13 a14 a15 q3 q4 q5 X3 X4 X5 (nearAt (i 1).val 3)
      ⊢ iprop((owns (d : Thread nD τ) a3 q3 X3 ∗ owns (d : Thread nD τ) a4 q4 X4 ∗ owns (d : Thread nD τ) a5 q5 X5
            ∗ (∃ x y : Carry F, carried d a9 a10 a11 a12 a13 a14 a15 x y)
          -∗ wp frame (wpE defs 𝒱 (d : Thread nD τ) bd) E
            (k ⟨halfResult fill (i 1).val q0 X3 X4 X5, halfResult fill (i 1).val q1 X3 X4 X5⟩) Q)
        -∗ wp frame (wpE defs 𝒱 (d : Thread nD τ) bd) E (lastStep q0 q1 fill i a3 a4 a5 a9 a10 a11 a12 a13 a14 a15 h14 h15
          (Scalar.addi (Scalar.muli 2#32 (pairsWord i)) 3#32) >>= k) Q) := by
  rw [wp_bind]
  unfold lastStep
  iintro H Hk
  iapply (nearIf_num 𝒱 d bd E fill q0 q1 a3 a4 a5 a9 a10 a11 a12 a13 a14 a15 h14 h15 q3 q4 q5 X3 X4 X5 (near4 i)
    (fun h => by rw [slot4 i h]; exact col4 i) (fun h => by rw [slot4 i h]; show 1 = (2 * _ + 3) % 2; omega) (fun h => by rw [slot4 i h]; omega) _ _ _) $$ H
  unfold held carried
  iintro ⟨H3, H4, H5, %x, %y, %hxy, Hm, Hl, Ha, Hs, Ht, Hp, Hr⟩
  have hb := hxy ⟨((i 1).val + 1) % 2, Nat.mod_lt _ (by decide)⟩ rfl
  have hs : (⟨(i 1).val % 2, Nat.mod_lt _ (by decide)⟩ : Fin 2) = 1 - (⟨((i 1).val + 1) % 2, Nat.mod_lt _ (by decide)⟩ : Fin 2) := by
    refine Fin.ext ?_
    show (i 1).val % 2 = (1 - (⟨((i 1).val + 1) % 2, Nat.mod_lt _ (by decide)⟩ : Fin 2)).val
    rw [Fin.sub_def]
    show (i 1).val % 2 = (2 - ((i 1).val + 1) % 2 + 1) % 2
    omega
  iapply (owned_load 𝒱 d bd E (w := valAt X4 (k0_off33 i) (k0_off33_inb i)) rfl) $$ H4; iintro H4
  iapply (owned_load 𝒱 d bd E (load_rows _ 0)) $$ Ha; iintro Ha
  iapply (owned_load 𝒱 d bd E (load_slot x.p ⟨(i 1).val % 2, Nat.mod_lt _ (by decide)⟩ (off34 i) (k0_off34_inb i))) $$ Hp; iintro Hp
  iapply (owned_load 𝒱 d bd E (load_rows _ 0)) $$ Hl; iintro Hl
  iapply (owned_load 𝒱 d bd E (load_rows _ 1)) $$ Ha; iintro Ha
  iapply (owned_load 𝒱 d bd E (load_slot y.p ⟨(i 1).val % 2, Nat.mod_lt _ (by decide)⟩ (off34 i) (k0_off34_inb i))) $$ Hr; iintro Hr
  iapply (owned_load 𝒱 d bd E (load_rows _ 1)) $$ Hl; iintro Hl
  have e0 : quotient (valAt X4 (k0_off33 i) (k0_off33_inb i)) (pair x.a y.a 0) (x.p ⟨(i 1).val % 2, Nat.mod_lt _ (by decide)⟩) (pair x.l y.l 0)
      = halfResult fill (i 1).val q0 X3 X4 X5 := by
    unfold halfResult
    rw [valAt_eq X4 (k0_off33_inb i) (off33 i), ← hb.1, hs]
    rfl
  have e1 : quotient (valAt X4 (k0_off33 i) (k0_off33_inb i)) (pair x.a y.a 1) (y.p ⟨(i 1).val % 2, Nat.mod_lt _ (by decide)⟩) (pair x.l y.l 1)
      = halfResult fill (i 1).val q1 X3 X4 X5 := by
    unfold halfResult
    rw [valAt_eq X4 (k0_off33_inb i) (off33 i), ← hb.2, hs]
    rfl
  rw [e0, e1]
  iapply (le_wp_ret frame (wpE defs 𝒱 (d : Thread nD τ) bd) E)
  iapply Hk
  isplitl [H3]; · iexact H3
  isplitl [H4]; · iexact H4
  isplitl [H5]; · iexact H5
  iexists x
  iexists y
  isplitl [Hm]; · iexact Hm
  isplitl [Hl]; · iexact Hl
  isplitl [Ha]; · iexact Ha
  isplitl [Hs]; · iexact Hs
  isplitl [Ht]; · iexact Ht
  isplitl [Hp]; · iexact Hp
  iexact Hr

/-- A half's prologue. -/
theorem prologue_run {α : Type} (sc : FVec F S1x512x512 .f32) (c : Fin 2) (ax : Memref sig .tc .vmem S2x512x512 .f32)
    (ap : Memref sig .tc .vmem S2x512x512 .bf16) (hp : ap.IsWhole) (M L A : Fin 2 → Vec F S1x512x128 .f32) (s : Fin 2 → Vec F S1x512x512 .f32)
    (P : Fin 2 → Vec F S1x512x512 .bf16) {k : PUnit → Prog (TpuEff nD τ sig (Elt F) Λ .tc) α} {Q : α → sProp 𝕄} :
    iprop(owns (d : Thread nD τ) a9 fullShare (rows M) ∗ owns (d : Thread nD τ) a10 fullShare (rows L) ∗ owns (d : Thread nD τ) a11 fullShare (rows A)
        ∗ owns (d : Thread nD τ) ax fullShare (stack s) ∗ owns (d : Thread nD τ) ap fullShare (stack P)
        ∗ (owns (d : Thread nD τ) a9 fullShare (rows (Function.update M c (noMax fill))) ∗ owns (d : Thread nD τ) a10 fullShare (rows (Function.update L c noSum))
            ∗ owns (d : Thread nD τ) a11 fullShare (rows (Function.update A c noSum))
            ∗ owns (d : Thread nD τ) ax fullShare (stack (Function.update s 0 sc)) ∗ owns (d : Thread nD τ) ap fullShare (stack (Function.update P 1 noTile))
          -∗ wp frame (wpE defs 𝒱 (d : Thread nD τ) bd) E (k ⟨⟩) Q))
      ⊢ wp frame (wpE defs 𝒱 (d : Thread nD τ) bd) E (prologue fill sc c a9 a10 a11 ax ap hp >>= k) Q := by
  rw [wp_bind]
  unfold prologue
  iintro ⟨Hm, Hl, Ha, Hs, Hp, Hk⟩
  iapply (owned_load 𝒱 d bd E ((load_corner _ 0).trans (tileOf_stack _ _))) $$ Hs; iintro Hs
  iapply (owned_store_corner 𝒱 d bd E 0) $$ Hs; iintro Hs
  iapply (owned_load 𝒱 d bd E ((load_corner _ 1).trans (tileOf_stack _ _))) $$ Hp; iintro Hp
  iapply (owned_store_corner 𝒱 d bd E 1) $$ Hp; iintro Hp
  iapply (owned_load 𝒱 d bd E (load_rows _ c)) $$ Hm; iintro Hm
  iapply (owned_store_rows 𝒱 d bd E c) $$ Hm; iintro Hm
  iapply (owned_load 𝒱 d bd E (load_rows _ c)) $$ Hl; iintro Hl
  iapply (owned_store_rows 𝒱 d bd E c) $$ Hl; iintro Hl
  iapply (owned_load 𝒱 d bd E (load_rows _ c)) $$ Ha; iintro Ha
  iapply (owned_store_rows 𝒱 d bd E c) $$ Ha; iintro Ha
  iapply (le_wp_ret frame (wpE defs 𝒱 (d : Thread nD τ) bd) E)
  iapply Hk
  isplitl [Hm]; · iexact Hm
  isplitl [Hl]; · iexact Hl
  isplitl [Ha]; · iexact Ha
  isplitl [Hs]; · iexact Hs
  iexact Hp

/-- A load of all of a flat memref of the weights reads it. -/
theorem load_weights {β : Type} (f : S4x64.Idx → β) :
    (fun y => f ((Rect.unit (s := S4x64) ![0, 0] S4x64.size inb_S4x64_S4x64_0_0).toLoadRect.idx y)) = f := by
  funext y
  refine congrArg f (funext fun a => Fin.ext ?_)
  show (![0, 0] : Fin 2 → ℕ) a + 1 * (y a).val = _
  rw [Nat.one_mul]
  match a with
  | 0 => exact Nat.zero_add _
  | 1 => exact Nat.zero_add _

theorem load_gain {β : Type} (f : S1x128.Idx → β) :
    (fun y => f ((Rect.unit (s := S1x128) ![0, 0] S1x128.size inb_S1x128_S1x128_0_0).toLoadRect.idx y)) = f := by
  funext y
  refine congrArg f (funext fun a => Fin.ext ?_)
  show (![0, 0] : Fin 2 → ℕ) a + 1 * (y a).val = _
  rw [Nat.one_mul]
  match a with
  | 0 => exact Nat.zero_add _
  | 1 => exact Nat.zero_add _

/-- THE BODY: from the windows and the scratch owned, the body returns with the result tile written. -/
theorem body_run (i : grid0.Coords) (a2 : Memref sig .tc .vmem S1x512x128 .bf16) (a6 : Memref sig .tc .vmem S4x64 .f32)
    (a7 : Memref sig .tc .vmem S1x128 .f32) (a8 : Memref sig .tc .vmem S1x512x128 .bf16) (h8 : a8.IsWhole)
    (q2 q6 q7 : PosShare TreeShare) (X2 : Vec F S1x512x128 .bf16) (X6 : Vec F S4x64 .f32) (X7 : Vec F S1x128 .f32) (X8 : Vec F S1x512x128 .bf16)
    (x y : Carry F) {Q : PUnit → sProp 𝕄} :
    iprop(owns (d : Thread nD τ) a2 q2 X2 ∗ owns (d : Thread nD τ) a3 q3 X3 ∗ owns (d : Thread nD τ) a4 q4 X4 ∗ owns (d : Thread nD τ) a5 q5 X5
        ∗ owns (d : Thread nD τ) a6 q6 X6 ∗ owns (d : Thread nD τ) a7 q7 X7 ∗ owns (d : Thread nD τ) a8 fullShare X8
        ∗ carried d a9 a10 a11 a12 a13 a14 a15 x y
        ∗ (owns (d : Thread nD τ) a2 q2 X2 ∗ owns (d : Thread nD τ) a3 q3 X3 ∗ owns (d : Thread nD τ) a4 q4 X4 ∗ owns (d : Thread nD τ) a5 q5 X5
            ∗ owns (d : Thread nD τ) a6 q6 X6 ∗ owns (d : Thread nD τ) a7 q7 X7
            ∗ owns (d : Thread nD τ) a8 fullShare (result fill (i 1).val X3 X4 X5 X2 X6 X7)
            ∗ (∃ x y : Carry F, carried d a9 a10 a11 a12 a13 a14 a15 x y) -∗ Q ⟨⟩))
      ⊢ wp frame (wpE defs 𝒱 (d : Thread nD τ) bd) E (body fill i a2 a3 a4 a5 a6 a7 a8 h8 a9 a10 a11 a12 a13 a14 a15 h14 h15) Q := by
  unfold body opening
  iintro ⟨H2, H3, H4, H5, H6, H7, H8, Hx, Hk⟩
  unfold carried
  icases Hx with ⟨Hm, Hl, Ha, Hs, Ht, Hp, Hr⟩
  iapply (owned_load 𝒱 d bd E (load_full _)) $$ H2; iintro H2
  iapply (owned_load 𝒱 d bd E (w := valAt X3 ![0, 0, 0] inb_S1x16384x128_S1x512x128_0_0_0) rfl) $$ H3; iintro H3
  iapply (prologue_run 𝒱 d bd E fill a9 a10 a11 _ 0 a12 a14 h14 _ _ _ _ _)
  isplitl [Hm]; · iexact Hm
  isplitl [Hl]; · iexact Hl
  isplitl [Ha]; · iexact Ha
  isplitl [Hs]; · iexact Hs
  isplitl [Hp]; · iexact Hp
  simp only [pair_fst]
  iintro ⟨Hm, Hl, Ha, Hs, Hp⟩
  iapply (prologue_run 𝒱 d bd E fill a9 a10 a11 _ 1 a13 a15 h15 _ _ _ _ _)
  isplitl [Hm]; · iexact Hm
  isplitl [Hl]; · iexact Hl
  isplitl [Ha]; · iexact Ha
  isplitl [Ht]; · iexact Ht
  isplitl [Hr]; · iexact Hr
  simp only [pair_snd]
  iintro ⟨Hm, Hl, Ha, Ht, Hr⟩
  ihave H : held d fill (i 1).val (lower X2) (upper X2) a3 a4 a5 a9 a10 a11 a12 a13 a14 a15 q3 q4 q5 X3 X4 X5 0 $$ [H3 H4 H5 Hm Hl Ha Hs Ht Hp Hr]
  · unfold held carried
    isplitl [H3]; · iexact H3
    isplitl [H4]; · iexact H4
    isplitl [H5]; · iexact H5
    iexists (⟨noMax fill, noSum, noSum, Function.update x.s 0 (scores (lower X2) (valAt X3 ![0, 0, 0] inb_S1x16384x128_S1x512x128_0_0_0)),
      Function.update x.p 1 noTile⟩ : Carry F)
    iexists (⟨noMax fill, noSum, noSum, Function.update y.s 0 (scores (upper X2) (valAt X3 ![0, 0, 0] inb_S1x16384x128_S1x512x128_0_0_0)),
      Function.update y.p 1 noTile⟩ : Carry F)
    isplitr
    · ipureintro
      intro b hb
      have : b = 0 := Fin.ext hb
      subst this
      rw [valAt_eq X3 _ (j := 0) rfl]
      show Carry.at _ 0 = Tiles.mk _ _ _ _ _ ∧ Carry.at _ 0 = Tiles.mk _ _ _ _ _
      unfold Carry.at
      have e : (1 : Fin 2) - 0 = 1 := rfl
      rw [e]
      simp only [Function.update_self, and_self]
    isplitl [Hm]; · iexact Hm
    isplitl [Hl]; · iexact Hl
    isplitl [Ha]; · iexact Ha
    isplitl [Hs]; · iexact Hs
    isplitl [Ht]; · iexact Ht
    isplitl [Hp]; · iexact Hp
    iexact Hr
  iapply (eights_num 𝒱 d bd E fill (lower X2) (upper X2) a3 a4 a5 a9 a10 a11 a12 a13 a14 a15 h14 h15 q3 q4 q5 X3 X4 X5 i) $$ H
  iintro %w H
  iapply (later_num 𝒱 d bd E fill (lower X2) (upper X2) a3 a4 a5 a9 a10 a11 a12 a13 a14 a15 h14 h15 q3 q4 q5 X3 X4 X5 i w) $$ H
  iintro %w2 H
  iapply (last_num 𝒱 d bd E fill (lower X2) (upper X2) a3 a4 a5 a9 a10 a11 a12 a13 a14 a15 h14 h15 q3 q4 q5 X3 X4 X5 i) $$ H
  unfold closing
  iintro ⟨H3, H4, H5, Hx⟩
  iapply (owned_load 𝒱 d bd E (load_weights _)) $$ H6; iintro H6
  iapply (owned_load 𝒱 d bd E (load_gain _)) $$ H7; iintro H7
  iapply (owned_load 𝒱 d bd E (load_full _)) $$ H8; iintro H8
  iapply (owned_store_full 𝒱 d bd E) $$ H8; iintro H8
  iapply (le_wp_ret frame (wpE defs 𝒱 (d : Thread nD τ) bd) E PUnit.unit Q)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hx

/-- The scratch at something, buffer by buffer. -/
def scratch : sProp 𝕄 :=
  iprop((∃ X : Vec F S2x512x128 .f32, owns (d : Thread nD τ) a9 fullShare X) ∗ (∃ X : Vec F S2x512x128 .f32, owns (d : Thread nD τ) a10 fullShare X)
    ∗ (∃ X : Vec F S2x512x128 .f32, owns (d : Thread nD τ) a11 fullShare X) ∗ (∃ X : Vec F S2x512x512 .f32, owns (d : Thread nD τ) a12 fullShare X)
    ∗ (∃ X : Vec F S2x512x512 .f32, owns (d : Thread nD τ) a13 fullShare X) ∗ (∃ X : Vec F S2x512x512 .bf16, owns (d : Thread nD τ) a14 fullShare X)
    ∗ (∃ X : Vec F S2x512x512 .bf16, owns (d : Thread nD τ) a15 fullShare X))

theorem rows_pair {β : Type} (f : S2x512x128.Idx → β) : rows (pair (rowsOf 0 f) (rowsOf 1 f)) = f :=
  (congrArg rows (pair_eta fun c => rowsOf c f)).trans (rows_rowsOf f)

/-- The scratch at something is the scratch at carries. -/
theorem scratch_carried : scratch d a9 a10 a11 a12 a13 a14 a15 ⊢ (∃ x y : Carry F, carried d a9 a10 a11 a12 a13 a14 a15 x y : sProp 𝕄) := by
  unfold scratch carried
  iintro ⟨⟨%xm, Hm⟩, ⟨%xl, Hl⟩, ⟨%xa, Ha⟩, ⟨%xs, Hs⟩, ⟨%xt, Ht⟩, ⟨%xp, Hp⟩, ⟨%xr, Hr⟩⟩
  iexists (⟨rowsOf 0 xm, rowsOf 0 xl, rowsOf 0 xa, fun b => tileOf b xs, fun b => tileOf b xp⟩ : Carry F)
  iexists (⟨rowsOf 1 xm, rowsOf 1 xl, rowsOf 1 xa, fun b => tileOf b xt, fun b => tileOf b xr⟩ : Carry F)
  isplitl [Hm]
  · show _ ⊢ owns (d : Thread nD τ) a9 fullShare (rows (pair (rowsOf 0 xm) (rowsOf 1 xm)))
    rw [rows_pair]
  isplitl [Hl]
  · show _ ⊢ owns (d : Thread nD τ) a10 fullShare (rows (pair (rowsOf 0 xl) (rowsOf 1 xl)))
    rw [rows_pair]
  isplitl [Ha]
  · show _ ⊢ owns (d : Thread nD τ) a11 fullShare (rows (pair (rowsOf 0 xa) (rowsOf 1 xa)))
    rw [rows_pair]
  isplitl [Hs]
  · show _ ⊢ owns (d : Thread nD τ) a12 fullShare (stack fun b => tileOf b xs)
    rw [stack_tileOf]
  isplitl [Ht]
  · show _ ⊢ owns (d : Thread nD τ) a13 fullShare (stack fun b => tileOf b xt)
    rw [stack_tileOf]
  isplitl [Hp]
  · show _ ⊢ owns (d : Thread nD τ) a14 fullShare (stack fun b => tileOf b xp)
    rw [stack_tileOf]
  · show _ ⊢ owns (d : Thread nD τ) a15 fullShare (stack fun b => tileOf b xr)
    rw [stack_tileOf]

theorem carried_scratch (x y : Carry F) : carried d a9 a10 a11 a12 a13 a14 a15 x y ⊢ (scratch d a9 a10 a11 a12 a13 a14 a15 : sProp 𝕄) := by
  unfold scratch carried
  iintro ⟨Hm, Hl, Ha, Hs, Ht, Hp, Hr⟩
  isplitl [Hm]; · iexists _; iexact Hm
  isplitl [Hl]; · iexists _; iexact Hl
  isplitl [Ha]; · iexists _; iexact Ha
  isplitl [Hs]; · iexists _; iexact Hs
  isplitl [Ht]; · iexists _; iexact Ht
  isplitl [Hp]; · iexists _; iexact Hp
  iexists _; iexact Hr

end Rules

end Cert.Proof.Duo

end
-- ==== Proof.DuoIsBodyBits.lean ====
/-
  The printed program's differential attention is the body of steps, by unfolding.
-/
module

public import proofs.«01_k».proof.Proof.DuoBody
public import proofs.«01_k».proof.Proof.Gen.Diff.Skeleton

@[expose] public section

noncomputable section

namespace Cert.Proof.Duo

open Idealize.ShloMosaic Idealize.ShloMosaic.TcCoe Idealize.SL.Sem
open Cert.Diff
open Cert.Proof.Flash (bound)

variable {F : FTy → Type} [FloatOps F]

variable (i : grid0.Coords)
    (a2 : Memref sig .tc .vmem S1x512x128 .bf16) (h2 : a2.IsWhole)
    (a3 : Memref sig .tc .vmem S1x16384x128 .bf16) (h3 : a3.IsWhole)
    (a4 : Memref sig .tc .vmem S1x16384x128 .bf16) (h4 : a4.IsWhole)
    (a5 : Memref sig .tc .vmem S1x1x4x512x512 .f32) (h5 : a5.IsWhole)
    (a6 : Memref sig .tc .vmem S4x64 .f32) (h6 : a6.IsWhole)
    (a7 : Memref sig .tc .vmem S1x128 .f32) (h7 : a7.IsWhole)
    (a8 : Memref sig .tc .vmem S1x512x128 .bf16) (h8 : a8.IsWhole)
    (a9 : Memref sig .tc .vmem S2x512x128 .f32) (h9 : a9.IsWhole)
    (a10 : Memref sig .tc .vmem S2x512x128 .f32) (h10 : a10.IsWhole)
    (a11 : Memref sig .tc .vmem S2x512x128 .f32) (h11 : a11.IsWhole)
    (a12 : Memref sig .tc .vmem S2x512x512 .f32) (h12 : a12.IsWhole)
    (a13 : Memref sig .tc .vmem S2x512x512 .f32) (h13 : a13.IsWhole)
    (a14 : Memref sig .tc .vmem S2x512x512 .bf16) (h14 : a14.IsWhole)
    (a15 : Memref sig .tc .vmem S2x512x512 .bf16) (h15 : a15.IsWhole)

set_option maxRecDepth 65536 in
/-- A turn of the first loop. -/
theorem trip1_bits (q0 q1 : FVec F S512x128 .bf16) (w1 w2 w3 : BitVec 32) (t : Fin (k0_t1_loop i).trips) (acc : BitVec 32) :
    Gen.k0_t1_body (F := F) i a2 h2 a3 h3 a4 h4 a5 h5 a6 h6 a7 h7 a8 h8 a9 h9 a10 h10 a11 h11 a12 h12 a13 h13 a14 h14 a15 h15 w1 q0 q1 w2 w3 t acc
      = trip1 q0 q1 i a3 a4 a9 a10 a11 a12 a13 a14 a15 h14 h15 t := rfl

set_option maxRecDepth 65536 in
/-- A turn of the second loop. -/
theorem trip2_bits (q0 q1 : FVec F S512x128 .bf16) (w1 w2 w3 w4 w5 w6 : BitVec 32) (t : Fin (k0_t2_loop i).trips) (acc : BitVec 32) :
    Gen.k0_t2_body (F := F) i a2 h2 a3 h3 a4 h4 a5 h5 a6 h6 a7 h7 a8 h8 a9 h9 a10 h10 a11 h11 a12 h12 a13 h13 a14 h14 a15 h15 w1 q0 q1 w2 w3 w4 w5 w6 t acc
      = trip2 q0 q1 i a3 a4 a9 a10 a11 a12 a13 a14 a15 h14 h15 t := rfl

set_option maxRecDepth 65536 in
/-- The steps after the loop of eights. -/
theorem later_bits (q0 q1 : FVec F S512x128 .bf16) (w w1 w2 w3 : BitVec 32) :
    Gen.k0_part97_skel (F := F) i a2 h2 a3 h3 a4 h4 a5 h5 a6 h6 a7 h7 a8 h8 a9 h9 a10 h10 a11 h11 a12 h12 a13 h13 a14 h14 a15 h15 (rowWord i) q0 q1 (pairsWord i) w1 w2 w w3
      = laterSteps q0 q1 (Scalar.ofBits .f32 0xF149F2CA#32 : F .f32) i a3 a4 a5 a9 a10 a11 a12 a13 a14 a15 h14 h15 w := by
  unfold Gen.k0_part97_skel laterSteps
  refine bound (congrArg (Scf.Loop.for _ _ _) (funext fun t => funext fun acc => trip2_bits i a2 h2 a3 h3 a4 h4 a5 h5 a6 h6 a7 h7 a8 h8 a9 h9 a10 h10 a11 h11 a12 h12 a13 h13 a14 h14 a15 h15 q0 q1 _ _ _ _ _ _ t acc)) fun w => ?_
  dsimp only
  generalize e2 : (dite (k0_cond2 i = 1#1) _ _ : Prog (TpuEff nD τ sig (Elt F) Λ₀ .tc) (Σ' (_ : BitVec 32), BitVec 1)) = n2
  refine .trans (b := pairIf q0 q1 a3 a4 a9 a10 a11 a12 a13 a14 a15 h14 h15 (k0_cond1 i = 1#1) (k0_off9 i) (k0_off10 i) (k0_off11 i) (k0_off12 i)
    (Gen.k0_off9_inb i) (Gen.k0_off10_inb i) (Gen.k0_off11_inb i) (Gen.k0_off12_inb i) n2) rfl (congrArg _ (e2.symm.trans ?_))
  generalize e3 : (dite (k0_cond3 i = 1#1) _ _ : Prog (TpuEff nD τ sig (Elt F) Λ₀ .tc) (Σ' (_ : BitVec 32), BitVec 1)) = n3
  refine .trans (b := pairIf q0 q1 a3 a4 a9 a10 a11 a12 a13 a14 a15 h14 h15 (k0_cond2 i = 1#1) (k0_off13 i) (k0_off14 i) (k0_off15 i) (k0_off16 i)
    (Gen.k0_off13_inb i) (Gen.k0_off14_inb i) (Gen.k0_off15_inb i) (Gen.k0_off16_inb i) n3) rfl (congrArg _ (e3.symm.trans ?_))
  generalize e4 : (dite (k0_cond4 i = 1#1) _ _ : Prog (TpuEff nD τ sig (Elt F) Λ₀ .tc) (Σ' (_ : BitVec 32), BitVec 1)) = n4
  refine .trans (b := pairIf q0 q1 a3 a4 a9 a10 a11 a12 a13 a14 a15 h14 h15 (k0_cond3 i = 1#1) (k0_off17 i) (k0_off18 i) (k0_off19 i) (k0_off20 i)
    (Gen.k0_off17_inb i) (Gen.k0_off18_inb i) (Gen.k0_off19_inb i) (Gen.k0_off20_inb i) n4) rfl (congrArg _ (e4.symm.trans ?_))
  generalize e5 : (dite (k0_cond5 i = 1#1) _ _ : Prog (TpuEff nD τ sig (Elt F) Λ₀ .tc) (Σ' (_ : BitVec 32), BitVec 1)) = n5
  refine .trans (b := nearIf q0 q1 (Scalar.ofBits .f32 0xF149F2CA#32 : F .f32) i a3 a4 a5 a9 a10 a11 a12 a13 a14 a15 h14 h15 (k0_cond4 i = 1#1) 0
    (Scalar.addi (Scalar.muli 2#32 (pairsWord i)) 0#32) (k0_off21 i) (k0_off22 i) (k0_off23 i)
    (Gen.k0_off21_inb i) (Gen.k0_off22_inb i) (Gen.k0_off23_inb i) n5) rfl (congrArg _ (e5.symm.trans ?_))
  generalize e6 : (dite (k0_cond6 i = 1#1) _ _ : Prog (TpuEff nD τ sig (Elt F) Λ₀ .tc) (Σ' (_ : BitVec 32), BitVec 1)) = n6
  refine .trans (b := nearIf q0 q1 (Scalar.ofBits .f32 0xF149F2CA#32 : F .f32) i a3 a4 a5 a9 a10 a11 a12 a13 a14 a15 h14 h15 (k0_cond5 i = 1#1) 1
    (Scalar.addi (Scalar.muli 2#32 (pairsWord i)) 1#32) (k0_off24 i) (k0_off25 i) (k0_off26 i)
    (Gen.k0_off24_inb i) (Gen.k0_off25_inb i) (Gen.k0_off26_inb i) n6) rfl (congrArg _ (e6.symm.trans ?_))
  rfl

set_option maxRecDepth 65536 in
/-- The last near step, and the two halves' results. -/
theorem last_bits (q0 q1 : FVec F S512x128 .bf16) (col : BitVec 32) (w : BitVec 1) :
    Gen.k0_part98_skel (F := F) i a2 h2 a3 h3 a4 h4 a5 h5 a6 h6 a7 h7 a8 h8 a9 h9 a10 h10 a11 h11 a12 h12 a13 h13 a14 h14 a15 h15 (rowWord i) q0 q1 col w
      = lastStep q0 q1 (Scalar.ofBits .f32 0xF149F2CA#32 : F .f32) i a3 a4 a5 a9 a10 a11 a12 a13 a14 a15 h14 h15 col := rfl

set_option maxRecDepth 65536 in
/-- The prologue. -/
theorem start_bits {α : Type} (k : BitVec 32 → FVec F S512x128 .bf16 → FVec F S512x128 .bf16 → BitVec 32 → BitVec 32 → Prog (TpuEff nD τ sig (Elt F) Λ₀ .tc) α) :
    (Gen.k0_part94_skel (F := F) i a2 h2 a3 h3 a4 h4 a5 h5 a6 h6 a7 h7 a8 h8 a9 h9 a10 h10 a11 h11 a12 h12 a13 h13 a14 h14 a15 h15 >>= fun x =>
      Gen.k0_part95_skel (F := F) i a2 h2 a3 h3 a4 h4 a5 h5 a6 h6 a7 h7 a8 h8 a9 h9 a10 h10 a11 h11 a12 h12 a13 h13 a14 h14 a15 h15 x.1 x.2.2.1 x.2.2.2.1 x.2.2.2.2 >>= fun y => k x.1 x.2.1 x.2.2.1 y.1 y.2)
      = opening (Scalar.ofBits .f32 0xF149F2CA#32 : F .f32) a2 a3 a9 a10 a11 a12 a13 a14 a15 h14 h15 (fun q => k (rowWord i) (lower q) (upper q) (Scalar.addi (Scalar.subi (rowWord i) 3#32) 1#32) 0#32) := rfl

set_option maxRecDepth 65536 in
/-- The loop of eights. -/
theorem eights_bits (q0 q1 : FVec F S512x128 .bf16) :
    Gen.k0_part96_skel (F := F) i a2 h2 a3 h3 a4 h4 a5 h5 a6 h6 a7 h7 a8 h8 a9 h9 a10 h10 a11 h11 a12 h12 a13 h13 a14 h14 a15 h15 (rowWord i) q0 q1 (Scalar.addi (Scalar.subi (rowWord i) 3#32) 1#32) 0#32
      = (Scf.Loop.for (k0_t1_loop i) (Gen.k0_t1_ok i) 0#32 (fun t _ => trip1 q0 q1 i a3 a4 a9 a10 a11 a12 a13 a14 a15 h14 h15 t)
        >>= fun w => pure ⟨pairsWord i, Flash.floorDiv (pairsWord i) 4#32, Scalar.addi 0#32 (Scalar.muli (Scalar.divsi (Scalar.subi (Flash.floorDiv (pairsWord i) 4#32) 0#32) 1#32) 1#32), w, 1#32⟩) := by
  unfold Gen.k0_part96_skel
  exact bound (congrArg (Scf.Loop.for _ _ _) (funext fun t => funext fun acc => trip1_bits i a2 h2 a3 h3 a4 h4 a5 h5 a6 h6 a7 h7 a8 h8 a9 h9 a10 h10 a11 h11 a12 h12 a13 h13 a14 h14 a15 h15 q0 q1 _ _ _ t acc)) fun w => rfl

/-- The kernel. -/
theorem body_bits :
    cc0_flashp_C (F := F) i a2 h2 a3 h3 a4 h4 a5 h5 a6 h6 a7 h7 a8 h8 a9 h9 a10 h10 a11 h11 a12 h12 a13 h13 a14 h14 a15 h15
      = body (Scalar.ofBits .f32 0xF149F2CA#32 : F .f32) i a2 a3 a4 a5 a6 a7 a8 h8 a9 a10 a11 a12 a13 a14 a15 h14 h15 := by
  rw [Gen.cc0_flashp_C_eq_skeleton]
  unfold Gen.cc0_flashp_C_skel
  rw [Gen.k0_part94_eq_skeleton, Gen.k0_part95_eq_skeleton, Gen.k0_part96_eq_skeleton, Gen.k0_part97_eq_skeleton, Gen.k0_part98_eq_skeleton]
  refine .trans (b := Gen.k0_part94_skel (F := F) i a2 h2 a3 h3 a4 h4 a5 h5 a6 h6 a7 h7 a8 h8 a9 h9 a10 h10 a11 h11 a12 h12 a13 h13 a14 h14 a15 h15 >>= fun x =>
      Gen.k0_part95_skel (F := F) i a2 h2 a3 h3 a4 h4 a5 h5 a6 h6 a7 h7 a8 h8 a9 h9 a10 h10 a11 h11 a12 h12 a13 h13 a14 h14 a15 h15 x.1 x.2.2.1 x.2.2.2.1 x.2.2.2.2 >>= fun y => (fun r q0 q1 w c => do
        let z ← Gen.k0_part96_skel (F := F) i a2 h2 a3 h3 a4 h4 a5 h5 a6 h6 a7 h7 a8 h8 a9 h9 a10 h10 a11 h11 a12 h12 a13 h13 a14 h14 a15 h15 r q0 q1 w c
        let z' ← Gen.k0_part97_skel (F := F) i a2 h2 a3 h3 a4 h4 a5 h5 a6 h6 a7 h7 a8 h8 a9 h9 a10 h10 a11 h11 a12 h12 a13 h13 a14 h14 a15 h15 r q0 q1 z.1 z.2.1 z.2.2.1 z.2.2.2.1 z.2.2.2.2
        let u ← Gen.k0_part98_skel (F := F) i a2 h2 a3 h3 a4 h4 a5 h5 a6 h6 a7 h7 a8 h8 a9 h9 a10 h10 a11 h11 a12 h12 a13 h13 a14 h14 a15 h15 r q0 q1 z'.1 z'.2
        closing u.1 u.2 a6 a7 a8 h8) x.1 x.2.1 x.2.2.1 y.1 y.2) rfl ?_
  refine (start_bits i a2 h2 a3 h3 a4 h4 a5 h5 a6 h6 a7 h7 a8 h8 a9 h9 a10 h10 a11 h11 a12 h12 a13 h13 a14 h14 a15 h15 (fun r q0 q1 w c => do
        let z ← Gen.k0_part96_skel (F := F) i a2 h2 a3 h3 a4 h4 a5 h5 a6 h6 a7 h7 a8 h8 a9 h9 a10 h10 a11 h11 a12 h12 a13 h13 a14 h14 a15 h15 r q0 q1 w c
        let z' ← Gen.k0_part97_skel (F := F) i a2 h2 a3 h3 a4 h4 a5 h5 a6 h6 a7 h7 a8 h8 a9 h9 a10 h10 a11 h11 a12 h12 a13 h13 a14 h14 a15 h15 r q0 q1 z.1 z.2.1 z.2.2.1 z.2.2.2.1 z.2.2.2.2
        let u ← Gen.k0_part98_skel (F := F) i a2 h2 a3 h3 a4 h4 a5 h5 a6 h6 a7 h7 a8 h8 a9 h9 a10 h10 a11 h11 a12 h12 a13 h13 a14 h14 a15 h15 r q0 q1 z'.1 z'.2
        closing u.1 u.2 a6 a7 a8 h8)).trans (congrArg (opening (Scalar.ofBits .f32 0xF149F2CA#32 : F .f32) a2 a3 a9 a10 a11 a12 a13 a14 a15 h14 h15) (funext fun q => ?_))
  dsimp only
  rw [eights_bits, bind_assoc]
  refine bound rfl fun w => ?_
  rw [pure_bind]
  exact bound (later_bits i a2 h2 a3 h3 a4 h4 a5 h5 a6 h6 a7 h7 a8 h8 a9 h9 a10 h10 a11 h11 a12 h12 a13 h13 a14 h14 a15 h15 _ _ w _ _ _) fun x => bound (last_bits i a2 h2 a3 h3 a4 h4 a5 h5 a6 h6 a7 h7 a8 h8 a9 h9 a10 h10 a11 h11 a12 h12 a13 h13 a14 h14 a15 h15 _ _ x.1 x.2) fun y => rfl

end Cert.Proof.Duo

end
-- ==== Proof.DuoIsBodyIdeal.lean ====
/-
  The idealized program's differential attention is the body of steps, by unfolding.
-/
module

public import proofs.«01_k».proof.Proof.DuoBody
public import proofs.«01_k».proof.Proof.Gen.DiffIdeal.Skeleton

@[expose] public section

noncomputable section

namespace Cert.Proof.Duo

open Idealize.ShloMosaic Idealize.ShloMosaic.TcCoe Idealize.SL.Sem
open Cert.DiffIdeal
open Cert.Proof.Flash (bound)

variable {F : FTy → Type} [FloatOps F] [Named F]

variable (i : grid0.Coords)
    (a2 : Memref sig .tc .vmem S1x512x128 .bf16) (h2 : a2.IsWhole)
    (a3 : Memref sig .tc .vmem S1x16384x128 .bf16) (h3 : a3.IsWhole)
    (a4 : Memref sig .tc .vmem S1x16384x128 .bf16) (h4 : a4.IsWhole)
    (a5 : Memref sig .tc .vmem S1x1x4x512x512 .f32) (h5 : a5.IsWhole)
    (a6 : Memref sig .tc .vmem S4x64 .f32) (h6 : a6.IsWhole)
    (a7 : Memref sig .tc .vmem S1x128 .f32) (h7 : a7.IsWhole)
    (a8 : Memref sig .tc .vmem S1x512x128 .bf16) (h8 : a8.IsWhole)
    (a9 : Memref sig .tc .vmem S2x512x128 .f32) (h9 : a9.IsWhole)
    (a10 : Memref sig .tc .vmem S2x512x128 .f32) (h10 : a10.IsWhole)
    (a11 : Memref sig .tc .vmem S2x512x128 .f32) (h11 : a11.IsWhole)
    (a12 : Memref sig .tc .vmem S2x512x512 .f32) (h12 : a12.IsWhole)
    (a13 : Memref sig .tc .vmem S2x512x512 .f32) (h13 : a13.IsWhole)
    (a14 : Memref sig .tc .vmem S2x512x512 .bf16) (h14 : a14.IsWhole)
    (a15 : Memref sig .tc .vmem S2x512x512 .bf16) (h15 : a15.IsWhole)

set_option maxRecDepth 65536 in
/-- A turn of the first loop. -/
theorem trip1_ideal (q0 q1 : FVec F S512x128 .bf16) (w1 w2 w3 : BitVec 32) (t : Fin (k0_t1_loop i).trips) (acc : BitVec 32) :
    Gen.k0_t1_body (F := F) i a2 h2 a3 h3 a4 h4 a5 h5 a6 h6 a7 h7 a8 h8 a9 h9 a10 h10 a11 h11 a12 h12 a13 h13 a14 h14 a15 h15 w1 q0 q1 w2 w3 t acc
      = trip1 q0 q1 i a3 a4 a9 a10 a11 a12 a13 a14 a15 h14 h15 t := rfl

set_option maxRecDepth 65536 in
/-- A turn of the second loop. -/
theorem trip2_ideal (q0 q1 : FVec F S512x128 .bf16) (w1 w2 w3 w4 w5 w6 : BitVec 32) (t : Fin (k0_t2_loop i).trips) (acc : BitVec 32) :
    Gen.k0_t2_body (F := F) i a2 h2 a3 h3 a4 h4 a5 h5 a6 h6 a7 h7 a8 h8 a9 h9 a10 h10 a11 h11 a12 h12 a13 h13 a14 h14 a15 h15 w1 q0 q1 w2 w3 w4 w5 w6 t acc
      = trip2 q0 q1 i a3 a4 a9 a10 a11 a12 a13 a14 a15 h14 h15 t := rfl

set_option maxRecDepth 65536 in
/-- The steps after the loop of eights. -/
theorem later_ideal (q0 q1 : FVec F S512x128 .bf16) (w w1 w2 w3 : BitVec 32) :
    Gen.k0_part97_skel (F := F) i a2 h2 a3 h3 a4 h4 a5 h5 a6 h6 a7 h7 a8 h8 a9 h9 a10 h10 a11 h11 a12 h12 a13 h13 a14 h14 a15 h15 (rowWord i) q0 q1 (pairsWord i) w1 w2 w w3
      = laterSteps q0 q1 (Named.named κ "neg" 0xF149F2CA#32 : F .f32) i a3 a4 a5 a9 a10 a11 a12 a13 a14 a15 h14 h15 w := by
  unfold Gen.k0_part97_skel laterSteps
  refine bound (congrArg (Scf.Loop.for _ _ _) (funext fun t => funext fun acc => trip2_ideal i a2 h2 a3 h3 a4 h4 a5 h5 a6 h6 a7 h7 a8 h8 a9 h9 a10 h10 a11 h11 a12 h12 a13 h13 a14 h14 a15 h15 q0 q1 _ _ _ _ _ _ t acc)) fun w => ?_
  dsimp only
  generalize e2 : (dite (k0_cond2 i = 1#1) _ _ : Prog (TpuEff nD τ sig (Elt F) Λ₀ .tc) (Σ' (_ : BitVec 32), BitVec 1)) = n2
  refine .trans (b := pairIf q0 q1 a3 a4 a9 a10 a11 a12 a13 a14 a15 h14 h15 (k0_cond1 i = 1#1) (k0_off9 i) (k0_off10 i) (k0_off11 i) (k0_off12 i)
    (Gen.k0_off9_inb i) (Gen.k0_off10_inb i) (Gen.k0_off11_inb i) (Gen.k0_off12_inb i) n2) rfl (congrArg _ (e2.symm.trans ?_))
  generalize e3 : (dite (k0_cond3 i = 1#1) _ _ : Prog (TpuEff nD τ sig (Elt F) Λ₀ .tc) (Σ' (_ : BitVec 32), BitVec 1)) = n3
  refine .trans (b := pairIf q0 q1 a3 a4 a9 a10 a11 a12 a13 a14 a15 h14 h15 (k0_cond2 i = 1#1) (k0_off13 i) (k0_off14 i) (k0_off15 i) (k0_off16 i)
    (Gen.k0_off13_inb i) (Gen.k0_off14_inb i) (Gen.k0_off15_inb i) (Gen.k0_off16_inb i) n3) rfl (congrArg _ (e3.symm.trans ?_))
  generalize e4 : (dite (k0_cond4 i = 1#1) _ _ : Prog (TpuEff nD τ sig (Elt F) Λ₀ .tc) (Σ' (_ : BitVec 32), BitVec 1)) = n4
  refine .trans (b := pairIf q0 q1 a3 a4 a9 a10 a11 a12 a13 a14 a15 h14 h15 (k0_cond3 i = 1#1) (k0_off17 i) (k0_off18 i) (k0_off19 i) (k0_off20 i)
    (Gen.k0_off17_inb i) (Gen.k0_off18_inb i) (Gen.k0_off19_inb i) (Gen.k0_off20_inb i) n4) rfl (congrArg _ (e4.symm.trans ?_))
  generalize e5 : (dite (k0_cond5 i = 1#1) _ _ : Prog (TpuEff nD τ sig (Elt F) Λ₀ .tc) (Σ' (_ : BitVec 32), BitVec 1)) = n5
  refine .trans (b := nearIf q0 q1 (Named.named κ "neg" 0xF149F2CA#32 : F .f32) i a3 a4 a5 a9 a10 a11 a12 a13 a14 a15 h14 h15 (k0_cond4 i = 1#1) 0
    (Scalar.addi (Scalar.muli 2#32 (pairsWord i)) 0#32) (k0_off21 i) (k0_off22 i) (k0_off23 i)
    (Gen.k0_off21_inb i) (Gen.k0_off22_inb i) (Gen.k0_off23_inb i) n5) rfl (congrArg _ (e5.symm.trans ?_))
  generalize e6 : (dite (k0_cond6 i = 1#1) _ _ : Prog (TpuEff nD τ sig (Elt F) Λ₀ .tc) (Σ' (_ : BitVec 32), BitVec 1)) = n6
  refine .trans (b := nearIf q0 q1 (Named.named κ "neg" 0xF149F2CA#32 : F .f32) i a3 a4 a5 a9 a10 a11 a12 a13 a14 a15 h14 h15 (k0_cond5 i = 1#1) 1
    (Scalar.addi (Scalar.muli 2#32 (pairsWord i)) 1#32) (k0_off24 i) (k0_off25 i) (k0_off26 i)
    (Gen.k0_off24_inb i) (Gen.k0_off25_inb i) (Gen.k0_off26_inb i) n6) rfl (congrArg _ (e6.symm.trans ?_))
  rfl

set_option maxRecDepth 65536 in
/-- The last near step, and the two halves' results. -/
theorem last_ideal (q0 q1 : FVec F S512x128 .bf16) (col : BitVec 32) (w : BitVec 1) :
    Gen.k0_part98_skel (F := F) i a2 h2 a3 h3 a4 h4 a5 h5 a6 h6 a7 h7 a8 h8 a9 h9 a10 h10 a11 h11 a12 h12 a13 h13 a14 h14 a15 h15 (rowWord i) q0 q1 col w
      = lastStep q0 q1 (Named.named κ "neg" 0xF149F2CA#32 : F .f32) i a3 a4 a5 a9 a10 a11 a12 a13 a14 a15 h14 h15 col := rfl

set_option maxRecDepth 65536 in
/-- The prologue. -/
theorem start_ideal {α : Type} (k : BitVec 32 → FVec F S512x128 .bf16 → FVec F S512x128 .bf16 → BitVec 32 → BitVec 32 → Prog (TpuEff nD τ sig (Elt F) Λ₀ .tc) α) :
    (Gen.k0_part94_skel (F := F) i a2 h2 a3 h3 a4 h4 a5 h5 a6 h6 a7 h7 a8 h8 a9 h9 a10 h10 a11 h11 a12 h12 a13 h13 a14 h14 a15 h15 >>= fun x =>
      Gen.k0_part95_skel (F := F) i a2 h2 a3 h3 a4 h4 a5 h5 a6 h6 a7 h7 a8 h8 a9 h9 a10 h10 a11 h11 a12 h12 a13 h13 a14 h14 a15 h15 x.1 x.2.2.1 x.2.2.2.1 x.2.2.2.2 >>= fun y => k x.1 x.2.1 x.2.2.1 y.1 y.2)
      = opening (Named.named κ "neg" 0xF149F2CA#32 : F .f32) a2 a3 a9 a10 a11 a12 a13 a14 a15 h14 h15 (fun q => k (rowWord i) (lower q) (upper q) (Scalar.addi (Scalar.subi (rowWord i) 3#32) 1#32) 0#32) := rfl

set_option maxRecDepth 65536 in
/-- The loop of eights. -/
theorem eights_ideal (q0 q1 : FVec F S512x128 .bf16) :
    Gen.k0_part96_skel (F := F) i a2 h2 a3 h3 a4 h4 a5 h5 a6 h6 a7 h7 a8 h8 a9 h9 a10 h10 a11 h11 a12 h12 a13 h13 a14 h14 a15 h15 (rowWord i) q0 q1 (Scalar.addi (Scalar.subi (rowWord i) 3#32) 1#32) 0#32
      = (Scf.Loop.for (k0_t1_loop i) (Gen.k0_t1_ok i) 0#32 (fun t _ => trip1 q0 q1 i a3 a4 a9 a10 a11 a12 a13 a14 a15 h14 h15 t)
        >>= fun w => pure ⟨pairsWord i, Flash.floorDiv (pairsWord i) 4#32, Scalar.addi 0#32 (Scalar.muli (Scalar.divsi (Scalar.subi (Flash.floorDiv (pairsWord i) 4#32) 0#32) 1#32) 1#32), w, 1#32⟩) := by
  unfold Gen.k0_part96_skel
  exact bound (congrArg (Scf.Loop.for _ _ _) (funext fun t => funext fun acc => trip1_ideal i a2 h2 a3 h3 a4 h4 a5 h5 a6 h6 a7 h7 a8 h8 a9 h9 a10 h10 a11 h11 a12 h12 a13 h13 a14 h14 a15 h15 q0 q1 _ _ _ t acc)) fun w => rfl

/-- The kernel. -/
theorem body_ideal :
    cc0_flashp_C (F := F) i a2 h2 a3 h3 a4 h4 a5 h5 a6 h6 a7 h7 a8 h8 a9 h9 a10 h10 a11 h11 a12 h12 a13 h13 a14 h14 a15 h15
      = body (Named.named κ "neg" 0xF149F2CA#32 : F .f32) i a2 a3 a4 a5 a6 a7 a8 h8 a9 a10 a11 a12 a13 a14 a15 h14 h15 := by
  rw [Gen.cc0_flashp_C_eq_skeleton]
  unfold Gen.cc0_flashp_C_skel
  rw [Gen.k0_part94_eq_skeleton, Gen.k0_part95_eq_skeleton, Gen.k0_part96_eq_skeleton, Gen.k0_part97_eq_skeleton, Gen.k0_part98_eq_skeleton]
  refine .trans (b := Gen.k0_part94_skel (F := F) i a2 h2 a3 h3 a4 h4 a5 h5 a6 h6 a7 h7 a8 h8 a9 h9 a10 h10 a11 h11 a12 h12 a13 h13 a14 h14 a15 h15 >>= fun x =>
      Gen.k0_part95_skel (F := F) i a2 h2 a3 h3 a4 h4 a5 h5 a6 h6 a7 h7 a8 h8 a9 h9 a10 h10 a11 h11 a12 h12 a13 h13 a14 h14 a15 h15 x.1 x.2.2.1 x.2.2.2.1 x.2.2.2.2 >>= fun y => (fun r q0 q1 w c => do
        let z ← Gen.k0_part96_skel (F := F) i a2 h2 a3 h3 a4 h4 a5 h5 a6 h6 a7 h7 a8 h8 a9 h9 a10 h10 a11 h11 a12 h12 a13 h13 a14 h14 a15 h15 r q0 q1 w c
        let z' ← Gen.k0_part97_skel (F := F) i a2 h2 a3 h3 a4 h4 a5 h5 a6 h6 a7 h7 a8 h8 a9 h9 a10 h10 a11 h11 a12 h12 a13 h13 a14 h14 a15 h15 r q0 q1 z.1 z.2.1 z.2.2.1 z.2.2.2.1 z.2.2.2.2
        let u ← Gen.k0_part98_skel (F := F) i a2 h2 a3 h3 a4 h4 a5 h5 a6 h6 a7 h7 a8 h8 a9 h9 a10 h10 a11 h11 a12 h12 a13 h13 a14 h14 a15 h15 r q0 q1 z'.1 z'.2
        closing u.1 u.2 a6 a7 a8 h8) x.1 x.2.1 x.2.2.1 y.1 y.2) rfl ?_
  refine (start_ideal i a2 h2 a3 h3 a4 h4 a5 h5 a6 h6 a7 h7 a8 h8 a9 h9 a10 h10 a11 h11 a12 h12 a13 h13 a14 h14 a15 h15 (fun r q0 q1 w c => do
        let z ← Gen.k0_part96_skel (F := F) i a2 h2 a3 h3 a4 h4 a5 h5 a6 h6 a7 h7 a8 h8 a9 h9 a10 h10 a11 h11 a12 h12 a13 h13 a14 h14 a15 h15 r q0 q1 w c
        let z' ← Gen.k0_part97_skel (F := F) i a2 h2 a3 h3 a4 h4 a5 h5 a6 h6 a7 h7 a8 h8 a9 h9 a10 h10 a11 h11 a12 h12 a13 h13 a14 h14 a15 h15 r q0 q1 z.1 z.2.1 z.2.2.1 z.2.2.2.1 z.2.2.2.2
        let u ← Gen.k0_part98_skel (F := F) i a2 h2 a3 h3 a4 h4 a5 h5 a6 h6 a7 h7 a8 h8 a9 h9 a10 h10 a11 h11 a12 h12 a13 h13 a14 h14 a15 h15 r q0 q1 z'.1 z'.2
        closing u.1 u.2 a6 a7 a8 h8)).trans (congrArg (opening (Named.named κ "neg" 0xF149F2CA#32 : F .f32) a2 a3 a9 a10 a11 a12 a13 a14 a15 h14 h15) (funext fun q => ?_))
  dsimp only
  rw [eights_ideal, bind_assoc]
  refine bound rfl fun w => ?_
  rw [pure_bind]
  exact bound (later_ideal i a2 h2 a3 h3 a4 h4 a5 h5 a6 h6 a7 h7 a8 h8 a9 h9 a10 h10 a11 h11 a12 h12 a13 h13 a14 h14 a15 h15 _ _ w _ _ _) fun x => bound (last_ideal i a2 h2 a3 h3 a4 h4 a5 h5 a6 h6 a7 h7 a8 h8 a9 h9 a10 h10 a11 h11 a12 h12 a13 h13 a14 h14 a15 h15 _ _ x.1 x.2) fun y => rfl

end Cert.Proof.Duo

end
-- ==== Proof.DuoFrameIdeal.lean ====
/-
  The idealized differential attention's frame: its pipeline run with the body's result at every point, and the arguments and counters after.
-/
module

public import proofs.«01_k».proof.Proof.DuoRun
public import proofs.«01_k».proof.Proof.DuoIsBodyIdeal
public import proofs.«01_k».proof.Proof.Gen.DiffIdeal.Frame
public import Idealize.ShloMosaic.Lib.Claim

@[expose] public section

noncomputable section

namespace Cert.Proof.DuoFrameIdeal

open Cert.DiffIdeal Cert.DiffIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The value a masked score takes. -/
abbrev fill : F .f32 := Named.named κ "neg" 0xF149F2CA#32

/-- The result tile at a point. -/
def tile (c : Dev nD) (t : Fin cfg0.N) : Vec F S1x512x128 .bf16 :=
  Duo.result (fill : F .f32) (grid0.coords t 1).val (iblk m c 1 t) (iblk m c 2 t) (iblk m c 3 t) (iblk m c 0 t) (iblk m c 4 t) (iblk m c 5 t)

/-- The proof data: the inputs' blocks stay, the output's buffer ends at the result tile, the scratch is at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = iblk m c 5 t := by
  dsimp only [dats]
  exact ⟨rfl, rfl, rfl, rfl, rfl, rfl⟩
theorem after_out (c : Dev nD) (t : Fin cfg0.N) : (dats m 0 c).after 6 t = tile m c t := by dsimp only [dats]
theorem before_0 (c : Dev nD) (t : Fin cfg0.N) (d) : (dats m 0 c).before 0 t d = iblk m c 0 t :=
  before0_0_of m (dats m 0 c) (A_eq m c 0) (fun t => (after_in m c t).1) t d
theorem before_1 (c : Dev nD) (t : Fin cfg0.N) (d) : (dats m 0 c).before 1 t d = iblk m c 1 t :=
  before0_1_of m (dats m 0 c) (A_eq m c 1) (fun t => (after_in m c t).2.1) t d
theorem before_2 (c : Dev nD) (t : Fin cfg0.N) (d) : (dats m 0 c).before 2 t d = iblk m c 2 t :=
  before0_2_of m (dats m 0 c) (A_eq m c 2) (fun t => (after_in m c t).2.2.1) t d
theorem before_3 (c : Dev nD) (t : Fin cfg0.N) (d) : (dats m 0 c).before 3 t d = iblk m c 3 t :=
  before0_3_of m (dats m 0 c) (A_eq m c 3) (fun t => (after_in m c t).2.2.2.1) t d
theorem before_4 (c : Dev nD) (t : Fin cfg0.N) (d) : (dats m 0 c).before 4 t d = iblk m c 4 t :=
  before0_4_of m (dats m 0 c) (A_eq m c 4) (fun t => (after_in m c t).2.2.2.2.1) t d
theorem before_5 (c : Dev nD) (t : Fin cfg0.N) (d) : (dats m 0 c).before 5 t d = iblk m c 5 t :=
  before0_5_of m (dats m 0 c) (A_eq m c 5) (fun t => (after_in m c t).2.2.2.2.2) t d

/-- The scratch buffers, as the body's memrefs. -/
theorem rest_eq (c : Dev nD) :
    (Pipeline.scopedRest (Ix := Unit) (Name := ℕ) (U := UR sig nD τ) (Lvl := ℕ) (Val := Elt F) spec0 c : sProp 𝕄)
      = Duo.scratch c (Memref.whole cc0_scratch0) (Memref.whole cc0_scratch1) (Memref.whole cc0_scratch2) (Memref.whole cc0_scratch3)
          (Memref.whole cc0_scratch4) (Memref.whole cc0_scratch5) (Memref.whole cc0_scratch6) := by
  have e := fun b : Ref sig .tc => Memref.IsWhole.exists_owns_eq (Ix := Unit) (Name := ℕ) (U := UR sig nD τ) (Lvl := ℕ) (Val := Elt F)
    (c := (c : Thread nD τ)) (Memref.isWhole_whole b) fullShare
  have pair : ∀ {a a' b b' : sProp 𝕄}, a = a' → b = b' → iprop(a ∗ b) = iprop(a' ∗ b') := fun h h' => by rw [h, h']
  exact (scopedRest0_eq c).trans (pair (e cc0_scratch0).symm (pair (e cc0_scratch1).symm (pair (e cc0_scratch2).symm
    (pair (e cc0_scratch3).symm (pair (e cc0_scratch4).symm (pair (e cc0_scratch5).symm (e cc0_scratch6).symm))))))

/-- What the body takes at a point, and gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨e0, e1, e2, e3, e4, e5⟩ := after_in m c t
  unfold bodyPre bodyPost bodyAt0
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    e0, e1, e2, e3, e4, e5, after_out, Duo.body_ideal]
  unfold Pipeline.ΦA
  rw [rest_eq]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
  ihave Hs := (Duo.scratch_carried c _ _ _ _ _ _ _) $$ Hs
  icases Hs with ⟨%x, %y, Hx⟩
  iapply (Duo.body_run Variants.none c none Set.univ (fill : F .f32) _ _ _ _ _ _ _ _ _ _ (Memref.isWhole_whole _) (Memref.isWhole_whole _)
    fullShare fullShare fullShare (iblk m c 1 t) (iblk m c 2 t) (iblk m c 3 t) (grid0.coords t) _ _ _ _ _ fullShare fullShare fullShare
    (iblk m c 0 t) (iblk m c 4 t) (iblk m c 5 t) _ x y)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hx]; · iexact Hx
  iintro ⟨H0, H1, H2, H3, H4, H5, H6, %x', %y', Hy⟩
  isplitl [Hy Hr]
  · isplitl [Hy]
    · iapply (Duo.carried_scratch c _ _ _ _ _ _ _ x' y'); iexact Hy
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body there. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The run, with every counter back at zero. -/
theorem launch : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.Proof.DuoFrameIdeal

end
-- ==== Proof.DuoOnline.lean ====
/-
  The differential attention's result tile: each half row by row the quotient of the weighted values by the weights, and the row
  that comes of the two.
-/
module

public import proofs.«01_k».proof.Proof.DuoRun
public import proofs.«01_k».proof.Proof.Online

@[expose] public section

noncomputable section

namespace Cert.Proof.Duo

open Cert.DiffIdeal Cert.DiffIdeal.Facts₀ Cert.DiffIdeal.Facts Cert.DiffIdeal.Gen
open Idealize.ShloMosaic Idealize.ShloMosaic.TcCoe Cert.Proof.Soft
open Cert.Proof.Flash (Tiles plain flat unflat newMax rescale run0 run1 run2 run3 expTile newSum newAcc productV flatV noTile noMax noSum valTile
  plain_row newMax_row unflat_row rescale_row run0_row run1_row run2_row run3_row productV_row flatV_row newSum_row newAcc_row noTile_row noSum_row
  noMax_row expTile_row word_sge valTile_row value)

/-! ## The words at a row -/

theorem scores_row (q : FVec Ideal S512x128 .bf16) (kt : Vec Ideal S1x512x128 .bf16) (r y : Fin 512) :
    scores q kt (ix3 0 r y) = ∑ d : Fin 128, q (ix2 r d) * kt (ix3 0 y d) := by
  pointwise [scores]

/-- Near the diagonal the bias is added, and a key that is after the query is masked. -/
theorem near_row (fill : Ideal .f32) {n j : ℕ} (hn : n < 32) (hj : j < 32) (bt : Vec Ideal S1x1x1x512x512 .f32) (t : Vec Ideal S1x512x512 .f32) (r y : Fin 512) :
    near fill (BitVec.ofNat 32 n) (BitVec.ofNat 32 j) bt t (ix2 r y)
      = if 512 * j + y.val ≤ 512 * n + r.val then t (ix3 0 r y) + bt (ix5 0 0 0 r y) else fill := by
  pointwise [near, plain]
  have e : IntOp.addi (IntOp.subi (BitVec.ofNat 32 r.val) (BitVec.ofNat 32 y.val))
      (Scalar.muli (Scalar.subi (BitVec.ofNat 32 n) (BitVec.ofNat 32 j)) 512#32)
      = BitVec.ofInt 32 (((r.val : ℤ) - y.val) + ((n : ℤ) - j) * 512) := by
    rw [sub_eq_add_neg, sub_eq_add_neg, BitVec.ofInt_add, BitVec.ofInt_mul, BitVec.ofInt_add, BitVec.ofInt_add, BitVec.ofInt_neg, BitVec.ofInt_neg,
      ← BitVec.sub_eq_add_neg, ← BitVec.sub_eq_add_neg]
    rfl
  have := r.isLt
  have := y.isLt
  rw [e, word_sge (by omega) (by omega)]
  by_cases h : 512 * j + y.val ≤ 512 * n + r.val
  · rw [if_pos h, if_pos (by omega)]; rfl
  · rw [if_neg h, if_neg (by omega)]; rfl

theorem biasTile_row {α : Type} (X : S1x1x4x512x512.Idx → α) (t : ℕ) (r y : Fin 512) :
    biasTile X t (ix5 0 0 0 r y) = X (ix5 0 0 ⟨t % 4, Nat.mod_lt _ (by decide)⟩ r y) := by
  refine congrArg X (funext fun a => ?_)
  match a with
  | 0 => rfl
  | 1 => rfl
  | 2 => rfl
  | 3 => rfl
  | 4 => rfl

theorem quotient_row (vt : Vec Ideal S1x512x128 .bf16) (a : Vec Ideal S1x512x128 .f32) (p : Vec Ideal S1x512x512 .bf16) (l : Vec Ideal S1x512x128 .f32)
    (r : Fin 512) (x : Fin 128) : quotient vt a p l (ix2 r x)
    = Ideal.div (a (ix3 0 r x) + ∑ y : Fin 512, p (ix3 0 r y) * vt (ix3 0 y x)) (∑ b : Fin 128, l (ix3 0 r b)) := by
  pointwise [quotient, flat, productV, flatV]

theorem word_slt : ∀ d : Fin 128, IntOp.cmpi .slt (BitVec.ofNat 32 d.val) 64#32 = if d.val < 64 then 1#1 else 0#1 := by decide
theorem word_ge : ∀ d : Fin 128, IntOp.cmpi .sge (BitVec.ofNat 32 d.val) 64#32 = if d.val < 64 then 0#1 else 1#1 := by decide

theorem lower_row (q : Vec Ideal S1x512x128 .bf16) (r : Fin 512) (d : Fin 128) :
    lower q (ix2 r d) = if d.val < 64 then q (ix3 0 r d) else 0 := by
  pointwise [lower, flatV]
  rw [word_slt]
  split
  · rfl
  · rfl

theorem upper_row (q : Vec Ideal S1x512x128 .bf16) (r : Fin 512) (d : Fin 128) :
    upper q (ix2 r d) = if d.val < 64 then 0 else q (ix3 0 r d) := by
  pointwise [upper, flatV]
  rw [word_ge]
  split
  · rfl
  · rfl

/-- A sum over both halves' lanes, the other's at zero, is a sum over a half's. -/
theorem sum_lower (f g : Fin 128 → EReal) : ∑ d : Fin 128, (if d.val < 64 then f d else 0) * g d
    = ∑ d : Fin 64, f ⟨64 * 0 + d.val, by omega⟩ * g ⟨64 * 0 + d.val, by omega⟩ := by
  rw [show (∑ d : Fin 128, (if d.val < 64 then f d else 0) * g d) = ∑ d : Fin (64 + 64), (if d.val < 64 then f d else 0) * g d from rfl, Fin.sum_univ_add]
  have h0 : ∑ d : Fin 64, (if (Fin.natAdd 64 d).val < 64 then f (Fin.natAdd 64 d) else 0) * g (Fin.natAdd 64 d) = 0 :=
    Finset.sum_eq_zero fun d _ => by rw [if_neg (by simp), zero_mul]
  rw [h0, add_zero]
  refine Finset.sum_congr rfl fun d _ => ?_
  rw [if_pos (by have := d.isLt; simpa using this)]
  have e : Fin.castAdd 64 d = (⟨64 * 0 + d.val, by omega⟩ : Fin 128) := Fin.ext (by simp)
  rw [e]

theorem sum_upper (f g : Fin 128 → EReal) : ∑ d : Fin 128, (if d.val < 64 then 0 else f d) * g d
    = ∑ d : Fin 64, f ⟨64 * 1 + d.val, by omega⟩ * g ⟨64 * 1 + d.val, by omega⟩ := by
  rw [show (∑ d : Fin 128, (if d.val < 64 then 0 else f d) * g d) = ∑ d : Fin (64 + 64), (if d.val < 64 then 0 else f d) * g d from rfl, Fin.sum_univ_add]
  have h0 : ∑ d : Fin 64, (if (Fin.castAdd 64 d).val < 64 then 0 else f (Fin.castAdd 64 d)) * g (Fin.castAdd 64 d) = 0 :=
    Finset.sum_eq_zero fun d _ => by rw [if_pos (by have := d.isLt; simpa using this), zero_mul]
  rw [h0, zero_add]
  refine Finset.sum_congr rfl fun d _ => ?_
  rw [if_neg (by simp)]
  have e : Fin.natAdd 64 d = (⟨64 * 1 + d.val, by omega⟩ : Fin 128) := Fin.ext (by show 64 + d.val = 64 * 1 + d.val; omega)
  rw [e]

/-! ## A half -/

section
variable (n : ℕ) (q : FVec Ideal S512x128 .bf16) (X3 X4 : Vec Ideal S1x16384x128 .bf16) (X5 : Vec Ideal S1x1x4x512x512 .f32) (r : Fin 512)

/-- The score of a key at a row of query tile `n`, -/
def rawScore (k : ℕ) : EReal := ∑ d : Fin 128, q (ix2 r d) * X3 (ix3 0 ⟨k % 16384, Nat.mod_lt _ (by decide)⟩ d)

/-- an entry of a bias tile, -/
def entry (t k : ℕ) : EReal := X5 (ix5 0 0 ⟨t % 4, Nat.mod_lt _ (by decide)⟩ r ⟨k % 512, Nat.mod_lt _ (by decide)⟩)

/-- a key's bias, by how many tiles apart the two are, -/
def biasOf (k : ℕ) : EReal := if k / 512 < nearStart n then 0 else entry X5 r (n - k / 512) k

/-- and the two under the causal mask. -/
def score (k : ℕ) : EReal := if k ≤ 512 * n + r.val then rawScore q X3 r k + biasOf n X5 r k else ⊥

/-- What a half's tiles hold of a row before step `j`. -/
structure Holds (j : ℕ) (y : Tiles Ideal) : Prop where
  m : ∀ x : Fin 128, y.m (ix3 0 r x) = peak (score n q X3 X5 r) (512 * j)
  l : ∀ x : Fin 128, y.l (ix3 0 r x) = lane (score n q X3 X5 r) (512 * j) (4 * j) x.val
  a : ∀ x : Fin 128, y.a (ix3 0 r x) = gathered (score n q X3 X5 r) (value X4 x) (512 * j) (512 * (j - 1))
  s : ∀ k : Fin 512, y.s (ix3 0 r k) = rawScore q X3 r (512 * min j n + k.val)
  p : ∀ k : Fin 512, y.p (ix3 0 r k) = if j = 0 then 0 else wt (score n q X3 X5 r) (512 * j) (512 * (j - 1) + k.val)

variable {n q X3 X4 X5 r}

/-- Either way the tile is read at the scores. -/
theorem reading_row {j : ℕ} (hn : n < 32) (hj : j ≤ n) {y : Tiles Ideal} (h : Holds n q X3 X4 X5 r j y) (k : Fin 512) :
    reading (⊥ : EReal) n X5 j y.s (ix2 r k) = score n q X3 X5 r (512 * j + k.val) := by
  have hk := k.isLt
  have e1 : (512 * j + k.val) / 512 = j := by omega
  unfold reading score biasOf
  rw [e1]
  split
  · rename_i hfar
    unfold nearStart at hfar
    rw [plain_row, h.s, min_eq_left hj, if_pos (by omega), add_zero]
  · rw [near_row _ hn (by omega), h.s, min_eq_left hj, biasTile_row]
    unfold entry
    have e2 : (⟨(512 * j + k.val) % 512, Nat.mod_lt _ (by decide)⟩ : Fin 512) = k := Fin.ext (by show (512 * j + k.val) % 512 = k.val; omega)
    rw [e2]

/-- A step keeps what the tiles hold. -/
theorem Holds.step {j : ℕ} (hn : n < 32) (hj : j ≤ n) {y : Tiles Ideal} (h : Holds n q X3 X4 X5 r j y) :
    Holds n q X3 X4 X5 r (j + 1) (next (scores q (valTile X3 (min (j + 1) n))) (reading (⊥ : EReal) n X5 j) (valTile X4 (j - 1)) y) := by
  have hM : ∀ x : Fin 128, newMax (reading (⊥ : EReal) n X5 j y.s) y.m (ix2 r x) = peak (score n q X3 X5 r) (512 * (j + 1)) := fun x => by
    rw [newMax_row, h.m, Nat.mul_succ, peak_add]
    exact congrArg _ (congrArg (fun f => Finset.fold max ⊥ f Finset.univ) (funext fun k => reading_row hn hj h k))
  have hR : ∀ x : Fin 128, rescale (reading (⊥ : EReal) n X5 j y.s) y.m (ix2 r x) = move (score n q X3 X5 r) (512 * j) (512 * (j + 1)) := fun x => by
    rw [rescale_row, hM, h.m]; rfl
  refine ⟨fun x => ?_, fun x => ?_, fun x => ?_, fun k => ?_, fun k => ?_⟩
  · exact (unflat_row _ r x).trans (hM x)
  · refine (newSum_row _ _ _ r x).trans ?_
    rw [hR, h.l, run0_row, run1_row, run2_row, run3_row, hM, reading_row hn hj h, reading_row hn hj h, reading_row hn hj h, reading_row hn hj h]
    exact lane_step _ x.isLt
  · refine (newAcc_row _ _ _ _ _ r x).trans ?_
    rw [hR, h.a]
    have e : ∑ k : Fin 512, y.p (ix3 0 r k) * valTile X4 (j - 1) (ix3 0 k x)
        = if j = 0 then 0 else ∑ k : Fin 512, wt (score n q X3 X5 r) (512 * j) (512 * (j - 1) + k.val) * value X4 x (512 * (j - 1) + k.val) := by
      split
      · exact Finset.sum_eq_zero fun k _ => by rw [h.p, if_pos ‹_›, zero_mul]
      · exact Finset.sum_congr rfl fun k _ => by rw [h.p, if_neg ‹_›, valTile_row]; rfl
    rw [e]
    rw [Nat.add_sub_cancel]
    by_cases h0 : j = 0
    · rw [if_pos h0, add_zero, show 512 * (j - 1) = 512 * j by omega]
      exact gathered_move _ _ le_rfl (by omega)
    · rw [if_neg h0, gathered_add, show 512 * (j - 1) + 512 = 512 * j by omega]
      exact gathered_move _ _ le_rfl (by omega)
  · refine (scores_row _ _ r k).trans (Finset.sum_congr rfl fun d _ => ?_)
    rw [valTile_row]
  · refine (expTile_row _ _ r k _ hM).trans ?_
    rw [reading_row hn hj h]
    rfl

/-- Before the first step. -/
theorem Holds.start : Holds n q X3 X4 X5 r 0 (stateAt (⊥ : EReal) n q X3 X4 X5 0) := by
  refine ⟨fun x => ?_, fun x => ?_, fun x => ?_, fun k => ?_, fun k => ?_⟩
  · exact noMax_row _ r x
  · exact (noSum_row r x).trans rfl
  · exact (noSum_row r x).trans rfl
  · refine (scores_row _ _ r k).trans (Finset.sum_congr rfl fun d _ => ?_)
    rw [valTile_row, Nat.zero_min]
  · exact noTile_row r k

theorem Holds.at (hn : n < 32) : ∀ j, j ≤ n + 1 → Holds n q X3 X4 X5 r j (stateAt (⊥ : EReal) n q X3 X4 X5 j)
  | 0, _ => Holds.start
  | j + 1, h => (Holds.at hn j (by omega)).step hn (by omega)

/-- A half's result at a row and a column. -/
theorem half_row (hn : n < 32) (x : Fin 128) : halfResult (⊥ : EReal) n q X3 X4 X5 (ix2 r x)
    = Ideal.div (gathered (score n q X3 X5 r) (value X4 x) (512 * (n + 1)) (512 * (n + 1)))
        (∑ k ∈ Finset.range (512 * (n + 1)), wt (score n q X3 X5 r) (512 * (n + 1)) k) := by
  have h := Holds.at (q := q) (X3 := X3) (X4 := X4) (X5 := X5) (r := r) hn (n + 1) le_rfl
  refine (quotient_row _ _ _ _ r x).trans (congrArg₂ _ ?_ ?_)
  · rw [h.a]
    refine Eq.trans (congrArg _ (Finset.sum_congr rfl fun k _ => ?_)) (gathered_add (score n q X3 X5 r) (value X4 x) (512 * (n + 1)) (512 * n) 512)
    rw [h.p, if_neg (Nat.succ_ne_zero n), valTile_row]
    rfl
  · rw [show 512 * (n + 1) = 128 * (4 * (n + 1)) by ring, ← sum_lane]
    exact Finset.sum_congr rfl fun x _ => (h.l x).trans (by rw [show 128 * (4 * (n + 1)) = 512 * (n + 1) by ring])

end

/-! ## The row -/

/-- The second half's weight, from the learnt vectors. -/
def lam (lp : S4x64.Idx → EReal) : EReal :=
  (Ideal.exp (∑ d : Fin 64, lp (ix2 0 d) * lp (ix2 1 d)) - Ideal.exp (∑ d : Fin 64, lp (ix2 2 d) * lp (ix2 3 d))) + Ideal.ofBits .f32 0x3E4CCCCD#32

/-- A row scaled to unit mean square, by its gain and by the constant. -/
def level (f : Fin 128 → EReal) (g : Fin 128 → EReal) (x : Fin 128) : EReal :=
  f x * Ideal.rsqrt (Ideal.div (∑ b : Fin 128, f b * f b) (Ideal.ofBits .f32 0x43000000#32) + Ideal.ofBits .f32 0x358637BD#32) * g x * Ideal.ofBits .f32 0x3F4CCCCD#32

theorem weightOf_at (lp : Vec Ideal S4x64 .f32) : weightOf lp (ix2 0 0) = lam lp := by
  pointwise [weightOf]
  rfl

theorem differ_row (u v : FVec Ideal S512x128 .f32) (lp : Vec Ideal S4x64 .f32) (r : Fin 512) (x : Fin 128) :
    differ u v lp (ix2 r x) = u (ix2 r x) - lam lp * v (ix2 r x) := by
  rw [← weightOf_at]
  generalize e : weightOf lp = w
  pointwise [differ, e]

theorem scaleOf_row (f : FVec Ideal S512x128 .f32) (r : Fin 512) : scaleOf f (ix2 r 0)
    = Ideal.rsqrt (Ideal.div (∑ b : Fin 128, f (ix2 r b) * f (ix2 r b)) (Ideal.ofBits .f32 0x43000000#32) + Ideal.ofBits .f32 0x358637BD#32) := by
  pointwise [scaleOf]

theorem norm_row (f : FVec Ideal S512x128 .f32) (g : Vec Ideal S1x128 .f32) (r : Fin 512) (x : Fin 128) :
    norm f g (ix3 0 r x) = level (fun x => f (ix2 r x)) (fun x => g (ix2 0 x)) x := by
  unfold level
  rw [← scaleOf_row]
  generalize e : scaleOf f = w
  pointwise [norm, e]

/-- The result tile at a row and a column. -/
theorem result_row {n : ℕ} (hn : n < 32) (X2 : Vec Ideal S1x512x128 .bf16) (X3 X4 : Vec Ideal S1x16384x128 .bf16) (X5 : Vec Ideal S1x1x4x512x512 .f32)
    (X6 : Vec Ideal S4x64 .f32) (X7 : Vec Ideal S1x128 .f32) (r : Fin 512) (x : Fin 128) :
    result (⊥ : EReal) n X3 X4 X5 X2 X6 X7 (ix3 0 r x)
      = level (fun x => Ideal.div (gathered (score n (lower X2) X3 X5 r) (value X4 x) (512 * (n + 1)) (512 * (n + 1)))
            (∑ k ∈ Finset.range (512 * (n + 1)), wt (score n (lower X2) X3 X5 r) (512 * (n + 1)) k)
          - lam X6 * Ideal.div (gathered (score n (upper X2) X3 X5 r) (value X4 x) (512 * (n + 1)) (512 * (n + 1)))
            (∑ k ∈ Finset.range (512 * (n + 1)), wt (score n (upper X2) X3 X5 r) (512 * (n + 1)) k)) (fun x => X7 (ix2 0 x)) x := by
  refine (norm_row _ _ r x).trans (congrArg (fun f => level f (fun x => X7 (ix2 0 x)) x) (funext fun x => ?_))
  rw [differ_row, half_row hn, half_row hn]

end Cert.Proof.Duo

end
-- ==== Proof.DuoRefValue.lean ====
/-
  The differential attention's reference, at an index.
-/
module

public import proofs.«01_k».proof.Proof.Gen.DiffReferenceIdeal.Run
public import proofs.«01_k».proof.Proof.DuoOnline
public import proofs.«01_k».proof.Proof.RefValue

@[expose] public section

set_option maxRecDepth 16384

noncomputable section

namespace Cert.Proof.DuoRef

open Cert.Proof.Soft Cert.DiffReferenceIdeal Cert.DiffReferenceIdeal.Gen Idealize.ShloMosaic Idealize.ShloMosaic.TcCoe

/-- A maximum along the last of four axes, at a row. -/
theorem reduce_max {n0 n1 n2 n3 : ℕ} {u : Shape} (h : Shape.Reduces ⟨4, ![n0, n1, n2, n3]⟩ [3] ⟨3, ![n0, n1, n2]⟩)
    (s : FVec Ideal ⟨4, ![n0, n1, n2, n3]⟩ .f32) (init : FVec Ideal u .f32) (h' : Shape.ReducesTo ⟨4, ![n0, n1, n2, n3]⟩ [3] ⟨3, ![n0, n1, n2]⟩)
    (hu : 0 < u.numel) (i : Fin n0) (m : Fin n1) (j : Fin n2) :
    Host.reduce FloatOps.maximumf s init h' hu (ix3 i m j)
      = (Finset.univ : Finset (Fin n3)).fold max (init (Shape.Idx.first hu)) fun k => s (ix4 i m j k) := by
  have e : s ∘ h.lift (ix3 i m j) = fun k : Fin n3 => s (ix4 i m j k) := by
    funext k
    refine congrArg s (funext fun a => ?_)
    match a with
    | 0 => rfl
    | 1 => rfl
    | 2 => rfl
    | 3 => rfl
  exact (Host.reduce_eq_fold_single FloatOps.maximumf s init h' h hu (ix3 i m j)).trans (by rw [e]; rfl)

/-! ## The stages -/

section
variable (q : FVec Ideal S4x16384x128 .bf16) (X : FVec Ideal S4x1x4x512x512 .f32) (lp : FVec Ideal S4x64 .f32) (g : FVec Ideal S1x128 .f32)
  (s e : FVec Ideal S4x2x16384x16384 .f32)

/-- The second half's weight. -/
def weight : FVec Ideal S_ .f32 :=
  addf (subf
      (Host.exp (Host.reduceAdd (mulf (shapeCast S64 (extractStridedSlice S1x64 ![0, 0] lp slices_S4x64_S1x64_0_0) shapeCasts_S1x64_S64)
        (shapeCast S64 (extractStridedSlice S1x64 ![1, 0] lp slices_S4x64_S1x64_1_0) shapeCasts_S1x64_S64)) (constant S_ .f32 0x00000000#32) reducesTo_S64_S_d0 h_S_))
      (Host.exp (Host.reduceAdd (mulf (shapeCast S64 (extractStridedSlice S1x64 ![2, 0] lp slices_S4x64_S1x64_2_0) shapeCasts_S1x64_S64)
        (shapeCast S64 (extractStridedSlice S1x64 ![3, 0] lp slices_S4x64_S1x64_3_0) shapeCasts_S1x64_S64)) (constant S_ .f32 0x00000000#32) reducesTo_S64_S_d0 h_S_)))
    (constant S_ .f32 0x3E4CCCCD#32)

/-- The two halves of the rows. -/
def halves : FVec Ideal S4x16384x2x64 .f32 := shapeCast S4x16384x2x64 (extf .f32 q bitsLt_bf16_f32) shapeCasts_S4x16384x128_S4x16384x2x64

/-- How many tiles apart a query and a key are. -/
def apart : IVec S32x1x32x1 32 :=
  subi (broadcastInDim S32x1x32x1 ![0, 1, 2, 3] bcast_S32x1x1x1_S32x1x32x1_0_1_2_3 (broadcastInDim S32x1x1x1 ![0] bcast_S32_S32x1x1x1_0 (iotaInDim S32 32 0)))
    (broadcastInDim S32x1x32x1 ![0, 1, 2, 3] bcast_S1x1x32x1_S32x1x32x1_0_1_2_3 (broadcastInDim S1x1x32x1 ![2, 3] bcast_S32x1_S1x1x32x1_2_3
      (broadcastInDim S32x1 ![0] bcast_S32_S32x1_0 (iotaInDim S32 32 0))))

/-- One bias tile laid where the tiles are `w` apart, over `b`. -/
def layer (w : BitVec 32) (t : FVec Ideal S4x1x1x512x512 .f32) (b : FVec Ideal S4x32x512x32x512 .f32) : FVec Ideal S4x32x512x32x512 .f32 :=
  select (broadcastInDim S4x32x512x32x512 ![1, 2, 3, 4] bcast_S32x1x32x1_S4x32x512x32x512_1_2_3_4
      (cmpi .eq apart (broadcastInDim S32x1x32x1 ![] bcast_S_S32x1x32x1 (constantI S_ 32 w))))
    (broadcastInDim S4x32x512x32x512 ![0, 1, 2, 3, 4] bcast_S4x1x512x1x512_S4x32x512x32x512_0_1_2_3_4 (broadcastInDim S4x1x512x1x512 ![0, 2, 4]
      bcast_S4x512x512_S4x1x512x1x512_0_2_4 (shapeCast S4x512x512 t shapeCasts_S4x1x1x512x512_S4x512x512))) b

/-- The bias of every query and key. -/
def laid : FVec Ideal S4x32x512x32x512 .f32 :=
  layer 3#32 (extractStridedSlice S4x1x1x512x512 ![0, 0, 3, 0, 0] X slices_S4x1x4x512x512_S4x1x1x512x512_0_0_3_0_0)
    (layer 2#32 (extractStridedSlice S4x1x1x512x512 ![0, 0, 2, 0, 0] X slices_S4x1x4x512x512_S4x1x1x512x512_0_0_2_0_0)
      (layer 1#32 (extractStridedSlice S4x1x1x512x512 ![0, 0, 1, 0, 0] X slices_S4x1x4x512x512_S4x1x1x512x512_0_0_1_0_0)
        (layer 0#32 (extractStridedSlice S4x1x1x512x512 ![0, 0, 0, 0, 0] X slices_S4x1x4x512x512_S4x1x1x512x512_0_0_0_0_0)
          (broadcastInDim S4x32x512x32x512 ![] bcast_S_S4x32x512x32x512 (constant S_ .f32 0x00000000#32)))))

def spread (b : FVec Ideal S4x32x512x32x512 .f32) : FVec Ideal S4x1x16384x16384 .f32 :=
  shapeCast S4x1x16384x16384 b shapeCasts_S4x32x512x32x512_S4x1x16384x16384

/-- The biased scores, in natural units. -/
def units (qm km : FVec Ideal S4x16384x2x64 .f32) (b : FVec Ideal S4x1x16384x16384 .f32) : FVec Ideal S4x2x16384x16384 .f32 :=
  mulf (addf (Host.dotGeneral dot_S4x16384x2x64_S4x16384x2x64_S4x2x16384x16384_3_3_1_1_02_02 none qm km)
      (broadcastInDim S4x2x16384x16384 ![0, 1, 2, 3] bcast_S4x1x16384x16384_S4x2x16384x16384_0_1_2_3 b))
    (broadcastInDim S4x2x16384x16384 ![] bcast_S_S4x2x16384x16384 (Host.log (constant S_ .f32 0x40000000#32)))

/-- The causal mask. -/
def causal : IVec S4x2x16384x16384 1 :=
  broadcastInDim S4x2x16384x16384 ![2, 3] bcast_S16384x16384_S4x2x16384x16384_2_3 (cmpi .sle
    (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

/-- The scores under the mask. -/
def kept : FVec Ideal S4x2x16384x16384 .f32 :=
  select causal s (broadcastInDim S4x2x16384x16384 ![] bcast_S_S4x2x16384x16384 (id (constant S_ .f32 0xFF800000#32)))

/-- A row's maximum, beside a value below all. -/
def most : FVec Ideal S4x2x16384 .f32 :=
  Host.reduce FloatOps.maximumf s (constant S_ .f32 0xFF800000#32) reducesTo_S4x2x16384x16384_S4x2x16384_d3 h_S_
def top : FVec Ideal S4x2x16384 .f32 :=
  maximumf (broadcastInDim S4x2x16384 ![] bcast_S_S4x2x16384 (constant S_ .f32 0xFF800000#32)) (most s)

/-- A value by row, over the row. -/
def along (t : FVec Ideal S4x2x16384 .f32) : FVec Ideal S4x2x16384x16384 .f32 :=
  broadcastInDim S4x2x16384x16384 ![0, 1, 2, 3] bcast_S4x2x16384x1_S4x2x16384x16384_0_1_2_3 (broadcastInDim S4x2x16384x1 ![0, 1, 2] bcast_S4x2x16384_S4x2x16384x1_0_1_2 t)

/-- The exponentials, a row's sum, and each one's share of it. -/
def expo : FVec Ideal S4x2x16384x16384 .f32 := Host.exp (subf s (along (top s)))
def total : FVec Ideal S4x2x16384 .f32 := Host.reduceAdd e (constant S_ .f32 0x00000000#32) reducesTo_S4x2x16384x16384_S4x2x16384_d3 h_S_
def share : FVec Ideal S4x2x16384x16384 .f32 := Host.divf e (along (total e))

/-- The first half's shares less the weighted second half's. -/
def less (a : FVec Ideal S4x2x16384x16384 .f32) (w : FVec Ideal S_ .f32) : FVec Ideal S4x16384x16384 .f32 :=
  subf (shapeCast S4x16384x16384 (extractStridedSlice S4x1x16384x16384 ![0, 0, 0, 0] a slices_S4x2x16384x16384_S4x1x16384x16384_0_0_0_0)
      shapeCasts_S4x1x16384x16384_S4x16384x16384)
    (mulf (broadcastInDim S4x16384x16384 ![] bcast_S_S4x16384x16384 w)
      (shapeCast S4x16384x16384 (extractStridedSlice S4x1x16384x16384 ![0, 1, 0, 0] a slices_S4x2x16384x16384_S4x1x16384x16384_0_1_0_0)
        shapeCasts_S4x1x16384x16384_S4x16384x16384))

/-- The values, weighted. -/
def mixed (w : FVec Ideal S4x16384x16384 .f32) (v : FVec Ideal S4x16384x128 .bf16) : FVec Ideal S4x16384x128 .f32 :=
  Host.dotGeneral dot_S4x16384x16384_S4x16384x128_S4x16384x128_2_1_1_2_0_0 none w (extf .f32 v bitsLt_bf16_f32)

/-- One over the root of a row's mean square. -/
def scale (o : FVec Ideal S4x16384x128 .f32) : FVec Ideal S4x16384x1 .f32 :=
  Host.rsqrt (addf (Host.divf (broadcastInDim S4x16384x1 ![0, 1] bcast_S4x16384_S4x16384x1_0_1
      (Host.reduceAdd (mulf o o) (constant S_ .f32 0x00000000#32) reducesTo_S4x16384x128_S4x16384_d2 h_S_))
    (broadcastInDim S4x16384x1 ![] bcast_S_S4x16384x1 (constant S_ .f32 0x43000000#32))) (broadcastInDim S4x16384x1 ![] bcast_S_S4x16384x1 (constant S_ .f32 0x358637BD#32)))

/-- The scaled rows. -/
def outcome (o : FVec Ideal S4x16384x128 .f32) : FVec Ideal S4x16384x128 .bf16 :=
  truncf .bf16 (mulf (mulf (mulf o (broadcastInDim S4x16384x128 ![0, 1, 2] bcast_S4x16384x1_S4x16384x128_0_1_2 (scale o)))
      (broadcastInDim S4x16384x128 ![0, 1, 2] bcast_S1x1x128_S4x16384x128_0_1_2 (broadcastInDim S1x1x128 ![1, 2] bcast_S1x128_S1x1x128_1_2 g)))
    (broadcastInDim S4x16384x128 ![] bcast_S_S4x16384x128 (constant S_ .f32 0x3F4CCCCD#32))) bitsLt_bf16_f32

variable (u : Fin 4) (h : Fin 2) (i j : Fin 16384) (x : Fin 128)

theorem weight_at (y : S_.Idx) : weight lp y = Duo.lam lp := by
  pointwise [weight]
  rfl

theorem halves_at (d : Fin 64) : halves q (ix4 u i h d) = q (ix3 u i ⟨64 * h.val + d.val, by omega⟩) := by
  unfold halves
  rw [shapeCast_apply (extf .f32 q bitsLt_bf16_f32) _ (ix4 u i h d) (ix3 u i ⟨64 * h.val + d.val, by omega⟩)
    (by rw [Shape.rowMajor_val_three, Shape.rowMajor_val_four]
        show (u.val * 16384 + i.val) * 128 + (64 * h.val + d.val) = ((u.val * 16384 + i.val) * 2 + h.val) * 64 + d.val
        omega)]
  rfl

theorem layer_at (w : BitVec 32) (t : FVec Ideal S4x1x1x512x512 .f32) (b : FVec Ideal S4x32x512x32x512 .f32) (n m : Fin 32) (r y : Fin 512) :
    layer w t b (ix5 u n r m y)
      = Scalar.select (IntOp.cmpi .eq (IntOp.subi (BitVec.ofNat 32 n.val) (BitVec.ofNat 32 m.val)) w) (t (ix5 u 0 0 r y)) (b (ix5 u n r m y)) := by
  pointwise [layer, apart]

theorem spread_at (b : FVec Ideal S4x32x512x32x512 .f32) : spread b (ix4 u 0 i j)
    = b (ix5 u ⟨i.val / 512, by omega⟩ ⟨i.val % 512, by omega⟩ ⟨j.val / 512, by omega⟩ ⟨j.val % 512, by omega⟩) := by
  unfold spread
  refine shapeCast_apply b _ (ix4 u 0 i j) (ix5 u ⟨i.val / 512, by omega⟩ ⟨i.val % 512, by omega⟩ ⟨j.val / 512, by omega⟩ ⟨j.val % 512, by omega⟩) ?_
  rw [Shape.rowMajor_val_four, Shape.rowMajor_val_five]
  show (((u.val * 32 + i.val / 512) * 512 + i.val % 512) * 32 + j.val / 512) * 512 + j.val % 512 = ((u.val * 1 + 0) * 16384 + i.val) * 16384 + j.val
  omega

theorem units_at (qm km : FVec Ideal S4x16384x2x64 .f32) (b : FVec Ideal S4x1x16384x16384 .f32) : units qm km b (ix4 u h i j)
    = ((∑ d : Fin 64, qm (ix4 u i h d) * km (ix4 u j h d)) + b (ix4 u 0 i j)) * Ideal.log (Ideal.ofBits .f32 0x40000000#32) := by
  pointwise [units]

theorem causal_at : causal (ix4 u h i j) = IntOp.cmpi .sle (BitVec.ofNat 32 j.val) (BitVec.ofNat 32 i.val) := by
  pointwise [causal]

theorem kept_at : kept s (ix4 u h i j) = Scalar.select (causal (ix4 u h i j)) (s (ix4 u h i j)) (Ideal.ofBits .f32 0xFF800000#32) := by
  generalize h : causal = b
  pointwise [kept, h]
  rfl

theorem expo_at : expo s (ix4 u h i j) = Ideal.exp (s (ix4 u h i j) - top s (ix3 u h i)) := by
  generalize h : top s = b
  pointwise [expo, along, h]

theorem total_at : total e (ix3 u h i) = ∑ j : Fin 16384, e (ix4 u h i j) := by
  pointwise [total]

theorem share_at : share e (ix4 u h i j) = Ideal.div (e (ix4 u h i j)) (total e (ix3 u h i)) := by
  generalize h : total e = b
  pointwise [share, along, h]

theorem most_at : most s (ix3 u h i) = (Finset.univ : Finset (Fin 16384)).fold max ⊥ fun j => s (ix4 u h i j) := by
  unfold most
  rw [reduce_max (u := S_) (by decide)]
  exact congrArg (fun b => Finset.fold max b _ _) (show Ideal.ofBits .f32 0xFF800000#32 = ⊥ by simp [Ideal.ofBits, Ideal.ieee])

theorem top_at : top s (ix3 u h i) = max ⊥ (most s (ix3 u h i)) := by
  unfold top
  rw [Ref.max_at, Ref.floor_at]

theorem less_at (a : FVec Ideal S4x2x16384x16384 .f32) (w : FVec Ideal S_ .f32) (w' : EReal) (hw : ∀ y, w y = w') :
    less a w (ix3 u i j) = a (ix4 u 0 i j) - w' * a (ix4 u 1 i j) := by
  pointwise [less, hw]

theorem mixed_at (w : FVec Ideal S4x16384x16384 .f32) (v : FVec Ideal S4x16384x128 .bf16) :
    mixed w v (ix3 u i x) = ∑ j : Fin 16384, w (ix3 u i j) * v (ix3 u j x) := by
  pointwise [mixed]

theorem scale_at (o : FVec Ideal S4x16384x128 .f32) : scale o (ix3 u i 0)
    = Ideal.rsqrt (Ideal.div (∑ b : Fin 128, o (ix3 u i b) * o (ix3 u i b)) (Ideal.ofBits .f32 0x43000000#32) + Ideal.ofBits .f32 0x358637BD#32) := by
  pointwise [scale]

theorem outcome_at (o : FVec Ideal S4x16384x128 .f32) : outcome g o (ix3 u i x) = Duo.level (fun x => o (ix3 u i x)) (fun x => g (ix2 0 x)) x := by
  unfold Duo.level
  rw [← scale_at]
  generalize h : scale o = w
  pointwise [outcome, h]

end

end Cert.Proof.DuoRef

end
-- ==== Proof.DuoRow.lean ====
/-
  The differential attention's reference, along a row.
-/
module

public import proofs.«01_k».proof.Proof.DuoRefValue
public import proofs.«01_k».proof.Proof.Finite

@[expose] public section

set_option maxRecDepth 16384

noncomputable section

namespace Cert.Proof.Soft

open Idealize.ShloMosaic

/-- A sum of reals, cast. -/
theorem coe_sum {ι : Type} (t : Finset ι) (f : ι → ℝ) : ((∑ j ∈ t, f j : ℝ) : EReal) = ∑ j ∈ t, (f j : EReal) := by
  classical
  induction t using Finset.induction_on with
  | empty => rfl
  | insert a t ha ih => rw [Finset.sum_insert ha, Finset.sum_insert ha, EReal.coe_add, ih]

/-- A difference of real shares, weighting reals, is the difference of the two weightings. -/
theorem split_sum {ι : Type} (t : Finset ι) (A B v : ι → EReal) (l : EReal) (hA : ∀ j, ∃ r : ℝ, A j = r) (hB : ∀ j, ∃ r : ℝ, B j = r)
    (hv : ∀ j, ∃ r : ℝ, v j = r) (hl : ∃ r : ℝ, l = r) : ∑ j ∈ t, (A j - l * B j) * v j = ∑ j ∈ t, A j * v j - l * ∑ j ∈ t, B j * v j := by
  choose a ha using hA
  choose b hb using hB
  choose w hw using hv
  obtain ⟨r, rfl⟩ := hl
  simp only [ha, hb, hw, ← EReal.coe_mul, ← EReal.coe_sub, ← coe_sum]
  rw [Finset.mul_sum, ← Finset.sum_sub_distrib]
  refine congrArg _ (Finset.sum_congr rfl fun j _ => ?_)
  ring

section
variable {s : ℕ → EReal} {n N : ℕ} (hN : n ≤ N) (hs : ∀ k, s k ≠ ⊤) (hfar : ∀ k, n ≤ k → s k = ⊥) (o : ℕ) (ho : o < n) (hso : s o ≠ ⊥)

include hN hs hfar ho hso in
/-- A score's share of its row is real. -/
theorem natural_real (j : Fin N) : ∃ r : ℝ,
    Ideal.div (Ideal.exp (s j.val * (unit2 : EReal) - max ⊥ ((Finset.univ : Finset (Fin N)).fold max ⊥ fun j => s j.val * (unit2 : EReal))))
      (∑ j : Fin N, Ideal.exp (s j.val * (unit2 : EReal) - max ⊥ ((Finset.univ : Finset (Fin N)).fold max ⊥ fun j => s j.val * (unit2 : EReal)))) = r := by
  obtain ⟨M, hM⟩ := peak_real hs o ho hso
  obtain ⟨L, hL, eL⟩ := total_real hs o ho hso
  have ew : ∀ k, Ideal.exp (s k * (unit2 : EReal) - (M : EReal) * (unit2 : EReal)) = wt s n k := fun k => by
    rw [exp_units (hs k), wt, hM]
  rw [fold_eq_peak (fun k => s k * (unit2 : EReal)), peak_units, peak_far hN hfar, hM, max_eq_right bot_le]
  simp only [ew]
  have w0 : ∀ k, n ≤ k → wt s n k = 0 := fun k hk => by rw [wt, hfar k hk, bot_sub, Ideal.exp2_bot]
  have cut : ∑ j : Fin N, wt s n j.val = ∑ k ∈ Finset.range n, wt s n k := by
    rw [Fin.sum_univ_eq_sum_range (fun k => wt s n k)]
    exact (Finset.sum_subset (Finset.range_mono hN) fun k _ hk => w0 k (by simpa using hk)).symm
  rw [cut, eL, Ideal.div_coe hL.ne']
  have h1 : wt s n j.val ≠ ⊤ := by
    by_cases h : j.val < n
    · exact exp2_ne_top (sub_nonpos (le_peak s h))
    · rw [w0 _ (by omega)]; exact EReal.zero_ne_top
  have h2 : wt s n j.val ≠ ⊥ := ne_of_gt ((EReal.bot_lt_zero).trans_le (exp2_nonneg _))
  generalize wt s n j.val = a at h1 h2
  lift a to ℝ using ⟨h1, h2⟩
  exact ⟨_, (EReal.coe_mul _ _).symm⟩

end

end Cert.Proof.Soft

namespace Cert.Proof.DuoRef

open Cert.Proof.Soft Cert.DiffReferenceIdeal Cert.DiffReferenceIdeal.Gen Idealize.ShloMosaic Idealize.SL.Sem Idealize.ShloMosaic.TcCoe

/-- Tiles counted in words. -/
theorem apart_word : ∀ n m : Fin 32, m.val ≤ n.val → ∀ t : Fin 4,
    IntOp.cmpi .eq (IntOp.subi (BitVec.ofNat 32 n.val) (BitVec.ofNat 32 m.val)) (BitVec.ofNat 32 t.val) = if n.val - m.val = t.val then 1#1 else 0#1 := by
  decide +kernel

section
variable (q k : FVec Ideal S4x16384x128 .bf16) (v : FVec Ideal S4x16384x128 .bf16) (X : FVec Ideal S4x1x4x512x512 .f32) (lp : FVec Ideal S4x64 .f32) (g : FVec Ideal S1x128 .f32)
  (u : Fin 4) (h : Fin 2) (i j : Fin 16384) (x : Fin 128)

theorem slice_at (t : ℕ) (ht : t < 4) (hs : S4x1x4x512x512.Slices ![0, 0, t, 0, 0] S4x1x1x512x512) (r y : Fin 512) :
    extractStridedSlice S4x1x1x512x512 ![0, 0, t, 0, 0] X hs (ix5 u 0 0 r y) = X (ix5 u 0 ⟨t, ht⟩ r y) := by
  refine congrArg X (funext fun a => Fin.ext ?_)
  match a with
  | 0 => exact Nat.zero_add _
  | 1 => rfl
  | 2 => rfl
  | 3 => exact Nat.zero_add _
  | 4 => exact Nat.zero_add _

theorem laid_at (n m : Fin 32) (hm : m.val ≤ n.val) (r y : Fin 512) :
    laid X (ix5 u n r m y) = if n.val - m.val < 4 then X (ix5 u 0 ⟨(n.val - m.val) % 4, Nat.mod_lt _ (by decide)⟩ r y) else 0 := by
  have a0 := apart_word n m hm 0
  have a1 := apart_word n m hm 1
  have a2 := apart_word n m hm 2
  have a3 := apart_word n m hm 3
  unfold laid
  rw [layer_at, layer_at, layer_at, layer_at, slice_at X u 3 (by decide), slice_at X u 2 (by decide), slice_at X u 1 (by decide), slice_at X u 0 (by decide)]
  erw [a0, a1, a2, a3]
  generalize n.val - m.val = t
  by_cases h3 : t = 3
  · subst h3; rfl
  by_cases h2 : t = 2
  · subst h2; rfl
  by_cases h1 : t = 1
  · subst h1; rfl
  by_cases h0 : t = 0
  · subst h0; rfl
  rw [if_neg (show ¬ t < 4 by omega)]
  show Scalar.select (if t = 3 then 1#1 else 0#1) _ (Scalar.select (if t = 2 then 1#1 else 0#1) _ (Scalar.select (if t = 1 then 1#1 else 0#1) _
    (Scalar.select (if t = 0 then 1#1 else 0#1) _ (Ideal.ofBits .f32 0x00000000#32)))) = 0
  rw [if_neg h3, if_neg h2, if_neg h1, if_neg h0]
  show Ideal.ofBits .f32 0x00000000#32 = 0
  simp [Ideal.ofBits, Ideal.ieee]

/-- A key's bias at query `i`, -/
def rowBias (y : ℕ) : EReal :=
  if i.val / 512 - y / 512 < 4 then
    X (ix5 u 0 ⟨(i.val / 512 - y / 512) % 4, Nat.mod_lt _ (by decide)⟩ ⟨i.val % 512, Nat.mod_lt _ (by decide)⟩ ⟨y % 512, Nat.mod_lt _ (by decide)⟩) else 0

/-- its score by one half, -/
def rowScore (y : ℕ) : EReal :=
  if y ≤ i.val then (∑ d : Fin 64, q (ix3 u i ⟨64 * h.val + d.val, by omega⟩) * k (ix3 u ⟨y % 16384, Nat.mod_lt _ (by decide)⟩ ⟨64 * h.val + d.val, by omega⟩)) + rowBias X u i y else ⊥

/-- and its value. -/
def rowValue (y : ℕ) : EReal := v (ix3 u ⟨y % 16384, Nat.mod_lt _ (by decide)⟩ x)

/-- The scores of the reference. -/
def scores : FVec Ideal S4x2x16384x16384 .f32 := kept (units (halves q) (halves k) (spread (laid X)))

theorem scores_row : scores q k X (ix4 u h i j) = rowScore q k X u h i j.val * (unit2 : EReal) := by
  have := i.isLt
  have := j.isLt
  unfold scores
  rw [kept_at, causal_at, Ref.word_sle (by omega) (by omega), units_at, Ref.log_two, rowScore, Ref.at_lt, spread_at]
  by_cases h : j.val ≤ i.val
  · rw [if_pos h, if_pos h, laid_at X u _ _ (Nat.div_le_div_right h)]
    simp only [halves_at]
    rfl
  · rw [if_neg h, if_neg h, bot_unit2]
    show Ideal.ofBits .f32 0xFF800000#32 = ⊥
    simp [Ideal.ofBits, Ideal.ieee]

/-- One half's part of a row. -/
def half (n : ℕ) : EReal :=
  Ideal.div (gathered (rowScore q k X u h i) (rowValue v u x) n n) (∑ y ∈ Finset.range n, wt (rowScore q k X u h i) n y)

theorem share_row : share (expo (scores q k X)) (ix4 u h i j)
    = Ideal.div (Ideal.exp (rowScore q k X u h i j.val * (unit2 : EReal) - max ⊥ ((Finset.univ : Finset (Fin 16384)).fold max ⊥ fun j => rowScore q k X u h i j.val * (unit2 : EReal))))
      (∑ j : Fin 16384, Ideal.exp (rowScore q k X u h i j.val * (unit2 : EReal) - max ⊥ ((Finset.univ : Finset (Fin 16384)).fold max ⊥ fun j => rowScore q k X u h i j.val * (unit2 : EReal)))) := by
  rw [share_at, total_at]
  simp only [expo_at, top_at, most_at, scores_row]

variable {q k v X lp}

/-- The reference's difference at a row: the two halves over the first `n` keys. -/
theorem mixed_row {n : ℕ} (hn : i.val < n) (hN : n ≤ 16384) (hs : ∀ h y, rowScore q k X u h i y ≠ ⊤) (ho : ∀ h, rowScore q k X u h i i.val ≠ ⊥)
    (hv : ∀ y, ∃ r : ℝ, v y = r) (hl : ∃ r : ℝ, Duo.lam lp = r) :
    mixed (less (share (expo (scores q k X))) (weight lp)) v (ix3 u i x)
      = half q k v X u 0 i x n - Duo.lam lp * half q k v X u 1 i x n := by
  have real : ∀ h j, ∃ r : ℝ, share (expo (scores q k X)) (ix4 u h i j) = r := fun h j => by
    rw [share_row]
    exact natural_real hN (hs h) (fun y hy => if_neg (by omega)) i.val hn (ho h) j
  have part : ∀ h, ∑ j : Fin 16384, share (expo (scores q k X)) (ix4 u h i j) * v (ix3 u j x) = half q k v X u h i x n := fun h => by
    unfold half
    rw [← natural (s := rowScore q k X u h i) (v := rowValue v u x) hN (hs h) (fun y hy => if_neg (by omega)) i.val hn (ho h)]
    simp only [share_row, rowValue, Ref.at_lt]
  rw [mixed_at]
  simp only [less_at u i _ _ _ _ (weight_at lp)]
  rw [split_sum _ _ _ _ _ (real 0) (real 1) (fun j => hv _) hl, part, part]

end

/-- The reference's result array, by its stages. -/
def whole (m : (ℓ : Loc nD τ sig) → Buf (Elt Ideal) ℓ) (c : Dev nD) : FVec Ideal S4x16384x128 .bf16 :=
  outcome (m ((c.tc : Thread nD τ).loc main_arg5)) (mixed (less (share (expo (scores (m ((c.tc : Thread nD τ).loc main_arg0)) (m ((c.tc : Thread nD τ).loc main_arg1))
    (m ((c.tc : Thread nD τ).loc main_arg3))))) (weight (m ((c.tc : Thread nD τ).loc main_arg4)))) (m ((c.tc : Thread nD τ).loc main_arg2)))

/-- The reference's run. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v102) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨(h c).1.trans ?_, (h c).2⟩) (Cert.DiffReferenceIdeal.Value.run (F := Ideal) m ρ)
  unfold whole outcome scale mixed less share total expo along top most scores kept causal units spread laid layer apart halves weight
    Value.res_main_v86 Value.res_main_v77 Value.res_main_v73 Value.res_main_v66 Value.res_main_v60 Value.res_main_v28
  rfl

end Cert.Proof.DuoRef

end
-- ==== Proof.DuoValue.lean ====
/-
  The differential attention's result array, over the extended reals.
-/
module

public import proofs.«01_k».proof.Proof.DuoFrameIdeal
public import proofs.«01_k».proof.Proof.DuoRow
public import Idealize.ShloMosaic.Lib.Pipeline.ValueKit

@[expose] public section

noncomputable section

namespace Cert.Proof.DuoVal

open Cert.DiffIdeal Cert.DiffIdeal.Gen Cert.Proof.Soft Cert.Proof.DuoFrameIdeal
open Idealize.ShloMosaic Idealize.ShloMosaic.TcCoe Idealize.ShloMosaic.Tactic
open Idealize.SL Idealize.SL.Sem

variable (m : (ℓ : Loc nD τ sig) → Buf (Elt Ideal) ℓ) (c : Dev nD)

/-- The keys up to the end of a query's tile. -/
def seen (i : Fin 16384) : ℕ := 512 * (i.val / 512 + 1)

/-- The result at a row. -/
def out (q k v : FVec Ideal S4x16384x128 .bf16) (X : FVec Ideal S4x1x4x512x512 .f32) (lp : FVec Ideal S4x64 .f32) (g : FVec Ideal S1x128 .f32)
    (u : Fin 4) (i : Fin 16384) (x : Fin 128) : EReal :=
  Duo.level (fun x => DuoRef.half q k v X u 0 i x (seen i) - Duo.lam lp * DuoRef.half q k v X u 1 i x (seen i)) (fun x => g (ix2 0 x)) x

/-- The result array. -/
def G : S4x16384x128.Idx → EReal := fun y =>
  out (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (y 0) (y 1) (y 2)

/-- The farthest bias tile is zero. -/
def FarZero (X : FVec Ideal S4x1x4x512x512 .f32) : Prop := ∀ (u : Fin 4) (r y : Fin 512), X (ix5 u 0 3 r y) = 0

theorem fill_bot : (fill : Ideal .f32) = (⊥ : EReal) := IdealRules.named_const.ideal_named_scalar _ _ _ _ rfl

section
variable (t : Fin cfg0.N)

/-- A point's unit, its query tile, -/
def unit (t : Fin cfg0.N) : Fin 4 := ⟨(grid0.coords t 0).val, (grid0.coords t 0).isLt⟩

theorem tile_lt : (grid0.coords t 1).val < 32 := (grid0.coords t 1).isLt

/-- and a row's query. -/
def query (t : Fin cfg0.N) (r : Fin 512) : Fin 16384 := ⟨512 * (grid0.coords t 1).val + r.val, by have := tile_lt t; have := r.isLt; omega⟩

/-- The blocks' places. -/
theorem places : ∀ t : Fin cfg0.N, (win0_0.index t 0 = (grid0.coords t 0).val ∧ win0_0.index t 1 = (grid0.coords t 1).val ∧ win0_0.index t 2 = 0)
    ∧ (win0_1.index t 0 = (grid0.coords t 0).val ∧ win0_1.index t 1 = 0 ∧ win0_1.index t 2 = 0)
    ∧ (win0_2.index t 0 = (grid0.coords t 0).val ∧ win0_2.index t 1 = 0 ∧ win0_2.index t 2 = 0)
    ∧ (win0_3.index t 0 = (grid0.coords t 0).val ∧ win0_3.index t 1 = 0 ∧ win0_3.index t 2 = 0 ∧ win0_3.index t 3 = 0 ∧ win0_3.index t 4 = 0)
    ∧ (win0_4.index t 0 = 0 ∧ win0_4.index t 1 = 0)
    ∧ (win0_5.index t 0 = 0 ∧ win0_5.index t 1 = 0)
    ∧ (win0_6.index t 0 = (grid0.coords t 0).val ∧ win0_6.index t 1 = (grid0.coords t 1).val ∧ win0_6.index t 2 = 0) := by
  decide +kernel

theorem block_q (r : Fin 512) (d : Fin 128) : iblk m c 0 t (ix3 0 r d) = m ((c.tc : Thread nD τ).loc main_arg0) (ix3 (unit t) (query t r) d) := by
  blk_ext [iblk, V, unit, query, places t]

theorem block_k (y : Fin 16384) (d : Fin 128) : iblk m c 1 t (ix3 0 y d) = m ((c.tc : Thread nD τ).loc main_arg1) (ix3 (unit t) y d) := by
  blk_ext [iblk, V, unit, query, places t]

theorem block_v (y : Fin 16384) (x : Fin 128) : iblk m c 2 t (ix3 0 y x) = m ((c.tc : Thread nD τ).loc main_arg2) (ix3 (unit t) y x) := by
  blk_ext [iblk, V, unit, query, places t]

theorem block_bias (w : Fin 4) (r y : Fin 512) : iblk m c 3 t (ix5 0 0 w r y) = m ((c.tc : Thread nD τ).loc main_arg3) (ix5 (unit t) 0 w r y) := by
  blk_ext [iblk, V, unit, query, places t]

theorem block_lam (a : Fin 4) (d : Fin 64) : iblk m c 4 t (ix2 a d) = m ((c.tc : Thread nD τ).loc main_arg4) (ix2 a d) := by
  blk_ext [iblk, V, unit, query, places t]

theorem block_gain (x : Fin 128) : iblk m c 5 t (ix2 0 x) = m ((c.tc : Thread nD τ).loc main_arg5) (ix2 0 x) := by
  blk_ext [iblk, V, unit, query, places t]

theorem block_out (r : Fin 512) (x : Fin 128) : ((cfg0.win 6).blk t).view.emb (ix3 0 r x) = ix3 (unit t) (query t r) x := by
  blk_ext [iblk, V, unit, query, places t]

variable {m c} (hz : FarZero (m ((c.tc : Thread nD τ).loc main_arg3)))

include hz in
/-- A key's bias, of the near tiles or of the far ones. -/
theorem bias_eq (r : Fin 512) (y : ℕ) (hy : y ≤ 512 * (grid0.coords t 1).val + r.val) : Duo.biasOf (grid0.coords t 1).val (iblk m c 3 t) r y
    = DuoRef.rowBias (m ((c.tc : Thread nD τ).loc main_arg3)) (unit t) (query t r) y := by
  have hr := r.isLt
  have hd : (query t r).val / 512 = (grid0.coords t 1).val := by unfold query; dsimp only; omega
  have hm : (⟨(query t r).val % 512, Nat.mod_lt _ (by decide)⟩ : Fin 512) = r := Fin.ext (by unfold query; dsimp only; omega)
  unfold Duo.biasOf Duo.entry DuoRef.rowBias
  rw [block_bias, hm]
  simp only [hd]
  by_cases h : y / 512 < Duo.nearStart (grid0.coords t 1).val
  · rw [if_pos h]
    by_cases h4 : (grid0.coords t 1).val - y / 512 < 4
    · have e : (⟨((grid0.coords t 1).val - y / 512) % 4, Nat.mod_lt _ (by decide)⟩ : Fin 4) = 3 := Fin.ext (by
        unfold Duo.nearStart at h
        show ((grid0.coords t 1).val - y / 512) % 4 = 3
        omega)
      rw [if_pos h4, e]
      exact (hz _ _ _).symm
    · rw [if_neg h4]
  · rw [if_neg h, if_pos (by unfold Duo.nearStart at h; omega)]

include hz in
/-- The rows of the first half score as its keys do, -/
theorem lower_eq (r : Fin 512) : Duo.score (grid0.coords t 1).val (Duo.lower (iblk m c 0 t)) (iblk m c 1 t) (iblk m c 3 t) r
    = DuoRef.rowScore (m ((c.tc : Thread nD τ).loc main_arg0)) (m ((c.tc : Thread nD τ).loc main_arg1)) (m ((c.tc : Thread nD τ).loc main_arg3)) (unit t) 0 (query t r) := by
  funext y
  unfold Duo.score Duo.rawScore DuoRef.rowScore
  refine ite_congr rfl (fun h => ?_) fun _ => rfl
  rw [bias_eq t hz r y h]
  simp only [Duo.lower_row, block_q, block_k]
  rw [Duo.sum_lower]
  rfl

include hz in
/-- and of the second half likewise. -/
theorem upper_eq (r : Fin 512) : Duo.score (grid0.coords t 1).val (Duo.upper (iblk m c 0 t)) (iblk m c 1 t) (iblk m c 3 t) r
    = DuoRef.rowScore (m ((c.tc : Thread nD τ).loc main_arg0)) (m ((c.tc : Thread nD τ).loc main_arg1)) (m ((c.tc : Thread nD τ).loc main_arg3)) (unit t) 1 (query t r) := by
  funext y
  unfold Duo.score Duo.rawScore DuoRef.rowScore
  refine ite_congr rfl (fun h => ?_) fun _ => rfl
  rw [bias_eq t hz r y h]
  simp only [Duo.upper_row, block_q, block_k]
  rw [Duo.sum_upper]
  rfl

theorem value_eq (x : Fin 128) : Flash.value (iblk m c 2 t) x = DuoRef.rowValue (m ((c.tc : Thread nD τ).loc main_arg2)) (unit t) x := by
  funext y
  unfold Flash.value DuoRef.rowValue
  rw [block_v]

theorem lam_eq : Duo.lam (iblk m c 4 t) = Duo.lam (m ((c.tc : Thread nD τ).loc main_arg4)) := by
  unfold Duo.lam
  simp only [block_lam]

include hz in
theorem tile_row (r : Fin 512) (x : Fin 128) : tile m c t (ix3 0 r x) = G m c (ix3 (unit t) (query t r) x) := by
  have e : 512 * ((grid0.coords t 1).val + 1) = seen (query t r) := by
    have := r.isLt
    unfold seen query
    dsimp only
    omega
  unfold tile
  rw [fill_bot, Duo.result_row (tile_lt t), lower_eq t hz, upper_eq t hz, lam_eq, e]
  simp only [value_eq, block_gain]
  rfl

end

variable {m c} (hz : FarZero (m ((c.tc : Thread nD τ).loc main_arg3)))

include hz in
theorem tile_at (t : Fin cfg0.N) (y : S1x512x128.Idx) : tile m c t y = G m c (((cfg0.win 6).blk t).view.emb y) := by
  have key : ∀ (u : Fin 1) (r : Fin 512) (x : Fin 128), tile m c t (ix3 u r x) = G m c (((cfg0.win 6).blk t).view.emb (ix3 u r x)) := fun u r x => by
    rw [Subsingleton.elim u 0, tile_row t hz, block_out]
  have e : y = ix3 (y 0) (y 1) (y 2) := eq_ix3 y
  generalize y 0 = u at e
  generalize y 1 = r at e
  generalize y 2 = x at e
  subst e
  exact key u r x

include hz in
theorem array : (dats m 0 c).arrAt 6 cfg0.N = G m c := by
  refine (dats m 0 c).arrAt_eq_of_covers 6 _ (by decide +kernel) fun t hf y => ?_
  blk_simp
  rw [after_out]
  exact tile_at hz t y

/-- The run, with the result array. -/
theorem run (m : (ℓ : Loc nD τ sig) → Buf (Elt Ideal) ℓ) (ρ : Dev nD → PrngReg) (hz : ∀ c : Dev nD, FarZero (m ((c.tc : Thread nD τ).loc main_arg3))) :
    θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have h0 : θ_run defs (onTc (τ := τ) (main (F := Ideal))) ⟨m, fun _ => 0, ρ⟩ (fun r => ∀ c : Dev nD,
      r.2.mem ((c.tc : Thread nD τ).loc main_v0) = G m c) :=
    (θ_run defs _ _).mono (fun _ h c => ((h.1 c).1 6).trans (array (hz c))) (launch m ρ)
  (θ_run defs _ _).mono (fun _ h c => ⟨h.1 c, h.2.1 c⟩) (θ_run_and h0 (frame m ρ))

end Cert.Proof.DuoVal

end
-- ==== Proof.Differential.lean ====
/-
  The claims of the differential attention.
-/
module

public import proofs.«01_k».proof.Defs
public import proofs.«01_k».proof.Proof.DuoFrameBits
public import proofs.«01_k».proof.Proof.DuoValue
public import Idealize.ShloMosaic.Lib.ReduceAll

@[expose] public section

set_option maxRecDepth 16384

noncomputable section

namespace Cert.Proof.Differential

open Idealize.ShloMosaic Idealize.SL.Sem Idealize.ShloMosaic.TcCoe

/-- The precondition's shape facts. -/
theorem facts : Cert.Pre_diff_finite.Facts :=
  ⟨by decide, by decide, by decide, by decide, by decide, by decide, by decide, by decide, by decide, by decide, by decide, by decide⟩

attribute [local instance] facts

section
open Cert.Pre_diff_finite

instance : Subsingleton S_.Idx := ⟨fun a b => funext fun i => absurd i.isLt (by simp [S_])⟩

/-- A magnitude below infinity everywhere keeps every entry finite. -/
theorem finite_of {s w : Shape} {axes : List (Fin s.rank)} (x b : FVec Ideal s .f32) (v : IVec w 1)
    (h : s.ReducesTo axes S_) (hw : 0 < w.numel) (i : S_.Idx) (e : Host.reduce IntOp.andi (cmpf .olt (Host.absf x) b) v h hw i = 1#1) (hb : ∀ j, b j = Ideal.ofBits .f32 0x7F800000#32) (j : s.Idx) :
    x j ≠ ⊤ ∧ x j ≠ ⊥ := by
  have := Host.reduce_andi_all _ _ _ _ i e j
  refine Finiteness.below ?_
  rw [← hb j]
  exact this

variable {q k v : FVec Ideal S4x16384x128 .bf16} {X : FVec Ideal S4x1x4x512x512 .f32} {lp : FVec Ideal S4x64 .f32} {g : FVec Ideal S1x128 .f32}

theorem equal_zero {x : EReal} (h : Ideal.cmp .oeq x (Ideal.ofBits .f32 0x00000000#32) = 1#1) : x = 0 := by
  have e : Ideal.ofBits .f32 0x00000000#32 = 0 := by simp [Ideal.ofBits, Ideal.ieee]
  rw [e] at h
  by_contra hx
  simp [Ideal.cmp, hx] at h

theorem six (a b c d e f : IVec S_ 1) (i : S_.Idx) (h : andi (andi (andi (andi (andi a b) c) d) e) f i = 1#1) :
    a i = 1#1 ∧ b i = 1#1 ∧ c i = 1#1 ∧ d i = 1#1 ∧ e i = 1#1 ∧ f i = 1#1 := by
  obtain ⟨h, h5⟩ := Finiteness.both h
  obtain ⟨h, h4⟩ := Finiteness.both h
  obtain ⟨h, h3⟩ := Finiteness.both h
  obtain ⟨h, h2⟩ := Finiteness.both h
  obtain ⟨h, h1⟩ := Finiteness.both h
  exact ⟨h, h1, h2, h3, h4, h5⟩

theorem entries (h : fn q k v X lp g = fun _ => 1#1) :
    (∀ y, q y ≠ ⊤ ∧ q y ≠ ⊥) ∧ (∀ y, k y ≠ ⊤ ∧ k y ≠ ⊥) ∧ (∀ y, v y ≠ ⊤ ∧ v y ≠ ⊥) ∧ (∀ y, X y ≠ ⊤ ∧ X y ≠ ⊥) ∧ (∀ y, lp y ≠ ⊤ ∧ lp y ≠ ⊥) ∧ DuoVal.FarZero X := by
  replace h := congrFun h (fun i => absurd i.isLt (by simp [S_]))
  unfold fn fn_part1 at h
  obtain ⟨e, ek, ev, eb, el, ez⟩ := six _ _ _ _ _ _ _ h
  clear h
  beta_reduce at e ek ev eb el ez
  have hq := finite_of _ _ _ _ _ _ e fun _ => rfl
  clear e
  have hk := finite_of _ _ _ _ _ _ ek fun _ => rfl
  clear ek
  have hv := finite_of _ _ _ _ _ _ ev fun _ => rfl
  clear ev
  have hb := finite_of _ _ _ _ _ _ eb fun _ => rfl
  clear eb
  have hl := finite_of _ _ _ _ _ _ el fun _ => rfl
  clear el
  refine ⟨hq, hk, hv, hb, hl, fun u r y => ?_⟩
  have := Host.reduce_andi_all _ _ _ _ _ ez (ix4 u 0 r y)
  refine equal_zero (Eq.trans ?_ this)
  refine congrArg (fun x => Ideal.cmp .oeq x (Ideal.ofBits .f32 0x00000000#32)) (Eq.trans ?_
    (shapeCast_apply (extractStridedSlice S4x1x1x512x512 ![0, 0, 3, 0, 0] X Facts.slices_S4x1x4x512x512_S4x1x1x512x512_0_0_3_0_0) _ (ix4 u 0 r y) (ix5 u 0 0 r y) ?_).symm)
  · exact (DuoRef.slice_at X u 3 (by decide) _ r y).symm
  · rw [Shape.rowMajor_val_four, Shape.rowMajor_val_five]
    show (((u.val * 1 + 0) * 1 + 0) * 512 + r.val) * 512 + y.val = ((u.val * 1 + 0) * 512 + r.val) * 512 + y.val
    omega

end

/-! ## Finite scores and a finite weight -/

section
open Cert.DiffReferenceIdeal
variable {q k : FVec Ideal S4x16384x128 .bf16} {X : FVec Ideal S4x1x4x512x512 .f32} (hq : ∀ y, q y ≠ ⊤ ∧ q y ≠ ⊥) (hk : ∀ y, k y ≠ ⊤ ∧ k y ≠ ⊥)
  (hX : ∀ y, X y ≠ ⊤ ∧ X y ≠ ⊥) (u : Fin 4) (h : Fin 2) (i : Fin 16384)

theorem real_of {x : EReal} (hx : x ≠ ⊤ ∧ x ≠ ⊥) : ∃ r : ℝ, x = r := by
  lift x to ℝ using hx
  exact ⟨x, rfl⟩

include hX in
theorem bias_real (y : ℕ) : ∃ r : ℝ, DuoRef.rowBias X u i y = r := by
  unfold DuoRef.rowBias
  split
  · exact real_of (hX _)
  · exact ⟨0, rfl⟩

include hq hk hX in
/-- A key's score, when seen, is real. -/
theorem score_real (y : ℕ) (hy : y ≤ i.val) : ∃ r : ℝ, DuoRef.rowScore q k X u h i y = r := by
  obtain ⟨a, ea⟩ := Finiteness.sum_real Finset.univ (fun d : Fin 64 => q (ix3 u i ⟨64 * h.val + d.val, by omega⟩))
    (fun d => k (ix3 u ⟨y % 16384, Nat.mod_lt _ (by decide)⟩ ⟨64 * h.val + d.val, by omega⟩)) (fun _ => hq _) (fun _ => hk _)
  obtain ⟨b, eb⟩ := bias_real hX u i y
  unfold DuoRef.rowScore
  rw [if_pos hy, ea, eb]
  exact ⟨a + b, (EReal.coe_add a b).symm⟩

include hq hk hX in
theorem score_ne_top (y : ℕ) : DuoRef.rowScore q k X u h i y ≠ ⊤ := by
  by_cases hy : y ≤ i.val
  · obtain ⟨r, e⟩ := score_real hq hk hX u h i y hy
    rw [e]; exact EReal.coe_ne_top r
  · unfold DuoRef.rowScore
    rw [if_neg hy]; exact bot_ne_top

include hq hk hX in
theorem score_own : DuoRef.rowScore q k X u h i i.val ≠ ⊥ := by
  obtain ⟨r, e⟩ := score_real hq hk hX u h i i.val le_rfl
  rw [e]; exact EReal.coe_ne_bot r

/-- The second half's weight is real. -/
theorem lam_real {lp : FVec Ideal S4x64 .f32} (hl : ∀ y, lp y ≠ ⊤ ∧ lp y ≠ ⊥) : ∃ r : ℝ, Duo.lam lp = r := by
  obtain ⟨a, ea⟩ := Finiteness.sum_real Finset.univ (fun d : Fin 64 => lp (ix2 0 d)) (fun d => lp (ix2 1 d)) (fun _ => hl _) (fun _ => hl _)
  obtain ⟨b, eb⟩ := Finiteness.sum_real Finset.univ (fun d : Fin 64 => lp (ix2 2 d)) (fun d => lp (ix2 3 d)) (fun _ => hl _) (fun _ => hl _)
  obtain ⟨w, ew⟩ : ∃ r : ℝ, Ideal.ofBits .f32 0x3E4CCCCD#32 = r := by
    simp only [Ideal.ofBits, Ideal.ieee]
    exact ⟨_, (EReal.coe_mul _ _).symm⟩
  unfold Duo.lam
  rw [ea, eb, ew, Ideal.exp_coe, Ideal.exp_coe]
  exact ⟨Real.exp a - Real.exp b + w, by rw [EReal.coe_add, EReal.coe_sub]⟩

end

/-! ## The claims -/

theorem frame_p : Cert.quiescent_Diff := fun m ρ _ => DuoFrameBits.frame m ρ

theorem frame_pi : Cert.quiescent_DiffIdeal := fun m ρ _ => DuoFrameIdeal.frame m ρ

theorem frame_pi_finite : Cert.quiescent_DiffIdeal_pre_diff_finite := fun m ρ _ => DuoFrameIdeal.frame m ρ

open Cert.DiffReferenceIdeal in
theorem frame_r (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2, Idealize.ShloMosaic.sem_eq_zero_of_no_sems (by decide) r.2⟩) (DuoRef.run m ρ)

theorem frame_ri : Cert.quiescent_DiffReferenceIdeal := fun m ρ _ => frame_r m ρ

theorem frame_ri_finite : Cert.quiescent_DiffReferenceIdeal_pre_diff_finite := fun m ρ _ => frame_r m ρ

theorem preserves : Cert.preserves_Diff_DiffIdeal := IdealRules.named_const.statement Cert.DiffIdeal.κ "neg" .f32 0xF149F2CA#32 ⊥ rfl

open Cert.DiffReferenceIdeal in
/-- The two results, from one memory's arguments. -/
theorem results_eq {q k v : FVec Ideal S4x16384x128 .bf16} {X : FVec Ideal S4x1x4x512x512 .f32} {lp : FVec Ideal S4x64 .f32} (g : FVec Ideal S1x128 .f32)
    (hq : ∀ y, q y ≠ ⊤ ∧ q y ≠ ⊥) (hk : ∀ y, k y ≠ ⊤ ∧ k y ≠ ⊥) (hv : ∀ y, v y ≠ ⊤ ∧ v y ≠ ⊥) (hX : ∀ y, X y ≠ ⊤ ∧ X y ≠ ⊥) (hl : ∀ y, lp y ≠ ⊤ ∧ lp y ≠ ⊥) :
    DuoRef.outcome g (DuoRef.mixed (DuoRef.less (DuoRef.share (DuoRef.expo (DuoRef.scores q k X))) (DuoRef.weight lp)) v)
      = fun y => DuoVal.out q k v X lp g (y 0) (y 1) (y 2) := by
  funext y
  have key : ∀ (u : Fin 4) (i : Fin 16384) (x : Fin 128),
      DuoRef.outcome g (DuoRef.mixed (DuoRef.less (DuoRef.share (DuoRef.expo (DuoRef.scores q k X))) (DuoRef.weight lp)) v) (ix3 u i x)
        = DuoVal.out q k v X lp g u i x := fun u i x => by
    have := i.isLt
    rw [DuoRef.outcome_at]
    unfold DuoVal.out
    refine congrArg (fun f => Duo.level f (fun x => g (ix2 0 x)) x) (funext fun x => ?_)
    exact DuoRef.mixed_row u i x (n := DuoVal.seen i) (by unfold DuoVal.seen; omega) (by unfold DuoVal.seen; omega)
      (fun h => score_ne_top hq hk hX u h i) (fun h => score_own hq hk hX u h i) (fun y => real_of (hv y)) (lam_real hl)
  generalize DuoRef.outcome g (DuoRef.mixed (DuoRef.less (DuoRef.share (DuoRef.expo (DuoRef.scores q k X))) (DuoRef.weight lp)) v) = R at key
  have e : y = ix3 (y 0) (y 1) (y 2) := eq_ix3 y
  exact (congrArg R e).trans (key (y 0) (y 1) (y 2))

theorem algebraic : Cert.algebraic_DiffIdeal_DiffReferenceIdeal_pre_diff_finite := by
  intro m ρ m' ρ' hpre hargs
  refine ⟨fun c => DuoVal.G m c, DuoVal.run m ρ fun c => (entries (hpre c)).2.2.2.2.2, ?_⟩
  refine (θ_run Cert.DiffReferenceIdeal.defs _ _).mono (fun r h c => ?_) (DuoRef.run m' ρ')
  refine ⟨(h c).1.trans ?_, (h c).2⟩
  obtain ⟨e0, e1, e2, e3, e4, e5⟩ := hargs c
  obtain ⟨hq, hk, hv, hX, hl, -⟩ := entries (hpre c)
  unfold DuoRef.whole
  rw [e0, e1, e2, e3, e4, e5]
  exact results_eq _ hq hk hv hX hl

end Cert.Proof.Differential

end
-- ==== Proof.Merge.lean ====
/-
  The claims of the merge call: the four mixers' results, projected and gated, summed.
-/
module

public import proofs.«01_k».proof.Defs
public import proofs.«01_k».proof.Proof.Gen.Merge.Frame
public import proofs.«01_k».proof.Proof.Gen.MergeIdeal.Value
public import proofs.«01_k».proof.Proof.Gen.MergeReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.Merge

open Idealize.ShloMosaic Idealize.ShloMosaic.TcCoe Idealize.ShloMosaic.Tactic
open Idealize.SL Idealize.SL.Sem

/-- A channel's head, -/
def head (j : Fin 512) : Fin 4 := ⟨j.val / 128, by omega⟩

/-- and its place in the head. -/
def lane (j : Fin 512) : Fin 128 := ⟨j.val % 128, by omega⟩

/-- A gated branch at an entry: from a token's gate row, a gate column, its bias, the branch's row and a projection column. -/
def gated (x wg : Fin 2048 → EReal) (bg : EReal) (o wb : Fin 512 → EReal) : EReal :=
  Ideal.div 1 (1 + Ideal.exp (-(∑ j, x j * wg j + bg))) * ∑ j, o j * wb j

/-- A branch at a token and a channel, -/
def part (x : FVec Ideal ⟨2, ![16384, 2048]⟩ .bf16) (o : FVec Ideal ⟨3, ![4, 16384, 128]⟩ .bf16) (wg : FVec Ideal ⟨3, ![4, 2048, 2048]⟩ .bf16)
    (bg : FVec Ideal ⟨3, ![4, 1, 2048]⟩ .f32) (wb : FVec Ideal ⟨3, ![4, 512, 2048]⟩ .bf16) (n : Fin 4) (r : Fin 16384) (k : Fin 2048) : EReal :=
  gated (fun j => x (ix2 r j)) (fun j => wg (ix3 n j k)) (bg (ix3 n 0 k)) (fun j => o (ix3 (head j) r (lane j))) (fun j => wb (ix3 n j k))

/-- and the branches' sum. -/
def merged (x : FVec Ideal ⟨2, ![16384, 2048]⟩ .bf16) (o0 o1 o2 o3 : FVec Ideal ⟨3, ![4, 16384, 128]⟩ .bf16) (wg : FVec Ideal ⟨3, ![4, 2048, 2048]⟩ .bf16)
    (bg : FVec Ideal ⟨3, ![4, 1, 2048]⟩ .f32) (wb : FVec Ideal ⟨3, ![4, 512, 2048]⟩ .bf16) (r : Fin 16384) (k : Fin 2048) : EReal :=
  part x o0 wg bg wb 0 r k + part x o1 wg bg wb 1 r k + part x o2 wg bg wb 2 r k + part x o3 wg bg wb 3 r k

section
open Cert.MergeIdeal Cert.MergeIdeal.Gen

variable (m : (ℓ : Loc nD τ sig) → Buf (Elt Ideal) ℓ) (c : Dev nD)

/-- A head of a branch, -/
def single (o : FVec Ideal S4x512x128 .bf16) : Fin 4 → FVec Ideal S512x128 .bf16 :=
  ![k0_pay6 (F := Ideal) (View.ld (Val := Elt Ideal) (e' := .bf16) o r0_3), k0_pay6 (F := Ideal) (View.ld (Val := Elt Ideal) (e' := .bf16) o r0_4),
    k0_pay6 (F := Ideal) (View.ld (Val := Elt Ideal) (e' := .bf16) o r0_5), k0_pay6 (F := Ideal) (View.ld (Val := Elt Ideal) (e' := .bf16) o r0_6)]

/-- the heads side by side, -/
def heads (o : FVec Ideal S4x512x128 .bf16) : FVec Ideal S512x512 .bf16 :=
  k0_pay10 (F := Ideal) (View.ld o r0_3) (View.ld o r0_4) (View.ld o r0_5) (View.ld o r0_6)

/-- and the gated branch. -/
def branch (x : FVec Ideal S512x2048 .bf16) (wg : Vec Ideal S1x2048x512 .bf16) (bg : Vec Ideal S1x1x512 .f32) (o : FVec Ideal S512x512 .bf16)
    (wb : Vec Ideal S1x512x512 .bf16) : FVec Ideal S512x512 .f32 :=
  mulf (logistic (k0_pay5 x wg bg)) (matmul dot_S512x512_S512x512_S512x512_1_0_0_1_n_n none o (k0_pay11 wb) (constant S512x512 .f32 0x00000000#32))

theorem body_eq (x : FVec Ideal S512x2048 .bf16) (o0 o1 o2 o3 : FVec Ideal S4x512x128 .bf16) (wg : FVec Ideal S4x2048x512 .bf16) (bg : FVec Ideal S4x1x512 .f32)
    (wb : FVec Ideal S4x512x512 .bf16) : out0_8 (F := Ideal) x o0 o1 o2 o3 wg bg wb = truncf .bf16 (addf (addf (addf
      (branch x (View.ld wg r0_1) (View.ld bg r0_2) (heads o0) (View.ld wb r0_7))
      (branch x (View.ld wg r0_8) (View.ld bg r0_9) (heads o1) (View.ld wb r0_10)))
      (branch x (View.ld wg r0_11) (View.ld bg r0_12) (heads o2) (View.ld wb r0_13)))
      (branch x (View.ld wg r0_14) (View.ld bg r0_15) (heads o3) (View.ld wb r0_16))) bitsLt_bf16_f32 := by
  have hz : (![0, 0] : Fin 2 → ℕ) = 0 := by decide
  unfold out0_8
  rw [View.canon_unit_zero hz, View.ld_unit_zero hz]
  rfl

theorem single_apply (o : FVec Ideal S4x512x128 .bf16) (n : Fin 4) (r : Fin 512) (l : Fin 128) : single o n (ix2 r l) = o (ix3 n r l) := by
  match n with
  | 0 => pointwise [single, k0_pay6]
  | 1 => pointwise [single, k0_pay6]
  | 2 => pointwise [single, k0_pay6]
  | 3 => pointwise [single, k0_pay6]

theorem heads_apply (o : FVec Ideal S4x512x128 .bf16) (r j : Fin 512) : heads o (ix2 r j) = o (ix3 (head j) r (lane j)) := by
  rw [← single_apply o (head j) r (lane j)]
  refine concatenate_ofFn_apply (s₁ := S512x128) (t := S512x512) 1 (single o)
    concatenates_S512x128_S512x128_S512x128_S512x128_S512x512_d1 rfl 128 rfl (ix2 r j) (head j) rfl (ix2 r (lane j)) rfl fun b hb => ?_
  match b with
  | 0 => rfl
  | 1 => exact absurd rfl hb

theorem branch_apply (x : FVec Ideal S512x2048 .bf16) (wg : FVec Ideal S1x2048x512 .bf16) (bg : FVec Ideal S1x1x512 .f32) (o : FVec Ideal S512x512 .bf16)
    (wb : FVec Ideal S1x512x512 .bf16) (r k : Fin 512) :
    branch x wg bg o wb (ix2 r k) = gated (fun j => x (ix2 r j)) (fun j => wg (ix3 0 j k)) (bg (ix3 0 0 k)) (fun j => o (ix2 r j)) (fun j => wb (ix3 0 j k)) := by
  pointwise [branch, gated, k0_pay5, k0_pay11]
  rfl

/-- The result array. -/
def G : S16384x2048.Idx → EReal := fun y =>
  merged (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (y 0) (y 1)

variable (t : Fin cfg0.N)

/-- The blocks' places. -/
theorem places : ∀ t : Fin cfg0.N, (win0_0.index t 0 = (grid0.coords t 1).val ∧ win0_0.index t 1 = 0)
    ∧ (win0_1.index t 0 = 0 ∧ win0_1.index t 1 = (grid0.coords t 1).val ∧ win0_1.index t 2 = 0)
    ∧ (win0_2.index t 0 = 0 ∧ win0_2.index t 1 = (grid0.coords t 1).val ∧ win0_2.index t 2 = 0)
    ∧ (win0_3.index t 0 = 0 ∧ win0_3.index t 1 = (grid0.coords t 1).val ∧ win0_3.index t 2 = 0)
    ∧ (win0_4.index t 0 = 0 ∧ win0_4.index t 1 = (grid0.coords t 1).val ∧ win0_4.index t 2 = 0)
    ∧ (win0_5.index t 0 = 0 ∧ win0_5.index t 1 = 0 ∧ win0_5.index t 2 = (grid0.coords t 0).val)
    ∧ (win0_6.index t 0 = 0 ∧ win0_6.index t 1 = 0 ∧ win0_6.index t 2 = (grid0.coords t 0).val)
    ∧ (win0_7.index t 0 = 0 ∧ win0_7.index t 1 = 0 ∧ win0_7.index t 2 = (grid0.coords t 0).val)
    ∧ (win0_8.index t 0 = (grid0.coords t 1).val ∧ win0_8.index t 1 = (grid0.coords t 0).val) := by
  decide +kernel

theorem group_lt : (grid0.coords t 0).val < 4 := (grid0.coords t 0).isLt

theorem tile_lt : (grid0.coords t 1).val < 32 := (grid0.coords t 1).isLt

/-- A row's token, -/
def token (r : Fin 512) : Fin 16384 := ⟨(grid0.coords t 1).val * 512 + r.val, by have := tile_lt t; have := r.isLt; omega⟩

/-- and a column's channel. -/
def column (k : Fin 512) : Fin 2048 := ⟨(grid0.coords t 0).val * 512 + k.val, by have := group_lt t; have := k.isLt; omega⟩

theorem block_x (r : Fin 512) (j : Fin 2048) : iblk m c 0 t (ix2 r j) = m ((c.tc : Thread nD τ).loc main_arg0) (ix2 (token t r) j) := by
  blk_ext [iblk, V, token, places t]

theorem block_o0 (n : Fin 4) (r : Fin 512) (l : Fin 128) : iblk m c 1 t (ix3 n r l) = m ((c.tc : Thread nD τ).loc main_arg1) (ix3 n (token t r) l) := by
  blk_ext [iblk, V, token, places t]

theorem block_o1 (n : Fin 4) (r : Fin 512) (l : Fin 128) : iblk m c 2 t (ix3 n r l) = m ((c.tc : Thread nD τ).loc main_arg2) (ix3 n (token t r) l) := by
  blk_ext [iblk, V, token, places t]

theorem block_o2 (n : Fin 4) (r : Fin 512) (l : Fin 128) : iblk m c 3 t (ix3 n r l) = m ((c.tc : Thread nD τ).loc main_arg3) (ix3 n (token t r) l) := by
  blk_ext [iblk, V, token, places t]

theorem block_o3 (n : Fin 4) (r : Fin 512) (l : Fin 128) : iblk m c 4 t (ix3 n r l) = m ((c.tc : Thread nD τ).loc main_arg4) (ix3 n (token t r) l) := by
  blk_ext [iblk, V, token, places t]

theorem block_wg (n : Fin 4) (j : Fin 2048) (k : Fin 512) : iblk m c 5 t (ix3 n j k) = m ((c.tc : Thread nD τ).loc main_arg5) (ix3 n j (column t k)) := by
  blk_ext [iblk, V, column, places t]

theorem block_bg (n : Fin 4) (u : Fin 1) (k : Fin 512) : iblk m c 6 t (ix3 n u k) = m ((c.tc : Thread nD τ).loc main_arg6) (ix3 n u (column t k)) := by
  blk_ext [iblk, V, column, places t]

theorem block_wb (n : Fin 4) (j : Fin 512) (k : Fin 512) : iblk m c 7 t (ix3 n j k) = m ((c.tc : Thread nD τ).loc main_arg7) (ix3 n j (column t k)) := by
  blk_ext [iblk, V, column, places t]

theorem point_apply (r k : Fin 512) :
    out0_8 (iblk m c 0 t) (iblk m c 1 t) (iblk m c 2 t) (iblk m c 3 t) (iblk m c 4 t) (iblk m c 5 t) (iblk m c 6 t) (iblk m c 7 t) (ix2 r k)
      = G m c (ix2 (token t r) (column t k)) := by
  rw [body_eq]
  show branch _ _ _ _ _ (ix2 r k) + branch _ _ _ _ _ (ix2 r k) + branch _ _ _ _ _ (ix2 r k) + branch _ _ _ _ _ (ix2 r k) = merged _ _ _ _ _ _ _ _ _ _
  unfold merged part
  simp only [branch_apply, heads_apply]
  pointwise [block_x, block_o0, block_o1, block_o2, block_o3, block_wg, block_bg, block_wb]

theorem point_at (y : S512x512.Idx) (i : S16384x2048.Idx) (h0 : (i 0).val = (grid0.coords t 1).val * 512 + (y 0).val)
    (h1 : (i 1).val = (grid0.coords t 0).val * 512 + (y 1).val) :
    out0_8 (iblk m c 0 t) (iblk m c 1 t) (iblk m c 2 t) (iblk m c 3 t) (iblk m c 4 t) (iblk m c 5 t) (iblk m c 6 t) (iblk m c 7 t) y = G m c i := by
  have e : y = ix2 (y 0) (y 1) := eq_ix2 y
  have e' : i = ix2 (i 0) (i 1) := eq_ix2 i
  generalize y 0 = r at e h0
  generalize y 1 = k at e h1
  generalize i 0 = r' at e' h0
  generalize i 1 = k' at e' h1
  subst e e'
  have q0 : r' = token t r := Fin.ext h0
  have q1 : k' = column t k := Fin.ext h1
  rw [q0, q1]
  exact point_apply m c t r k

omit t in
theorem array : (dats m 0 c).arrAt 8 cfg0.N = G m c := by
  refine (dats m 0 c).arrAt_eq_of_covers 8 _ (by decide +kernel) fun t hf y => ?_
  blk_simp
  rw [after0_8]
  refine point_at m c t y _ ?_ ?_ <;> blk_simp [places t]

end

section
open Cert.MergeReferenceIdeal Cert.MergeReferenceIdeal.Gen

/-- The reference's gated branch. -/
def plain (x : FVec Ideal S16384x2048 .bf16) (wg : FVec Ideal S1x2048x2048 .bf16) (bg : FVec Ideal S1x1x2048 .f32) (o : FVec Ideal S4x16384x128 .bf16)
    (wb : FVec Ideal S1x512x2048 .bf16) : FVec Ideal S16384x2048 .f32 :=
  mulf (Host.divf (broadcastInDim S16384x2048 ![] bcast_S_S16384x2048 (constant S_ .f32 0x3F800000#32)) (addf (broadcastInDim S16384x2048 ![] bcast_S_S16384x2048 (constant S_ .f32 0x3F800000#32))
    (Host.exp (Host.negf (addf (Host.dotGeneral dot_S16384x2048_S2048x2048_S16384x2048_1_0_0_1_n_n none (extf .f32 x bitsLt_bf16_f32)
      (extf .f32 (shapeCast S2048x2048 wg shapeCasts_S1x2048x2048_S2048x2048) bitsLt_bf16_f32))
      (broadcastInDim S16384x2048 ![0, 1] bcast_S1x2048_S16384x2048_0_1 (shapeCast S1x2048 bg shapeCasts_S1x1x2048_S1x2048)))))))
    (Host.dotGeneral dot_S16384x512_S512x2048_S16384x2048_1_0_0_1_n_n none (extf .f32 (shapeCast S16384x512
      (transpose S16384x4x128 [1, 0, 2] o transposes_S4x16384x128_S16384x4x128_1_0_2) shapeCasts_S16384x4x128_S16384x512) bitsLt_bf16_f32)
      (extf .f32 (shapeCast S512x2048 wb shapeCasts_S1x512x2048_S512x2048) bitsLt_bf16_f32))

theorem plain_apply (x : FVec Ideal S16384x2048 .bf16) (wg : FVec Ideal S1x2048x2048 .bf16) (bg : FVec Ideal S1x1x2048 .f32) (o : FVec Ideal S4x16384x128 .bf16)
    (wb : FVec Ideal S1x512x2048 .bf16) (r : Fin 16384) (k : Fin 2048) :
    plain x wg bg o wb (ix2 r k)
      = gated (fun j => x (ix2 r j)) (fun j => wg (ix3 0 j k)) (bg (ix3 0 0 k)) (fun j => o (ix3 (head j) r (lane j))) (fun j => wb (ix3 0 j k)) := by
  pointwise [plain, gated, head, lane]

/-- The reference's sum. -/
def total (x : FVec Ideal S16384x2048 .bf16) (o0 o1 o2 o3 : FVec Ideal S4x16384x128 .bf16) (wg : FVec Ideal S4x2048x2048 .bf16) (bg : FVec Ideal S4x1x2048 .f32)
    (wb : FVec Ideal S4x512x2048 .bf16) : FVec Ideal S16384x2048 .bf16 :=
  truncf .bf16 (addf (addf (addf (addf (broadcastInDim S16384x2048 ![] bcast_S_S16384x2048 (constant S_ .f32 0x00000000#32))
    (plain x (extractStridedSlice S1x2048x2048 ![0, 0, 0] wg slices_S4x2048x2048_S1x2048x2048_0_0_0) (extractStridedSlice S1x1x2048 ![0, 0, 0] bg slices_S4x1x2048_S1x1x2048_0_0_0)
      o0 (extractStridedSlice S1x512x2048 ![0, 0, 0] wb slices_S4x512x2048_S1x512x2048_0_0_0)))
    (plain x (extractStridedSlice S1x2048x2048 ![1, 0, 0] wg slices_S4x2048x2048_S1x2048x2048_1_0_0) (extractStridedSlice S1x1x2048 ![1, 0, 0] bg slices_S4x1x2048_S1x1x2048_1_0_0)
      o1 (extractStridedSlice S1x512x2048 ![1, 0, 0] wb slices_S4x512x2048_S1x512x2048_1_0_0)))
    (plain x (extractStridedSlice S1x2048x2048 ![2, 0, 0] wg slices_S4x2048x2048_S1x2048x2048_2_0_0) (extractStridedSlice S1x1x2048 ![2, 0, 0] bg slices_S4x1x2048_S1x1x2048_2_0_0)
      o2 (extractStridedSlice S1x512x2048 ![2, 0, 0] wb slices_S4x512x2048_S1x512x2048_2_0_0)))
    (plain x (extractStridedSlice S1x2048x2048 ![3, 0, 0] wg slices_S4x2048x2048_S1x2048x2048_3_0_0) (extractStridedSlice S1x1x2048 ![3, 0, 0] bg slices_S4x1x2048_S1x1x2048_3_0_0)
      o3 (extractStridedSlice S1x512x2048 ![3, 0, 0] wb slices_S4x512x2048_S1x512x2048_3_0_0))) bitsLt_bf16_f32

theorem total_apply (x : FVec Ideal S16384x2048 .bf16) (o0 o1 o2 o3 : FVec Ideal S4x16384x128 .bf16) (wg : FVec Ideal S4x2048x2048 .bf16) (bg : FVec Ideal S4x1x2048 .f32)
    (wb : FVec Ideal S4x512x2048 .bf16) (r : Fin 16384) (k : Fin 2048) : total x o0 o1 o2 o3 wg bg wb (ix2 r k) = merged x o0 o1 o2 o3 wg bg wb r k := by
  unfold merged part
  pointwise [total, plain_apply]

theorem total_eq (x : FVec Ideal S16384x2048 .bf16) (o0 o1 o2 o3 : FVec Ideal S4x16384x128 .bf16) (wg : FVec Ideal S4x2048x2048 .bf16) (bg : FVec Ideal S4x1x2048 .f32)
    (wb : FVec Ideal S4x512x2048 .bf16) : total x o0 o1 o2 o3 wg bg wb = fun i => merged x o0 o1 o2 o3 wg bg wb (i 0) (i 1) :=
  funext fun i => (congrArg (total x o0 o1 o2 o3 wg bg wb) (eq_ix2 i)).trans (total_apply x o0 o1 o2 o3 wg bg wb (i 0) (i 1))

theorem result_eq (m : (ℓ : Loc nD τ sig) → Buf (Elt Ideal) ℓ) (c : Dev nD) : Cert.MergeReferenceIdeal.Value.res_out0 m c
    = total (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end

theorem frame_p : Cert.quiescent_Merge := fun m ρ _ => Cert.Merge.Gen.frame m ρ

theorem frame_pi : Cert.quiescent_MergeIdeal := fun m ρ _ => Cert.MergeIdeal.Gen.frame m ρ

theorem frame_ri : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

theorem preserves : Cert.preserves_Merge_MergeIdeal := trivial

theorem algebraic : Cert.algebraic_MergeIdeal_MergeReferenceIdeal := by
  intro m ρ m' ρ' hpre hargs
  refine ⟨fun c => G m c, ?_, ?_⟩
  · refine (θ_run Cert.MergeIdeal.defs _ _).mono (fun r h c => ?_) (Cert.MergeIdeal.Value.run_blocks (F := Ideal) m ρ)
    exact ⟨(h c).1.trans (array m c), (h c).2⟩
  · refine (θ_run Cert.MergeReferenceIdeal.defs _ _).mono (fun r h c => ?_) (Cert.MergeReferenceIdeal.Value.run (F := Ideal) m' ρ')
    refine ⟨(h c).1.trans ?_, (h c).2⟩
    obtain ⟨e0, e1, e2, e3, e4, e5, e6, e7⟩ := hargs c
    refine (result_eq m' c).trans ?_
    rw [e0, e1, e2, e3, e4, e5, e6, e7]
    exact total_eq _ _ _ _ _ _ _ _

end Cert.Proof.Merge

end
-- ==== Proof.Projection.lean ====
/-
  A projection to slots of channels, at an entry.
-/
module

public import Idealize.ShloMosaic.Lib.Pointwise

@[expose] public section

noncomputable section

namespace Cert.Proof.Projection

open Idealize.ShloMosaic

/-- A channel of a slot, among all. -/
def channel {N M : ℕ} (h : M = N * 128) (n : Fin N) (j : Fin 128) : Fin M :=
  ⟨n.val * 128 + j.val, by have := n.isLt; have := j.isLt; omega⟩

/-- The projection at a slot, a token and a channel: the product's entry, times the channel's scale. -/
def slot {N M : ℕ} (h : M = N * 128) (x : FVec Ideal ⟨2, ![16384, 2048]⟩ .bf16) (w : FVec Ideal ⟨2, ![2048, M]⟩ .bf16) (s : FVec Ideal ⟨2, ![1, M]⟩ .f32)
    (n : Fin N) (r : Fin 16384) (j : Fin 128) : EReal :=
  (∑ k : Fin 2048, x (ix2 r k) * w (ix2 k (channel h n j))) * s (ix2 0 (channel h n j))

end Cert.Proof.Projection

end
-- ==== Proof.Mixer.lean ====
/-
  The claims of the input projection's call: the mixers' channels.
-/
module

public import proofs.«01_k».proof.Defs
public import proofs.«01_k».proof.Proof.Projection
public import proofs.«01_k».proof.Proof.Gen.Mixer.Frame
public import proofs.«01_k».proof.Proof.Gen.MixerIdeal.Value
public import proofs.«01_k».proof.Proof.Gen.MixerReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.Mixer

open Cert.Proof.Projection Idealize.ShloMosaic Idealize.ShloMosaic.TcCoe Idealize.ShloMosaic.Tactic
open Idealize.SL Idealize.SL.Sem

section
open Cert.MixerIdeal Cert.MixerIdeal.Gen

variable (m : (ℓ : Loc nD τ sig) → Buf (Elt Ideal) ℓ) (c : Dev nD)

/-- The result array. -/
def G : S32x16384x128.Idx → EReal := fun y =>
  slot (N := 32) rfl (m ((c.tc : Thread nD τ).loc main_arg0)) (m ((c.tc : Thread nD τ).loc main_arg1)) (m ((c.tc : Thread nD τ).loc main_arg2)) (y 0) (y 1) (y 2)

/-- The body's product at an entry. -/
theorem body_apply (x : FVec Ideal S512x2048 .bf16) (w : FVec Ideal S2048x1024 .bf16) (s : FVec Ideal S1x1024 .f32) (r : Fin 512) (j : Fin 1024) :
    @Eq EReal (k0_pay4 (F := Ideal) x w s (ix2 r j)) ((∑ k : Fin 2048, x (ix2 r k) * w (ix2 k j)) * s (ix2 0 j)) := by
  pointwise [k0_pay4]

/-- The blocks' places. -/
theorem places : ∀ t : Fin cfg0.N, (win0_0.index t 0 = (grid0.coords t 1).val ∧ win0_0.index t 1 = 0)
    ∧ (win0_1.index t 0 = 0 ∧ win0_1.index t 1 = (grid0.coords t 0).val)
    ∧ (win0_2.index t 0 = 0 ∧ win0_2.index t 1 = (grid0.coords t 0).val)
    ∧ (win0_3.index t 0 = (grid0.coords t 0).val ∧ win0_3.index t 1 = (grid0.coords t 1).val ∧ win0_3.index t 2 = 0) := by
  decide +kernel

/-- What the body leaves, at an entry. -/
theorem left_apply (x : FVec Ideal S512x2048 .bf16) (w : FVec Ideal S2048x1024 .bf16) (s : FVec Ideal S1x1024 .f32) (n : Fin 8) (r : Fin 512) (j : Fin 128) :
    @Eq EReal (out0_3 (F := Ideal) x w s (ix3 n r j)) ((∑ k : Fin 2048, x (ix2 r k) * w (ix2 k ⟨n.val * 128 + j.val, by omega⟩)) * s (ix2 0 ⟨n.val * 128 + j.val, by omega⟩)) := by
  unfold out0_3 k0_pay10
  refine (Cert.MixerIdeal.Value.canon3_eq _ _ _ (ix3 n r j)).trans ?_
  have hz2 : (![0, 0] : Fin 2 → ℕ) = 0 := by decide
  rw [View.ld_unit_zero hz2, View.ld_unit_zero hz2, View.ld_unit_zero hz2]
  have e : Cert.MixerIdeal.Value.ix3_0 (ix3 n r j) = ix2 r ⟨n.val * 128 + j.val, by omega⟩ := by
    funext a
    match a with
    | 0 => rfl
    | 1 => rfl
  show @Eq EReal (k0_pay4 (F := Ideal) x w s (Cert.MixerIdeal.Value.ix3_0 (ix3 n r j))) _
  rw [e]
  exact body_apply x w s r _

variable (t : Fin cfg0.N)

theorem group_lt : (grid0.coords t 0).val < 4 := (grid0.coords t 0).isLt

theorem tile_lt : (grid0.coords t 1).val < 32 := (grid0.coords t 1).isLt

theorem point_apply (n : Fin 8) (r : Fin 512) (j : Fin 128) :
    out0_3 (iblk m c 0 t) (iblk m c 1 t) (iblk m c 2 t) (ix3 n r j) = G m c (((cfg0.win 3).blk t).view.emb (ix3 n r j)) := by
  have h0 := group_lt t
  have h1 := tile_lt t
  have e : ((cfg0.win 3).blk t).view.emb (ix3 n r j)
      = ix3 ⟨(grid0.coords t 0).val * 8 + n.val, by omega⟩ ⟨(grid0.coords t 1).val * 512 + r.val, by omega⟩ j := by
    blk_ext [places t]
  rw [e]
  refine (left_apply _ _ _ n r j).trans ?_
  show _ = slot _ _ _ _ _ _ _
  unfold slot
  congr 1
  · refine Finset.sum_congr rfl fun k _ => ?_
    congr 1 <;> blk_ext [iblk, V, channel, places t]
  · blk_ext [iblk, V, channel, places t]

theorem point_at (y : S8x512x128.Idx) :
    out0_3 (iblk m c 0 t) (iblk m c 1 t) (iblk m c 2 t) y = G m c (((cfg0.win 3).blk t).view.emb y) := by
  have e : y = ix3 (y 0) (y 1) (y 2) := eq_ix3 y
  generalize y 0 = u at e
  generalize y 1 = r at e
  generalize y 2 = x at e
  subst e
  exact point_apply m c t u r x

omit t in
theorem array : (dats m 0 c).arrAt 3 cfg0.N = G m c := by
  refine (dats m 0 c).arrAt_eq_of_covers 3 _ (by decide +kernel) fun t hf y => ?_
  blk_simp
  rw [after0_3]
  exact point_at m c t y

end

section
open Cert.MixerReferenceIdeal Cert.MixerReferenceIdeal.Gen

theorem reference_apply (x : FVec Ideal S16384x2048 .bf16) (w : FVec Ideal S2048x4096 .bf16) (s : FVec Ideal S1x4096 .f32) (n : Fin 32) (r : Fin 16384) (j : Fin 128) :
    truncf .bf16 (transpose S32x16384x128 [1, 0, 2] (shapeCast S16384x32x128 (mulf (Host.dotGeneral dot_S16384x2048_S2048x4096_S16384x4096_1_0_0_1_n_n none
      (extf .f32 x bitsLt_bf16_f32) (extf .f32 w bitsLt_bf16_f32)) (broadcastInDim S16384x4096 ![0, 1] bcast_S1x4096_S16384x4096_0_1 s))
      shapeCasts_S16384x4096_S16384x32x128) transposes_S16384x32x128_S32x16384x128_1_0_2) bitsLt_bf16_f32 (ix3 n r j) = slot rfl x w s n r j := by
  pointwise [slot, channel]

end

theorem frame_p : Cert.quiescent_Mixer := fun m ρ _ => Cert.Mixer.Gen.frame m ρ

theorem frame_pi : Cert.quiescent_MixerIdeal := fun m ρ _ => Cert.MixerIdeal.Gen.frame m ρ

theorem frame_ri : Cert.quiescent_MixerReferenceIdeal := fun m ρ _ =>
  (θ_run Cert.MixerReferenceIdeal.defs _ _).mono (fun r h => ⟨fun c => (h c).2, Idealize.ShloMosaic.sem_eq_zero_of_no_sems (by decide) r.2⟩)
    (Cert.MixerReferenceIdeal.Value.run (F := Ideal) m ρ)

theorem preserves : Cert.preserves_Mixer_MixerIdeal := trivial

theorem algebraic : Cert.algebraic_MixerIdeal_MixerReferenceIdeal := by
  intro m ρ m' ρ' hpre hargs
  refine ⟨fun c => G m c, ?_, ?_⟩
  · refine (θ_run Cert.MixerIdeal.defs _ _).mono (fun r h c => ?_) (Cert.MixerIdeal.Value.run_blocks (F := Ideal) m ρ)
    exact ⟨(h c).1.trans (array m c), (h c).2⟩
  · refine (θ_run Cert.MixerReferenceIdeal.defs _ _).mono (fun r h c => ?_) (Cert.MixerReferenceIdeal.Value.run (F := Ideal) m' ρ')
    refine ⟨(h c).1.trans ?_, (h c).2⟩
    obtain ⟨e0, e1, e2⟩ := hargs c
    rw [e0, e1, e2]
    funext y
    exact (congrArg _ (eq_ix3 y)).trans (reference_apply _ _ _ (y 0) (y 1) (y 2))

end Cert.Proof.Mixer

end
-- ==== Proof.Latent.lean ====
/-
  The claims of the input projection's call: the latent channels.
-/
module

public import proofs.«01_k».proof.Defs
public import proofs.«01_k».proof.Proof.Projection
public import proofs.«01_k».proof.Proof.Gen.Latent.Frame
public import proofs.«01_k».proof.Proof.Gen.LatentIdeal.Value
public import proofs.«01_k».proof.Proof.Gen.LatentReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.Latent

open Cert.Proof.Projection Idealize.ShloMosaic Idealize.ShloMosaic.TcCoe Idealize.ShloMosaic.Tactic
open Idealize.SL Idealize.SL.Sem

section
open Cert.LatentIdeal Cert.LatentIdeal.Gen

variable (m : (ℓ : Loc nD τ sig) → Buf (Elt Ideal) ℓ) (c : Dev nD)

/-- The result array. -/
def G : S8x16384x128.Idx → EReal := fun y =>
  slot (N := 8) rfl (m ((c.tc : Thread nD τ).loc main_arg0)) (m ((c.tc : Thread nD τ).loc main_arg1)) (m ((c.tc : Thread nD τ).loc main_arg2)) (y 0) (y 1) (y 2)

/-- The body's product at an entry. -/
theorem body_apply (x : FVec Ideal S512x2048 .bf16) (w : FVec Ideal S2048x1024 .bf16) (s : FVec Ideal S1x1024 .f32) (r : Fin 512) (j : Fin 1024) :
    @Eq EReal (k0_pay4 (F := Ideal) x w s (ix2 r j)) ((∑ k : Fin 2048, x (ix2 r k) * w (ix2 k j)) * s (ix2 0 j)) := by
  pointwise [k0_pay4]

/-- The blocks' places. -/
theorem places : ∀ t : Fin cfg0.N, (win0_0.index t 0 = (grid0.coords t 1).val ∧ win0_0.index t 1 = 0)
    ∧ (win0_1.index t 0 = 0 ∧ win0_1.index t 1 = (grid0.coords t 0).val)
    ∧ (win0_2.index t 0 = 0 ∧ win0_2.index t 1 = (grid0.coords t 0).val)
    ∧ (win0_3.index t 0 = (grid0.coords t 0).val ∧ win0_3.index t 1 = (grid0.coords t 1).val ∧ win0_3.index t 2 = 0) := by
  decide +kernel

/-- What the body leaves, at an entry. -/
theorem left_apply (x : FVec Ideal S512x2048 .bf16) (w : FVec Ideal S2048x1024 .bf16) (s : FVec Ideal S1x1024 .f32) (n : Fin 8) (r : Fin 512) (j : Fin 128) :
    @Eq EReal (out0_3 (F := Ideal) x w s (ix3 n r j)) ((∑ k : Fin 2048, x (ix2 r k) * w (ix2 k ⟨n.val * 128 + j.val, by omega⟩)) * s (ix2 0 ⟨n.val * 128 + j.val, by omega⟩)) := by
  unfold out0_3 k0_pay10
  refine (Cert.LatentIdeal.Value.canon3_eq _ _ _ (ix3 n r j)).trans ?_
  have hz2 : (![0, 0] : Fin 2 → ℕ) = 0 := by decide
  rw [View.ld_unit_zero hz2, View.ld_unit_zero hz2, View.ld_unit_zero hz2]
  have e : Cert.LatentIdeal.Value.ix3_0 (ix3 n r j) = ix2 r ⟨n.val * 128 + j.val, by omega⟩ := by
    funext a
    match a with
    | 0 => rfl
    | 1 => rfl
  show @Eq EReal (k0_pay4 (F := Ideal) x w s (Cert.LatentIdeal.Value.ix3_0 (ix3 n r j))) _
  rw [e]
  exact body_apply x w s r _

variable (t : Fin cfg0.N)

theorem group_lt : (grid0.coords t 0).val < 1 := (grid0.coords t 0).isLt

theorem tile_lt : (grid0.coords t 1).val < 32 := (grid0.coords t 1).isLt

theorem point_apply (n : Fin 8) (r : Fin 512) (j : Fin 128) :
    out0_3 (iblk m c 0 t) (iblk m c 1 t) (iblk m c 2 t) (ix3 n r j) = G m c (((cfg0.win 3).blk t).view.emb (ix3 n r j)) := by
  have h0 := group_lt t
  have h1 := tile_lt t
  have e : ((cfg0.win 3).blk t).view.emb (ix3 n r j)
      = ix3 ⟨(grid0.coords t 0).val * 8 + n.val, by omega⟩ ⟨(grid0.coords t 1).val * 512 + r.val, by omega⟩ j := by
    blk_ext [places t]
  rw [e]
  refine (left_apply _ _ _ n r j).trans ?_
  show _ = slot _ _ _ _ _ _ _
  unfold slot
  congr 1
  · refine Finset.sum_congr rfl fun k _ => ?_
    congr 1 <;> blk_ext [iblk, V, channel, places t]
  · blk_ext [iblk, V, channel, places t]

theorem point_at (y : S8x512x128.Idx) :
    out0_3 (iblk m c 0 t) (iblk m c 1 t) (iblk m c 2 t) y = G m c (((cfg0.win 3).blk t).view.emb y) := by
  have e : y = ix3 (y 0) (y 1) (y 2) := eq_ix3 y
  generalize y 0 = u at e
  generalize y 1 = r at e
  generalize y 2 = x at e
  subst e
  exact point_apply m c t u r x

omit t in
theorem array : (dats m 0 c).arrAt 3 cfg0.N = G m c := by
  refine (dats m 0 c).arrAt_eq_of_covers 3 _ (by decide +kernel) fun t hf y => ?_
  blk_simp
  rw [after0_3]
  exact point_at m c t y

end

section
open Cert.LatentReferenceIdeal Cert.LatentReferenceIdeal.Gen

theorem reference_apply (x : FVec Ideal S16384x2048 .bf16) (w : FVec Ideal S2048x1024 .bf16) (s : FVec Ideal S1x1024 .f32) (n : Fin 8) (r : Fin 16384) (j : Fin 128) :
    transpose S8x16384x128 [1, 0, 2] (shapeCast S16384x8x128 (mulf (Host.dotGeneral dot_S16384x2048_S2048x1024_S16384x1024_1_0_0_1_n_n none
      (extf .f32 x bitsLt_bf16_f32) (extf .f32 w bitsLt_bf16_f32)) (broadcastInDim S16384x1024 ![0, 1] bcast_S1x1024_S16384x1024_0_1 s))
      shapeCasts_S16384x1024_S16384x8x128) transposes_S16384x8x128_S8x16384x128_1_0_2 (ix3 n r j) = slot rfl x w s n r j := by
  pointwise [slot, channel]

end

theorem frame_p : Cert.quiescent_Latent := fun m ρ _ => Cert.Latent.Gen.frame m ρ

theorem frame_pi : Cert.quiescent_LatentIdeal := fun m ρ _ => Cert.LatentIdeal.Gen.frame m ρ

theorem frame_ri : Cert.quiescent_LatentReferenceIdeal := fun m ρ _ =>
  (θ_run Cert.LatentReferenceIdeal.defs _ _).mono (fun r h => ⟨fun c => (h c).2, Idealize.ShloMosaic.sem_eq_zero_of_no_sems (by decide) r.2⟩)
    (Cert.LatentReferenceIdeal.Value.run (F := Ideal) m ρ)

theorem preserves : Cert.preserves_Latent_LatentIdeal := trivial

theorem algebraic : Cert.algebraic_LatentIdeal_LatentReferenceIdeal := by
  intro m ρ m' ρ' hpre hargs
  refine ⟨fun c => G m c, ?_, ?_⟩
  · refine (θ_run Cert.LatentIdeal.defs _ _).mono (fun r h c => ?_) (Cert.LatentIdeal.Value.run_blocks (F := Ideal) m ρ)
    exact ⟨(h c).1.trans (array m c), (h c).2⟩
  · refine (θ_run Cert.LatentReferenceIdeal.defs _ _).mono (fun r h c => ?_) (Cert.LatentReferenceIdeal.Value.run (F := Ideal) m' ρ')
    refine ⟨(h c).1.trans ?_, (h c).2⟩
    obtain ⟨e0, e1, e2⟩ := hargs c
    rw [e0, e1, e2]
    funext y
    exact (congrArg _ (eq_ix3 y)).trans (reference_apply _ _ _ (y 0) (y 1) (y 2))

end Cert.Proof.Latent

end
-- ==== Proof.Query.lean ====
/-
  The claims of the query projection's call: the retrieval queries.
-/
module

public import proofs.«01_k».proof.Defs
public import proofs.«01_k».proof.Proof.Projection
public import proofs.«01_k».proof.Proof.Gen.Query.Frame
public import proofs.«01_k».proof.Proof.Gen.QueryIdeal.Value
public import proofs.«01_k».proof.Proof.Gen.QueryReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.Query

open Cert.Proof.Projection Idealize.ShloMosaic Idealize.ShloMosaic.TcCoe Idealize.ShloMosaic.Tactic
open Idealize.SL Idealize.SL.Sem

section
open Cert.QueryIdeal Cert.QueryIdeal.Gen

variable (m : (ℓ : Loc nD τ sig) → Buf (Elt Ideal) ℓ) (c : Dev nD)

/-- The result array. -/
def G : S16x16384x128.Idx → EReal := fun y =>
  slot (N := 16) rfl (m ((c.tc : Thread nD τ).loc main_arg0)) (m ((c.tc : Thread nD τ).loc main_arg1)) (m ((c.tc : Thread nD τ).loc main_arg2)) (y 0) (y 1) (y 2)

/-- The body's product at an entry. -/
theorem body_apply (x : FVec Ideal S512x2048 .bf16) (w : FVec Ideal S2048x1024 .bf16) (s : FVec Ideal S1x1024 .f32) (r : Fin 512) (j : Fin 1024) :
    @Eq EReal (k0_pay4 (F := Ideal) x w s (ix2 r j)) ((∑ k : Fin 2048, x (ix2 r k) * w (ix2 k j)) * s (ix2 0 j)) := by
  pointwise [k0_pay4]

/-- The blocks' places. -/
theorem places : ∀ t : Fin cfg0.N, (win0_0.index t 0 = (grid0.coords t 1).val ∧ win0_0.index t 1 = 0)
    ∧ (win0_1.index t 0 = 0 ∧ win0_1.index t 1 = (grid0.coords t 0).val)
    ∧ (win0_2.index t 0 = 0 ∧ win0_2.index t 1 = (grid0.coords t 0).val)
    ∧ (win0_3.index t 0 = (grid0.coords t 0).val ∧ win0_3.index t 1 = (grid0.coords t 1).val ∧ win0_3.index t 2 = 0) := by
  decide +kernel

/-- What the body leaves, at an entry. -/
theorem left_apply (x : FVec Ideal S512x2048 .bf16) (w : FVec Ideal S2048x1024 .bf16) (s : FVec Ideal S1x1024 .f32) (n : Fin 8) (r : Fin 512) (j : Fin 128) :
    @Eq EReal (out0_3 (F := Ideal) x w s (ix3 n r j)) ((∑ k : Fin 2048, x (ix2 r k) * w (ix2 k ⟨n.val * 128 + j.val, by omega⟩)) * s (ix2 0 ⟨n.val * 128 + j.val, by omega⟩)) := by
  unfold out0_3 k0_pay10
  refine (Cert.QueryIdeal.Value.canon3_eq _ _ _ (ix3 n r j)).trans ?_
  have hz2 : (![0, 0] : Fin 2 → ℕ) = 0 := by decide
  rw [View.ld_unit_zero hz2, View.ld_unit_zero hz2, View.ld_unit_zero hz2]
  have e : Cert.QueryIdeal.Value.ix3_0 (ix3 n r j) = ix2 r ⟨n.val * 128 + j.val, by omega⟩ := by
    funext a
    match a with
    | 0 => rfl
    | 1 => rfl
  show @Eq EReal (k0_pay4 (F := Ideal) x w s (Cert.QueryIdeal.Value.ix3_0 (ix3 n r j))) _
  rw [e]
  exact body_apply x w s r _

variable (t : Fin cfg0.N)

theorem group_lt : (grid0.coords t 0).val < 2 := (grid0.coords t 0).isLt

theorem tile_lt : (grid0.coords t 1).val < 32 := (grid0.coords t 1).isLt

theorem point_apply (n : Fin 8) (r : Fin 512) (j : Fin 128) :
    out0_3 (iblk m c 0 t) (iblk m c 1 t) (iblk m c 2 t) (ix3 n r j) = G m c (((cfg0.win 3).blk t).view.emb (ix3 n r j)) := by
  have h0 := group_lt t
  have h1 := tile_lt t
  have e : ((cfg0.win 3).blk t).view.emb (ix3 n r j)
      = ix3 ⟨(grid0.coords t 0).val * 8 + n.val, by omega⟩ ⟨(grid0.coords t 1).val * 512 + r.val, by omega⟩ j := by
    blk_ext [places t]
  rw [e]
  refine (left_apply _ _ _ n r j).trans ?_
  show _ = slot _ _ _ _ _ _ _
  unfold slot
  congr 1
  · refine Finset.sum_congr rfl fun k _ => ?_
    congr 1 <;> blk_ext [iblk, V, channel, places t]
  · blk_ext [iblk, V, channel, places t]

theorem point_at (y : S8x512x128.Idx) :
    out0_3 (iblk m c 0 t) (iblk m c 1 t) (iblk m c 2 t) y = G m c (((cfg0.win 3).blk t).view.emb y) := by
  have e : y = ix3 (y 0) (y 1) (y 2) := eq_ix3 y
  generalize y 0 = u at e
  generalize y 1 = r at e
  generalize y 2 = x at e
  subst e
  exact point_apply m c t u r x

omit t in
theorem array : (dats m 0 c).arrAt 3 cfg0.N = G m c := by
  refine (dats m 0 c).arrAt_eq_of_covers 3 _ (by decide +kernel) fun t hf y => ?_
  blk_simp
  rw [after0_3]
  exact point_at m c t y

end

section
open Cert.QueryReferenceIdeal Cert.QueryReferenceIdeal.Gen

theorem reference_apply (x : FVec Ideal S16384x2048 .bf16) (w : FVec Ideal S2048x2048 .bf16) (s : FVec Ideal S1x2048 .f32) (n : Fin 16) (r : Fin 16384) (j : Fin 128) :
    transpose S16x16384x128 [1, 0, 2] (shapeCast S16384x16x128 (mulf (Host.dotGeneral dot_S16384x2048_S2048x2048_S16384x2048_1_0_0_1_n_n none
      (extf .f32 x bitsLt_bf16_f32) (extf .f32 w bitsLt_bf16_f32)) (broadcastInDim S16384x2048 ![0, 1] bcast_S1x2048_S16384x2048_0_1 s))
      shapeCasts_S16384x2048_S16384x16x128) transposes_S16384x16x128_S16x16384x128_1_0_2 (ix3 n r j) = slot rfl x w s n r j := by
  pointwise [slot, channel]

end

theorem frame_p : Cert.quiescent_Query := fun m ρ _ => Cert.Query.Gen.frame m ρ

theorem frame_pi : Cert.quiescent_QueryIdeal := fun m ρ _ => Cert.QueryIdeal.Gen.frame m ρ

theorem frame_ri : Cert.quiescent_QueryReferenceIdeal := fun m ρ _ =>
  (θ_run Cert.QueryReferenceIdeal.defs _ _).mono (fun r h => ⟨fun c => (h c).2, Idealize.ShloMosaic.sem_eq_zero_of_no_sems (by decide) r.2⟩)
    (Cert.QueryReferenceIdeal.Value.run (F := Ideal) m ρ)

theorem preserves : Cert.preserves_Query_QueryIdeal := trivial

theorem algebraic : Cert.algebraic_QueryIdeal_QueryReferenceIdeal := by
  intro m ρ m' ρ' hpre hargs
  refine ⟨fun c => G m c, ?_, ?_⟩
  · refine (θ_run Cert.QueryIdeal.defs _ _).mono (fun r h c => ?_) (Cert.QueryIdeal.Value.run_blocks (F := Ideal) m ρ)
    exact ⟨(h c).1.trans (array m c), (h c).2⟩
  · refine (θ_run Cert.QueryReferenceIdeal.defs _ _).mono (fun r h c => ?_) (Cert.QueryReferenceIdeal.Value.run (F := Ideal) m' ρ')
    refine ⟨(h c).1.trans ?_, (h c).2⟩
    obtain ⟨e0, e1, e2⟩ := hargs c
    rw [e0, e1, e2]
    funext y
    exact (congrArg _ (eq_ix3 y)).trans (reference_apply _ _ _ (y 0) (y 1) (y 2))

end Cert.Proof.Query

end
-- ==== Proof.OutNorm.lean ====
/-
  The claims of the call after the merge: the output product, the residual and the layer norm.
-/
module

public import proofs.«01_k».proof.Defs
public import proofs.«01_k».proof.Proof.Gen.Out.Frame
public import proofs.«01_k».proof.Proof.Gen.OutIdeal.Value
public import proofs.«01_k».proof.Proof.Gen.OutReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.OutNorm

open Idealize.ShloMosaic Idealize.ShloMosaic.TcCoe Idealize.ShloMosaic.Tactic
open Idealize.SL Idealize.SL.Sem

/-- A row's mean. -/
def mean (f : Fin 2048 → EReal) : EReal := Ideal.div (∑ k, f k) (Ideal.ofBits .f32 0x45000000#32)

/-- A row's layer norm, at an entry. -/
def norm (f : Fin 2048 → EReal) (g b : EReal) (k : Fin 2048) : EReal :=
  (f k - mean f) * Ideal.rsqrt (mean (fun j => (f j - mean f) * (f j - mean f)) + Ideal.ofBits .f32 0x3727C5AC#32) * g + b

section
open Cert.OutIdeal Cert.OutIdeal.Gen

variable (m : (ℓ : Loc nD τ sig) → Buf (Elt Ideal) ℓ) (c : Dev nD)

/-- The body's row before the norm. -/
def residual (x : FVec Ideal S512x2048 .f32) (y : FVec Ideal S512x2048 .bf16) (w : FVec Ideal S2048x2048 .bf16) : FVec Ideal S512x2048 .f32 :=
  addf (mulf (broadcast S512x2048 (Scalar.ofBits .f32 0x3FB504F3#32)) x)
    (matmul dot_S512x2048_S2048x2048_S512x2048_1_0_0_1_n_n none y w (constant S512x2048 .f32 0x00000000#32))

/-- The body's means, -/
def means (f : FVec Ideal S512x2048 .f32) : FVec Ideal S512x1 .f32 :=
  divf (shapeCast S512x1 (multiReduction .add [1] S512 f 0x00000000#32 reduces_S512x2048_S512 (.inl rfl) rfl) shapeCasts_S512_S512x1)
    (broadcast S512x1 (Scalar.ofBits .f32 0x45000000#32))

/-- and its rows less their means. -/
def centered (f : FVec Ideal S512x2048 .f32) : FVec Ideal S512x2048 .f32 :=
  subf f (broadcastTo S512x2048 (means f) broadcasts_S512x1_S512x2048)

/-- The body's norm. -/
def normed (f : FVec Ideal S512x2048 .f32) (g b : FVec Ideal S1x2048 .f32) : FVec Ideal S512x2048 .f32 :=
  addf (mulf (mulf (centered f) (broadcastTo S512x2048 (rsqrt (addf (means (mulf (centered f) (centered f)))
    (broadcast S512x1 (Scalar.ofBits .f32 0x3727C5AC#32)))) broadcasts_S512x1_S512x2048)) (broadcastTo S512x2048 g broadcasts_S1x2048_S512x2048))
    (broadcastTo S512x2048 b broadcasts_S1x2048_S512x2048)

theorem body_eq (x : FVec Ideal S512x2048 .f32) (y : FVec Ideal S512x2048 .bf16) (w : FVec Ideal S2048x2048 .bf16) (g b : FVec Ideal S1x2048 .f32) :
    k0_pay1 x y w g b = normed (residual x y w) g b := rfl

theorem residual_apply (x : FVec Ideal S512x2048 .f32) (y : FVec Ideal S512x2048 .bf16) (w : FVec Ideal S2048x2048 .bf16) (r : Fin 512) (k : Fin 2048) :
    @Eq EReal (residual x y w (ix2 r k)) (Ideal.ofBits .f32 0x3FB504F3#32 * x (ix2 r k) + ∑ j : Fin 2048, y (ix2 r j) * w (ix2 j k)) := by
  pointwise [residual]

theorem means_apply (f : FVec Ideal S512x2048 .f32) (r : Fin 512) (u : Fin 1) : means f (ix2 r u) = mean fun k => f (ix2 r k) := by
  pointwise [means, mean]

theorem centered_apply (f : FVec Ideal S512x2048 .f32) (r : Fin 512) (k : Fin 2048) :
    @Eq EReal (centered f (ix2 r k)) (f (ix2 r k) - mean fun k => f (ix2 r k)) := by
  rw [← means_apply f r 0]
  pointwise [centered]

theorem normed_apply (f : FVec Ideal S512x2048 .f32) (g b : FVec Ideal S1x2048 .f32) (r : Fin 512) (k : Fin 2048) :
    @Eq EReal (normed f g b (ix2 r k)) (norm (fun k => f (ix2 r k)) (g (ix2 0 k)) (b (ix2 0 k)) k) := by
  have e : means (mulf (centered f) (centered f)) (ix2 r 0)
      = mean fun j => (f (ix2 r j) - mean fun k => f (ix2 r k)) * (f (ix2 r j) - mean fun k => f (ix2 r k)) := by
    rw [means_apply]
    refine congrArg mean (funext fun j => ?_)
    rw [← centered_apply]
    rfl
  unfold norm
  rw [← e, ← centered_apply]
  pointwise [normed]

/-- A row before the norm, -/
def row (x : FVec Ideal ⟨2, ![16384, 2048]⟩ .f32) (y : FVec Ideal ⟨2, ![16384, 2048]⟩ .bf16) (w : FVec Ideal S2048x2048 .bf16) (r : Fin 16384) (k : Fin 2048) : EReal :=
  Ideal.ofBits .f32 0x3FB504F3#32 * x (ix2 r k) + ∑ j : Fin 2048, y (ix2 r j) * w (ix2 j k)

/-- and the layer's result at an entry. -/
def out (x : FVec Ideal ⟨2, ![16384, 2048]⟩ .f32) (y : FVec Ideal ⟨2, ![16384, 2048]⟩ .bf16) (w : FVec Ideal S2048x2048 .bf16) (g b : FVec Ideal S1x2048 .f32)
    (r : Fin 16384) (k : Fin 2048) : EReal :=
  norm (row x y w r) (g (ix2 0 k)) (b (ix2 0 k)) k

/-- The result array, in both its types. -/
def G : S16384x2048.Idx → EReal := fun y =>
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (y 0) (y 1)

variable (t : Fin cfg0.N)

/-- The blocks' places. -/
theorem places : ∀ t : Fin cfg0.N, (win0_0.index t 0 = (grid0.coords t 0).val ∧ win0_0.index t 1 = 0)
    ∧ (win0_1.index t 0 = (grid0.coords t 0).val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = (grid0.coords t 0).val ∧ win0_5.index t 1 = 0)
    ∧ (win0_6.index t 0 = (grid0.coords t 0).val ∧ win0_6.index t 1 = 0) := by
  decide +kernel

theorem tile_lt : (grid0.coords t 0).val < 32 := (grid0.coords t 0).isLt

theorem point_apply (r : Fin 512) (k : Fin 2048) :
    k0_pay1 (iblk m c 0 t) (iblk m c 1 t) (iblk m c 2 t) (iblk m c 3 t) (iblk m c 4 t) (ix2 r k)
      = G m c (ix2 ⟨(grid0.coords t 0).val * 512 + r.val, by have := tile_lt t; omega⟩ k) := by
  have h0 := tile_lt t
  rw [body_eq]
  refine (normed_apply _ _ _ r k).trans ?_
  show _ = norm _ _ _ _
  have e3 : @Eq EReal (iblk m c 3 t (ix2 0 k)) (m ((c.tc : Thread nD τ).loc main_arg3) (ix2 0 k)) := by blk_ext [iblk, V, places t]
  have e4 : @Eq EReal (iblk m c 4 t (ix2 0 k)) (m ((c.tc : Thread nD τ).loc main_arg4) (ix2 0 k)) := by blk_ext [iblk, V, places t]
  rw [e3, e4]
  congr 1
  funext k
  refine (residual_apply _ _ _ r k).trans ?_
  unfold row
  congr 1
  · congr 1
    blk_ext [iblk, V, places t]
  · refine Finset.sum_congr rfl fun j _ => ?_
    congr 1 <;> blk_ext [iblk, V, places t]

theorem point_at (y : S512x2048.Idx) (i : S16384x2048.Idx) (h0 : (i 0).val = (grid0.coords t 0).val * 512 + (y 0).val) (h1 : (i 1).val = (y 1).val) :
    k0_pay1 (iblk m c 0 t) (iblk m c 1 t) (iblk m c 2 t) (iblk m c 3 t) (iblk m c 4 t) y = G m c i := by
  have e : y = ix2 (y 0) (y 1) := eq_ix2 y
  have e' : i = ix2 (i 0) (i 1) := eq_ix2 i
  generalize y 0 = r at e h0
  generalize y 1 = k at e h1
  generalize i 0 = r' at e' h0
  generalize i 1 = k' at e' h1
  subst e e'
  have q0 : r' = (⟨(grid0.coords t 0).val * 512 + r.val, by have := tile_lt t; have : r.val < 512 := r.isLt; omega⟩ : Fin 16384) := Fin.ext h0
  have q1 : k' = k := Fin.ext h1
  rw [q0, q1]
  exact point_apply m c t r k

omit t in
theorem array : (dats m 0 c).arrAt 5 cfg0.N = G m c := by
  refine (dats m 0 c).arrAt_eq_of_covers 5 _ (by decide +kernel) fun t hf y => ?_
  blk_simp
  rw [after0_5]
  frame_out
  refine point_at m c t y _ ?_ ?_ <;> blk_simp [places t] <;> omega

omit t in
theorem array' : (dats m 0 c).arrAt 6 cfg0.N = G m c := by
  refine (dats m 0 c).arrAt_eq_of_covers 6 _ (by decide +kernel) fun t hf y => ?_
  blk_simp
  rw [after0_6]
  frame_out
  refine point_at m c t y _ ?_ ?_ <;> blk_simp [places t] <;> omega

end

section
open Cert.OutReferenceIdeal Cert.OutReferenceIdeal.Gen

namespace Plain

/-- The reference's row before the norm, -/
def residual (x : FVec Ideal S16384x2048 .f32) (y : FVec Ideal S16384x2048 .bf16) (w : FVec Ideal S2048x2048 .bf16) : FVec Ideal S16384x2048 .f32 :=
  addf (mulf (broadcastInDim S16384x2048 ![] bcast_S_S16384x2048 (constant S_ .f32 0x3FB504F3#32)) x)
    (Host.dotGeneral dot_S16384x2048_S2048x2048_S16384x2048_1_0_0_1_n_n none (extf .f32 y bitsLt_bf16_f32) (extf .f32 w bitsLt_bf16_f32))

/-- its means, -/
def means (f : FVec Ideal S16384x2048 .f32) : FVec Ideal S16384x1 .f32 :=
  Host.divf (broadcastInDim S16384x1 ![0] bcast_S16384_S16384x1_0 (Host.reduceAdd f (constant S_ .f32 0x00000000#32) reducesTo_S16384x2048_S16384_d1 h_S_))
    (broadcastInDim S16384x1 ![] bcast_S_S16384x1 (constant S_ .f32 0x45000000#32))

/-- its rows less their means, -/
def centered (f : FVec Ideal S16384x2048 .f32) : FVec Ideal S16384x2048 .f32 :=
  subf f (broadcastInDim S16384x2048 ![0, 1] bcast_S16384x1_S16384x2048_0_1 (means f))

/-- and its norm. -/
def normed (f : FVec Ideal S16384x2048 .f32) (g b : FVec Ideal S1x2048 .f32) : FVec Ideal S16384x2048 .f32 :=
  addf (mulf (mulf (centered f) (broadcastInDim S16384x2048 ![0, 1] bcast_S16384x1_S16384x2048_0_1 (Host.rsqrt (addf (means (mulf (centered f) (centered f)))
    (broadcastInDim S16384x1 ![] bcast_S_S16384x1 (constant S_ .f32 0x3727C5AC#32)))))) (broadcastInDim S16384x2048 ![0, 1] bcast_S1x2048_S16384x2048_0_1 g))
    (broadcastInDim S16384x2048 ![0, 1] bcast_S1x2048_S16384x2048_0_1 b)

theorem residual_apply (x : FVec Ideal S16384x2048 .f32) (y : FVec Ideal S16384x2048 .bf16) (w : FVec Ideal S2048x2048 .bf16) (r : Fin 16384) (k : Fin 2048) :
    residual x y w (ix2 r k) = row x y w r k := by
  pointwise [residual, row]

theorem means_apply (f : FVec Ideal S16384x2048 .f32) (r : Fin 16384) (u : Fin 1) : means f (ix2 r u) = mean fun k => f (ix2 r k) := by
  pointwise [means, mean]

theorem centered_apply (f : FVec Ideal S16384x2048 .f32) (r : Fin 16384) (k : Fin 2048) :
    @Eq EReal (centered f (ix2 r k)) (f (ix2 r k) - mean fun k => f (ix2 r k)) := by
  rw [← means_apply f r 0]
  pointwise [centered]

theorem normed_apply (f : FVec Ideal S16384x2048 .f32) (g b : FVec Ideal S1x2048 .f32) (r : Fin 16384) (k : Fin 2048) :
    @Eq EReal (normed f g b (ix2 r k)) (norm (fun k => f (ix2 r k)) (g (ix2 0 k)) (b (ix2 0 k)) k) := by
  have e : means (mulf (centered f) (centered f)) (ix2 r 0)
      = mean fun j => (f (ix2 r j) - mean fun k => f (ix2 r k)) * (f (ix2 r j) - mean fun k => f (ix2 r k)) := by
    rw [means_apply]
    refine congrArg mean (funext fun j => ?_)
    rw [← centered_apply]
    rfl
  unfold norm
  rw [← e, ← centered_apply]
  pointwise [normed]

theorem out_eq (x : FVec Ideal S16384x2048 .f32) (y : FVec Ideal S16384x2048 .bf16) (w : FVec Ideal S2048x2048 .bf16) (g b : FVec Ideal S1x2048 .f32) :
    normed (residual x y w) g b = fun i => out x y w g b (i 0) (i 1) := by
  have key : ∀ (r : Fin 16384) (k : Fin 2048), normed (residual x y w) g b (ix2 r k) = out x y w g b r k := fun r k => by
    refine (normed_apply _ _ _ r k).trans ?_
    unfold out
    congr 1
    exact funext fun k => residual_apply x y w r k
  exact funext fun i => (congrArg (normed (residual x y w) g b) (eq_ix2 i)).trans (key (i 0) (i 1))

end Plain

end

theorem frame_p : Cert.quiescent_Out := fun m ρ _ => Cert.Out.Gen.frame m ρ

theorem frame_pi : Cert.quiescent_OutIdeal := fun m ρ _ => Cert.OutIdeal.Gen.frame m ρ

theorem frame_ri : Cert.quiescent_OutReferenceIdeal := fun m ρ _ =>
  (θ_run Cert.OutReferenceIdeal.defs _ _).mono (fun r h => ⟨fun c => (h c).2.2, Idealize.ShloMosaic.sem_eq_zero_of_no_sems (by decide) r.2⟩)
    (Cert.OutReferenceIdeal.Value.run (F := Ideal) m ρ)

theorem preserves : Cert.preserves_Out_OutIdeal := trivial

theorem algebraic : Cert.algebraic_OutIdeal_OutReferenceIdeal := by
  intro m ρ m' ρ' hpre hargs
  refine ⟨fun c => G m c, fun c => G m c, ?_, ?_⟩
  · refine (θ_run Cert.OutIdeal.defs _ _).mono (fun r h c => ?_) (Cert.OutIdeal.Value.run_blocks (F := Ideal) m ρ)
    exact ⟨(h c).1.trans (array m c), (h c).2.1.trans (array' m c), (h c).2.2⟩
  · refine (θ_run Cert.OutReferenceIdeal.defs _ _).mono (fun r h c => ?_) (Cert.OutReferenceIdeal.Value.run (F := Ideal) m' ρ')
    obtain ⟨e0, e1, e2, e3, e4⟩ := hargs c
    have e : Plain.normed (Plain.residual (m' ((c.tc : Thread Cert.OutReferenceIdeal.nD Cert.OutReferenceIdeal.τ).loc Cert.OutReferenceIdeal.main_arg0))
        (m' ((c.tc : Thread Cert.OutReferenceIdeal.nD Cert.OutReferenceIdeal.τ).loc Cert.OutReferenceIdeal.main_arg1))
        (m' ((c.tc : Thread Cert.OutReferenceIdeal.nD Cert.OutReferenceIdeal.τ).loc Cert.OutReferenceIdeal.main_arg2)))
        (m' ((c.tc : Thread Cert.OutReferenceIdeal.nD Cert.OutReferenceIdeal.τ).loc Cert.OutReferenceIdeal.main_arg3))
        (m' ((c.tc : Thread Cert.OutReferenceIdeal.nD Cert.OutReferenceIdeal.τ).loc Cert.OutReferenceIdeal.main_arg4)) = G m c := by
      rw [e0, e1, e2, e3, e4]
      exact Plain.out_eq _ _ _ _ _
    exact ⟨(h c).1.trans e, (h c).2.1.trans e, (h c).2.2⟩

end Cert.Proof.OutNorm

end
-- ==== Proof.Prep.lean ====
/-
  The claims of the call before the latent attention: the two norms, the three products and the rotation.
-/
module

public import proofs.«01_k».proof.Defs
public import proofs.«01_k».proof.Proof.Gen.Prep.Frame
public import proofs.«01_k».proof.Proof.Gen.PrepIdeal.Value
public import proofs.«01_k».proof.Proof.Gen.PrepReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.Prep

open Idealize.ShloMosaic Idealize.ShloMosaic.TcCoe Idealize.ShloMosaic.Tactic
open Idealize.SL Idealize.SL.Sem

/-- A row over the root of its mean square, scaled, at an entry. -/
def unit {k : ℕ} (N : EReal) (f g : Fin k → EReal) (j : Fin k) : EReal :=
  f j * Ideal.rsqrt (Ideal.div (∑ i, f i * f i) N + Ideal.ofBits .f32 0x358637BD#32) * g j

section
variable {n : ℕ} (x : FVec Ideal ⟨3, ![8, n, 128]⟩ .f32) (gq : FVec Ideal ⟨2, ![1, 512]⟩ .f32) (gk : FVec Ideal ⟨2, ![1, 256]⟩ .f32)
  (wa wb : FVec Ideal ⟨2, ![512, 1024]⟩ .bf16) (wk : FVec Ideal ⟨2, ![256, 1024]⟩ .bf16) (cos sin : FVec Ideal ⟨2, ![n, 256]⟩ .f32) (r : Fin n)

/-- A token's latent row for the queries: the first four slots side by side, -/
def low (j : Fin 512) : EReal := x (ix3 ⟨j.val / 128, by omega⟩ r ⟨j.val % 128, by omega⟩)

/-- and for the keys and values: the next two. -/
def high (j : Fin 256) : EReal := x (ix3 ⟨4 + j.val / 128, by omega⟩ r ⟨j.val % 128, by omega⟩)

/-- A column of the query products, -/
def column (h : Fin 4) (k : Fin 256) : Fin 1024 := ⟨h.val * 256 + k.val, by omega⟩

/-- of the keys, -/
def keyColumn (h : Fin 4) (l : Fin 128) : Fin 1024 := ⟨h.val * 128 + l.val, by omega⟩

/-- and of the values. -/
def valueColumn (h : Fin 4) (l : Fin 128) : Fin 1024 := ⟨512 + h.val * 128 + l.val, by omega⟩

/-- A lane in the upper half. -/
def upper (l : Fin 128) : Fin 256 := ⟨128 + l.val, by omega⟩

/-- A query product at a token and a column. -/
def product (w : FVec Ideal ⟨2, ![512, 1024]⟩ .bf16) (k : Fin 1024) : EReal :=
  ∑ j, unit (Ideal.ofBits .f32 0x44000000#32) (low x r) (fun j => gq (ix2 0 j)) j * w (ix2 j k)

/-- A query: the products rotated and scaled. -/
def query (h : Fin 4) (k : Fin 256) : EReal :=
  (product x gq r wa (column h k) * cos (ix2 r k) + product x gq r wb (column h k) * sin (ix2 r k)) * Ideal.ofBits .f32 0x3DD53B95#32

/-- The product for the keys and values. -/
def latent (k : Fin 1024) : EReal :=
  ∑ j, unit (Ideal.ofBits .f32 0x43800000#32) (high x r) (fun j => gk (ix2 0 j)) j * wk (ix2 j k)

/-- The rotated lanes the keys share. -/
def rotated (l : Fin 128) : EReal := x (ix3 6 r l) * cos (ix2 r (upper l)) + x (ix3 7 r l) * sin (ix2 r (upper l))

/-- A row and a shared row side by side. -/
def beside (a b : Fin 128 → EReal) (k : Fin 256) : EReal := if h : k.val < 128 then a ⟨k.val, h⟩ else b ⟨k.val - 128, by omega⟩

/-- A key, -/
def key (h : Fin 4) (k : Fin 256) : EReal := beside (fun l => latent x gk wk r (keyColumn h l)) (rotated x cos sin r) k

/-- and a value. -/
def value (h : Fin 4) (l : Fin 128) : EReal := latent x gk wk r (valueColumn h l)

/-- A token's results depend on its own row only. -/
theorem query_row {n' : ℕ} (x' : FVec Ideal ⟨3, ![8, n', 128]⟩ .f32) (cos' sin' : FVec Ideal ⟨2, ![n', 256]⟩ .f32) (r' : Fin n')
    (hx : ∀ s l, x (ix3 s r l) = x' (ix3 s r' l)) (hc : ∀ k, cos (ix2 r k) = cos' (ix2 r' k)) (hs : ∀ k, sin (ix2 r k) = sin' (ix2 r' k)) (h : Fin 4) (k : Fin 256) :
    query x gq wa wb cos sin r h k = query x' gq wa wb cos' sin' r' h k := by
  have e : low x r = low x' r' := funext fun j => hx _ _
  unfold query product
  rw [e, hc, hs]

theorem latent_row {n' : ℕ} (x' : FVec Ideal ⟨3, ![8, n', 128]⟩ .f32) (r' : Fin n') (hx : ∀ s l, x (ix3 s r l) = x' (ix3 s r' l)) (k : Fin 1024) :
    latent x gk wk r k = latent x' gk wk r' k := by
  have e : high x r = high x' r' := funext fun j => hx _ _
  unfold latent
  rw [e]

theorem key_row {n' : ℕ} (x' : FVec Ideal ⟨3, ![8, n', 128]⟩ .f32) (cos' sin' : FVec Ideal ⟨2, ![n', 256]⟩ .f32) (r' : Fin n')
    (hx : ∀ s l, x (ix3 s r l) = x' (ix3 s r' l)) (hc : ∀ k, cos (ix2 r k) = cos' (ix2 r' k)) (hs : ∀ k, sin (ix2 r k) = sin' (ix2 r' k)) (h : Fin 4) (k : Fin 256) :
    key x gk wk cos sin r h k = key x' gk wk cos' sin' r' h k := by
  have e : rotated x cos sin r = rotated x' cos' sin' r' := funext fun l => by
    unfold rotated
    rw [hx, hx, hc, hs]
  unfold key
  rw [e]
  simp only [latent_row x gk wk r x' r' hx]

end

section
open Cert.PrepIdeal Cert.PrepIdeal.Gen

/-- The loads of whole blocks. -/
theorem ld_table (v : FVec Ideal S512x256 .f32) : View.ld (Val := Elt Ideal) (e' := .f32) v r0_0 = v := View.ld_unit_zero (by decide) ..

theorem ld_lowScale (v : FVec Ideal S1x512 .f32) : View.ld (Val := Elt Ideal) (e' := .f32) v r0_5 = v := View.ld_unit_zero (by decide) ..

theorem ld_lowWeight (v : FVec Ideal S512x1024 .bf16) : View.ld (Val := Elt Ideal) (e' := .bf16) v r0_6 = v := View.ld_unit_zero (by decide) ..

theorem ld_highScale (v : FVec Ideal S1x256 .f32) : View.ld (Val := Elt Ideal) (e' := .f32) v r0_13 = v := View.ld_unit_zero (by decide) ..

theorem ld_highWeight (v : FVec Ideal S256x1024 .bf16) : View.ld (Val := Elt Ideal) (e' := .bf16) v r0_14 = v := View.ld_unit_zero (by decide) ..

/-- The body's slots for the queries, -/
def lows (x : FVec Ideal S8x512x128 .f32) : Fin 4 → FVec Ideal S512x128 .f32 :=
  ![shapeCast S512x128 (View.ld (Val := Elt Ideal) (e' := .f32) x r0_1) shapeCasts_S1x512x128_S512x128,
    shapeCast S512x128 (View.ld (Val := Elt Ideal) (e' := .f32) x r0_2) shapeCasts_S1x512x128_S512x128,
    shapeCast S512x128 (View.ld (Val := Elt Ideal) (e' := .f32) x r0_3) shapeCasts_S1x512x128_S512x128,
    shapeCast S512x128 (View.ld (Val := Elt Ideal) (e' := .f32) x r0_4) shapeCasts_S1x512x128_S512x128]

/-- and for the keys and values, -/
def highs (x : FVec Ideal S8x512x128 .f32) : Fin 2 → FVec Ideal S512x128 .f32 :=
  ![shapeCast S512x128 (View.ld (Val := Elt Ideal) (e' := .f32) x r0_11) shapeCasts_S1x512x128_S512x128,
    shapeCast S512x128 (View.ld (Val := Elt Ideal) (e' := .f32) x r0_12) shapeCasts_S1x512x128_S512x128]

/-- each side by side. -/
def lowRow (x : FVec Ideal S8x512x128 .f32) : FVec Ideal S512x512 .f32 :=
  concatenate S512x512 1 [⟨S512x128, lows x 0⟩, ⟨S512x128, lows x 1⟩, ⟨S512x128, lows x 2⟩, ⟨S512x128, lows x 3⟩]
    concatenates_S512x128_S512x128_S512x128_S512x128_S512x512_d1

def highRow (x : FVec Ideal S8x512x128 .f32) : FVec Ideal S512x256 .f32 :=
  concatenate S512x256 1 [⟨S512x128, highs x 0⟩, ⟨S512x128, highs x 1⟩] concatenates_S512x128_S512x128_S512x256_d1

theorem lows_apply (x : FVec Ideal S8x512x128 .f32) (n : Fin 4) (r : Fin 512) (l : Fin 128) :
    @Eq EReal (lows x n (ix2 r l)) (x (ix3 ⟨n.val, by omega⟩ r l)) := by
  match n with
  | 0 => pointwise [lows]
  | 1 => pointwise [lows]
  | 2 => pointwise [lows]
  | 3 => pointwise [lows]

theorem highs_apply (x : FVec Ideal S8x512x128 .f32) (n : Fin 2) (r : Fin 512) (l : Fin 128) :
    @Eq EReal (highs x n (ix2 r l)) (x (ix3 ⟨4 + n.val, by omega⟩ r l)) := by
  match n with
  | 0 => pointwise [highs]
  | 1 => pointwise [highs]

theorem lowRow_apply (x : FVec Ideal S8x512x128 .f32) (r j : Fin 512) : lowRow x (ix2 r j) = low x r j := by
  refine Eq.trans ?_ (lows_apply x ⟨j.val / 128, by omega⟩ r ⟨j.val % 128, by omega⟩)
  refine concatenate_ofFn_apply (s₁ := S512x128) (t := S512x512) 1 (lows x)
    concatenates_S512x128_S512x128_S512x128_S512x128_S512x512_d1 rfl 128 rfl (ix2 r j) ⟨j.val / 128, by omega⟩ rfl (ix2 r ⟨j.val % 128, by omega⟩) rfl fun b hb => ?_
  match b with
  | 0 => rfl
  | 1 => exact absurd rfl hb

theorem highRow_apply (x : FVec Ideal S8x512x128 .f32) (r : Fin 512) (j : Fin 256) : highRow x (ix2 r j) = high x r j := by
  refine Eq.trans ?_ (highs_apply x ⟨j.val / 128, by omega⟩ r ⟨j.val % 128, by omega⟩)
  refine concatenate_ofFn_apply (s₁ := S512x128) (t := S512x256) 1 (highs x)
    concatenates_S512x128_S512x128_S512x256_d1 rfl 128 rfl (ix2 r j) ⟨j.val / 128, by omega⟩ rfl (ix2 r ⟨j.val % 128, by omega⟩) rfl fun b hb => ?_
  match b with
  | 0 => rfl
  | 1 => exact absurd rfl hb

/-- The body's norm of the queries' rows, -/
def lowUnit (f : FVec Ideal S512x512 .f32) (g : FVec Ideal S1x512 .f32) : FVec Ideal S512x512 .bf16 :=
  truncf .bf16 (mulf (mulf f (broadcastTo S512x512 (rsqrt (addf (divf
    (shapeCast S512x1 (multiReduction .add [1] S512 (mulf f f) 0x00000000#32 reduces_S512x512_S512 (.inl rfl) rfl) shapeCasts_S512_S512x1)
    (broadcast S512x1 (Scalar.ofBits .f32 0x44000000#32))) (broadcast S512x1 (Scalar.ofBits .f32 0x358637BD#32)))) broadcasts_S512x1_S512x512))
    (broadcastTo S512x512 g broadcasts_S1x512_S512x512)) bitsLt_bf16_f32

/-- and of the others'. -/
def highUnit (f : FVec Ideal S512x256 .f32) (g : FVec Ideal S1x256 .f32) : FVec Ideal S512x256 .bf16 :=
  truncf .bf16 (mulf (mulf f (broadcastTo S512x256 (rsqrt (addf (divf
    (shapeCast S512x1 (multiReduction .add [1] S512 (mulf f f) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256))
    (broadcastTo S512x256 g broadcasts_S1x256_S512x256)) bitsLt_bf16_f32

theorem lowUnit_apply (f : FVec Ideal S512x512 .f32) (g : FVec Ideal S1x512 .f32) (r j : Fin 512) :
    @Eq EReal (lowUnit f g (ix2 r j)) (unit (Ideal.ofBits .f32 0x44000000#32) (fun j => f (ix2 r j)) (fun j => g (ix2 0 j)) j) := by
  pointwise [lowUnit, unit]

theorem highUnit_apply (f : FVec Ideal S512x256 .f32) (g : FVec Ideal S1x256 .f32) (r : Fin 512) (j : Fin 256) :
    @Eq EReal (highUnit f g (ix2 r j)) (unit (Ideal.ofBits .f32 0x43800000#32) (fun j => f (ix2 r j)) (fun j => g (ix2 0 j)) j) := by
  pointwise [highUnit, unit]

/-- The body's query product, -/
def lowProduct (f : FVec Ideal S512x512 .bf16) (w : FVec Ideal S512x1024 .bf16) : FVec Ideal S512x1024 .f32 :=
  matmul dot_S512x512_S512x1024_S512x1024_1_0_0_1_n_n none f w (constant S512x1024 .f32 0x00000000#32)

/-- and the other. -/
def highProduct (f : FVec Ideal S512x256 .bf16) (w : FVec Ideal S256x1024 .bf16) : FVec Ideal S512x1024 .f32 :=
  matmul dot_S512x256_S256x1024_S512x1024_1_0_0_1_n_n none f w (constant S512x1024 .f32 0x00000000#32)

theorem lowProduct_apply (f : FVec Ideal S512x512 .bf16) (w : FVec Ideal S512x1024 .bf16) (r : Fin 512) (k : Fin 1024) :
    @Eq EReal (lowProduct f w (ix2 r k)) (∑ j : Fin 512, f (ix2 r j) * w (ix2 j k)) := by
  pointwise [lowProduct]

theorem highProduct_apply (f : FVec Ideal S512x256 .bf16) (w : FVec Ideal S256x1024 .bf16) (r : Fin 512) (k : Fin 1024) :
    @Eq EReal (highProduct f w (ix2 r k)) (∑ j : Fin 256, f (ix2 r j) * w (ix2 j k)) := by
  pointwise [highProduct]

theorem product_apply (x : FVec Ideal S8x512x128 .f32) (g : FVec Ideal S1x512 .f32) (w : FVec Ideal S512x1024 .bf16) (r : Fin 512) (k : Fin 1024) :
    @Eq EReal (lowProduct (lowUnit (lowRow x) g) w (ix2 r k)) (product x g r w k) := by
  refine (lowProduct_apply _ _ r k).trans (Finset.sum_congr rfl fun j _ => ?_)
  rw [lowUnit_apply]
  simp only [lowRow_apply]

theorem latent_apply (x : FVec Ideal S8x512x128 .f32) (g : FVec Ideal S1x256 .f32) (w : FVec Ideal S256x1024 .bf16) (r : Fin 512) (k : Fin 1024) :
    @Eq EReal (highProduct (highUnit (highRow x) g) w (ix2 r k)) (latent x g w r k) := by
  refine (highProduct_apply _ _ r k).trans (Finset.sum_congr rfl fun j _ => ?_)
  rw [highUnit_apply]
  simp only [highRow_apply]

/-- The body's rotated lanes. -/
theorem rotated_apply (x : FVec Ideal S8x512x128 .f32) (cos sin : FVec Ideal S512x256 .f32) (r : Fin 512) (l : Fin 128) :
    @Eq EReal (k0_pay12 (F := Ideal) cos sin (View.ld x r0_15) (View.ld x r0_16) (ix2 r l)) (rotated x cos sin r l) := by
  pointwise [k0_pay12, rotated, upper]

section
variable (x : FVec Ideal S8x512x128 .f32) (gq : FVec Ideal S1x512 .f32) (gk : FVec Ideal S1x256 .f32) (wa wb : FVec Ideal S512x1024 .bf16)
  (wk : FVec Ideal S256x1024 .bf16) (cos sin : FVec Ideal S512x256 .f32) (h : Fin 4) (r : Fin 512)

/-- The queries the body leaves. -/
theorem queries_apply (k : Fin 256) : @Eq EReal (out0_8 (F := Ideal) x gq gk wa wb wk cos sin (ix3 h r k)) (query x gq wa wb cos sin r h k) := by
  unfold out0_8 k0_pay22 k0_pay21
  refine (Cert.PrepIdeal.Value.canon8_eq _ _ _ _ _ _ _ _ _ (ix3 h r k)).trans ?_
  simp only [ld_table, ld_lowScale, ld_lowWeight, ld_highScale, ld_highWeight]
  have e : Cert.PrepIdeal.Value.ix8_0 (ix3 h r k) = ix2 r (column h k) := by
    funext a
    match a with
    | 0 => rfl
    | 1 => rfl
  have e' : Cert.PrepIdeal.Value.ix8_1 (ix3 h r k) = ix2 r k := by
    funext a
    match a with
    | 0 => rfl
    | 1 => rfl
  show @Eq EReal ((lowProduct (lowUnit (lowRow x) gq) wa (Cert.PrepIdeal.Value.ix8_0 (ix3 h r k)) * cos (Cert.PrepIdeal.Value.ix8_1 (ix3 h r k))
    + lowProduct (lowUnit (lowRow x) gq) wb (Cert.PrepIdeal.Value.ix8_0 (ix3 h r k)) * sin (Cert.PrepIdeal.Value.ix8_1 (ix3 h r k))) * Ideal.ofBits .f32 0x3DD53B95#32) _
  rw [e, e', product_apply, product_apply]
  rfl

/-- The values it leaves. -/
theorem values_apply (l : Fin 128) : @Eq EReal (out0_10 (F := Ideal) x gq gk wa wb wk cos sin (ix3 h r l)) (value x gk wk r h l) := by
  unfold out0_10 k0_pay23
  refine (Cert.PrepIdeal.Value.canon10_eq _ _ _ _ (ix3 h r l)).trans ?_
  simp only [ld_table, ld_lowScale, ld_lowWeight, ld_highScale, ld_highWeight]
  have e : Cert.PrepIdeal.Value.ix10_0 (ix3 h r l) = ix2 r (valueColumn h l) := by
    funext a
    match a with
    | 0 => rfl
    | 1 => exact Fin.ext (by show h.val * 128 + l.val + 512 = 512 + h.val * 128 + l.val; omega)
  show @Eq EReal (highProduct (highUnit (highRow x) gk) wk (Cert.PrepIdeal.Value.ix10_0 (ix3 h r l))) _
  rw [e, latent_apply]
  rfl

end

/-- A head's columns of the product, -/
def parts (A : FVec Ideal S512x1024 .f32) : Fin 4 → FVec Ideal S512x128 .f32 :=
  ![extractStridedSlice S512x128 ![0, 0] A slices_S512x1024_o0_0_S512x128, extractStridedSlice S512x128 ![0, 128] A slices_S512x1024_o0_128_S512x128,
    extractStridedSlice S512x128 ![0, 256] A slices_S512x1024_o0_256_S512x128, extractStridedSlice S512x128 ![0, 384] A slices_S512x1024_o0_384_S512x128]

theorem parts_apply (A : FVec Ideal S512x1024 .f32) (h : Fin 4) (r : Fin 512) (l : Fin 128) : @Eq EReal (parts A h (ix2 r l)) (A (ix2 r (keyColumn h l))) := by
  match h with
  | 0 => pointwise [parts, keyColumn]
  | 1 => pointwise [parts, keyColumn]
  | 2 => pointwise [parts, keyColumn]
  | 3 => pointwise [parts, keyColumn]

/-- beside the shared lanes. -/
def joined (a b : FVec Ideal S512x128 .f32) : FVec Ideal S512x256 .f32 :=
  concatenate S512x256 1 [⟨S512x128, a⟩, ⟨S512x128, b⟩] concatenates_S512x128_S512x128_S512x256_d1

theorem joined_apply (a b : FVec Ideal S512x128 .f32) (r : Fin 512) (k : Fin 256) :
    @Eq EReal (joined a b (ix2 r k)) (beside (fun l => a (ix2 r l)) (fun l => b (ix2 r l)) k) := by
  have key : ∀ (n : Fin 2) (l : Fin 128), k.val / 128 = n.val → k.val % 128 = l.val → joined a b (ix2 r k) = (![a, b] : Fin 2 → FVec Ideal S512x128 .f32) n (ix2 r l) :=
    fun n l hn hl => by
      refine concatenate_ofFn_apply (s₁ := S512x128) (t := S512x256) 1 (![a, b] : Fin 2 → FVec Ideal S512x128 .f32)
        concatenates_S512x128_S512x128_S512x256_d1 rfl 128 rfl (ix2 r k) n hn (ix2 r l) hl.symm fun b hb => ?_
      match b with
      | 0 => rfl
      | 1 => exact absurd rfl hb
  unfold beside
  split
  · exact key 0 _ (by simp; omega) (by simp; omega)
  · exact key 1 _ (by simp; omega) (by simp; omega)

/-- The keys' pieces, over a product and shared lanes. -/
def piece (a b : FVec Ideal S512x128 .f32) : FVec Ideal S1x512x256 .bf16 :=
  shapeCast S1x512x256 (truncf .bf16 (joined a b) bitsLt_bf16_f32) shapeCasts_S512x256_S1x512x256

/-- What they leave. -/
def left (A : FVec Ideal S512x1024 .f32) (b : FVec Ideal S512x128 .f32) : FVec Ideal S4x512x256 .bf16 := fun y =>
  beside (fun l => A (ix2 (y 1) (keyColumn (y 0) l))) (fun l => b (ix2 (y 1) l)) (y 2)

theorem piece_apply (a b : FVec Ideal S512x128 .f32) (u : Fin 1) (r : Fin 512) (k : Fin 256) :
    @Eq EReal (piece a b (ix3 u r k)) (joined a b (ix2 r k)) := by
  unfold piece
  generalize joined a b = j
  pointwise []

theorem piece_at (A : FVec Ideal S512x1024 .f32) (b : FVec Ideal S512x128 .f32) (h : Fin 4) (z : S1x512x256.Idx) (y : S4x512x256.Idx)
    (h0 : (y 0).val = h.val) (h1 : (y 1).val = (z 1).val) (h2 : (y 2).val = (z 2).val) : piece (parts A h) b z = left A b y := by
  refine (congrArg _ (eq_ix3 z)).trans ((piece_apply _ _ (z 0) (z 1) (z 2)).trans ((joined_apply _ _ _ _).trans ?_))
  have e : ix3 h (z 1) (z 2) = y := funext fun d => Fin.ext (match d with | 0 => h0.symm | 1 => h1.symm | 2 => h2.symm)
  refine Eq.trans ?_ (congrArg (left A b) e)
  exact congrArg (fun f => beside f (fun l => b (ix2 (z 1) l)) (z 2)) (funext fun l => parts_apply A h (z 1) l)

/-- The keys it leaves. -/
theorem keys_apply (x : FVec Ideal S8x512x128 .f32) (gq : FVec Ideal S1x512 .f32) (gk : FVec Ideal S1x256 .f32) (wa wb : FVec Ideal S512x1024 .bf16)
    (wk : FVec Ideal S256x1024 .bf16) (cos sin : FVec Ideal S512x256 .f32) (h : Fin 4) (r : Fin 512) (k : Fin 256) :
    @Eq EReal (out0_9 (F := Ideal) x gq gk wa wb wk cos sin (ix3 h r k)) (key x gk wk cos sin r h k) := by
  unfold out0_9 k0_pay23 k0_pay24
  simp only [ld_table, ld_lowScale, ld_lowWeight, ld_highScale, ld_highWeight]
  refine (View.canon_apply_of_pieces (left (highProduct (highUnit (highRow x) gk) wk) (k0_pay12 (F := Ideal) cos sin (View.ld x r0_15) (View.ld x r0_16)))
    _ ?_ (ix3 h r k) (cover0_9 _ _ _ _ _)).trans ?_
  · intro pc hpc
    rcases List.mem_cons.mp hpc with rfl | hpc
    · exact fun z => piece_at _ _ 3 z _ (by have : (z 0).val < 1 := (z 0).isLt; show 3 + 1 * (z 0).val = 3; omega)
        (by show 0 + 1 * (z 1).val = (z 1).val; omega) (by show 0 + 1 * (z 2).val = (z 2).val; omega)
    rcases List.mem_cons.mp hpc with rfl | hpc
    · exact fun z => piece_at _ _ 2 z _ (by have : (z 0).val < 1 := (z 0).isLt; show 2 + 1 * (z 0).val = 2; omega)
        (by show 0 + 1 * (z 1).val = (z 1).val; omega) (by show 0 + 1 * (z 2).val = (z 2).val; omega)
    rcases List.mem_cons.mp hpc with rfl | hpc
    · exact fun z => piece_at _ _ 1 z _ (by have : (z 0).val < 1 := (z 0).isLt; show 1 + 1 * (z 0).val = 1; omega)
        (by show 0 + 1 * (z 1).val = (z 1).val; omega) (by show 0 + 1 * (z 2).val = (z 2).val; omega)
    rcases List.mem_cons.mp hpc with rfl | hpc
    · exact fun z => piece_at _ _ 0 z _ (by have : (z 0).val < 1 := (z 0).isLt; show 0 + 1 * (z 0).val = 0; omega)
        (by show 0 + 1 * (z 1).val = (z 1).val; omega) (by show 0 + 1 * (z 2).val = (z 2).val; omega)
    nomatch hpc
  · show beside (fun l => highProduct (highUnit (highRow x) gk) wk (ix2 r (keyColumn h l))) (fun l => k0_pay12 (F := Ideal) cos sin (View.ld x r0_15) (View.ld x r0_16) (ix2 r l)) k = _
    simp only [latent_apply, rotated_apply]
    rfl

section
variable (m : (ℓ : Loc nD τ sig) → Buf (Elt Ideal) ℓ) (c : Dev nD)

/-- The queries' array, -/
def Gq : S4x16384x256.Idx → EReal := fun y =>
  query (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg6)) (m ((c.tc : Thread nD τ).loc main_arg7)) (y 1) (y 0) (y 2)

/-- the keys', -/
def Gk : S4x16384x256.Idx → EReal := fun y =>
  key (m ((c.tc : Thread nD τ).loc main_arg0)) (m ((c.tc : Thread nD τ).loc main_arg2)) (m ((c.tc : Thread nD τ).loc main_arg5))
    (m ((c.tc : Thread nD τ).loc main_arg6)) (m ((c.tc : Thread nD τ).loc main_arg7)) (y 1) (y 0) (y 2)

/-- and the values'. -/
def Gv : S4x16384x128.Idx → EReal := fun y =>
  value (m ((c.tc : Thread nD τ).loc main_arg0)) (m ((c.tc : Thread nD τ).loc main_arg2)) (m ((c.tc : Thread nD τ).loc main_arg5)) (y 1) (y 0) (y 2)

variable (t : Fin cfg0.N)

/-- The blocks' places. -/
theorem places : ∀ t : Fin cfg0.N, (win0_0.index t 0 = 0 ∧ win0_0.index t 1 = (grid0.coords t 0).val ∧ win0_0.index t 2 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = (grid0.coords t 0).val ∧ win0_6.index t 1 = 0)
    ∧ (win0_7.index t 0 = (grid0.coords t 0).val ∧ win0_7.index t 1 = 0)
    ∧ (win0_8.index t 0 = 0 ∧ win0_8.index t 1 = (grid0.coords t 0).val ∧ win0_8.index t 2 = 0)
    ∧ (win0_9.index t 0 = 0 ∧ win0_9.index t 1 = (grid0.coords t 0).val ∧ win0_9.index t 2 = 0)
    ∧ (win0_10.index t 0 = 0 ∧ win0_10.index t 1 = (grid0.coords t 0).val ∧ win0_10.index t 2 = 0) := by
  decide +kernel

theorem tile_lt : (grid0.coords t 0).val < 32 := (grid0.coords t 0).isLt

/-- A row's token. -/
def token (r : Fin 512) : Fin 16384 := ⟨(grid0.coords t 0).val * 512 + r.val, by have := tile_lt t; have := r.isLt; omega⟩

theorem block_x (r : Fin 512) (s : Fin 8) (l : Fin 128) : iblk m c 0 t (ix3 s r l) = m ((c.tc : Thread nD τ).loc main_arg0) (ix3 s (token t r) l) := by
  blk_ext [iblk, V, token, places t]

theorem block_cos (r : Fin 512) (k : Fin 256) : iblk m c 6 t (ix2 r k) = m ((c.tc : Thread nD τ).loc main_arg6) (ix2 (token t r) k) := by
  blk_ext [iblk, V, token, places t]

theorem block_sin (r : Fin 512) (k : Fin 256) : iblk m c 7 t (ix2 r k) = m ((c.tc : Thread nD τ).loc main_arg7) (ix2 (token t r) k) := by
  blk_ext [iblk, V, token, places t]

theorem block_gq : (iblk m c 1 t : FVec Ideal S1x512 .f32) = m ((c.tc : Thread nD τ).loc main_arg1) := by
  funext i
  rw [eq_ix2 i]
  blk_ext [iblk, V, places t]

theorem block_gk : (iblk m c 2 t : FVec Ideal S1x256 .f32) = m ((c.tc : Thread nD τ).loc main_arg2) := by
  funext i
  rw [eq_ix2 i]
  blk_ext [iblk, V, places t]

theorem block_wa : (iblk m c 3 t : FVec Ideal S512x1024 .bf16) = m ((c.tc : Thread nD τ).loc main_arg3) := by
  funext i
  rw [eq_ix2 i]
  blk_ext [iblk, V, places t]

theorem block_wb : (iblk m c 4 t : FVec Ideal S512x1024 .bf16) = m ((c.tc : Thread nD τ).loc main_arg4) := by
  funext i
  rw [eq_ix2 i]
  blk_ext [iblk, V, places t]

theorem block_wk : (iblk m c 5 t : FVec Ideal S256x1024 .bf16) = m ((c.tc : Thread nD τ).loc main_arg5) := by
  funext i
  rw [eq_ix2 i]
  blk_ext [iblk, V, places t]

theorem queries_point (h : Fin 4) (r : Fin 512) (k : Fin 256) :
    out0_8 (iblk m c 0 t) (iblk m c 1 t) (iblk m c 2 t) (iblk m c 3 t) (iblk m c 4 t) (iblk m c 5 t) (iblk m c 6 t) (iblk m c 7 t) (ix3 h r k)
      = Gq m c (((cfg0.win 8).blk t).view.emb (ix3 h r k)) := by
  have e : ((cfg0.win 8).blk t).view.emb (ix3 h r k) = ix3 h (token t r) k := by
    blk_ext [token, places t]
  rw [e]
  refine (queries_apply _ _ _ _ _ _ _ _ h r k).trans ?_
  rw [block_gq, block_wa, block_wb]
  exact query_row _ _ _ _ _ _ _ _ _ _ (token t r) (block_x m c t r) (block_cos m c t r) (block_sin m c t r) h k

theorem queries_at (y : S4x512x256.Idx) :
    out0_8 (iblk m c 0 t) (iblk m c 1 t) (iblk m c 2 t) (iblk m c 3 t) (iblk m c 4 t) (iblk m c 5 t) (iblk m c 6 t) (iblk m c 7 t) y
      = Gq m c (((cfg0.win 8).blk t).view.emb y) := by
  have e : y = ix3 (y 0) (y 1) (y 2) := eq_ix3 y
  generalize y 0 = h at e
  generalize y 1 = r at e
  generalize y 2 = k at e
  subst e
  exact queries_point m c t h r k

theorem keys_point (h : Fin 4) (r : Fin 512) (k : Fin 256) :
    out0_9 (iblk m c 0 t) (iblk m c 1 t) (iblk m c 2 t) (iblk m c 3 t) (iblk m c 4 t) (iblk m c 5 t) (iblk m c 6 t) (iblk m c 7 t) (ix3 h r k)
      = Gk m c (((cfg0.win 9).blk t).view.emb (ix3 h r k)) := by
  have e : ((cfg0.win 9).blk t).view.emb (ix3 h r k) = ix3 h (token t r) k := by
    blk_ext [token, places t]
  rw [e]
  refine (keys_apply _ _ _ _ _ _ _ _ h r k).trans ?_
  rw [block_gk, block_wk]
  exact key_row _ _ _ _ _ _ _ _ _ (token t r) (block_x m c t r) (block_cos m c t r) (block_sin m c t r) h k

theorem keys_at (y : S4x512x256.Idx) :
    out0_9 (iblk m c 0 t) (iblk m c 1 t) (iblk m c 2 t) (iblk m c 3 t) (iblk m c 4 t) (iblk m c 5 t) (iblk m c 6 t) (iblk m c 7 t) y
      = Gk m c (((cfg0.win 9).blk t).view.emb y) := by
  have e : y = ix3 (y 0) (y 1) (y 2) := eq_ix3 y
  generalize y 0 = h at e
  generalize y 1 = r at e
  generalize y 2 = k at e
  subst e
  exact keys_point m c t h r k

theorem values_point (h : Fin 4) (r : Fin 512) (l : Fin 128) :
    out0_10 (iblk m c 0 t) (iblk m c 1 t) (iblk m c 2 t) (iblk m c 3 t) (iblk m c 4 t) (iblk m c 5 t) (iblk m c 6 t) (iblk m c 7 t) (ix3 h r l)
      = Gv m c (((cfg0.win 10).blk t).view.emb (ix3 h r l)) := by
  have e : ((cfg0.win 10).blk t).view.emb (ix3 h r l) = ix3 h (token t r) l := by
    blk_ext [token, places t]
  rw [e]
  refine (values_apply _ _ _ _ _ _ _ _ h r l).trans ?_
  rw [block_gk, block_wk]
  exact latent_row _ _ _ _ _ (token t r) (block_x m c t r) _

theorem values_at (y : S4x512x128.Idx) :
    out0_10 (iblk m c 0 t) (iblk m c 1 t) (iblk m c 2 t) (iblk m c 3 t) (iblk m c 4 t) (iblk m c 5 t) (iblk m c 6 t) (iblk m c 7 t) y
      = Gv m c (((cfg0.win 10).blk t).view.emb y) := by
  have e : y = ix3 (y 0) (y 1) (y 2) := eq_ix3 y
  generalize y 0 = h at e
  generalize y 1 = r at e
  generalize y 2 = l at e
  subst e
  exact values_point m c t h r l

omit t in
theorem array_q : (dats m 0 c).arrAt 8 cfg0.N = Gq m c := by
  refine (dats m 0 c).arrAt_eq_of_covers 8 _ (by decide +kernel) fun t hf y => ?_
  blk_simp
  rw [after0_8]
  exact queries_at m c t y

omit t in
theorem array_k : (dats m 0 c).arrAt 9 cfg0.N = Gk m c := by
  refine (dats m 0 c).arrAt_eq_of_covers 9 _ (by decide +kernel) fun t hf y => ?_
  blk_simp
  rw [after0_9]
  exact keys_at m c t y

omit t in
theorem array_v : (dats m 0 c).arrAt 10 cfg0.N = Gv m c := by
  refine (dats m 0 c).arrAt_eq_of_covers 10 _ (by decide +kernel) fun t hf y => ?_
  blk_simp
  rw [after0_10]
  exact values_at m c t y

end

end

section
open Cert.PrepReferenceIdeal Cert.PrepReferenceIdeal.Gen

namespace Plain

/-- The reference's rows for the queries, -/
def lowRow (x : FVec Ideal S8x16384x128 .f32) : FVec Ideal S16384x512 .f32 :=
  shapeCast S16384x512 (extractStridedSlice S16384x4x128 ![0, 0, 0] (transpose S16384x8x128 [1, 0, 2] x transposes_S8x16384x128_S16384x8x128_1_0_2)
    slices_S16384x8x128_S16384x4x128_0_0_0) shapeCasts_S16384x4x128_S16384x512

/-- and for the keys and values, -/
def highRow (x : FVec Ideal S8x16384x128 .f32) : FVec Ideal S16384x256 .f32 :=
  shapeCast S16384x256 (extractStridedSlice S16384x2x128 ![0, 4, 0] (transpose S16384x8x128 [1, 0, 2] x transposes_S8x16384x128_S16384x8x128_1_0_2)
    slices_S16384x8x128_S16384x2x128_0_4_0) shapeCasts_S16384x2x128_S16384x256

/-- their norms, -/
def lowUnit (f : FVec Ideal S16384x512 .f32) (g : FVec Ideal S1x512 .f32) : FVec Ideal S16384x512 .f32 :=
  mulf (mulf f (broadcastInDim S16384x512 ![0, 1] bcast_S16384x1_S16384x512_0_1 (Host.rsqrt (addf (Host.divf
    (broadcastInDim S16384x1 ![0] bcast_S16384_S16384x1_0 (Host.reduceAdd (mulf f f) (constant S_ .f32 0x00000000#32) reducesTo_S16384x512_S16384_d1 h_S_))
    (broadcastInDim S16384x1 ![] bcast_S_S16384x1 (constant S_ .f32 0x44000000#32))) (broadcastInDim S16384x1 ![] bcast_S_S16384x1 (constant S_ .f32 0x358637BD#32))))))
    (broadcastInDim S16384x512 ![0, 1] bcast_S1x512_S16384x512_0_1 g)

def highUnit (f : FVec Ideal S16384x256 .f32) (g : FVec Ideal S1x256 .f32) : FVec Ideal S16384x256 .f32 :=
  mulf (mulf f (broadcastInDim S16384x256 ![0, 1] bcast_S16384x1_S16384x256_0_1 (Host.rsqrt (addf (Host.divf
    (broadcastInDim S16384x1 ![0] bcast_S16384_S16384x1_0 (Host.reduceAdd (mulf f f) (constant S_ .f32 0x00000000#32) reducesTo_S16384x256_S16384_d1 h_S_))
    (broadcastInDim S16384x1 ![] bcast_S_S16384x1 (constant S_ .f32 0x43800000#32))) (broadcastInDim S16384x1 ![] bcast_S_S16384x1 (constant S_ .f32 0x358637BD#32))))))
    (broadcastInDim S16384x256 ![0, 1] bcast_S1x256_S16384x256_0_1 g)

/-- and the products. -/
def lowProduct (f : FVec Ideal S16384x512 .f32) (w : FVec Ideal S512x1024 .bf16) : FVec Ideal S16384x1024 .f32 :=
  Host.dotGeneral dot_S16384x512_S512x1024_S16384x1024_1_0_0_1_n_n none f (extf .f32 w bitsLt_bf16_f32)

def highProduct (f : FVec Ideal S16384x256 .f32) (w : FVec Ideal S256x1024 .bf16) : FVec Ideal S16384x1024 .f32 :=
  Host.dotGeneral dot_S16384x256_S256x1024_S16384x1024_1_0_0_1_n_n none f (extf .f32 w bitsLt_bf16_f32)

/-- Its rotated lanes. -/
def rotated (x : FVec Ideal S8x16384x128 .f32) (cos sin : FVec Ideal S16384x256 .f32) : FVec Ideal S16384x128 .f32 :=
  addf (mulf (shapeCast S16384x128 (extractStridedSlice S16384x1x128 ![0, 6, 0] (transpose S16384x8x128 [1, 0, 2] x transposes_S8x16384x128_S16384x8x128_1_0_2)
      slices_S16384x8x128_S16384x1x128_0_6_0) shapeCasts_S16384x1x128_S16384x128) (extractStridedSlice S16384x128 ![0, 128] cos slices_S16384x256_S16384x128_0_128))
    (mulf (shapeCast S16384x128 (extractStridedSlice S16384x1x128 ![0, 7, 0] (transpose S16384x8x128 [1, 0, 2] x transposes_S8x16384x128_S16384x8x128_1_0_2)
      slices_S16384x8x128_S16384x1x128_0_7_0) shapeCasts_S16384x1x128_S16384x128) (extractStridedSlice S16384x128 ![0, 128] sin slices_S16384x256_S16384x128_0_128))

/-- A table along the heads. -/
def table (f : FVec Ideal S16384x256 .f32) : FVec Ideal S16384x4x256 .f32 :=
  broadcastInDim S16384x4x256 ![0, 1, 2] bcast_S16384x1x256_S16384x4x256_0_1_2 (broadcastInDim S16384x1x256 ![0, 2] bcast_S16384x256_S16384x1x256_0_2 f)

/-- Its queries, from the products, -/
def queries (a b : FVec Ideal S16384x1024 .f32) (cos sin : FVec Ideal S16384x256 .f32) : FVec Ideal S4x16384x256 .bf16 :=
  truncf .bf16 (transpose S4x16384x256 [1, 0, 2] (mulf (addf (mulf (shapeCast S16384x4x256 a shapeCasts_S16384x1024_S16384x4x256) (table cos))
    (mulf (shapeCast S16384x4x256 b shapeCasts_S16384x1024_S16384x4x256) (table sin))) (broadcastInDim S16384x4x256 ![] bcast_S_S16384x4x256 (constant S_ .f32 0x3DD53B95#32)))
    transposes_S16384x4x256_S4x16384x256_1_0_2) bitsLt_bf16_f32

/-- the unrotated lanes of its keys, -/
def plainLanes (a : FVec Ideal S16384x1024 .f32) : FVec Ideal S16384x4x128 .f32 :=
  shapeCast S16384x4x128 (extractStridedSlice S16384x1x4x128 ![0, 0, 0, 0] (shapeCast S16384x2x4x128 a shapeCasts_S16384x1024_S16384x2x4x128)
    slices_S16384x2x4x128_S16384x1x4x128_0_0_0_0) shapeCasts_S16384x1x4x128_S16384x4x128

/-- the shared lanes along the heads, -/
def shared (b : FVec Ideal S16384x128 .f32) : FVec Ideal S16384x4x128 .f32 :=
  broadcastInDim S16384x4x128 ![0, 1, 2] bcast_S16384x1x128_S16384x4x128_0_1_2 (broadcastInDim S16384x1x128 ![0, 2] bcast_S16384x128_S16384x1x128_0_2 b)

/-- the two side by side, -/
def joined (a b : FVec Ideal S16384x4x128 .f32) : FVec Ideal S16384x4x256 .f32 :=
  concatenate S16384x4x256 2 [⟨S16384x4x128, a⟩, ⟨S16384x4x128, b⟩] concatenates_S16384x4x128_S16384x4x128_S16384x4x256_d2

/-- its keys, -/
def keys (f : FVec Ideal S16384x4x256 .f32) : FVec Ideal S4x16384x256 .bf16 :=
  truncf .bf16 (transpose S4x16384x256 [1, 0, 2] f transposes_S16384x4x256_S4x16384x256_1_0_2) bitsLt_bf16_f32

/-- and its values. -/
def values (a : FVec Ideal S16384x1024 .f32) : FVec Ideal S4x16384x128 .bf16 :=
  truncf .bf16 (transpose S4x16384x128 [1, 0, 2] (shapeCast S16384x4x128 (extractStridedSlice S16384x1x4x128 ![0, 1, 0, 0]
    (shapeCast S16384x2x4x128 a shapeCasts_S16384x1024_S16384x2x4x128) slices_S16384x2x4x128_S16384x1x4x128_0_1_0_0) shapeCasts_S16384x1x4x128_S16384x4x128)
    transposes_S16384x4x128_S4x16384x128_1_0_2) bitsLt_bf16_f32

theorem lowRow_apply (x : FVec Ideal S8x16384x128 .f32) (r : Fin 16384) (j : Fin 512) : lowRow x (ix2 r j) = low x r j := by
  pointwise [lowRow, low]

theorem highRow_apply (x : FVec Ideal S8x16384x128 .f32) (r : Fin 16384) (j : Fin 256) : highRow x (ix2 r j) = high x r j := by
  pointwise [highRow, high]

theorem lowUnit_apply (f : FVec Ideal S16384x512 .f32) (g : FVec Ideal S1x512 .f32) (r : Fin 16384) (j : Fin 512) :
    @Eq EReal (lowUnit f g (ix2 r j)) (unit (Ideal.ofBits .f32 0x44000000#32) (fun j => f (ix2 r j)) (fun j => g (ix2 0 j)) j) := by
  pointwise [lowUnit, unit]

theorem highUnit_apply (f : FVec Ideal S16384x256 .f32) (g : FVec Ideal S1x256 .f32) (r : Fin 16384) (j : Fin 256) :
    @Eq EReal (highUnit f g (ix2 r j)) (unit (Ideal.ofBits .f32 0x43800000#32) (fun j => f (ix2 r j)) (fun j => g (ix2 0 j)) j) := by
  pointwise [highUnit, unit]

theorem lowProduct_apply (f : FVec Ideal S16384x512 .f32) (w : FVec Ideal S512x1024 .bf16) (r : Fin 16384) (k : Fin 1024) :
    @Eq EReal (lowProduct f w (ix2 r k)) (∑ j : Fin 512, f (ix2 r j) * w (ix2 j k)) := by
  pointwise [lowProduct]

theorem highProduct_apply (f : FVec Ideal S16384x256 .f32) (w : FVec Ideal S256x1024 .bf16) (r : Fin 16384) (k : Fin 1024) :
    @Eq EReal (highProduct f w (ix2 r k)) (∑ j : Fin 256, f (ix2 r j) * w (ix2 j k)) := by
  pointwise [highProduct]

theorem product_apply (x : FVec Ideal S8x16384x128 .f32) (g : FVec Ideal S1x512 .f32) (w : FVec Ideal S512x1024 .bf16) (r : Fin 16384) (k : Fin 1024) :
    @Eq EReal (lowProduct (lowUnit (lowRow x) g) w (ix2 r k)) (product x g r w k) := by
  refine (lowProduct_apply _ _ r k).trans (Finset.sum_congr rfl fun j _ => ?_)
  rw [lowUnit_apply]
  simp only [lowRow_apply]

theorem latent_apply (x : FVec Ideal S8x16384x128 .f32) (g : FVec Ideal S1x256 .f32) (w : FVec Ideal S256x1024 .bf16) (r : Fin 16384) (k : Fin 1024) :
    @Eq EReal (highProduct (highUnit (highRow x) g) w (ix2 r k)) (latent x g w r k) := by
  refine (highProduct_apply _ _ r k).trans (Finset.sum_congr rfl fun j _ => ?_)
  rw [highUnit_apply]
  simp only [highRow_apply]

theorem rotated_apply (x : FVec Ideal S8x16384x128 .f32) (cos sin : FVec Ideal S16384x256 .f32) (r : Fin 16384) (l : Fin 128) :
    @Eq EReal (rotated x cos sin (ix2 r l)) (Prep.rotated x cos sin r l) := by
  pointwise [rotated, Prep.rotated, upper]

theorem queries_apply (a b : FVec Ideal S16384x1024 .f32) (cos sin : FVec Ideal S16384x256 .f32) (h : Fin 4) (r : Fin 16384) (k : Fin 256) :
    @Eq EReal (queries a b cos sin (ix3 h r k))
      ((a (ix2 r (column h k)) * cos (ix2 r k) + b (ix2 r (column h k)) * sin (ix2 r k)) * Ideal.ofBits .f32 0x3DD53B95#32) := by
  pointwise [queries, table, column]

theorem values_apply (a : FVec Ideal S16384x1024 .f32) (h : Fin 4) (r : Fin 16384) (l : Fin 128) :
    @Eq EReal (values a (ix3 h r l)) (a (ix2 r (valueColumn h l))) := by
  pointwise [values, valueColumn]

theorem plainLanes_apply (a : FVec Ideal S16384x1024 .f32) (h : Fin 4) (r : Fin 16384) (l : Fin 128) :
    @Eq EReal (plainLanes a (ix3 r h l)) (a (ix2 r (keyColumn h l))) := by
  pointwise [plainLanes, keyColumn]

theorem shared_apply (b : FVec Ideal S16384x128 .f32) (h : Fin 4) (r : Fin 16384) (l : Fin 128) :
    @Eq EReal (shared b (ix3 r h l)) (b (ix2 r l)) := by
  pointwise [shared]

theorem joined_apply (a b : FVec Ideal S16384x4x128 .f32) (r : Fin 16384) (h : Fin 4) (k : Fin 256) :
    @Eq EReal (joined a b (ix3 r h k)) (beside (fun l => a (ix3 r h l)) (fun l => b (ix3 r h l)) k) := by
  have key : ∀ (n : Fin 2) (l : Fin 128), k.val / 128 = n.val → k.val % 128 = l.val
      → joined a b (ix3 r h k) = (![a, b] : Fin 2 → FVec Ideal S16384x4x128 .f32) n (ix3 r h l) :=
    fun n l hn hl => by
      refine concatenate_ofFn_apply (s₁ := S16384x4x128) (t := S16384x4x256) 2 (![a, b] : Fin 2 → FVec Ideal S16384x4x128 .f32)
        concatenates_S16384x4x128_S16384x4x128_S16384x4x256_d2 rfl 128 rfl (ix3 r h k) n hn (ix3 r h l) hl.symm fun b hb => ?_
      match b with
      | 0 => rfl
      | 1 => rfl
      | 2 => exact absurd rfl hb
  unfold beside
  split
  · exact key 0 _ (by simp; omega) (by simp; omega)
  · exact key 1 _ (by simp; omega) (by simp; omega)

theorem keys_apply (f : FVec Ideal S16384x4x256 .f32) (h : Fin 4) (r : Fin 16384) (k : Fin 256) : @Eq EReal (keys f (ix3 h r k)) (f (ix3 r h k)) := by
  pointwise [keys]

theorem queries_eq (x : FVec Ideal S8x16384x128 .f32) (g : FVec Ideal S1x512 .f32) (wa wb : FVec Ideal S512x1024 .bf16) (cos sin : FVec Ideal S16384x256 .f32) :
    queries (lowProduct (lowUnit (lowRow x) g) wa) (lowProduct (lowUnit (lowRow x) g) wb) cos sin
      = fun y => query x g wa wb cos sin (y 1) (y 0) (y 2) := by
  have key : ∀ (h : Fin 4) (r : Fin 16384) (k : Fin 256), queries (lowProduct (lowUnit (lowRow x) g) wa) (lowProduct (lowUnit (lowRow x) g) wb) cos sin (ix3 h r k)
      = query x g wa wb cos sin r h k := fun h r k => by
    refine (queries_apply _ _ _ _ _ _ _).trans ?_
    rw [product_apply, product_apply]
    rfl
  exact funext fun y => (congrArg (queries (lowProduct (lowUnit (lowRow x) g) wa) (lowProduct (lowUnit (lowRow x) g) wb) cos sin) (eq_ix3 y)).trans (key (y 0) (y 1) (y 2))

theorem keys_eq (x : FVec Ideal S8x16384x128 .f32) (g : FVec Ideal S1x256 .f32) (w : FVec Ideal S256x1024 .bf16) (cos sin : FVec Ideal S16384x256 .f32) :
    keys (joined (plainLanes (highProduct (highUnit (highRow x) g) w)) (shared (rotated x cos sin))) = fun y => key x g w cos sin (y 1) (y 0) (y 2) := by
  have key : ∀ (h : Fin 4) (r : Fin 16384) (k : Fin 256), keys (joined (plainLanes (highProduct (highUnit (highRow x) g) w)) (shared (rotated x cos sin))) (ix3 h r k)
      = key x g w cos sin r h k := fun h r k => by
    refine (keys_apply _ _ _ _).trans ((joined_apply _ _ _ _ _).trans ?_)
    simp only [plainLanes_apply, shared_apply, latent_apply, rotated_apply]
    rfl
  exact funext fun y => (congrArg (keys (joined (plainLanes (highProduct (highUnit (highRow x) g) w)) (shared (rotated x cos sin)))) (eq_ix3 y)).trans (key (y 0) (y 1) (y 2))

theorem values_eq (x : FVec Ideal S8x16384x128 .f32) (g : FVec Ideal S1x256 .f32) (w : FVec Ideal S256x1024 .bf16) :
    values (highProduct (highUnit (highRow x) g) w) = fun y => value x g w (y 1) (y 0) (y 2) :=
  funext fun y => (congrArg (values (highProduct (highUnit (highRow x) g) w)) (eq_ix3 y)).trans ((values_apply _ _ _ _).trans (latent_apply _ _ _ _ _))

end Plain

end

theorem frame_p : Cert.quiescent_Prep := fun m ρ _ => Cert.Prep.Gen.frame m ρ

theorem frame_pi : Cert.quiescent_PrepIdeal := fun m ρ _ => Cert.PrepIdeal.Gen.frame m ρ

theorem frame_ri : Cert.quiescent_PrepReferenceIdeal := fun m ρ _ =>
  (θ_run Cert.PrepReferenceIdeal.defs _ _).mono (fun r h => ⟨fun c => (h c).2.2.2, Idealize.ShloMosaic.sem_eq_zero_of_no_sems (by decide) r.2⟩)
    (Cert.PrepReferenceIdeal.Value.run (F := Ideal) m ρ)

theorem preserves : Cert.preserves_Prep_PrepIdeal := trivial

theorem algebraic : Cert.algebraic_PrepIdeal_PrepReferenceIdeal := by
  intro m ρ m' ρ' hpre hargs
  refine ⟨fun c => Gq m c, fun c => Gk m c, fun c => Gv m c, ?_, ?_⟩
  · refine (θ_run Cert.PrepIdeal.defs _ _).mono (fun r h c => ?_) (Cert.PrepIdeal.Value.run_blocks (F := Ideal) m ρ)
    exact ⟨(h c).1.trans (array_q m c), (h c).2.1.trans (array_k m c), (h c).2.2.1.trans (array_v m c), (h c).2.2.2⟩
  · refine (θ_run Cert.PrepReferenceIdeal.defs _ _).mono (fun r h c => ?_) (Cert.PrepReferenceIdeal.Value.run (F := Ideal) m' ρ')
    obtain ⟨e0, e1, e2, e3, e4, e5, e6, e7⟩ := hargs c
    refine ⟨(h c).1.trans ?_, (h c).2.1.trans ?_, (h c).2.2.1.trans ?_, (h c).2.2.2⟩
    · rw [e0, e1, e3, e4, e6, e7]
      exact Plain.queries_eq _ _ _ _ _ _
    · rw [e0, e2, e5, e6, e7]
      exact Plain.keys_eq _ _ _ _ _
    · rw [e0, e2, e5]
      exact Plain.values_eq _ _ _

end Cert.Proof.Prep

end
-- ==== Proof.AddNorm.lean ====
/-
  The claims of the call that ends a layer: the residual and the layer norm after the experts.
-/
module

public import proofs.«01_k».proof.Proof.OutNorm
public import proofs.«01_k».proof.Proof.Gen.Last.Frame
public import proofs.«01_k».proof.Proof.Gen.LastIdeal.Value
public import proofs.«01_k».proof.Proof.Gen.LastReferenceIdeal.Run

@[expose] public section

set_option maxRecDepth 16384

noncomputable section

namespace Cert.Proof.AddNorm

open Idealize.ShloMosaic Idealize.ShloMosaic.TcCoe Idealize.ShloMosaic.Tactic
open Idealize.SL Idealize.SL.Sem
open Cert.Proof.OutNorm (norm)

/-- A row before the norm, -/
def row (x y : FVec Ideal ⟨2, ![16384, 2048]⟩ .f32) (r : Fin 16384) (k : Fin 2048) : EReal :=
  Ideal.ofBits .f32 0x3FB504F3#32 * x (ix2 r k) + y (ix2 r k)

/-- and the result at an entry. -/
def out (x y : FVec Ideal ⟨2, ![16384, 2048]⟩ .f32) (g b : FVec Ideal ⟨2, ![1, 2048]⟩ .f32) (r : Fin 16384) (k : Fin 2048) : EReal :=
  norm (row x y r) (g (ix2 0 k)) (b (ix2 0 k)) k

section
open Cert.LastIdeal Cert.LastIdeal.Gen

variable (m : (ℓ : Loc nD τ sig) → Buf (Elt Ideal) ℓ) (c : Dev nD)

/-- The body's row before the norm. -/
def residual (x y : FVec Ideal S512x2048 .f32) : FVec Ideal S512x2048 .f32 :=
  addf (mulf (broadcast S512x2048 (Scalar.ofBits .f32 0x3FB504F3#32)) x) y

theorem body_eq (x y : FVec Ideal S512x2048 .f32) (g b : FVec Ideal S1x2048 .f32) :
    k0_pay1 x y g b = OutNorm.normed (residual x y) g b := rfl

/-- The result array, in both its types. -/
def G : S16384x2048.Idx → EReal := fun y =>
  out (m ((c.tc : Thread nD τ).loc main_arg0)) (m ((c.tc : Thread nD τ).loc main_arg1)) (m ((c.tc : Thread nD τ).loc main_arg2))
    (m ((c.tc : Thread nD τ).loc main_arg3)) (y 0) (y 1)

variable (t : Fin cfg0.N)

/-- The blocks' places. -/
theorem places : ∀ t : Fin cfg0.N, (win0_0.index t 0 = (grid0.coords t 0).val ∧ win0_0.index t 1 = 0)
    ∧ (win0_1.index t 0 = (grid0.coords t 0).val ∧ win0_1.index t 1 = 0)
    ∧ (win0_2.index t 0 = 0 ∧ win0_2.index t 1 = 0)
    ∧ (win0_3.index t 0 = 0 ∧ win0_3.index t 1 = 0)
    ∧ (win0_4.index t 0 = (grid0.coords t 0).val ∧ win0_4.index t 1 = 0)
    ∧ (win0_5.index t 0 = (grid0.coords t 0).val ∧ win0_5.index t 1 = 0) := by
  decide +kernel

theorem tile_lt : (grid0.coords t 0).val < 32 := (grid0.coords t 0).isLt

theorem point_apply (r : Fin 512) (k : Fin 2048) :
    k0_pay1 (iblk m c 0 t) (iblk m c 1 t) (iblk m c 2 t) (iblk m c 3 t) (ix2 r k)
      = G m c (ix2 ⟨(grid0.coords t 0).val * 512 + r.val, by have := tile_lt t; omega⟩ k) := by
  have h0 := tile_lt t
  rw [body_eq]
  refine (OutNorm.normed_apply _ _ _ r k).trans ?_
  show _ = norm _ _ _ _
  have e2 : @Eq EReal (iblk m c 2 t (ix2 0 k)) (m ((c.tc : Thread nD τ).loc main_arg2) (ix2 0 k)) := by blk_ext [iblk, V, places t]
  have e3 : @Eq EReal (iblk m c 3 t (ix2 0 k)) (m ((c.tc : Thread nD τ).loc main_arg3) (ix2 0 k)) := by blk_ext [iblk, V, places t]
  rw [e2, e3]
  congr 1
  funext k
  show @Eq EReal (Ideal.ofBits .f32 0x3FB504F3#32 * iblk m c 0 t (ix2 r k) + iblk m c 1 t (ix2 r k)) _
  unfold row
  congr 1
  · congr 1
    blk_ext [iblk, V, places t]
  · blk_ext [iblk, V, places t]

theorem point_at (y : S512x2048.Idx) (i : S16384x2048.Idx) (h0 : (i 0).val = (grid0.coords t 0).val * 512 + (y 0).val) (h1 : (i 1).val = (y 1).val) :
    k0_pay1 (iblk m c 0 t) (iblk m c 1 t) (iblk m c 2 t) (iblk m c 3 t) y = G m c i := by
  have hy : (y 0).val < 512 := (y 0).isLt
  refine ((congrArg _ (eq_ix2 y)).trans (point_apply m c t (y 0) (y 1))).trans (congrArg (G m c) (funext fun d => Fin.ext ?_))
  match d with
  | 0 => exact h0.symm
  | 1 => exact h1.symm

omit t in
theorem array : (dats m 0 c).arrAt 4 cfg0.N = G m c := by
  refine (dats m 0 c).arrAt_eq_of_covers 4 _ (by decide +kernel) fun t hf y => ?_
  blk_simp
  rw [after0_4]
  frame_out
  refine point_at m c t y _ ?_ ?_ <;> blk_simp [places t] <;> omega

omit t in
theorem array' : (dats m 0 c).arrAt 5 cfg0.N = G m c := by
  refine (dats m 0 c).arrAt_eq_of_covers 5 _ (by decide +kernel) fun t hf y => ?_
  blk_simp
  rw [after0_5]
  frame_out
  refine point_at m c t y _ ?_ ?_ <;> blk_simp [places t] <;> omega

end

section
open Cert.LastReferenceIdeal Cert.LastReferenceIdeal.Gen

namespace Plain

/-- The reference's row before the norm. -/
def residual (x y : FVec Ideal S16384x2048 .f32) : FVec Ideal S16384x2048 .f32 :=
  addf (mulf (broadcastInDim S16384x2048 ![] bcast_S_S16384x2048 (constant S_ .f32 0x3FB504F3#32)) x) y

theorem out_eq (x y : FVec Ideal S16384x2048 .f32) (g b : FVec Ideal S1x2048 .f32) :
    OutNorm.Plain.normed (residual x y) g b = fun i => out x y g b (i 0) (i 1) := by
  have key : ∀ (r : Fin 16384) (k : Fin 2048), OutNorm.Plain.normed (residual x y) g b (ix2 r k) = out x y g b r k := fun r k =>
    OutNorm.Plain.normed_apply _ _ _ r k
  exact funext fun i => (congrArg (OutNorm.Plain.normed (residual x y) g b) (eq_ix2 i)).trans (key (i 0) (i 1))

end Plain

end

theorem frame_p : Cert.quiescent_Last := fun m ρ _ => Cert.Last.Gen.frame m ρ

theorem frame_pi : Cert.quiescent_LastIdeal := fun m ρ _ => Cert.LastIdeal.Gen.frame m ρ

theorem frame_ri : Cert.quiescent_LastReferenceIdeal := fun m ρ _ =>
  (θ_run Cert.LastReferenceIdeal.defs _ _).mono (fun r h => ⟨fun c => (h c).2.2, Idealize.ShloMosaic.sem_eq_zero_of_no_sems (by decide) r.2⟩)
    (Cert.LastReferenceIdeal.Value.run (F := Ideal) m ρ)

theorem preserves : Cert.preserves_Last_LastIdeal := trivial

theorem algebraic : Cert.algebraic_LastIdeal_LastReferenceIdeal := by
  intro m ρ m' ρ' hpre hargs
  refine ⟨fun c => G m c, fun c => G m c, ?_, ?_⟩
  · refine (θ_run Cert.LastIdeal.defs _ _).mono (fun r h c => ?_) (Cert.LastIdeal.Value.run_blocks (F := Ideal) m ρ)
    exact ⟨(h c).1.trans (array m c), (h c).2.1.trans (array' m c), (h c).2.2⟩
  · refine (θ_run Cert.LastReferenceIdeal.defs _ _).mono (fun r h c => ?_) (Cert.LastReferenceIdeal.Value.run (F := Ideal) m' ρ')
    obtain ⟨e0, e1, e2, e3⟩ := hargs c
    have e : OutNorm.Plain.normed (Plain.residual (m' ((c.tc : Thread Cert.LastReferenceIdeal.nD Cert.LastReferenceIdeal.τ).loc Cert.LastReferenceIdeal.main_arg0))
        (m' ((c.tc : Thread Cert.LastReferenceIdeal.nD Cert.LastReferenceIdeal.τ).loc Cert.LastReferenceIdeal.main_arg1)))
        (m' ((c.tc : Thread Cert.LastReferenceIdeal.nD Cert.LastReferenceIdeal.τ).loc Cert.LastReferenceIdeal.main_arg2))
        (m' ((c.tc : Thread Cert.LastReferenceIdeal.nD Cert.LastReferenceIdeal.τ).loc Cert.LastReferenceIdeal.main_arg3)) = G m c := by
      rw [e0, e1, e2, e3]
      exact Plain.out_eq _ _ _ _
    exact ⟨(h c).1.trans e, (h c).2.1.trans e, (h c).2.2⟩

end Cert.Proof.AddNorm

end
-- ==== Proof.Means.lean ====
/-
  The claims of the call that takes the mean of each block of keys.
-/
module

public import proofs.«01_k».proof.Defs
public import proofs.«01_k».proof.Proof.Gen.Means.Frame
public import proofs.«01_k».proof.Proof.Gen.MeansIdeal.Value
public import proofs.«01_k».proof.Proof.Gen.MeansReferenceIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.Means

open Idealize.ShloMosaic Idealize.ShloMosaic.TcCoe Idealize.ShloMosaic.Tactic
open Idealize.SL Idealize.SL.Sem

/-- The sum over a block of a head's keys, in one channel. -/
def total (k : FVec Ideal ⟨3, ![32, 16384, 128]⟩ .bf16) (h : Fin 4) (n : Fin 64) (d : Fin 128) : EReal :=
  ∑ r : Fin 256, k (ix3 ⟨4 + h.val, by omega⟩ ⟨n.val * 256 + r.val, by omega⟩ d)

/-- To divide by a block's length is to multiply by its inverse, which is a float. -/
theorem div_length (a : EReal) : Ideal.div a (Ideal.ofBits .f32 0x43800000#32) = a * Ideal.ofBits .f32 0x3B800000#32 := by
  have e : Ideal.ofBits .f32 0x43800000#32 = ((256 : ℝ) : EReal) := by
    simp [Ideal.ofBits, Ideal.ieee, -EReal.coe_mul]
    norm_num
  have e' : Ideal.ofBits .f32 0x3B800000#32 = ((1 / 256 : ℝ) : EReal) := by
    simp [Ideal.ofBits, Ideal.ieee, -EReal.coe_mul]
    norm_num
  rw [e, e']
  exact Ideal.div_coe (by norm_num) a

section
open Cert.MeansIdeal Cert.MeansIdeal.Gen

variable (m : (ℓ : Loc nD τ sig) → Buf (Elt Ideal) ℓ) (c : Dev nD)

/-- The result array. -/
def G : S4x64x128.Idx → EReal := fun y =>
  total (m ((c.tc : Thread nD τ).loc main_arg0)) (y 0) (y 1) (y 2) * Ideal.ofBits .f32 0x3B800000#32

/-- The blocks' places. -/
theorem places : ∀ t : Fin cfg0.N, (win0_0.index t 0 = 4 + (grid0.coords t 0).val ∧ win0_0.index t 1 = 0 ∧ win0_0.index t 2 = 0)
    ∧ (win0_1.index t 0 = (grid0.coords t 0).val ∧ win0_1.index t 1 = 0 ∧ win0_1.index t 2 = 0) := by
  decide +kernel

/-- What the body leaves, at an entry. -/
theorem left_apply (k : FVec Ideal S1x16384x128 .bf16) (n : Fin 64) (d : Fin 128) :
    @Eq EReal (k0_pay1 (F := Ideal) k (ix3 0 n d))
      ((∑ r : Fin 256, k (ix3 0 ⟨n.val * 256 + r.val, by omega⟩ d)) * Ideal.ofBits .f32 0x3B800000#32) := by
  pointwise [k0_pay1]

variable (t : Fin cfg0.N)

theorem head_lt : (grid0.coords t 0).val < 4 := (grid0.coords t 0).isLt

theorem point_apply (n : Fin 64) (d : Fin 128) :
    k0_pay1 (iblk m c 0 t) (ix3 0 n d) = G m c (ix3 ⟨(grid0.coords t 0).val, head_lt t⟩ n d) := by
  have h0 := head_lt t
  refine (left_apply _ n d).trans ?_
  show _ = total _ _ _ _ * _
  unfold total
  congr 1
  refine Finset.sum_congr rfl fun r _ => ?_
  blk_ext [iblk, V, places t]

theorem point_at (y : S1x64x128.Idx) (i : S4x64x128.Idx) (h0 : (i 0).val = (grid0.coords t 0).val) (h1 : (i 1).val = (y 1).val)
    (h2 : (i 2).val = (y 2).val) : k0_pay1 (iblk m c 0 t) y = G m c i := by
  have e : y = ix3 (y 0) (y 1) (y 2) := eq_ix3 y
  have e0 : y 0 = (0 : Fin 1) := Subsingleton.elim (α := Fin 1) _ _
  rw [e0] at e
  refine ((congrArg _ e).trans (point_apply m c t (y 1) (y 2))).trans (congrArg (G m c) (funext fun d => Fin.ext ?_))
  match d with
  | 0 => exact h0.symm
  | 1 => exact h1.symm
  | 2 => exact h2.symm

omit t in
theorem array : (dats m 0 c).arrAt 1 cfg0.N = G m c := by
  refine (dats m 0 c).arrAt_eq_of_covers 1 _ (by decide +kernel) fun t hf y => ?_
  blk_simp
  rw [after0_1]
  frame_out
  refine point_at m c t y _ ?_ ?_ ?_ <;> blk_simp [places t] <;> omega

end

section
open Cert.MeansReferenceIdeal Cert.MeansReferenceIdeal.Gen

theorem reference_apply (k : FVec Ideal S32x16384x128 .bf16) (h : Fin 4) (n : Fin 64) (d : Fin 128) :
    @Eq EReal (Host.divf (Host.reduceAdd (shapeCast S4x64x256x128 (extf .f32 (extractStridedSlice S4x16384x128 ![4, 0, 0] k slices_S32x16384x128_S4x16384x128_4_0_0) bitsLt_bf16_f32)
      shapeCasts_S4x16384x128_S4x64x256x128) (constant S_ .f32 0x00000000#32) reducesTo_S4x64x256x128_S4x64x128_d2 h_S_)
      (broadcastInDim S4x64x128 ![] bcast_S_S4x64x128 (constant S_ .f32 0x43800000#32)) (ix3 h n d))
      (Ideal.div (total k h n d) (Ideal.ofBits .f32 0x43800000#32)) := by
  pointwise [total]

end

theorem frame_p : Cert.quiescent_Means := fun m ρ _ => Cert.Means.Gen.frame m ρ

theorem frame_pi : Cert.quiescent_MeansIdeal := fun m ρ _ => Cert.MeansIdeal.Gen.frame m ρ

theorem frame_ri : Cert.quiescent_MeansReferenceIdeal := fun m ρ _ =>
  (θ_run Cert.MeansReferenceIdeal.defs _ _).mono (fun r h => ⟨fun c => (h c).2, Idealize.ShloMosaic.sem_eq_zero_of_no_sems (by decide) r.2⟩)
    (Cert.MeansReferenceIdeal.Value.run (F := Ideal) m ρ)

theorem preserves : Cert.preserves_Means_MeansIdeal := trivial

theorem algebraic : Cert.algebraic_MeansIdeal_MeansReferenceIdeal := by
  intro m ρ m' ρ' hpre hargs
  refine ⟨fun c => G m c, ?_, ?_⟩
  · refine (θ_run Cert.MeansIdeal.defs _ _).mono (fun r h c => ?_) (Cert.MeansIdeal.Value.run_blocks (F := Ideal) m ρ)
    exact ⟨(h c).1.trans (array m c), (h c).2⟩
  · refine (θ_run Cert.MeansReferenceIdeal.defs _ _).mono (fun r h c => ?_) (Cert.MeansReferenceIdeal.Value.run (F := Ideal) m' ρ')
    refine ⟨(h c).1.trans ?_, (h c).2⟩
    rw [hargs c]
    funext y
    exact ((congrArg _ (eq_ix3 y)).trans (reference_apply _ (y 0) (y 1) (y 2))).trans (div_length _)

end Cert.Proof.Means

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerIdeal.Value
public import proofs.«01_k».proof.Proof.Gen.MixerReferenceIdeal
public import proofs.«01_k».proof.Proof.Gen.MixerReferenceIdeal.Run
public import proofs.«01_k».proof.Proof.Gen.Latent
public import proofs.«01_k».proof.Proof.Gen.Latent.Frame
public import proofs.«01_k».proof.Proof.Gen.LatentIdeal
public import proofs.«01_k».proof.Proof.Gen.LatentIdeal.Frame
public import proofs.«01_k».proof.Proof.Gen.LatentIdeal.Value
public import proofs.«01_k».proof.Proof.Gen.LatentReferenceIdeal
public import proofs.«01_k».proof.Proof.Gen.LatentReferenceIdeal.Run
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryReferenceIdeal
public import proofs.«01_k».proof.Proof.Gen.QueryReferenceIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastReferenceIdeal
public import proofs.«01_k».proof.Proof.Gen.LastReferenceIdeal.Run
public import proofs.«01_k».proof.Proof.Gen.Means
public import proofs.«01_k».proof.Proof.Gen.Means.Frame
public import proofs.«01_k».proof.Proof.Gen.MeansIdeal
public import proofs.«01_k».proof.Proof.Gen.MeansIdeal.Frame
public import proofs.«01_k».proof.Proof.Gen.MeansIdeal.Value
public import proofs.«01_k».proof.Proof.Gen.MeansReferenceIdeal
public import proofs.«01_k».proof.Proof.Gen.MeansReferenceIdeal.Run
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffReferenceIdeal
public import proofs.«01_k».proof.Proof.Gen.DiffReferenceIdeal.Run
public import proofs.«01_k».proof.Proof.Attention
public import proofs.«01_k».proof.Proof.Differential
public import proofs.«01_k».proof.Proof.Merge
public import proofs.«01_k».proof.Proof.Mixer
public import proofs.«01_k».proof.Proof.Latent
public import proofs.«01_k».proof.Proof.Query
public import proofs.«01_k».proof.Proof.OutNorm
public import proofs.«01_k».proof.Proof.Prep
public import proofs.«01_k».proof.Proof.AddNorm
public import proofs.«01_k».proof.Proof.Means
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Merge.Gen.facts, Cert.MergeIdeal.Gen.facts, Cert.MergeReferenceIdeal.Gen.facts,
    Cert.Mixer.Gen.facts, Cert.MixerIdeal.Gen.facts, Cert.MixerReferenceIdeal.Gen.facts,
    Cert.Latent.Gen.facts, Cert.LatentIdeal.Gen.facts, Cert.LatentReferenceIdeal.Gen.facts,
    Cert.Query.Gen.facts, Cert.QueryIdeal.Gen.facts, Cert.QueryReferenceIdeal.Gen.facts,
    Cert.Out.Gen.facts, Cert.OutIdeal.Gen.facts, Cert.OutReferenceIdeal.Gen.facts,
    Cert.Diff.Gen.facts, Cert.DiffIdeal.Gen.facts, Cert.DiffReferenceIdeal.Gen.facts,
    Cert.Prep.Gen.facts, Cert.PrepIdeal.Gen.facts, Cert.PrepReferenceIdeal.Gen.facts,
    Cert.Last.Gen.facts, Cert.LastIdeal.Gen.facts, Cert.LastReferenceIdeal.Gen.facts,
    Cert.Means.Gen.facts, Cert.MeansIdeal.Gen.facts, Cert.MeansReferenceIdeal.Gen.facts,
    Finiteness.facts, Differential.facts,
    Attention.frame_p, Attention.frame_pi, Attention.frame_pi_finite, Attention.frame_ri, Attention.frame_ri_finite,
    Merge.frame_p, Merge.frame_pi, Merge.frame_ri,
    Mixer.frame_p, Mixer.frame_pi, Mixer.frame_ri,
    Latent.frame_p, Latent.frame_pi, Latent.frame_ri,
    Query.frame_p, Query.frame_pi, Query.frame_ri,
    OutNorm.frame_p, OutNorm.frame_pi, OutNorm.frame_ri,
    Differential.frame_p, Differential.frame_pi, Differential.frame_pi_finite, Differential.frame_ri, Differential.frame_ri_finite,
    Prep.frame_p, Prep.frame_pi, Prep.frame_ri,
    AddNorm.frame_p, AddNorm.frame_pi, AddNorm.frame_ri,
    Means.frame_p, Means.frame_pi, Means.frame_ri,
    Attention.preserves, Attention.algebraic,
    Merge.preserves, Merge.algebraic,
    Mixer.preserves, Mixer.algebraic,
    Latent.preserves, Latent.algebraic,
    Query.preserves, Query.algebraic,
    OutNorm.preserves, OutNorm.algebraic,
    Differential.preserves, Differential.algebraic,
    Prep.preserves, Prep.algebraic,
    AddNorm.preserves, AddNorm.algebraic,
    Means.preserves, Means.algebraic⟩

end Cert.Proof

end
